-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1536 : Shape := ⟨2, ![8192, 1536]⟩
abbrev S8192x12 : Shape := ⟨2, ![8192, 12]⟩
abbrev S8192x512 : Shape := ⟨2, ![8192, 512]⟩
abbrev S8192x4 : Shape := ⟨2, ![8192, 4]⟩
abbrev S8192x64 : Shape := ⟨2, ![8192, 64]⟩
abbrev S7 : Shape := ⟨1, ![7]⟩
abbrev S8192x32 : Shape := ⟨2, ![8192, 32]⟩
abbrev S3072x1536 : Shape := ⟨2, ![3072, 1536]⟩
abbrev S24x12 : Shape := ⟨2, ![24, 12]⟩
abbrev S2048x512 : Shape := ⟨2, ![2048, 512]⟩
abbrev S16x4 : Shape := ⟨2, ![16, 4]⟩
abbrev S8192x16 : Shape := ⟨2, ![8192, 16]⟩
abbrev S16x128 : Shape := ⟨2, ![16, 128]⟩
abbrev S256x1536 : Shape := ⟨2, ![256, 1536]⟩
abbrev S256x12 : Shape := ⟨2, ![256, 12]⟩
abbrev S256x32 : Shape := ⟨2, ![256, 32]⟩
abbrev S256x16 : Shape := ⟨2, ![256, 16]⟩
abbrev S16x512x128 : Shape := ⟨3, ![16, 512, 128]⟩
abbrev S8192x576 : Shape := ⟨2, ![8192, 576]⟩
abbrev S1536x256 : Shape := ⟨2, ![1536, 256]⟩
abbrev S2x8x576x256 : Shape := ⟨4, ![2, 8, 576, 256]⟩
abbrev S12x64x128 : Shape := ⟨3, ![12, 64, 128]⟩
abbrev S8x8x256 : Shape := ⟨3, ![8, 8, 256]⟩
abbrev S1x1 : Shape := ⟨2, ![1, 1]⟩
abbrev S64x128 : Shape := ⟨2, ![64, 128]⟩
abbrev S1x64x128 : Shape := ⟨3, ![1, 64, 128]⟩
abbrev S1x32x128 : Shape := ⟨3, ![1, 32, 128]⟩
abbrev S32x128 : Shape := ⟨2, ![32, 128]⟩
abbrev S128x128 : Shape := ⟨2, ![128, 128]⟩
abbrev S1x128x128 : Shape := ⟨3, ![1, 128, 128]⟩
abbrev S64x64 : Shape := ⟨2, ![64, 64]⟩
abbrev S256x512 : Shape := ⟨2, ![256, 512]⟩
abbrev S256x4 : Shape := ⟨2, ![256, 4]⟩
abbrev S256x128 : Shape := ⟨2, ![256, 128]⟩
abbrev S256x1 : Shape := ⟨2, ![256, 1]⟩
abbrev S256x64 : Shape := ⟨2, ![256, 64]⟩
abbrev S32x256 : Shape := ⟨2, ![32, 256]⟩
abbrev S384x1536 : Shape := ⟨2, ![384, 1536]⟩
abbrev S384x256 : Shape := ⟨2, ![384, 256]⟩
abbrev S128x256 : Shape := ⟨2, ![128, 256]⟩
abbrev S1x512x128 : Shape := ⟨3, ![1, 512, 128]⟩
abbrev S512x128 : Shape := ⟨2, ![512, 128]⟩
abbrev S512x256 : Shape := ⟨2, ![512, 256]⟩
abbrev S1x1x512x128 : Shape := ⟨4, ![1, 1, 512, 128]⟩
abbrev S1x1x32x128 : Shape := ⟨4, ![1, 1, 32, 128]⟩
abbrev S1x128 : Shape := ⟨2, ![1, 128]⟩
abbrev S1 : Shape := ⟨1, ![1]⟩
abbrev S256x256 : Shape := ⟨2, ![256, 256]⟩
abbrev S256x576 : Shape := ⟨2, ![256, 576]⟩
abbrev S1x1x576x256 : Shape := ⟨4, ![1, 1, 576, 256]⟩
abbrev S576x256 : Shape := ⟨2, ![576, 256]⟩
abbrev S32x8x256 : Shape := ⟨3, ![32, 8, 256]⟩
abbrev S8x256 : Shape := ⟨2, ![8, 256]⟩
abbrev S1x8x256 : Shape := ⟨3, ![1, 8, 256]⟩
abbrev S128x16 : Shape := ⟨2, ![128, 16]⟩
abbrev S16 : Shape := ⟨1, ![16]⟩
abbrev S16x1 : Shape := ⟨2, ![16, 1]⟩

abbrev nBuf : Space → Nat
  | .hbm => 13
  | .vmem => 23
  | .smem => 3
  | _ => 0

abbrev bufTy : (tb : Table) → Fin (tcTables nBuf tb) → BufTy
  | .hbm, ⟨0, _⟩ => ⟨S8192x1536, .fp8e4m3⟩
  | .hbm, ⟨1, _⟩ => ⟨S8192x12, .f32⟩
  | .hbm, ⟨2, _⟩ => ⟨S8192x512, .fp8e4m3⟩
  | .hbm, ⟨3, _⟩ => ⟨S8192x4, .f32⟩
  | .hbm, ⟨4, _⟩ => ⟨S8192x64, .bf16⟩
  | .hbm, ⟨5, _⟩ => ⟨S8192x32, .f32⟩
  | .hbm, ⟨6, _⟩ => ⟨S8192x32, .f32⟩
  | .hbm, ⟨7, _⟩ => ⟨S3072x1536, .fp8e4m3⟩
  | .hbm, ⟨8, _⟩ => ⟨S24x12, .f32⟩
  | .hbm, ⟨9, _⟩ => ⟨S2048x512, .fp8e4m3⟩
  | .hbm, ⟨10, _⟩ => ⟨S16x4, .f32⟩
  | .hbm, ⟨11, _⟩ => ⟨S8192x16, .f32⟩
  | .hbm, ⟨12, _⟩ => ⟨S16x128, .f32⟩
  | .local _ .vmem, ⟨0, _⟩ => ⟨S256x1536, .fp8e4m3⟩
  | .local _ .vmem, ⟨1, _⟩ => ⟨S256x1536, .fp8e4m3⟩
  | .local _ .vmem, ⟨2, _⟩ => ⟨S256x12, .f32⟩
  | .local _ .vmem, ⟨3, _⟩ => ⟨S256x12, .f32⟩
  | .local _ .vmem, ⟨4, _⟩ => ⟨S256x32, .f32⟩
  | .local _ .vmem, ⟨5, _⟩ => ⟨S256x32, .f32⟩
  | .local _ .vmem, ⟨6, _⟩ => ⟨S256x32, .f32⟩
  | .local _ .vmem, ⟨7, _⟩ => ⟨S256x32, .f32⟩
  | .local _ .vmem, ⟨8, _⟩ => ⟨S3072x1536, .fp8e4m3⟩
  | .local _ .vmem, ⟨9, _⟩ => ⟨S2048x512, .fp8e4m3⟩
  | .local _ .vmem, ⟨10, _⟩ => ⟨S8192x512, .fp8e4m3⟩
  | .local _ .vmem, ⟨11, _⟩ => ⟨S8192x4, .f32⟩
  | .local _ .vmem, ⟨12, _⟩ => ⟨S8192x64, .bf16⟩
  | .local _ .vmem, ⟨13, _⟩ => ⟨S256x16, .f32⟩
  | .local _ .vmem, ⟨14, _⟩ => ⟨S256x16, .f32⟩
  | .local _ .vmem, ⟨15, _⟩ => ⟨S16x128, .f32⟩
  | .local _ .vmem, ⟨16, _⟩ => ⟨S3072x1536, .bf16⟩
  | .local _ .vmem, ⟨17, _⟩ => ⟨S16x512x128, .bf16⟩
  | .local _ .vmem, ⟨18, _⟩ => ⟨S8192x576, .bf16⟩
  | .local _ .vmem, ⟨19, _⟩ => ⟨S1536x256, .bf16⟩
  | .local _ .vmem, ⟨20, _⟩ => ⟨S2x8x576x256, .bf16⟩
  | .local _ .vmem, ⟨21, _⟩ => ⟨S12x64x128, .f32⟩
  | .local _ .vmem, ⟨22, _⟩ => ⟨S8x8x256, .f32⟩
  | .local _ .smem, ⟨0, _⟩ => ⟨S7, .i32⟩
  | .local _ .smem, ⟨1, _⟩ => ⟨S24x12, .f32⟩
  | .local _ .smem, ⟨2, _⟩ => ⟨S16x4, .f32⟩
  | _, _ => ⟨S8192x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_v0_0 : Ref sig .tc := ⟨.hbm, 11, rfl⟩
abbrev main_v0_1 : Ref sig .tc := ⟨.hbm, 12, rfl⟩
abbrev main_arg5 : Ref sig .tc := ⟨.smem, 0, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_stg0_0 : Ref sig .tc := ⟨.smem, 1, rfl⟩
abbrev cc0_stg1_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_144 : BitVec 32 := 0#32
  let c8_i32_145 : BitVec 32 := 8#32
  let v422 : BitVec 32 := Scalar.addi c0_i32_144 c8_i32_145
  let c1_i32_146 : BitVec 32 := 1#32
  ⟨c0_i32_144, v422, c1_i32_146⟩
def k0_mult1 (k0_t1 : Fin k0_t1_loop.trips) : BitVec 32 :=
  let c0_i32_144 : BitVec 32 := 0#32
  let c1_i32_146 : BitVec 32 := 1#32
  let arg22 : BitVec 32 := Scf.iv c0_i32_144 c1_i32_146 k0_t1
  let c384_i32 : BitVec 32 := 384#32
  let v475 : BitVec 32 := Scalar.muli arg22 c384_i32
  let c0_i32_169 : BitVec 32 := 0#32
  let v476 : BitVec 32 := Scalar.addi v475 c0_i32_169
  v476
def k0_off1 (k0_t1 : Fin k0_t1_loop.trips) (c0_i32_170 : BitVec 32) : Fin 2 → Nat :=
  let c3_i32 : BitVec 32 := 3#32
  let c0_i32_144 : BitVec 32 := 0#32
  let c1_i32_146 : BitVec 32 := 1#32
  let arg22 : BitVec 32 := Scf.iv c0_i32_144 c1_i32_146 k0_t1
  let v478 : BitVec 32 := Scalar.muli c3_i32 arg22
  let v479 : BitVec 32 := Scalar.addi v478 c0_i32_170
  let v480 : Index := Scalar.indexCast v479
  let c0_171 : Index := 0#32
  ![v480.toNat, 0]
def k0_off2 (k0_t1 : Fin k0_t1_loop.trips) (c0_i32_169 : BitVec 32) : Fin 2 → Nat :=
  let c0_i32_144 : BitVec 32 := 0#32
  let c1_i32_146 : BitVec 32 := 1#32
  let arg22 : BitVec 32 := Scf.iv c0_i32_144 c1_i32_146 k0_t1
  let c384_i32 : BitVec 32 := 384#32
  let v475 : BitVec 32 := Scalar.muli arg22 c384_i32
  let v476 : BitVec 32 := Scalar.addi v475 c0_i32_169
  let v477 : BitVec 32 := v476
  let v482 : Index := Scalar.indexCast v477
  let c0_172 : Index := 0#32
  ![v482.toNat, 0]
def k0_off3 (k0_t1 : Fin k0_t1_loop.trips) (c0_i32_175 : BitVec 32) : Fin 2 → Nat :=
  let c3_i32_174 : BitVec 32 := 3#32
  let c0_i32_144 : BitVec 32 := 0#32
  let c1_i32_146 : BitVec 32 := 1#32
  let arg22 : BitVec 32 := Scf.iv c0_i32_144 c1_i32_146 k0_t1
  let v492 : BitVec 32 := Scalar.muli c3_i32_174 arg22
  let v493 : BitVec 32 := Scalar.addi v492 c0_i32_175
  let v494 : Index := Scalar.indexCast v493
  let c1_176 : Index := 1#32
  ![v494.toNat, 1]
def k0_off4 (k0_t1 : Fin k0_t1_loop.trips) (c0_i32_169 : BitVec 32) : Fin 2 → Nat :=
  let c0_i32_144 : BitVec 32 := 0#32
  let c1_i32_146 : BitVec 32 := 1#32
  let arg22 : BitVec 32 := Scf.iv c0_i32_144 c1_i32_146 k0_t1
  let c384_i32 : BitVec 32 := 384#32
  let v475 : BitVec 32 := Scalar.muli arg22 c384_i32
  let v476 : BitVec 32 := Scalar.addi v475 c0_i32_169
  let v477 : BitVec 32 := v476
  let v496 : Index := Scalar.indexCast v477
  let c128_177 : Index := 128#32
  ![v496.toNat, 128]
def k0_off5 (k0_t1 : Fin k0_t1_loop.trips) (c0_i32_180 : BitVec 32) : Fin 2 → Nat :=
  let c3_i32_179 : BitVec 32 := 3#32
  let c0_i32_144 : BitVec 32 := 0#32
  let c1_i32_146 : BitVec 32 := 1#32
  let arg22 : BitVec 32 := Scf.iv c0_i32_144 c1_i32_146 k0_t1
  let v506 : BitVec 32 := Scalar.muli c3_i32_179 arg22
  let v507 : BitVec 32 := Scalar.addi v506 c0_i32_180
  let v508 : Index := Scalar.indexCast v507
  let c2_181 : Index := 2#32
  ![v508.toNat, 2]
def k0_off6 (k0_t1 : Fin k0_t1_loop.trips) (c0_i32_169 : BitVec 32) : Fin 2 → Nat :=
  let c0_i32_144 : BitVec 32 := 0#32
  let c1_i32_146 : BitVec 32 := 1#32
  let arg22 : BitVec 32 := Scf.iv c0_i32_144 c1_i32_146 k0_t1
  let c384_i32 : BitVec 32 := 384#32
  let v475 : BitVec 32 := Scalar.muli arg22 c384_i32
  let v476 : BitVec 32 := Scalar.addi v475 c0_i32_169
  let v477 : BitVec 32 := v476
  let v510 : Index := Scalar.indexCast v477
  let c256 : Index := 256#32
  ![v510.toNat, 256]
def k0_off7 (k0_t1 : Fin k0_t1_loop.trips) (c0_i32_184 : BitVec 32) : Fin 2 → Nat :=
  let c3_i32_183 : BitVec 32 := 3#32
  let c0_i32_144 : BitVec 32 := 0#32
  let c1_i32_146 : BitVec 32 := 1#32
  let arg22 : BitVec 32 := Scf.iv c0_i32_144 c1_i32_146 k0_t1
  let v520 : BitVec 32 := Scalar.muli c3_i32_183 arg22
  let v521 : BitVec 32 := Scalar.addi v520 c0_i32_184
  let v522 : Index := Scalar.indexCast v521
  let c3_185 : Index := 3#32
  ![v522.toNat, 3]
def k0_off8 (k0_t1 : Fin k0_t1_loop.trips) (c0_i32_169 : BitVec 32) : Fin 2 → Nat :=
  let c0_i32_144 : BitVec 32 := 0#32
  let c1_i32_146 : BitVec 32 := 1#32
  let arg22 : BitVec 32 := Scf.iv c0_i32_144 c1_i32_146 k0_t1
  let c384_i32 : BitVec 32 := 384#32
  let v475 : BitVec 32 := Scalar.muli arg22 c384_i32
  let v476 : BitVec 32 := Scalar.addi v475 c0_i32_169
  let v477 : BitVec 32 := v476
  let v524 : Index := Scalar.indexCast v477
  let c384 : Index := 384#32
  ![v524.toNat, 384]
def k0_off9 (k0_t1 : Fin k0_t1_loop.trips) (c0_i32_188 : BitVec 32) : Fin 2 → Nat :=
  let c3_i32_187 : BitVec 32 := 3#32
  let c0_i32_144 : BitVec 32 := 0#32
  let c1_i32_146 : BitVec 32 := 1#32
  let arg22 : BitVec 32 := Scf.iv c0_i32_144 c1_i32_146 k0_t1
  let v534 : BitVec 32 := Scalar.muli c3_i32_187 arg22
  let v535 : BitVec 32 := Scalar.addi v534 c0_i32_188
  let v536 : Index := Scalar.indexCast v535
  let c4_189 : Index := 4#32
  ![v536.toNat, 4]
def k0_off10 (k0_t1 : Fin k0_t1_loop.trips) (c0_i32_169 : BitVec 32) : Fin 2 → Nat :=
  let c0_i32_144 : BitVec 32 := 0#32
  let c1_i32_146 : BitVec 32 := 1#32
  let arg22 : BitVec 32 := Scf.iv c0_i32_144 c1_i32_146 k0_t1
  let c384_i32 : BitVec 32 := 384#32
  let v475 : BitVec 32 := Scalar.muli arg22 c384_i32
  let v476 : BitVec 32 := Scalar.addi v475 c0_i32_169
  let v477 : BitVec 32 := v476
  let v538 : Index := Scalar.indexCast v477
  let c512 : Index := 512#32
  ![v538.toNat, 512]
def k0_off11 (k0_t1 : Fin k0_t1_loop.trips) (c0_i32_192 : BitVec 32) : Fin 2 → Nat :=
  let c3_i32_191 : BitVec 32 := 3#32
  let c0_i32_144 : BitVec 32 := 0#32
  let c1_i32_146 : BitVec 32 := 1#32
  let arg22 : BitVec 32 := Scf.iv c0_i32_144 c1_i32_146 k0_t1
  let v548 : BitVec 32 := Scalar.muli c3_i32_191 arg22
  let v549 : BitVec 32 := Scalar.addi v548 c0_i32_192
  let v550 : Index := Scalar.indexCast v549
  let c5_193 : Index := 5#32
  ![v550.toNat, 5]
def k0_off12 (k0_t1 : Fin k0_t1_loop.trips) (c0_i32_169 : BitVec 32) : Fin 2 → Nat :=
  let c0_i32_144 : BitVec 32 := 0#32
  let c1_i32_146 : BitVec 32 := 1#32
  let arg22 : BitVec 32 := Scf.iv c0_i32_144 c1_i32_146 k0_t1
  let c384_i32 : BitVec 32 := 384#32
  let v475 : BitVec 32 := Scalar.muli arg22 c384_i32
  let v476 : BitVec 32 := Scalar.addi v475 c0_i32_169
  let v477 : BitVec 32 := v476
  let v552 : Index := Scalar.indexCast v477
  let c640 : Index := 640#32
  ![v552.toNat, 640]
def k0_off13 (k0_t1 : Fin k0_t1_loop.trips) (c0_i32_196 : BitVec 32) : Fin 2 → Nat :=
  let c3_i32_195 : BitVec 32 := 3#32
  let c0_i32_144 : BitVec 32 := 0#32
  let c1_i32_146 : BitVec 32 := 1#32
  let arg22 : BitVec 32 := Scf.iv c0_i32_144 c1_i32_146 k0_t1
  let v562 : BitVec 32 := Scalar.muli c3_i32_195 arg22
  let v563 : BitVec 32 := Scalar.addi v562 c0_i32_196
  let v564 : Index := Scalar.indexCast v563
  let c6_197 : Index := 6#32
  ![v564.toNat, 6]
def k0_off14 (k0_t1 : Fin k0_t1_loop.trips) (c0_i32_169 : BitVec 32) : Fin 2 → Nat :=
  let c0_i32_144 : BitVec 32 := 0#32
  let c1_i32_146 : BitVec 32 := 1#32
  let arg22 : BitVec 32 := Scf.iv c0_i32_144 c1_i32_146 k0_t1
  let c384_i32 : BitVec 32 := 384#32
  let v475 : BitVec 32 := Scalar.muli arg22 c384_i32
  let v476 : BitVec 32 := Scalar.addi v475 c0_i32_169
  let v477 : BitVec 32 := v476
  let v566 : Index := Scalar.indexCast v477
  let c768 : Index := 768#32
  ![v566.toNat, 768]
def k0_off15 (k0_t1 : Fin k0_t1_loop.trips) (c0_i32_200 : BitVec 32) : Fin 2 → Nat :=
  let c3_i32_199 : BitVec 32 := 3#32
  let c0_i32_144 : BitVec 32 := 0#32
  let c1_i32_146 : BitVec 32 := 1#32
  let arg22 : BitVec 32 := Scf.iv c0_i32_144 c1_i32_146 k0_t1
  let v576 : BitVec 32 := Scalar.muli c3_i32_199 arg22
  let v577 : BitVec 32 := Scalar.addi v576 c0_i32_200
  let v578 : Index := Scalar.indexCast v577
  let c7 : Index := 7#32
  ![v578.toNat, 7]
def k0_off16 (k0_t1 : Fin k0_t1_loop.trips) (c0_i32_169 : BitVec 32) : Fin 2 → Nat :=
  let c0_i32_144 : BitVec 32 := 0#32
  let c1_i32_146 : BitVec 32 := 1#32
  let arg22 : BitVec 32 := Scf.iv c0_i32_144 c1_i32_146 k0_t1
  let c384_i32 : BitVec 32 := 384#32
  let v475 : BitVec 32 := Scalar.muli arg22 c384_i32
  let v476 : BitVec 32 := Scalar.addi v475 c0_i32_169
  let v477 : BitVec 32 := v476
  let v580 : Index := Scalar.indexCast v477
  let c896 : Index := 896#32
  ![v580.toNat, 896]
def k0_off17 (k0_t1 : Fin k0_t1_loop.trips) (c0_i32_203 : BitVec 32) : Fin 2 → Nat :=
  let c3_i32_202 : BitVec 32 := 3#32
  let c0_i32_144 : BitVec 32 := 0#32
  let c1_i32_146 : BitVec 32 := 1#32
  let arg22 : BitVec 32 := Scf.iv c0_i32_144 c1_i32_146 k0_t1
  let v590 : BitVec 32 := Scalar.muli c3_i32_202 arg22
  let v591 : BitVec 32 := Scalar.addi v590 c0_i32_203
  let v592 : Index := Scalar.indexCast v591
  let c8 : Index := 8#32
  ![v592.toNat, 8]
def k0_off18 (k0_t1 : Fin k0_t1_loop.trips) (c0_i32_169 : BitVec 32) : Fin 2 → Nat :=
  let c0_i32_144 : BitVec 32 := 0#32
  let c1_i32_146 : BitVec 32 := 1#32
  let arg22 : BitVec 32 := Scf.iv c0_i32_144 c1_i32_146 k0_t1
  let c384_i32 : BitVec 32 := 384#32
  let v475 : BitVec 32 := Scalar.muli arg22 c384_i32
  let v476 : BitVec 32 := Scalar.addi v475 c0_i32_169
  let v477 : BitVec 32 := v476
  let v594 : Index := Scalar.indexCast v477
  let c1024 : Index := 1024#32
  ![v594.toNat, 1024]
def k0_off19 (k0_t1 : Fin k0_t1_loop.trips) (c0_i32_206 : BitVec 32) : Fin 2 → Nat :=
  let c3_i32_205 : BitVec 32 := 3#32
  let c0_i32_144 : BitVec 32 := 0#32
  let c1_i32_146 : BitVec 32 := 1#32
  let arg22 : BitVec 32 := Scf.iv c0_i32_144 c1_i32_146 k0_t1
  let v604 : BitVec 32 := Scalar.muli c3_i32_205 arg22
  let v605 : BitVec 32 := Scalar.addi v604 c0_i32_206
  let v606 : Index := Scalar.indexCast v605
  let c9 : Index := 9#32
  ![v606.toNat, 9]
def k0_off20 (k0_t1 : Fin k0_t1_loop.trips) (c0_i32_169 : BitVec 32) : Fin 2 → Nat :=
  let c0_i32_144 : BitVec 32 := 0#32
  let c1_i32_146 : BitVec 32 := 1#32
  let arg22 : BitVec 32 := Scf.iv c0_i32_144 c1_i32_146 k0_t1
  let c384_i32 : BitVec 32 := 384#32
  let v475 : BitVec 32 := Scalar.muli arg22 c384_i32
  let v476 : BitVec 32 := Scalar.addi v475 c0_i32_169
  let v477 : BitVec 32 := v476
  let v608 : Index := Scalar.indexCast v477
  let c1152 : Index := 1152#32
  ![v608.toNat, 1152]
def k0_off21 (k0_t1 : Fin k0_t1_loop.trips) (c0_i32_209 : BitVec 32) : Fin 2 → Nat :=
  let c3_i32_208 : BitVec 32 := 3#32
  let c0_i32_144 : BitVec 32 := 0#32
  let c1_i32_146 : BitVec 32 := 1#32
  let arg22 : BitVec 32 := Scf.iv c0_i32_144 c1_i32_146 k0_t1
  let v618 : BitVec 32 := Scalar.muli c3_i32_208 arg22
  let v619 : BitVec 32 := Scalar.addi v618 c0_i32_209
  let v620 : Index := Scalar.indexCast v619
  let c10 : Index := 10#32
  ![v620.toNat, 10]
def k0_off22 (k0_t1 : Fin k0_t1_loop.trips) (c0_i32_169 : BitVec 32) : Fin 2 → Nat :=
  let c0_i32_144 : BitVec 32 := 0#32
  let c1_i32_146 : BitVec 32 := 1#32
  let arg22 : BitVec 32 := Scf.iv c0_i32_144 c1_i32_146 k0_t1
  let c384_i32 : BitVec 32 := 384#32
  let v475 : BitVec 32 := Scalar.muli arg22 c384_i32
  let v476 : BitVec 32 := Scalar.addi v475 c0_i32_169
  let v477 : BitVec 32 := v476
  let v622 : Index := Scalar.indexCast v477
  let c1280 : Index := 1280#32
  ![v622.toNat, 1280]
def k0_off23 (k0_t1 : Fin k0_t1_loop.trips) (c0_i32_212 : BitVec 32) : Fin 2 → Nat :=
  let c3_i32_211 : BitVec 32 := 3#32
  let c0_i32_144 : BitVec 32 := 0#32
  let c1_i32_146 : BitVec 32 := 1#32
  let arg22 : BitVec 32 := Scf.iv c0_i32_144 c1_i32_146 k0_t1
  let v632 : BitVec 32 := Scalar.muli c3_i32_211 arg22
  let v633 : BitVec 32 := Scalar.addi v632 c0_i32_212
  let v634 : Index := Scalar.indexCast v633
  let c11 : Index := 11#32
  ![v634.toNat, 11]
def k0_off24 (k0_t1 : Fin k0_t1_loop.trips) (c0_i32_169 : BitVec 32) : Fin 2 → Nat :=
  let c0_i32_144 : BitVec 32 := 0#32
  let c1_i32_146 : BitVec 32 := 1#32
  let arg22 : BitVec 32 := Scf.iv c0_i32_144 c1_i32_146 k0_t1
  let c384_i32 : BitVec 32 := 384#32
  let v475 : BitVec 32 := Scalar.muli arg22 c384_i32
  let v476 : BitVec 32 := Scalar.addi v475 c0_i32_169
  let v477 : BitVec 32 := v476
  let v636 : Index := Scalar.indexCast v477
  let c1408 : Index := 1408#32
  ![v636.toNat, 1408]
def k0_mult2 (k0_t1 : Fin k0_t1_loop.trips) : BitVec 32 :=
  let c0_i32_144 : BitVec 32 := 0#32
  let c1_i32_146 : BitVec 32 := 1#32
  let arg22 : BitVec 32 := Scf.iv c0_i32_144 c1_i32_146 k0_t1
  let c384_i32_214 : BitVec 32 := 384#32
  let v646 : BitVec 32 := Scalar.muli arg22 c384_i32_214
  let c64_i32 : BitVec 32 := 64#32
  let v647 : BitVec 32 := Scalar.addi v646 c64_i32
  v647
def k0_mult3 (k0_t1 : Fin k0_t1_loop.trips) : BitVec 32 :=
  let c0_i32_144 : BitVec 32 := 0#32
  let c1_i32_146 : BitVec 32 := 1#32
  let arg22 : BitVec 32 := Scf.iv c0_i32_144 c1_i32_146 k0_t1
  let c384_i32_275 : BitVec 32 := 384#32
  let v817 : BitVec 32 := Scalar.muli arg22 c384_i32_275
  let c128_i32_276 : BitVec 32 := 128#32
  let v818 : BitVec 32 := Scalar.addi v817 c128_i32_276
  v818
def k0_off25 (k0_t1 : Fin k0_t1_loop.trips) (c128_i32_276 : BitVec 32) (c0_i32_364 : BitVec 32) : Fin 2 → Nat :=
  let c0_i32_144 : BitVec 32 := 0#32
  let c1_i32_146 : BitVec 32 := 1#32
  let arg22 : BitVec 32 := Scf.iv c0_i32_144 c1_i32_146 k0_t1
  let c384_i32_275 : BitVec 32 := 384#32
  let v817 : BitVec 32 := Scalar.muli arg22 c384_i32_275
  let v818 : BitVec 32 := Scalar.addi v817 c128_i32_276
  let v819 : BitVec 32 := v818
  let v967 : BitVec 32 := Scalar.addi v819 c0_i32_364
  let v968 : Index := Scalar.indexCast v967
  let c0_365 : Index := 0#32
  ![v968.toNat, 0]
def k0_off26 (k0_t1 : Fin k0_t1_loop.trips) (c128_i32_276 : BitVec 32) (c0_i32_369 : BitVec 32) : Fin 2 → Nat :=
  let c0_i32_144 : BitVec 32 := 0#32
  let c1_i32_146 : BitVec 32 := 1#32
  let arg22 : BitVec 32 := Scf.iv c0_i32_144 c1_i32_146 k0_t1
  let c384_i32_275 : BitVec 32 := 384#32
  let v817 : BitVec 32 := Scalar.muli arg22 c384_i32_275
  let v818 : BitVec 32 := Scalar.addi v817 c128_i32_276
  let v819 : BitVec 32 := v818
  let v975 : BitVec 32 := Scalar.addi v819 c0_i32_369
  let v976 : Index := Scalar.indexCast v975
  let c128_370 : Index := 128#32
  ![v976.toNat, 128]
def k0_off27 (k0_t1 : Fin k0_t1_loop.trips) (c128_i32_276 : BitVec 32) (c0_i32_374 : BitVec 32) : Fin 2 → Nat :=
  let c0_i32_144 : BitVec 32 := 0#32
  let c1_i32_146 : BitVec 32 := 1#32
  let arg22 : BitVec 32 := Scf.iv c0_i32_144 c1_i32_146 k0_t1
  let c384_i32_275 : BitVec 32 := 384#32
  let v817 : BitVec 32 := Scalar.muli arg22 c384_i32_275
  let v818 : BitVec 32 := Scalar.addi v817 c128_i32_276
  let v819 : BitVec 32 := v818
  let v983 : BitVec 32 := Scalar.addi v819 c0_i32_374
  let v984 : Index := Scalar.indexCast v983
  let c256_375 : Index := 256#32
  ![v984.toNat, 256]
def k0_off28 (k0_t1 : Fin k0_t1_loop.trips) (c128_i32_276 : BitVec 32) (c0_i32_379 : BitVec 32) : Fin 2 → Nat :=
  let c0_i32_144 : BitVec 32 := 0#32
  let c1_i32_146 : BitVec 32 := 1#32
  let arg22 : BitVec 32 := Scf.iv c0_i32_144 c1_i32_146 k0_t1
  let c384_i32_275 : BitVec 32 := 384#32
  let v817 : BitVec 32 := Scalar.muli arg22 c384_i32_275
  let v818 : BitVec 32 := Scalar.addi v817 c128_i32_276
  let v819 : BitVec 32 := v818
  let v991 : BitVec 32 := Scalar.addi v819 c0_i32_379
  let v992 : Index := Scalar.indexCast v991
  let c384_380 : Index := 384#32
  ![v992.toNat, 384]
def k0_off29 (k0_t1 : Fin k0_t1_loop.trips) (c128_i32_276 : BitVec 32) (c0_i32_384 : BitVec 32) : Fin 2 → Nat :=
  let c0_i32_144 : BitVec 32 := 0#32
  let c1_i32_146 : BitVec 32 := 1#32
  let arg22 : BitVec 32 := Scf.iv c0_i32_144 c1_i32_146 k0_t1
  let c384_i32_275 : BitVec 32 := 384#32
  let v817 : BitVec 32 := Scalar.muli arg22 c384_i32_275
  let v818 : BitVec 32 := Scalar.addi v817 c128_i32_276
  let v819 : BitVec 32 := v818
  let v999 : BitVec 32 := Scalar.addi v819 c0_i32_384
  let v1000 : Index := Scalar.indexCast v999
  let c512_385 : Index := 512#32
  ![v1000.toNat, 512]
def k0_off30 (k0_t1 : Fin k0_t1_loop.trips) (c128_i32_276 : BitVec 32) (c0_i32_389 : BitVec 32) : Fin 2 → Nat :=
  let c0_i32_144 : BitVec 32 := 0#32
  let c1_i32_146 : BitVec 32 := 1#32
  let arg22 : BitVec 32 := Scf.iv c0_i32_144 c1_i32_146 k0_t1
  let c384_i32_275 : BitVec 32 := 384#32
  let v817 : BitVec 32 := Scalar.muli arg22 c384_i32_275
  let v818 : BitVec 32 := Scalar.addi v817 c128_i32_276
  let v819 : BitVec 32 := v818
  let v1007 : BitVec 32 := Scalar.addi v819 c0_i32_389
  let v1008 : Index := Scalar.indexCast v1007
  let c640_390 : Index := 640#32
  ![v1008.toNat, 640]
def k0_off31 (k0_t1 : Fin k0_t1_loop.trips) (c128_i32_276 : BitVec 32) (c0_i32_394 : BitVec 32) : Fin 2 → Nat :=
  let c0_i32_144 : BitVec 32 := 0#32
  let c1_i32_146 : BitVec 32 := 1#32
  let arg22 : BitVec 32 := Scf.iv c0_i32_144 c1_i32_146 k0_t1
  let c384_i32_275 : BitVec 32 := 384#32
  let v817 : BitVec 32 := Scalar.muli arg22 c384_i32_275
  let v818 : BitVec 32 := Scalar.addi v817 c128_i32_276
  let v819 : BitVec 32 := v818
  let v1015 : BitVec 32 := Scalar.addi v819 c0_i32_394
  let v1016 : Index := Scalar.indexCast v1015
  let c768_395 : Index := 768#32
  ![v1016.toNat, 768]
def k0_off32 (k0_t1 : Fin k0_t1_loop.trips) (c128_i32_276 : BitVec 32) (c0_i32_399 : BitVec 32) : Fin 2 → Nat :=
  let c0_i32_144 : BitVec 32 := 0#32
  let c1_i32_146 : BitVec 32 := 1#32
  let arg22 : BitVec 32 := Scf.iv c0_i32_144 c1_i32_146 k0_t1
  let c384_i32_275 : BitVec 32 := 384#32
  let v817 : BitVec 32 := Scalar.muli arg22 c384_i32_275
  let v818 : BitVec 32 := Scalar.addi v817 c128_i32_276
  let v819 : BitVec 32 := v818
  let v1023 : BitVec 32 := Scalar.addi v819 c0_i32_399
  let v1024 : Index := Scalar.indexCast v1023
  let c896_400 : Index := 896#32
  ![v1024.toNat, 896]
def k0_off33 (k0_t1 : Fin k0_t1_loop.trips) (c128_i32_276 : BitVec 32) (c0_i32_404 : BitVec 32) : Fin 2 → Nat :=
  let c0_i32_144 : BitVec 32 := 0#32
  let c1_i32_146 : BitVec 32 := 1#32
  let arg22 : BitVec 32 := Scf.iv c0_i32_144 c1_i32_146 k0_t1
  let c384_i32_275 : BitVec 32 := 384#32
  let v817 : BitVec 32 := Scalar.muli arg22 c384_i32_275
  let v818 : BitVec 32 := Scalar.addi v817 c128_i32_276
  let v819 : BitVec 32 := v818
  let v1031 : BitVec 32 := Scalar.addi v819 c0_i32_404
  let v1032 : Index := Scalar.indexCast v1031
  let c1024_405 : Index := 1024#32
  ![v1032.toNat, 1024]
def k0_off34 (k0_t1 : Fin k0_t1_loop.trips) (c128_i32_276 : BitVec 32) (c0_i32_409 : BitVec 32) : Fin 2 → Nat :=
  let c0_i32_144 : BitVec 32 := 0#32
  let c1_i32_146 : BitVec 32 := 1#32
  let arg22 : BitVec 32 := Scf.iv c0_i32_144 c1_i32_146 k0_t1
  let c384_i32_275 : BitVec 32 := 384#32
  let v817 : BitVec 32 := Scalar.muli arg22 c384_i32_275
  let v818 : BitVec 32 := Scalar.addi v817 c128_i32_276
  let v819 : BitVec 32 := v818
  let v1039 : BitVec 32 := Scalar.addi v819 c0_i32_409
  let v1040 : Index := Scalar.indexCast v1039
  let c1152_410 : Index := 1152#32
  ![v1040.toNat, 1152]
def k0_off35 (k0_t1 : Fin k0_t1_loop.trips) (c128_i32_276 : BitVec 32) (c0_i32_414 : BitVec 32) : Fin 2 → Nat :=
  let c0_i32_144 : BitVec 32 := 0#32
  let c1_i32_146 : BitVec 32 := 1#32
  let arg22 : BitVec 32 := Scf.iv c0_i32_144 c1_i32_146 k0_t1
  let c384_i32_275 : BitVec 32 := 384#32
  let v817 : BitVec 32 := Scalar.muli arg22 c384_i32_275
  let v818 : BitVec 32 := Scalar.addi v817 c128_i32_276
  let v819 : BitVec 32 := v818
  let v1047 : BitVec 32 := Scalar.addi v819 c0_i32_414
  let v1048 : Index := Scalar.indexCast v1047
  let c1280_415 : Index := 1280#32
  ![v1048.toNat, 1280]
def k0_off36 (k0_t1 : Fin k0_t1_loop.trips) (c128_i32_276 : BitVec 32) (c0_i32_419 : BitVec 32) : Fin 2 → Nat :=
  let c0_i32_144 : BitVec 32 := 0#32
  let c1_i32_146 : BitVec 32 := 1#32
  let arg22 : BitVec 32 := Scf.iv c0_i32_144 c1_i32_146 k0_t1
  let c384_i32_275 : BitVec 32 := 384#32
  let v817 : BitVec 32 := Scalar.muli arg22 c384_i32_275
  let v818 : BitVec 32 := Scalar.addi v817 c128_i32_276
  let v819 : BitVec 32 := v818
  let v1055 : BitVec 32 := Scalar.addi v819 c0_i32_419
  let v1056 : Index := Scalar.indexCast v1055
  let c1408_420 : Index := 1408#32
  ![v1056.toNat, 1408]
def k0_mult4 (k0_t1 : Fin k0_t1_loop.trips) : BitVec 32 :=
  let c0_i32_144 : BitVec 32 := 0#32
  let c1_i32_146 : BitVec 32 := 1#32
  let arg22 : BitVec 32 := Scf.iv c0_i32_144 c1_i32_146 k0_t1
  let c384_i32_481 : BitVec 32 := 384#32
  let v1156 : BitVec 32 := Scalar.muli arg22 c384_i32_481
  let c192_i32 : BitVec 32 := 192#32
  let v1157 : BitVec 32 := Scalar.addi v1156 c192_i32
  v1157
def k0_mult5 (k0_t1 : Fin k0_t1_loop.trips) : BitVec 32 :=
  let c0_i32_144 : BitVec 32 := 0#32
  let c1_i32_146 : BitVec 32 := 1#32
  let arg22 : BitVec 32 := Scf.iv c0_i32_144 c1_i32_146 k0_t1
  let c384_i32_542 : BitVec 32 := 384#32
  let v1327 : BitVec 32 := Scalar.muli arg22 c384_i32_542
  let c256_i32_543 : BitVec 32 := 256#32
  let v1328 : BitVec 32 := Scalar.addi v1327 c256_i32_543
  v1328
def k0_mult6 (k0_t1 : Fin k0_t1_loop.trips) : BitVec 32 :=
  let c0_i32_144 : BitVec 32 := 0#32
  let c1_i32_146 : BitVec 32 := 1#32
  let arg22 : BitVec 32 := Scf.iv c0_i32_144 c1_i32_146 k0_t1
  let c384_i32_604 : BitVec 32 := 384#32
  let v1498 : BitVec 32 := Scalar.muli arg22 c384_i32_604
  let c320_i32 : BitVec 32 := 320#32
  let v1499 : BitVec 32 := Scalar.addi v1498 c320_i32
  v1499
@[reducible] def k0_t2_loop : Scf.Loop 32 :=
  let c0_i32_148 : BitVec 32 := 0#32
  let c16_i32 : BitVec 32 := 16#32
  let v423 : BitVec 32 := Scalar.addi c0_i32_148 c16_i32
  let c1_i32_149 : BitVec 32 := 1#32
  ⟨c0_i32_148, v423, c1_i32_149⟩
def k0_mult7 (k0_t2 : Fin k0_t2_loop.trips) : BitVec 32 :=
  let c0_i32_148 : BitVec 32 := 0#32
  let c1_i32_149 : BitVec 32 := 1#32
  let arg22 : BitVec 32 := Scf.iv c0_i32_148 c1_i32_149 k0_t2
  let c128_i32_169 : BitVec 32 := 128#32
  let v475 : BitVec 32 := Scalar.muli arg22 c128_i32_169
  v475
def k0_off37 (k0_t2 : Fin k0_t2_loop.trips) : Fin 2 → Nat :=
  let c0_i32_148 : BitVec 32 := 0#32
  let c1_i32_149 : BitVec 32 := 1#32
  let arg22 : BitVec 32 := Scf.iv c0_i32_148 c1_i32_149 k0_t2
  let c128_i32_169 : BitVec 32 := 128#32
  let v475 : BitVec 32 := Scalar.muli arg22 c128_i32_169
  let v476 : BitVec 32 := v475
  let v477 : Index := Scalar.indexCast v476
  let c0_170 : Index := 0#32
  ![v477.toNat, 0]
def k0_off38 (k0_t2 : Fin k0_t2_loop.trips) : Fin 2 → Nat :=
  let c0_i32_148 : BitVec 32 := 0#32
  let c1_i32_149 : BitVec 32 := 1#32
  let arg22 : BitVec 32 := Scf.iv c0_i32_148 c1_i32_149 k0_t2
  let v480 : Index := Scalar.indexCast arg22
  let c0_171 : Index := 0#32
  ![v480.toNat, 0]
def k0_off39 (k0_t2 : Fin k0_t2_loop.trips) : Fin 3 → Nat :=
  let c0_i32_148 : BitVec 32 := 0#32
  let c1_i32_149 : BitVec 32 := 1#32
  let arg22 : BitVec 32 := Scf.iv c0_i32_148 c1_i32_149 k0_t2
  let v486 : Index := Scalar.indexCast arg22
  let c0_172 : Index := 0#32
  let c0_173 : Index := 0#32
  ![v486.toNat, 0, 0]
def k0_off40 (k0_t2 : Fin k0_t2_loop.trips) : Fin 2 → Nat :=
  let c0_i32_148 : BitVec 32 := 0#32
  let c1_i32_149 : BitVec 32 := 1#32
  let arg22 : BitVec 32 := Scf.iv c0_i32_148 c1_i32_149 k0_t2
  let c128_i32_169 : BitVec 32 := 128#32
  let v475 : BitVec 32 := Scalar.muli arg22 c128_i32_169
  let v476 : BitVec 32 := v475
  let v490 : Index := Scalar.indexCast v476
  let c128_174 : Index := 128#32
  ![v490.toNat, 128]
def k0_off41 (k0_t2 : Fin k0_t2_loop.trips) : Fin 2 → Nat :=
  let c0_i32_148 : BitVec 32 := 0#32
  let c1_i32_149 : BitVec 32 := 1#32
  let arg22 : BitVec 32 := Scf.iv c0_i32_148 c1_i32_149 k0_t2
  let v493 : Index := Scalar.indexCast arg22
  let c1_175 : Index := 1#32
  ![v493.toNat, 1]
def k0_off42 (k0_t2 : Fin k0_t2_loop.trips) : Fin 3 → Nat :=
  let c0_i32_148 : BitVec 32 := 0#32
  let c1_i32_149 : BitVec 32 := 1#32
  let arg22 : BitVec 32 := Scf.iv c0_i32_148 c1_i32_149 k0_t2
  let v499 : Index := Scalar.indexCast arg22
  let c128_176 : Index := 128#32
  let c0_177 : Index := 0#32
  ![v499.toNat, 128, 0]
def k0_off43 (k0_t2 : Fin k0_t2_loop.trips) : Fin 2 → Nat :=
  let c0_i32_148 : BitVec 32 := 0#32
  let c1_i32_149 : BitVec 32 := 1#32
  let arg22 : BitVec 32 := Scf.iv c0_i32_148 c1_i32_149 k0_t2
  let c128_i32_169 : BitVec 32 := 128#32
  let v475 : BitVec 32 := Scalar.muli arg22 c128_i32_169
  let v476 : BitVec 32 := v475
  let v503 : Index := Scalar.indexCast v476
  let c256 : Index := 256#32
  ![v503.toNat, 256]
def k0_off44 (k0_t2 : Fin k0_t2_loop.trips) : Fin 2 → Nat :=
  let c0_i32_148 : BitVec 32 := 0#32
  let c1_i32_149 : BitVec 32 := 1#32
  let arg22 : BitVec 32 := Scf.iv c0_i32_148 c1_i32_149 k0_t2
  let v506 : Index := Scalar.indexCast arg22
  let c2_178 : Index := 2#32
  ![v506.toNat, 2]
def k0_off45 (k0_t2 : Fin k0_t2_loop.trips) : Fin 3 → Nat :=
  let c0_i32_148 : BitVec 32 := 0#32
  let c1_i32_149 : BitVec 32 := 1#32
  let arg22 : BitVec 32 := Scf.iv c0_i32_148 c1_i32_149 k0_t2
  let v512 : Index := Scalar.indexCast arg22
  let c256_179 : Index := 256#32
  let c0_180 : Index := 0#32
  ![v512.toNat, 256, 0]
def k0_off46 (k0_t2 : Fin k0_t2_loop.trips) : Fin 2 → Nat :=
  let c0_i32_148 : BitVec 32 := 0#32
  let c1_i32_149 : BitVec 32 := 1#32
  let arg22 : BitVec 32 := Scf.iv c0_i32_148 c1_i32_149 k0_t2
  let c128_i32_169 : BitVec 32 := 128#32
  let v475 : BitVec 32 := Scalar.muli arg22 c128_i32_169
  let v476 : BitVec 32 := v475
  let v516 : Index := Scalar.indexCast v476
  let c384 : Index := 384#32
  ![v516.toNat, 384]
def k0_off47 (k0_t2 : Fin k0_t2_loop.trips) : Fin 2 → Nat :=
  let c0_i32_148 : BitVec 32 := 0#32
  let c1_i32_149 : BitVec 32 := 1#32
  let arg22 : BitVec 32 := Scf.iv c0_i32_148 c1_i32_149 k0_t2
  let v519 : Index := Scalar.indexCast arg22
  let c3_181 : Index := 3#32
  ![v519.toNat, 3]
def k0_off48 (k0_t2 : Fin k0_t2_loop.trips) : Fin 3 → Nat :=
  let c0_i32_148 : BitVec 32 := 0#32
  let c1_i32_149 : BitVec 32 := 1#32
  let arg22 : BitVec 32 := Scf.iv c0_i32_148 c1_i32_149 k0_t2
  let v525 : Index := Scalar.indexCast arg22
  let c384_182 : Index := 384#32
  let c0_183 : Index := 0#32
  ![v525.toNat, 384, 0]
@[reducible] def k0_t3_loop : Scf.Loop 32 :=
  let c0_i32_165 : BitVec 32 := 0#32
  let c32_i32_166 : BitVec 32 := 32#32
  let v474 : BitVec 32 := Scalar.addi c0_i32_165 c32_i32_166
  let c1_i32_167 : BitVec 32 := 1#32
  ⟨c0_i32_165, v474, c1_i32_167⟩
def k0_mult8 (k0_t3 : Fin k0_t3_loop.trips) : BitVec 32 :=
  let c0_i32_165 : BitVec 32 := 0#32
  let c1_i32_167 : BitVec 32 := 1#32
  let arg22 : BitVec 32 := Scf.iv c0_i32_165 c1_i32_167 k0_t3
  let c256_i32_169 : BitVec 32 := 256#32
  let v475 : BitVec 32 := Scalar.muli arg22 c256_i32_169
  v475
def k0_off49 (k0_t3 : Fin k0_t3_loop.trips) : Fin 2 → Nat :=
  let c0_i32_165 : BitVec 32 := 0#32
  let c1_i32_167 : BitVec 32 := 1#32
  let arg22 : BitVec 32 := Scf.iv c0_i32_165 c1_i32_167 k0_t3
  let c256_i32_169 : BitVec 32 := 256#32
  let v475 : BitVec 32 := Scalar.muli arg22 c256_i32_169
  let v476 : BitVec 32 := v475
  let v477 : Index := Scalar.indexCast v476
  let c0_170 : Index := 0#32
  ![v477.toNat, 0]
def k0_off50 (k0_t3 : Fin k0_t3_loop.trips) : Fin 2 → Nat :=
  let c0_i32_165 : BitVec 32 := 0#32
  let c1_i32_167 : BitVec 32 := 1#32
  let arg22 : BitVec 32 := Scf.iv c0_i32_165 c1_i32_167 k0_t3
  let c256_i32_169 : BitVec 32 := 256#32
  let v475 : BitVec 32 := Scalar.muli arg22 c256_i32_169
  let v476 : BitVec 32 := v475
  let v479 : Index := Scalar.indexCast v476
  let c0_171 : Index := 0#32
  ![v479.toNat, 0]
def k0_off51 (k0_t3 : Fin k0_t3_loop.trips) : Fin 2 → Nat :=
  let c0_i32_165 : BitVec 32 := 0#32
  let c1_i32_167 : BitVec 32 := 1#32
  let arg22 : BitVec 32 := Scf.iv c0_i32_165 c1_i32_167 k0_t3
  let c256_i32_169 : BitVec 32 := 256#32
  let v475 : BitVec 32 := Scalar.muli arg22 c256_i32_169
  let v476 : BitVec 32 := v475
  let v506 : Index := Scalar.indexCast v476
  let c0_172 : Index := 0#32
  ![v506.toNat, 0]
def k0_off52 (k0_t3 : Fin k0_t3_loop.trips) : Fin 2 → Nat :=
  let c0_i32_165 : BitVec 32 := 0#32
  let c1_i32_167 : BitVec 32 := 1#32
  let arg22 : BitVec 32 := Scf.iv c0_i32_165 c1_i32_167 k0_t3
  let c256_i32_169 : BitVec 32 := 256#32
  let v475 : BitVec 32 := Scalar.muli arg22 c256_i32_169
  let v476 : BitVec 32 := v475
  let v510 : Index := Scalar.indexCast v476
  let c0_173 : Index := 0#32
  ![v510.toNat, 0]
def k0_off53 (k0_t3 : Fin k0_t3_loop.trips) : Fin 2 → Nat :=
  let c0_i32_165 : BitVec 32 := 0#32
  let c1_i32_167 : BitVec 32 := 1#32
  let arg22 : BitVec 32 := Scf.iv c0_i32_165 c1_i32_167 k0_t3
  let c256_i32_169 : BitVec 32 := 256#32
  let v475 : BitVec 32 := Scalar.muli arg22 c256_i32_169
  let v476 : BitVec 32 := v475
  let v514 : Index := Scalar.indexCast v476
  let c512 : Index := 512#32
  ![v514.toNat, 512]
@[reducible] def k0_t4_loop : Scf.Loop 32 :=
  let c0_i32_10 : BitVec 32 := 0#32
  let c8_i32 : BitVec 32 := 8#32
  let v86 : BitVec 32 := Scalar.addi c0_i32_10 c8_i32
  let c1_i32 : BitVec 32 := 1#32
  ⟨c0_i32_10, v86, c1_i32⟩
def k0_mult9 (k0_t4 : Fin k0_t4_loop.trips) : BitVec 32 :=
  let c0_i32_10 : BitVec 32 := 0#32
  let c1_i32 : BitVec 32 := 1#32
  let arg22 : BitVec 32 := Scf.iv c0_i32_10 c1_i32 k0_t4
  let c384_i32 : BitVec 32 := 384#32
  let v420 : BitVec 32 := Scalar.muli arg22 c384_i32
  v420
def k0_off54 (k0_t4 : Fin k0_t4_loop.trips) : Fin 2 → Nat :=
  let c0_i32_10 : BitVec 32 := 0#32
  let c1_i32 : BitVec 32 := 1#32
  let arg22 : BitVec 32 := Scf.iv c0_i32_10 c1_i32 k0_t4
  let c384_i32 : BitVec 32 := 384#32
  let v420 : BitVec 32 := Scalar.muli arg22 c384_i32
  let v421 : BitVec 32 := v420
  let v422 : Index := Scalar.indexCast v421
  let c0_141 : Index := 0#32
  ![v422.toNat, 0]
def k0_off55 (k0_t4 : Fin k0_t4_loop.trips) (c0_i32_145 : BitVec 32) : Fin 3 → Nat :=
  let c2_i32 : BitVec 32 := 2#32
  let c0_i32_10 : BitVec 32 := 0#32
  let c1_i32 : BitVec 32 := 1#32
  let arg22 : BitVec 32 := Scf.iv c0_i32_10 c1_i32 k0_t4
  let v438 : BitVec 32 := Scalar.muli c2_i32 arg22
  let v439 : BitVec 32 := Scalar.addi v438 c0_i32_145
  let v440 : Index := Scalar.indexCast v439
  let c0_146 : Index := 0#32
  let c0_147 : Index := 0#32
  ![v440.toNat, 0, 0]
def k0_off56 (k0_t4 : Fin k0_t4_loop.trips) : Fin 4 → Nat :=
  let c0_149 : Index := 0#32
  let c0_i32_10 : BitVec 32 := 0#32
  let c1_i32 : BitVec 32 := 1#32
  let arg22 : BitVec 32 := Scf.iv c0_i32_10 c1_i32 k0_t4
  let v446 : Index := Scalar.indexCast arg22
  let c0_150 : Index := 0#32
  let c0_151 : Index := 0#32
  ![0, v446.toNat, 0, 0]
def k0_off57 (k0_t4 : Fin k0_t4_loop.trips) : Fin 4 → Nat :=
  let c0_152 : Index := 0#32
  let c0_i32_10 : BitVec 32 := 0#32
  let c1_i32 : BitVec 32 := 1#32
  let arg22 : BitVec 32 := Scf.iv c0_i32_10 c1_i32 k0_t4
  let v451 : Index := Scalar.indexCast arg22
  let c512 : Index := 512#32
  let c0_153 : Index := 0#32
  ![0, v451.toNat, 512, 0]
def k0_off58 (k0_t4 : Fin k0_t4_loop.trips) : Fin 4 → Nat :=
  let c0_154 : Index := 0#32
  let c0_i32_10 : BitVec 32 := 0#32
  let c1_i32 : BitVec 32 := 1#32
  let arg22 : BitVec 32 := Scf.iv c0_i32_10 c1_i32 k0_t4
  let v456 : Index := Scalar.indexCast arg22
  let c544 : Index := 544#32
  let c0_155 : Index := 0#32
  ![0, v456.toNat, 544, 0]
def k0_off59 (k0_t4 : Fin k0_t4_loop.trips) : Fin 4 → Nat :=
  let c1_156 : Index := 1#32
  let c0_i32_10 : BitVec 32 := 0#32
  let c1_i32 : BitVec 32 := 1#32
  let arg22 : BitVec 32 := Scf.iv c0_i32_10 c1_i32 k0_t4
  let v461 : Index := Scalar.indexCast arg22
  let c0_157 : Index := 0#32
  let c0_158 : Index := 0#32
  ![1, v461.toNat, 0, 0]
def k0_off60 (k0_t4 : Fin k0_t4_loop.trips) : Fin 4 → Nat :=
  let c1_159 : Index := 1#32
  let c0_i32_10 : BitVec 32 := 0#32
  let c1_i32 : BitVec 32 := 1#32
  let arg22 : BitVec 32 := Scf.iv c0_i32_10 c1_i32 k0_t4
  let v466 : Index := Scalar.indexCast arg22
  let c512_160 : Index := 512#32
  let c0_161 : Index := 0#32
  ![1, v466.toNat, 512, 0]
def k0_off61 (k0_t4 : Fin k0_t4_loop.trips) : Fin 4 → Nat :=
  let c1_162 : Index := 1#32
  let c0_i32_10 : BitVec 32 := 0#32
  let c1_i32 : BitVec 32 := 1#32
  let arg22 : BitVec 32 := Scf.iv c0_i32_10 c1_i32 k0_t4
  let v471 : Index := Scalar.indexCast arg22
  let c544_163 : Index := 544#32
  let c0_164 : Index := 0#32
  ![1, v471.toNat, 544, 0]
def k0_off62 (k0_t4 : Fin k0_t4_loop.trips) : Fin 4 → Nat :=
  let c0_170 : Index := 0#32
  let c0_i32_10 : BitVec 32 := 0#32
  let c1_i32 : BitVec 32 := 1#32
  let arg22 : BitVec 32 := Scf.iv c0_i32_10 c1_i32 k0_t4
  let v495 : Index := Scalar.indexCast arg22
  let c0_171 : Index := 0#32
  let c128_172 : Index := 128#32
  ![0, v495.toNat, 0, 128]
def k0_off63 (k0_t4 : Fin k0_t4_loop.trips) : Fin 4 → Nat :=
  let c0_173 : Index := 0#32
  let c0_i32_10 : BitVec 32 := 0#32
  let c1_i32 : BitVec 32 := 1#32
  let arg22 : BitVec 32 := Scf.iv c0_i32_10 c1_i32 k0_t4
  let v500 : Index := Scalar.indexCast arg22
  let c512_174 : Index := 512#32
  let c128_175 : Index := 128#32
  ![0, v500.toNat, 512, 128]
def k0_off64 (k0_t4 : Fin k0_t4_loop.trips) : Fin 4 → Nat :=
  let c0_176 : Index := 0#32
  let c0_i32_10 : BitVec 32 := 0#32
  let c1_i32 : BitVec 32 := 1#32
  let arg22 : BitVec 32 := Scf.iv c0_i32_10 c1_i32 k0_t4
  let v505 : Index := Scalar.indexCast arg22
  let c544_177 : Index := 544#32
  let c128_178 : Index := 128#32
  ![0, v505.toNat, 544, 128]
def k0_off65 (k0_t4 : Fin k0_t4_loop.trips) : Fin 4 → Nat :=
  let c1_179 : Index := 1#32
  let c0_i32_10 : BitVec 32 := 0#32
  let c1_i32 : BitVec 32 := 1#32
  let arg22 : BitVec 32 := Scf.iv c0_i32_10 c1_i32 k0_t4
  let v510 : Index := Scalar.indexCast arg22
  let c0_180 : Index := 0#32
  let c128_181 : Index := 128#32
  ![1, v510.toNat, 0, 128]
def k0_off66 (k0_t4 : Fin k0_t4_loop.trips) : Fin 4 → Nat :=
  let c1_182 : Index := 1#32
  let c0_i32_10 : BitVec 32 := 0#32
  let c1_i32 : BitVec 32 := 1#32
  let arg22 : BitVec 32 := Scf.iv c0_i32_10 c1_i32 k0_t4
  let v515 : Index := Scalar.indexCast arg22
  let c512_183 : Index := 512#32
  let c128_184 : Index := 128#32
  ![1, v515.toNat, 512, 128]
def k0_off67 (k0_t4 : Fin k0_t4_loop.trips) : Fin 4 → Nat :=
  let c1_185 : Index := 1#32
  let c0_i32_10 : BitVec 32 := 0#32
  let c1_i32 : BitVec 32 := 1#32
  let arg22 : BitVec 32 := Scf.iv c0_i32_10 c1_i32 k0_t4
  let v520 : Index := Scalar.indexCast arg22
  let c544_186 : Index := 544#32
  let c128_187 : Index := 128#32
  ![1, v520.toNat, 544, 128]
@[reducible] def k0_t5_loop (i : grid0.Coords) (v100 : BitVec 32) (v102 : BitVec 32) (v112 : BitVec 32) (v114 : BitVec 32) (v124 : BitVec 32) (v126 : BitVec 32) (v136 : BitVec 32) (v138 : BitVec 32) (v148 : BitVec 32) (v150 : BitVec 32) (v160 : BitVec 32) (v162 : BitVec 32) (v172 : BitVec 32) (v174 : BitVec 32) : Scf.Loop 32 :=
  let arg0 : BitVec 32 := BitVec.ofNat 32 (i 0).val
  let c256_i32 : BitVec 32 := 256#32
  let v87 : BitVec 32 := Scalar.muli arg0 c256_i32
  let c0_i32_12 : BitVec 32 := 0#32
  let v88 : BitVec 32 := Scalar.addi v87 c0_i32_12
  let v173 : BitVec 1 := Scalar.cmpi .sle v172 v88
  let v161 : BitVec 1 := Scalar.cmpi .sle v160 v88
  let v149 : BitVec 1 := Scalar.cmpi .sle v148 v88
  let v137 : BitVec 1 := Scalar.cmpi .sle v136 v88
  let v125 : BitVec 1 := Scalar.cmpi .sle v124 v88
  let v113 : BitVec 1 := Scalar.cmpi .sle v112 v88
  let v101 : BitVec 1 := Scalar.cmpi .sle v100 v88
  let c0_i32_18 : BitVec 32 := 0#32
  let v103 : BitVec 32 := Scalar.maxsi c0_i32_18 v102
  let c0_i32_19 : BitVec 32 := 0#32
  let v104 : BitVec 32 := Scalar.select v101 v103 c0_i32_19
  let v115 : BitVec 32 := Scalar.maxsi v104 v114
  let v116 : BitVec 32 := Scalar.select v113 v115 v104
  let v127 : BitVec 32 := Scalar.maxsi v116 v126
  let v128 : BitVec 32 := Scalar.select v125 v127 v116
  let v139 : BitVec 32 := Scalar.maxsi v128 v138
  let v140 : BitVec 32 := Scalar.select v137 v139 v128
  let v151 : BitVec 32 := Scalar.maxsi v140 v150
  let v152 : BitVec 32 := Scalar.select v149 v151 v140
  let v163 : BitVec 32 := Scalar.maxsi v152 v162
  let v164 : BitVec 32 := Scalar.select v161 v163 v152
  let v175 : BitVec 32 := Scalar.maxsi v164 v174
  let v176 : BitVec 32 := Scalar.select v173 v175 v164
  let c0_i32_42 : BitVec 32 := 0#32
  let v182 : BitVec 1 := Scalar.cmpi .sgt v176 c0_i32_42
  let v183 : BitVec 32 := Scalar.extui v182
  let c0_i32_43 : BitVec 32 := 0#32
  let v184 : BitVec 1 := Scalar.cmpi .slt v176 c0_i32_43
  let v185 : BitVec 32 := Scalar.extui v184
  let v186 : BitVec 32 := Scalar.subi v183 v185
  let c256_i32_41 : BitVec 32 := 256#32
  let c0_i32_44 : BitVec 32 := 0#32
  let v187 : BitVec 1 := Scalar.cmpi .sgt c256_i32_41 c0_i32_44
  let v188 : BitVec 32 := Scalar.extui v187
  let c0_i32_45 : BitVec 32 := 0#32
  let v189 : BitVec 1 := Scalar.cmpi .slt c256_i32_41 c0_i32_45
  let v190 : BitVec 32 := Scalar.extui v189
  let v191 : BitVec 32 := Scalar.subi v188 v190
  let v192 : BitVec 1 := Scalar.cmpi .ne v186 v191
  let v193 : BitVec 32 := Scalar.remsi v176 c256_i32_41
  let c0_i32_46 : BitVec 32 := 0#32
  let v194 : BitVec 1 := Scalar.cmpi .ne v193 c0_i32_46
  let v195 : BitVec 1 := Scalar.andi v192 v194
  let v181 : BitVec 32 := Scalar.divsi v176 c256_i32_41
  let c1_i32_47 : BitVec 32 := 1#32
  let v196 : BitVec 32 := Scalar.subi v181 c1_i32_47
  let v197 : BitVec 32 := Scalar.select v195 v196 v181
  let c128_i32 : BitVec 32 := 128#32
  let v198 : BitVec 32 := Scalar.addi v88 c128_i32
  let c1_i32_48 : BitVec 32 := 1#32
  let v199 : BitVec 32 := Scalar.subi v198 c1_i32_48
  let c0_i32_50 : BitVec 32 := 0#32
  let v201 : BitVec 1 := Scalar.cmpi .sgt v199 c0_i32_50
  let v202 : BitVec 32 := Scalar.extui v201
  let c0_i32_51 : BitVec 32 := 0#32
  let v203 : BitVec 1 := Scalar.cmpi .slt v199 c0_i32_51
  let v204 : BitVec 32 := Scalar.extui v203
  let v205 : BitVec 32 := Scalar.subi v202 v204
  let c256_i32_49 : BitVec 32 := 256#32
  let c0_i32_52 : BitVec 32 := 0#32
  let v206 : BitVec 1 := Scalar.cmpi .sgt c256_i32_49 c0_i32_52
  let v207 : BitVec 32 := Scalar.extui v206
  let c0_i32_53 : BitVec 32 := 0#32
  let v208 : BitVec 1 := Scalar.cmpi .slt c256_i32_49 c0_i32_53
  let v209 : BitVec 32 := Scalar.extui v208
  let v210 : BitVec 32 := Scalar.subi v207 v209
  let v211 : BitVec 1 := Scalar.cmpi .ne v205 v210
  let v212 : BitVec 32 := Scalar.remsi v199 c256_i32_49
  let c0_i32_54 : BitVec 32 := 0#32
  let v213 : BitVec 1 := Scalar.cmpi .ne v212 c0_i32_54
  let v214 : BitVec 1 := Scalar.andi v211 v213
  let v200 : BitVec 32 := Scalar.divsi v199 c256_i32_49
  let c1_i32_55 : BitVec 32 := 1#32
  let v215 : BitVec 32 := Scalar.subi v200 c1_i32_55
  let v216 : BitVec 32 := Scalar.select v214 v215 v200
  let c1_i32_56 : BitVec 32 := 1#32
  let v217 : BitVec 32 := Scalar.addi v216 c1_i32_56
  let v218 : BitVec 32 := Scalar.subi v217 v197
  let c1_i32_58 : BitVec 32 := 1#32
  let v220 : BitVec 32 := Scalar.divsi v218 c1_i32_58
  let v221 : BitVec 32 := Scalar.muli v220 c1_i32_58
  let v222 : BitVec 32 := Scalar.addi v197 v221
  let c1_i32_59 : BitVec 32 := 1#32
  ⟨v197, v222, c1_i32_59⟩

def k0_mult10 (i : grid0.Coords) (v100 : BitVec 32) (v102 : BitVec 32) (v112 : BitVec 32) (v114 : BitVec 32) (v124 : BitVec 32) (v126 : BitVec 32) (v136 : BitVec 32) (v138 : BitVec 32) (v148 : BitVec 32) (v150 : BitVec 32) (v160 : BitVec 32) (v162 : BitVec 32) (v172 : BitVec 32) (v174 : BitVec 32) (k0_t5 : Fin (k0_t5_loop i v100 v102 v112 v114 v124 v126 v136 v138 v148 v150 v160 v162 v172 v174).trips) : BitVec 32 :=
  let arg0 : BitVec 32 := BitVec.ofNat 32 (i 0).val
  let c256_i32 : BitVec 32 := 256#32
  let v87 : BitVec 32 := Scalar.muli arg0 c256_i32
  let c0_i32_12 : BitVec 32 := 0#32
  let v88 : BitVec 32 := Scalar.addi v87 c0_i32_12
  let v173 : BitVec 1 := Scalar.cmpi .sle v172 v88
  let v161 : BitVec 1 := Scalar.cmpi .sle v160 v88
  let v149 : BitVec 1 := Scalar.cmpi .sle v148 v88
  let v137 : BitVec 1 := Scalar.cmpi .sle v136 v88
  let v125 : BitVec 1 := Scalar.cmpi .sle v124 v88
  let v113 : BitVec 1 := Scalar.cmpi .sle v112 v88
  let v101 : BitVec 1 := Scalar.cmpi .sle v100 v88
  let c0_i32_18 : BitVec 32 := 0#32
  let v103 : BitVec 32 := Scalar.maxsi c0_i32_18 v102
  let c0_i32_19 : BitVec 32 := 0#32
  let v104 : BitVec 32 := Scalar.select v101 v103 c0_i32_19
  let v115 : BitVec 32 := Scalar.maxsi v104 v114
  let v116 : BitVec 32 := Scalar.select v113 v115 v104
  let v127 : BitVec 32 := Scalar.maxsi v116 v126
  let v128 : BitVec 32 := Scalar.select v125 v127 v116
  let v139 : BitVec 32 := Scalar.maxsi v128 v138
  let v140 : BitVec 32 := Scalar.select v137 v139 v128
  let v151 : BitVec 32 := Scalar.maxsi v140 v150
  let v152 : BitVec 32 := Scalar.select v149 v151 v140
  let v163 : BitVec 32 := Scalar.maxsi v152 v162
  let v164 : BitVec 32 := Scalar.select v161 v163 v152
  let v175 : BitVec 32 := Scalar.maxsi v164 v174
  let v176 : BitVec 32 := Scalar.select v173 v175 v164
  let c0_i32_42 : BitVec 32 := 0#32
  let v182 : BitVec 1 := Scalar.cmpi .sgt v176 c0_i32_42
  let v183 : BitVec 32 := Scalar.extui v182
  let c0_i32_43 : BitVec 32 := 0#32
  let v184 : BitVec 1 := Scalar.cmpi .slt v176 c0_i32_43
  let v185 : BitVec 32 := Scalar.extui v184
  let v186 : BitVec 32 := Scalar.subi v183 v185
  let c256_i32_41 : BitVec 32 := 256#32
  let c0_i32_44 : BitVec 32 := 0#32
  let v187 : BitVec 1 := Scalar.cmpi .sgt c256_i32_41 c0_i32_44
  let v188 : BitVec 32 := Scalar.extui v187
  let c0_i32_45 : BitVec 32 := 0#32
  let v189 : BitVec 1 := Scalar.cmpi .slt c256_i32_41 c0_i32_45
  let v190 : BitVec 32 := Scalar.extui v189
  let v191 : BitVec 32 := Scalar.subi v188 v190
  let v192 : BitVec 1 := Scalar.cmpi .ne v186 v191
  let v193 : BitVec 32 := Scalar.remsi v176 c256_i32_41
  let c0_i32_46 : BitVec 32 := 0#32
  let v194 : BitVec 1 := Scalar.cmpi .ne v193 c0_i32_46
  let v195 : BitVec 1 := Scalar.andi v192 v194
  let v181 : BitVec 32 := Scalar.divsi v176 c256_i32_41
  let c1_i32_47 : BitVec 32 := 1#32
  let v196 : BitVec 32 := Scalar.subi v181 c1_i32_47
  let v197 : BitVec 32 := Scalar.select v195 v196 v181
  let c1_i32_59 : BitVec 32 := 1#32
  let arg22 : BitVec 32 := Scf.iv v197 c1_i32_59 k0_t5
  let c256_i32_141 : BitVec 32 := 256#32
  let v420 : BitVec 32 := Scalar.muli arg22 c256_i32_141
  v420
def k0_off68 (i : grid0.Coords) (v100 : BitVec 32) (v102 : BitVec 32) (v112 : BitVec 32) (v114 : BitVec 32) (v124 : BitVec 32) (v126 : BitVec 32) (v136 : BitVec 32) (v138 : BitVec 32) (v148 : BitVec 32) (v150 : BitVec 32) (v160 : BitVec 32) (v162 : BitVec 32) (v172 : BitVec 32) (v174 : BitVec 32) (k0_t5 : Fin (k0_t5_loop i v100 v102 v112 v114 v124 v126 v136 v138 v148 v150 v160 v162 v172 v174).trips) : Fin 2 → Nat :=
  let arg0 : BitVec 32 := BitVec.ofNat 32 (i 0).val
  let c256_i32 : BitVec 32 := 256#32
  let v87 : BitVec 32 := Scalar.muli arg0 c256_i32
  let c0_i32_12 : BitVec 32 := 0#32
  let v88 : BitVec 32 := Scalar.addi v87 c0_i32_12
  let v173 : BitVec 1 := Scalar.cmpi .sle v172 v88
  let v161 : BitVec 1 := Scalar.cmpi .sle v160 v88
  let v149 : BitVec 1 := Scalar.cmpi .sle v148 v88
  let v137 : BitVec 1 := Scalar.cmpi .sle v136 v88
  let v125 : BitVec 1 := Scalar.cmpi .sle v124 v88
  let v113 : BitVec 1 := Scalar.cmpi .sle v112 v88
  let v101 : BitVec 1 := Scalar.cmpi .sle v100 v88
  let c0_i32_18 : BitVec 32 := 0#32
  let v103 : BitVec 32 := Scalar.maxsi c0_i32_18 v102
  let c0_i32_19 : BitVec 32 := 0#32
  let v104 : BitVec 32 := Scalar.select v101 v103 c0_i32_19
  let v115 : BitVec 32 := Scalar.maxsi v104 v114
  let v116 : BitVec 32 := Scalar.select v113 v115 v104
  let v127 : BitVec 32 := Scalar.maxsi v116 v126
  let v128 : BitVec 32 := Scalar.select v125 v127 v116
  let v139 : BitVec 32 := Scalar.maxsi v128 v138
  let v140 : BitVec 32 := Scalar.select v137 v139 v128
  let v151 : BitVec 32 := Scalar.maxsi v140 v150
  let v152 : BitVec 32 := Scalar.select v149 v151 v140
  let v163 : BitVec 32 := Scalar.maxsi v152 v162
  let v164 : BitVec 32 := Scalar.select v161 v163 v152
  let v175 : BitVec 32 := Scalar.maxsi v164 v174
  let v176 : BitVec 32 := Scalar.select v173 v175 v164
  let c0_i32_42 : BitVec 32 := 0#32
  let v182 : BitVec 1 := Scalar.cmpi .sgt v176 c0_i32_42
  let v183 : BitVec 32 := Scalar.extui v182
  let c0_i32_43 : BitVec 32 := 0#32
  let v184 : BitVec 1 := Scalar.cmpi .slt v176 c0_i32_43
  let v185 : BitVec 32 := Scalar.extui v184
  let v186 : BitVec 32 := Scalar.subi v183 v185
  let c256_i32_41 : BitVec 32 := 256#32
  let c0_i32_44 : BitVec 32 := 0#32
  let v187 : BitVec 1 := Scalar.cmpi .sgt c256_i32_41 c0_i32_44
  let v188 : BitVec 32 := Scalar.extui v187
  let c0_i32_45 : BitVec 32 := 0#32
  let v189 : BitVec 1 := Scalar.cmpi .slt c256_i32_41 c0_i32_45
  let v190 : BitVec 32 := Scalar.extui v189
  let v191 : BitVec 32 := Scalar.subi v188 v190
  let v192 : BitVec 1 := Scalar.cmpi .ne v186 v191
  let v193 : BitVec 32 := Scalar.remsi v176 c256_i32_41
  let c0_i32_46 : BitVec 32 := 0#32
  let v194 : BitVec 1 := Scalar.cmpi .ne v193 c0_i32_46
  let v195 : BitVec 1 := Scalar.andi v192 v194
  let v181 : BitVec 32 := Scalar.divsi v176 c256_i32_41
  let c1_i32_47 : BitVec 32 := 1#32
  let v196 : BitVec 32 := Scalar.subi v181 c1_i32_47
  let v197 : BitVec 32 := Scalar.select v195 v196 v181
  let c1_i32_59 : BitVec 32 := 1#32
  let arg22 : BitVec 32 := Scf.iv v197 c1_i32_59 k0_t5
  let c256_i32_141 : BitVec 32 := 256#32
  let v420 : BitVec 32 := Scalar.muli arg22 c256_i32_141
  let v421 : BitVec 32 := v420
  let v434 : Index := Scalar.indexCast v421
  let c0_144 : Index := 0#32
  ![v434.toNat, 0]
@[reducible] def k0_t6_loop (i : grid0.Coords) (v100 : BitVec 32) (v102 : BitVec 32) (v112 : BitVec 32) (v114 : BitVec 32) (v124 : BitVec 32) (v126 : BitVec 32) (v136 : BitVec 32) (v138 : BitVec 32) (v148 : BitVec 32) (v150 : BitVec 32) (v160 : BitVec 32) (v162 : BitVec 32) (v172 : BitVec 32) (v174 : BitVec 32) : Scf.Loop 32 :=
  let arg0 : BitVec 32 := BitVec.ofNat 32 (i 0).val
  let c256_i32 : BitVec 32 := 256#32
  let v87 : BitVec 32 := Scalar.muli arg0 c256_i32
  let c0_i32_12 : BitVec 32 := 0#32
  let v88 : BitVec 32 := Scalar.addi v87 c0_i32_12
  let v173 : BitVec 1 := Scalar.cmpi .sle v172 v88
  let v161 : BitVec 1 := Scalar.cmpi .sle v160 v88
  let v149 : BitVec 1 := Scalar.cmpi .sle v148 v88
  let v137 : BitVec 1 := Scalar.cmpi .sle v136 v88
  let v125 : BitVec 1 := Scalar.cmpi .sle v124 v88
  let v113 : BitVec 1 := Scalar.cmpi .sle v112 v88
  let v101 : BitVec 1 := Scalar.cmpi .sle v100 v88
  let c0_i32_18 : BitVec 32 := 0#32
  let v103 : BitVec 32 := Scalar.maxsi c0_i32_18 v102
  let c0_i32_19 : BitVec 32 := 0#32
  let v104 : BitVec 32 := Scalar.select v101 v103 c0_i32_19
  let v115 : BitVec 32 := Scalar.maxsi v104 v114
  let v116 : BitVec 32 := Scalar.select v113 v115 v104
  let v127 : BitVec 32 := Scalar.maxsi v116 v126
  let v128 : BitVec 32 := Scalar.select v125 v127 v116
  let v139 : BitVec 32 := Scalar.maxsi v128 v138
  let v140 : BitVec 32 := Scalar.select v137 v139 v128
  let v151 : BitVec 32 := Scalar.maxsi v140 v150
  let v152 : BitVec 32 := Scalar.select v149 v151 v140
  let v163 : BitVec 32 := Scalar.maxsi v152 v162
  let v164 : BitVec 32 := Scalar.select v161 v163 v152
  let v175 : BitVec 32 := Scalar.maxsi v164 v174
  let v176 : BitVec 32 := Scalar.select v173 v175 v164
  let c0_i32_42 : BitVec 32 := 0#32
  let v182 : BitVec 1 := Scalar.cmpi .sgt v176 c0_i32_42
  let v183 : BitVec 32 := Scalar.extui v182
  let c0_i32_43 : BitVec 32 := 0#32
  let v184 : BitVec 1 := Scalar.cmpi .slt v176 c0_i32_43
  let v185 : BitVec 32 := Scalar.extui v184
  let v186 : BitVec 32 := Scalar.subi v183 v185
  let c256_i32_41 : BitVec 32 := 256#32
  let c0_i32_44 : BitVec 32 := 0#32
  let v187 : BitVec 1 := Scalar.cmpi .sgt c256_i32_41 c0_i32_44
  let v188 : BitVec 32 := Scalar.extui v187
  let c0_i32_45 : BitVec 32 := 0#32
  let v189 : BitVec 1 := Scalar.cmpi .slt c256_i32_41 c0_i32_45
  let v190 : BitVec 32 := Scalar.extui v189
  let v191 : BitVec 32 := Scalar.subi v188 v190
  let v192 : BitVec 1 := Scalar.cmpi .ne v186 v191
  let v193 : BitVec 32 := Scalar.remsi v176 c256_i32_41
  let c0_i32_46 : BitVec 32 := 0#32
  let v194 : BitVec 1 := Scalar.cmpi .ne v193 c0_i32_46
  let v195 : BitVec 1 := Scalar.andi v192 v194
  let v181 : BitVec 32 := Scalar.divsi v176 c256_i32_41
  let c1_i32_47 : BitVec 32 := 1#32
  let v196 : BitVec 32 := Scalar.subi v181 c1_i32_47
  let v197 : BitVec 32 := Scalar.select v195 v196 v181
  let c128_i32 : BitVec 32 := 128#32
  let v198 : BitVec 32 := Scalar.addi v88 c128_i32
  let c1_i32_48 : BitVec 32 := 1#32
  let v199 : BitVec 32 := Scalar.subi v198 c1_i32_48
  let c0_i32_50 : BitVec 32 := 0#32
  let v201 : BitVec 1 := Scalar.cmpi .sgt v199 c0_i32_50
  let v202 : BitVec 32 := Scalar.extui v201
  let c0_i32_51 : BitVec 32 := 0#32
  let v203 : BitVec 1 := Scalar.cmpi .slt v199 c0_i32_51
  let v204 : BitVec 32 := Scalar.extui v203
  let v205 : BitVec 32 := Scalar.subi v202 v204
  let c256_i32_49 : BitVec 32 := 256#32
  let c0_i32_52 : BitVec 32 := 0#32
  let v206 : BitVec 1 := Scalar.cmpi .sgt c256_i32_49 c0_i32_52
  let v207 : BitVec 32 := Scalar.extui v206
  let c0_i32_53 : BitVec 32 := 0#32
  let v208 : BitVec 1 := Scalar.cmpi .slt c256_i32_49 c0_i32_53
  let v209 : BitVec 32 := Scalar.extui v208
  let v210 : BitVec 32 := Scalar.subi v207 v209
  let v211 : BitVec 1 := Scalar.cmpi .ne v205 v210
  let v212 : BitVec 32 := Scalar.remsi v199 c256_i32_49
  let c0_i32_54 : BitVec 32 := 0#32
  let v213 : BitVec 1 := Scalar.cmpi .ne v212 c0_i32_54
  let v214 : BitVec 1 := Scalar.andi v211 v213
  let v200 : BitVec 32 := Scalar.divsi v199 c256_i32_49
  let c1_i32_55 : BitVec 32 := 1#32
  let v215 : BitVec 32 := Scalar.subi v200 c1_i32_55
  let v216 : BitVec 32 := Scalar.select v214 v215 v200
  let c1_i32_56 : BitVec 32 := 1#32
  let v217 : BitVec 32 := Scalar.addi v216 c1_i32_56
  let v218 : BitVec 32 := Scalar.subi v217 v197
  let c1_i32_58 : BitVec 32 := 1#32
  let v220 : BitVec 32 := Scalar.divsi v218 c1_i32_58
  let v221 : BitVec 32 := Scalar.muli v220 c1_i32_58
  let v222 : BitVec 32 := Scalar.addi v197 v221
  let v219 : BitVec 32 := Scalar.addi v197 v218
  let c1_i32_60 : BitVec 32 := 1#32
  ⟨v222, v219, c1_i32_60⟩
def k0_mult11 (i : grid0.Coords) (v100 : BitVec 32) (v102 : BitVec 32) (v112 : BitVec 32) (v114 : BitVec 32) (v124 : BitVec 32) (v126 : BitVec 32) (v136 : BitVec 32) (v138 : BitVec 32) (v148 : BitVec 32) (v150 : BitVec 32) (v160 : BitVec 32) (v162 : BitVec 32) (v172 : BitVec 32) (v174 : BitVec 32) (k0_t6 : Fin (k0_t6_loop i v100 v102 v112 v114 v124 v126 v136 v138 v148 v150 v160 v162 v172 v174).trips) : BitVec 32 :=
  let arg0 : BitVec 32 := BitVec.ofNat 32 (i 0).val
  let c256_i32 : BitVec 32 := 256#32
  let v87 : BitVec 32 := Scalar.muli arg0 c256_i32
  let c0_i32_12 : BitVec 32 := 0#32
  let v88 : BitVec 32 := Scalar.addi v87 c0_i32_12
  let v173 : BitVec 1 := Scalar.cmpi .sle v172 v88
  let v161 : BitVec 1 := Scalar.cmpi .sle v160 v88
  let v149 : BitVec 1 := Scalar.cmpi .sle v148 v88
  let v137 : BitVec 1 := Scalar.cmpi .sle v136 v88
  let v125 : BitVec 1 := Scalar.cmpi .sle v124 v88
  let v113 : BitVec 1 := Scalar.cmpi .sle v112 v88
  let v101 : BitVec 1 := Scalar.cmpi .sle v100 v88
  let c0_i32_18 : BitVec 32 := 0#32
  let v103 : BitVec 32 := Scalar.maxsi c0_i32_18 v102
  let c0_i32_19 : BitVec 32 := 0#32
  let v104 : BitVec 32 := Scalar.select v101 v103 c0_i32_19
  let v115 : BitVec 32 := Scalar.maxsi v104 v114
  let v116 : BitVec 32 := Scalar.select v113 v115 v104
  let v127 : BitVec 32 := Scalar.maxsi v116 v126
  let v128 : BitVec 32 := Scalar.select v125 v127 v116
  let v139 : BitVec 32 := Scalar.maxsi v128 v138
  let v140 : BitVec 32 := Scalar.select v137 v139 v128
  let v151 : BitVec 32 := Scalar.maxsi v140 v150
  let v152 : BitVec 32 := Scalar.select v149 v151 v140
  let v163 : BitVec 32 := Scalar.maxsi v152 v162
  let v164 : BitVec 32 := Scalar.select v161 v163 v152
  let v175 : BitVec 32 := Scalar.maxsi v164 v174
  let v176 : BitVec 32 := Scalar.select v173 v175 v164
  let c0_i32_42 : BitVec 32 := 0#32
  let v182 : BitVec 1 := Scalar.cmpi .sgt v176 c0_i32_42
  let v183 : BitVec 32 := Scalar.extui v182
  let c0_i32_43 : BitVec 32 := 0#32
  let v184 : BitVec 1 := Scalar.cmpi .slt v176 c0_i32_43
  let v185 : BitVec 32 := Scalar.extui v184
  let v186 : BitVec 32 := Scalar.subi v183 v185
  let c256_i32_41 : BitVec 32 := 256#32
  let c0_i32_44 : BitVec 32 := 0#32
  let v187 : BitVec 1 := Scalar.cmpi .sgt c256_i32_41 c0_i32_44
  let v188 : BitVec 32 := Scalar.extui v187
  let c0_i32_45 : BitVec 32 := 0#32
  let v189 : BitVec 1 := Scalar.cmpi .slt c256_i32_41 c0_i32_45
  let v190 : BitVec 32 := Scalar.extui v189
  let v191 : BitVec 32 := Scalar.subi v188 v190
  let v192 : BitVec 1 := Scalar.cmpi .ne v186 v191
  let v193 : BitVec 32 := Scalar.remsi v176 c256_i32_41
  let c0_i32_46 : BitVec 32 := 0#32
  let v194 : BitVec 1 := Scalar.cmpi .ne v193 c0_i32_46
  let v195 : BitVec 1 := Scalar.andi v192 v194
  let v181 : BitVec 32 := Scalar.divsi v176 c256_i32_41
  let c1_i32_47 : BitVec 32 := 1#32
  let v196 : BitVec 32 := Scalar.subi v181 c1_i32_47
  let v197 : BitVec 32 := Scalar.select v195 v196 v181
  let c128_i32 : BitVec 32 := 128#32
  let v198 : BitVec 32 := Scalar.addi v88 c128_i32
  let c1_i32_48 : BitVec 32 := 1#32
  let v199 : BitVec 32 := Scalar.subi v198 c1_i32_48
  let c0_i32_50 : BitVec 32 := 0#32
  let v201 : BitVec 1 := Scalar.cmpi .sgt v199 c0_i32_50
  let v202 : BitVec 32 := Scalar.extui v201
  let c0_i32_51 : BitVec 32 := 0#32
  let v203 : BitVec 1 := Scalar.cmpi .slt v199 c0_i32_51
  let v204 : BitVec 32 := Scalar.extui v203
  let v205 : BitVec 32 := Scalar.subi v202 v204
  let c256_i32_49 : BitVec 32 := 256#32
  let c0_i32_52 : BitVec 32 := 0#32
  let v206 : BitVec 1 := Scalar.cmpi .sgt c256_i32_49 c0_i32_52
  let v207 : BitVec 32 := Scalar.extui v206
  let c0_i32_53 : BitVec 32 := 0#32
  let v208 : BitVec 1 := Scalar.cmpi .slt c256_i32_49 c0_i32_53
  let v209 : BitVec 32 := Scalar.extui v208
  let v210 : BitVec 32 := Scalar.subi v207 v209
  let v211 : BitVec 1 := Scalar.cmpi .ne v205 v210
  let v212 : BitVec 32 := Scalar.remsi v199 c256_i32_49
  let c0_i32_54 : BitVec 32 := 0#32
  let v213 : BitVec 1 := Scalar.cmpi .ne v212 c0_i32_54
  let v214 : BitVec 1 := Scalar.andi v211 v213
  let v200 : BitVec 32 := Scalar.divsi v199 c256_i32_49
  let c1_i32_55 : BitVec 32 := 1#32
  let v215 : BitVec 32 := Scalar.subi v200 c1_i32_55
  let v216 : BitVec 32 := Scalar.select v214 v215 v200
  let c1_i32_56 : BitVec 32 := 1#32
  let v217 : BitVec 32 := Scalar.addi v216 c1_i32_56
  let v218 : BitVec 32 := Scalar.subi v217 v197
  let c1_i32_58 : BitVec 32 := 1#32
  let v220 : BitVec 32 := Scalar.divsi v218 c1_i32_58
  let v221 : BitVec 32 := Scalar.muli v220 c1_i32_58
  let v222 : BitVec 32 := Scalar.addi v197 v221
  let c1_i32_60 : BitVec 32 := 1#32
  let arg22 : BitVec 32 := Scf.iv v222 c1_i32_60 k0_t6
  let c256_i32_141 : BitVec 32 := 256#32
  let v420 : BitVec 32 := Scalar.muli arg22 c256_i32_141
  v420
def k0_off69 (i : grid0.Coords) (v100 : BitVec 32) (v102 : BitVec 32) (v112 : BitVec 32) (v114 : BitVec 32) (v124 : BitVec 32) (v126 : BitVec 32) (v136 : BitVec 32) (v138 : BitVec 32) (v148 : BitVec 32) (v150 : BitVec 32) (v160 : BitVec 32) (v162 : BitVec 32) (v172 : BitVec 32) (v174 : BitVec 32) (k0_t6 : Fin (k0_t6_loop i v100 v102 v112 v114 v124 v126 v136 v138 v148 v150 v160 v162 v172 v174).trips) : Fin 2 → Nat :=
  let arg0 : BitVec 32 := BitVec.ofNat 32 (i 0).val
  let c256_i32 : BitVec 32 := 256#32
  let v87 : BitVec 32 := Scalar.muli arg0 c256_i32
  let c0_i32_12 : BitVec 32 := 0#32
  let v88 : BitVec 32 := Scalar.addi v87 c0_i32_12
  let v173 : BitVec 1 := Scalar.cmpi .sle v172 v88
  let v161 : BitVec 1 := Scalar.cmpi .sle v160 v88
  let v149 : BitVec 1 := Scalar.cmpi .sle v148 v88
  let v137 : BitVec 1 := Scalar.cmpi .sle v136 v88
  let v125 : BitVec 1 := Scalar.cmpi .sle v124 v88
  let v113 : BitVec 1 := Scalar.cmpi .sle v112 v88
  let v101 : BitVec 1 := Scalar.cmpi .sle v100 v88
  let c0_i32_18 : BitVec 32 := 0#32
  let v103 : BitVec 32 := Scalar.maxsi c0_i32_18 v102
  let c0_i32_19 : BitVec 32 := 0#32
  let v104 : BitVec 32 := Scalar.select v101 v103 c0_i32_19
  let v115 : BitVec 32 := Scalar.maxsi v104 v114
  let v116 : BitVec 32 := Scalar.select v113 v115 v104
  let v127 : BitVec 32 := Scalar.maxsi v116 v126
  let v128 : BitVec 32 := Scalar.select v125 v127 v116
  let v139 : BitVec 32 := Scalar.maxsi v128 v138
  let v140 : BitVec 32 := Scalar.select v137 v139 v128
  let v151 : BitVec 32 := Scalar.maxsi v140 v150
  let v152 : BitVec 32 := Scalar.select v149 v151 v140
  let v163 : BitVec 32 := Scalar.maxsi v152 v162
  let v164 : BitVec 32 := Scalar.select v161 v163 v152
  let v175 : BitVec 32 := Scalar.maxsi v164 v174
  let v176 : BitVec 32 := Scalar.select v173 v175 v164
  let c0_i32_42 : BitVec 32 := 0#32
  let v182 : BitVec 1 := Scalar.cmpi .sgt v176 c0_i32_42
  let v183 : BitVec 32 := Scalar.extui v182
  let c0_i32_43 : BitVec 32 := 0#32
  let v184 : BitVec 1 := Scalar.cmpi .slt v176 c0_i32_43
  let v185 : BitVec 32 := Scalar.extui v184
  let v186 : BitVec 32 := Scalar.subi v183 v185
  let c256_i32_41 : BitVec 32 := 256#32
  let c0_i32_44 : BitVec 32 := 0#32
  let v187 : BitVec 1 := Scalar.cmpi .sgt c256_i32_41 c0_i32_44
  let v188 : BitVec 32 := Scalar.extui v187
  let c0_i32_45 : BitVec 32 := 0#32
  let v189 : BitVec 1 := Scalar.cmpi .slt c256_i32_41 c0_i32_45
  let v190 : BitVec 32 := Scalar.extui v189
  let v191 : BitVec 32 := Scalar.subi v188 v190
  let v192 : BitVec 1 := Scalar.cmpi .ne v186 v191
  let v193 : BitVec 32 := Scalar.remsi v176 c256_i32_41
  let c0_i32_46 : BitVec 32 := 0#32
  let v194 : BitVec 1 := Scalar.cmpi .ne v193 c0_i32_46
  let v195 : BitVec 1 := Scalar.andi v192 v194
  let v181 : BitVec 32 := Scalar.divsi v176 c256_i32_41
  let c1_i32_47 : BitVec 32 := 1#32
  let v196 : BitVec 32 := Scalar.subi v181 c1_i32_47
  let v197 : BitVec 32 := Scalar.select v195 v196 v181
  let c128_i32 : BitVec 32 := 128#32
  let v198 : BitVec 32 := Scalar.addi v88 c128_i32
  let c1_i32_48 : BitVec 32 := 1#32
  let v199 : BitVec 32 := Scalar.subi v198 c1_i32_48
  let c0_i32_50 : BitVec 32 := 0#32
  let v201 : BitVec 1 := Scalar.cmpi .sgt v199 c0_i32_50
  let v202 : BitVec 32 := Scalar.extui v201
  let c0_i32_51 : BitVec 32 := 0#32
  let v203 : BitVec 1 := Scalar.cmpi .slt v199 c0_i32_51
  let v204 : BitVec 32 := Scalar.extui v203
  let v205 : BitVec 32 := Scalar.subi v202 v204
  let c256_i32_49 : BitVec 32 := 256#32
  let c0_i32_52 : BitVec 32 := 0#32
  let v206 : BitVec 1 := Scalar.cmpi .sgt c256_i32_49 c0_i32_52
  let v207 : BitVec 32 := Scalar.extui v206
  let c0_i32_53 : BitVec 32 := 0#32
  let v208 : BitVec 1 := Scalar.cmpi .slt c256_i32_49 c0_i32_53
  let v209 : BitVec 32 := Scalar.extui v208
  let v210 : BitVec 32 := Scalar.subi v207 v209
  let v211 : BitVec 1 := Scalar.cmpi .ne v205 v210
  let v212 : BitVec 32 := Scalar.remsi v199 c256_i32_49
  let c0_i32_54 : BitVec 32 := 0#32
  let v213 : BitVec 1 := Scalar.cmpi .ne v212 c0_i32_54
  let v214 : BitVec 1 := Scalar.andi v211 v213
  let v200 : BitVec 32 := Scalar.divsi v199 c256_i32_49
  let c1_i32_55 : BitVec 32 := 1#32
  let v215 : BitVec 32 := Scalar.subi v200 c1_i32_55
  let v216 : BitVec 32 := Scalar.select v214 v215 v200
  let c1_i32_56 : BitVec 32 := 1#32
  let v217 : BitVec 32 := Scalar.addi v216 c1_i32_56
  let v218 : BitVec 32 := Scalar.subi v217 v197
  let c1_i32_58 : BitVec 32 := 1#32
  let v220 : BitVec 32 := Scalar.divsi v218 c1_i32_58
  let v221 : BitVec 32 := Scalar.muli v220 c1_i32_58
  let v222 : BitVec 32 := Scalar.addi v197 v221
  let c1_i32_60 : BitVec 32 := 1#32
  let arg22 : BitVec 32 := Scf.iv v222 c1_i32_60 k0_t6
  let c256_i32_141 : BitVec 32 := 256#32
  let v420 : BitVec 32 := Scalar.muli arg22 c256_i32_141
  let v421 : BitVec 32 := v420
  let v434 : Index := Scalar.indexCast v421
  let c0_144 : Index := 0#32
  ![v434.toNat, 0]

def k0_chk1 (i : grid0.Coords) (v100 : BitVec 32) (v102 : BitVec 32) (v112 : BitVec 32) (v114 : BitVec 32) (v124 : BitVec 32) (v126 : BitVec 32) (v136 : BitVec 32) (v138 : BitVec 32) (v148 : BitVec 32) (v150 : BitVec 32) (v160 : BitVec 32) (v162 : BitVec 32) (v172 : BitVec 32) (v174 : BitVec 32) : Prop :=
  ((k0_t5_loop i v100 v102 v112 v114 v124 v126 v136 v138 v148 v150 v160 v162 v172 v174).OK) ∧
  (∀ k0_t5 : Fin (k0_t5_loop i v100 v102 v112 v114 v124 v126 v136 v138 v148 v150 v160 v162 v172 v174).trips, 256 ∣ (k0_mult10 i v100 v102 v112 v114 v124 v126 v136 v138 v148 v150 v160 v162 v172 v174 k0_t5).toNat) ∧
  (∀ k0_t5 : Fin (k0_t5_loop i v100 v102 v112 v114 v124 v126 v136 v138 v148 v150 v160 v162 v172 v174).trips, ∀ a, (k0_off68 i v100 v102 v112 v114 v124 v126 v136 v138 v148 v150 v160 v162 v172 v174 k0_t5) a + S256x576.size a ≤ S8192x576.size a) ∧
  ((k0_t6_loop i v100 v102 v112 v114 v124 v126 v136 v138 v148 v150 v160 v162 v172 v174).OK) ∧
  (∀ k0_t6 : Fin (k0_t6_loop i v100 v102 v112 v114 v124 v126 v136 v138 v148 v150 v160 v162 v172 v174).trips, 256 ∣ (k0_mult11 i v100 v102 v112 v114 v124 v126 v136 v138 v148 v150 v160 v162 v172 v174 k0_t6).toNat) ∧
  (∀ k0_t6 : Fin (k0_t6_loop i v100 v102 v112 v114 v124 v126 v136 v138 v148 v150 v160 v162 v172 v174).trips, ∀ a, (k0_off69 i v100 v102 v112 v114 v124 v126 v136 v138 v148 v150 v160 v162 v172 v174 k0_t6) a + S256x576.size a ≤ S8192x576.size a)
theorem k0_t5_ok : ∀ (i : grid0.Coords) (v100 : BitVec 32) (v102 : BitVec 32) (v112 : BitVec 32) (v114 : BitVec 32) (v124 : BitVec 32) (v126 : BitVec 32) (v136 : BitVec 32) (v138 : BitVec 32) (v148 : BitVec 32) (v150 : BitVec 32) (v160 : BitVec 32) (v162 : BitVec 32) (v172 : BitVec 32) (v174 : BitVec 32) (k0_hw1 : k0_chk1 i v100 v102 v112 v114 v124 v126 v136 v138 v148 v150 v160 v162 v172 v174), (k0_t5_loop i v100 v102 v112 v114 v124 v126 v136 v138 v148 v150 v160 v162 v172 v174).OK := fun i v100 v102 v112 v114 v124 v126 v136 v138 v148 v150 v160 v162 v172 v174 k0_hw1 => k0_hw1.1
theorem k0_mult10_dvd : ∀ (i : grid0.Coords) (v100 : BitVec 32) (v102 : BitVec 32) (v112 : BitVec 32) (v114 : BitVec 32) (v124 : BitVec 32) (v126 : BitVec 32) (v136 : BitVec 32) (v138 : BitVec 32) (v148 : BitVec 32) (v150 : BitVec 32) (v160 : BitVec 32) (v162 : BitVec 32) (v172 : BitVec 32) (v174 : BitVec 32) (k0_hw1 : k0_chk1 i v100 v102 v112 v114 v124 v126 v136 v138 v148 v150 v160 v162 v172 v174) (k0_t5 : Fin (k0_t5_loop i v100 v102 v112 v114 v124 v126 v136 v138 v148 v150 v160 v162 v172 v174).trips), 256 ∣ (k0_mult10 i v100 v102 v112 v114 v124 v126 v136 v138 v148 v150 v160 v162 v172 v174 k0_t5).toNat := fun i v100 v102 v112 v114 v124 v126 v136 v138 v148 v150 v160 v162 v172 v174 k0_hw1 k0_t5 => k0_hw1.2.1 k0_t5
theorem k0_off68_inb : ∀ (i : grid0.Coords) (v100 : BitVec 32) (v102 : BitVec 32) (v112 : BitVec 32) (v114 : BitVec 32) (v124 : BitVec 32) (v126 : BitVec 32) (v136 : BitVec 32) (v138 : BitVec 32) (v148 : BitVec 32) (v150 : BitVec 32) (v160 : BitVec 32) (v162 : BitVec 32) (v172 : BitVec 32) (v174 : BitVec 32) (k0_hw1 : k0_chk1 i v100 v102 v112 v114 v124 v126 v136 v138 v148 v150 v160 v162 v172 v174) (k0_t5 : Fin (k0_t5_loop i v100 v102 v112 v114 v124 v126 v136 v138 v148 v150 v160 v162 v172 v174).trips), ∀ a, (k0_off68 i v100 v102 v112 v114 v124 v126 v136 v138 v148 v150 v160 v162 v172 v174 k0_t5) a + S256x576.size a ≤ S8192x576.size a := fun i v100 v102 v112 v114 v124 v126 v136 v138 v148 v150 v160 v162 v172 v174 k0_hw1 k0_t5 => k0_hw1.2.2.1 k0_t5
theorem k0_t6_ok : ∀ (i : grid0.Coords) (v100 : BitVec 32) (v102 : BitVec 32) (v112 : BitVec 32) (v114 : BitVec 32) (v124 : BitVec 32) (v126 : BitVec 32) (v136 : BitVec 32) (v138 : BitVec 32) (v148 : BitVec 32) (v150 : BitVec 32) (v160 : BitVec 32) (v162 : BitVec 32) (v172 : BitVec 32) (v174 : BitVec 32) (k0_hw1 : k0_chk1 i v100 v102 v112 v114 v124 v126 v136 v138 v148 v150 v160 v162 v172 v174), (k0_t6_loop i v100 v102 v112 v114 v124 v126 v136 v138 v148 v150 v160 v162 v172 v174).OK := fun i v100 v102 v112 v114 v124 v126 v136 v138 v148 v150 v160 v162 v172 v174 k0_hw1 => k0_hw1.2.2.2.1
theorem k0_mult11_dvd : ∀ (i : grid0.Coords) (v100 : BitVec 32) (v102 : BitVec 32) (v112 : BitVec 32) (v114 : BitVec 32) (v124 : BitVec 32) (v126 : BitVec 32) (v136 : BitVec 32) (v138 : BitVec 32) (v148 : BitVec 32) (v150 : BitVec 32) (v160 : BitVec 32) (v162 : BitVec 32) (v172 : BitVec 32) (v174 : BitVec 32) (k0_hw1 : k0_chk1 i v100 v102 v112 v114 v124 v126 v136 v138 v148 v150 v160 v162 v172 v174) (k0_t6 : Fin (k0_t6_loop i v100 v102 v112 v114 v124 v126 v136 v138 v148 v150 v160 v162 v172 v174).trips), 256 ∣ (k0_mult11 i v100 v102 v112 v114 v124 v126 v136 v138 v148 v150 v160 v162 v172 v174 k0_t6).toNat := fun i v100 v102 v112 v114 v124 v126 v136 v138 v148 v150 v160 v162 v172 v174 k0_hw1 k0_t6 => k0_hw1.2.2.2.2.1 k0_t6
theorem k0_off69_inb : ∀ (i : grid0.Coords) (v100 : BitVec 32) (v102 : BitVec 32) (v112 : BitVec 32) (v114 : BitVec 32) (v124 : BitVec 32) (v126 : BitVec 32) (v136 : BitVec 32) (v138 : BitVec 32) (v148 : BitVec 32) (v150 : BitVec 32) (v160 : BitVec 32) (v162 : BitVec 32) (v172 : BitVec 32) (v174 : BitVec 32) (k0_hw1 : k0_chk1 i v100 v102 v112 v114 v124 v126 v136 v138 v148 v150 v160 v162 v172 v174) (k0_t6 : Fin (k0_t6_loop i v100 v102 v112 v114 v124 v126 v136 v138 v148 v150 v160 v162 v172 v174).trips), ∀ a, (k0_off69 i v100 v102 v112 v114 v124 v126 v136 v138 v148 v150 v160 v162 v172 v174 k0_t6) a + S256x576.size a ≤ S8192x576.size a := fun i v100 v102 v112 v114 v124 v126 v136 v138 v148 v150 v160 v162 v172 v174 k0_hw1 k0_t6 => k0_hw1.2.2.2.2.2 k0_t6

@[reducible] def k0_t7_loop (i : grid0.Coords) (v265 : BitVec 32) (v267 : BitVec 32) (v277 : BitVec 32) (v279 : BitVec 32) (v289 : BitVec 32) (v291 : BitVec 32) (v301 : BitVec 32) (v303 : BitVec 32) (v313 : BitVec 32) (v315 : BitVec 32) (v325 : BitVec 32) (v327 : BitVec 32) (v337 : BitVec 32) (v339 : BitVec 32) : Scf.Loop 32 :=
  let arg0 : BitVec 32 := BitVec.ofNat 32 (i 0).val
  let c256_i32_72 : BitVec 32 := 256#32
  let v252 : BitVec 32 := Scalar.muli arg0 c256_i32_72
  let c128_i32_73 : BitVec 32 := 128#32
  let v253 : BitVec 32 := Scalar.addi v252 c128_i32_73
  let v338 : BitVec 1 := Scalar.cmpi .sle v337 v253
  let v326 : BitVec 1 := Scalar.cmpi .sle v325 v253
  let v314 : BitVec 1 := Scalar.cmpi .sle v313 v253
  let v302 : BitVec 1 := Scalar.cmpi .sle v301 v253
  let v290 : BitVec 1 := Scalar.cmpi .sle v289 v253
  let v278 : BitVec 1 := Scalar.cmpi .sle v277 v253
  let v266 : BitVec 1 := Scalar.cmpi .sle v265 v253
  let c0_i32_79 : BitVec 32 := 0#32
  let v268 : BitVec 32 := Scalar.maxsi c0_i32_79 v267
  let c0_i32_80 : BitVec 32 := 0#32
  let v269 : BitVec 32 := Scalar.select v266 v268 c0_i32_80
  let v280 : BitVec 32 := Scalar.maxsi v269 v279
  let v281 : BitVec 32 := Scalar.select v278 v280 v269
  let v292 : BitVec 32 := Scalar.maxsi v281 v291
  let v293 : BitVec 32 := Scalar.select v290 v292 v281
  let v304 : BitVec 32 := Scalar.maxsi v293 v303
  let v305 : BitVec 32 := Scalar.select v302 v304 v293
  let v316 : BitVec 32 := Scalar.maxsi v305 v315
  let v317 : BitVec 32 := Scalar.select v314 v316 v305
  let v328 : BitVec 32 := Scalar.maxsi v317 v327
  let v329 : BitVec 32 := Scalar.select v326 v328 v317
  let v340 : BitVec 32 := Scalar.maxsi v329 v339
  let v341 : BitVec 32 := Scalar.select v338 v340 v329
  let c0_i32_110 : BitVec 32 := 0#32
  let v347 : BitVec 1 := Scalar.cmpi .sgt v341 c0_i32_110
  let v348 : BitVec 32 := Scalar.extui v347
  let c0_i32_111 : BitVec 32 := 0#32
  let v349 : BitVec 1 := Scalar.cmpi .slt v341 c0_i32_111
  let v350 : BitVec 32 := Scalar.extui v349
  let v351 : BitVec 32 := Scalar.subi v348 v350
  let c256_i32_109 : BitVec 32 := 256#32
  let c0_i32_112 : BitVec 32 := 0#32
  let v352 : BitVec 1 := Scalar.cmpi .sgt c256_i32_109 c0_i32_112
  let v353 : BitVec 32 := Scalar.extui v352
  let c0_i32_113 : BitVec 32 := 0#32
  let v354 : BitVec 1 := Scalar.cmpi .slt c256_i32_109 c0_i32_113
  let v355 : BitVec 32 := Scalar.extui v354
  let v356 : BitVec 32 := Scalar.subi v353 v355
  let v357 : BitVec 1 := Scalar.cmpi .ne v351 v356
  let v358 : BitVec 32 := Scalar.remsi v341 c256_i32_109
  let c0_i32_114 : BitVec 32 := 0#32
  let v359 : BitVec 1 := Scalar.cmpi .ne v358 c0_i32_114
  let v360 : BitVec 1 := Scalar.andi v357 v359
  let v346 : BitVec 32 := Scalar.divsi v341 c256_i32_109
  let c1_i32_115 : BitVec 32 := 1#32
  let v361 : BitVec 32 := Scalar.subi v346 c1_i32_115
  let v362 : BitVec 32 := Scalar.select v360 v361 v346
  let c128_i32_116 : BitVec 32 := 128#32
  let v363 : BitVec 32 := Scalar.addi v253 c128_i32_116
  let c1_i32_117 : BitVec 32 := 1#32
  let v364 : BitVec 32 := Scalar.subi v363 c1_i32_117
  let c0_i32_119 : BitVec 32 := 0#32
  let v366 : BitVec 1 := Scalar.cmpi .sgt v364 c0_i32_119
  let v367 : BitVec 32 := Scalar.extui v366
  let c0_i32_120 : BitVec 32 := 0#32
  let v368 : BitVec 1 := Scalar.cmpi .slt v364 c0_i32_120
  let v369 : BitVec 32 := Scalar.extui v368
  let v370 : BitVec 32 := Scalar.subi v367 v369
  let c256_i32_118 : BitVec 32 := 256#32
  let c0_i32_121 : BitVec 32 := 0#32
  let v371 : BitVec 1 := Scalar.cmpi .sgt c256_i32_118 c0_i32_121
  let v372 : BitVec 32 := Scalar.extui v371
  let c0_i32_122 : BitVec 32 := 0#32
  let v373 : BitVec 1 := Scalar.cmpi .slt c256_i32_118 c0_i32_122
  let v374 : BitVec 32 := Scalar.extui v373
  let v375 : BitVec 32 := Scalar.subi v372 v374
  let v376 : BitVec 1 := Scalar.cmpi .ne v370 v375
  let v377 : BitVec 32 := Scalar.remsi v364 c256_i32_118
  let c0_i32_123 : BitVec 32 := 0#32
  let v378 : BitVec 1 := Scalar.cmpi .ne v377 c0_i32_123
  let v379 : BitVec 1 := Scalar.andi v376 v378
  let v365 : BitVec 32 := Scalar.divsi v364 c256_i32_118
  let c1_i32_124 : BitVec 32 := 1#32
  let v380 : BitVec 32 := Scalar.subi v365 c1_i32_124
  let v381 : BitVec 32 := Scalar.select v379 v380 v365
  let c1_i32_125 : BitVec 32 := 1#32
  let v382 : BitVec 32 := Scalar.addi v381 c1_i32_125
  let v383 : BitVec 32 := Scalar.subi v382 v362
  let c1_i32_127 : BitVec 32 := 1#32
  let v385 : BitVec 32 := Scalar.divsi v383 c1_i32_127
  let v386 : BitVec 32 := Scalar.muli v385 c1_i32_127
  let v387 : BitVec 32 := Scalar.addi v362 v386
  let c1_i32_128 : BitVec 32 := 1#32
  ⟨v362, v387, c1_i32_128⟩

def k0_mult12 (i : grid0.Coords) (v265 : BitVec 32) (v267 : BitVec 32) (v277 : BitVec 32) (v279 : BitVec 32) (v289 : BitVec 32) (v291 : BitVec 32) (v301 : BitVec 32) (v303 : BitVec 32) (v313 : BitVec 32) (v315 : BitVec 32) (v325 : BitVec 32) (v327 : BitVec 32) (v337 : BitVec 32) (v339 : BitVec 32) (k0_t7 : Fin (k0_t7_loop i v265 v267 v277 v279 v289 v291 v301 v303 v313 v315 v325 v327 v337 v339).trips) : BitVec 32 :=
  let arg0 : BitVec 32 := BitVec.ofNat 32 (i 0).val
  let c256_i32_72 : BitVec 32 := 256#32
  let v252 : BitVec 32 := Scalar.muli arg0 c256_i32_72
  let c128_i32_73 : BitVec 32 := 128#32
  let v253 : BitVec 32 := Scalar.addi v252 c128_i32_73
  let v338 : BitVec 1 := Scalar.cmpi .sle v337 v253
  let v326 : BitVec 1 := Scalar.cmpi .sle v325 v253
  let v314 : BitVec 1 := Scalar.cmpi .sle v313 v253
  let v302 : BitVec 1 := Scalar.cmpi .sle v301 v253
  let v290 : BitVec 1 := Scalar.cmpi .sle v289 v253
  let v278 : BitVec 1 := Scalar.cmpi .sle v277 v253
  let v266 : BitVec 1 := Scalar.cmpi .sle v265 v253
  let c0_i32_79 : BitVec 32 := 0#32
  let v268 : BitVec 32 := Scalar.maxsi c0_i32_79 v267
  let c0_i32_80 : BitVec 32 := 0#32
  let v269 : BitVec 32 := Scalar.select v266 v268 c0_i32_80
  let v280 : BitVec 32 := Scalar.maxsi v269 v279
  let v281 : BitVec 32 := Scalar.select v278 v280 v269
  let v292 : BitVec 32 := Scalar.maxsi v281 v291
  let v293 : BitVec 32 := Scalar.select v290 v292 v281
  let v304 : BitVec 32 := Scalar.maxsi v293 v303
  let v305 : BitVec 32 := Scalar.select v302 v304 v293
  let v316 : BitVec 32 := Scalar.maxsi v305 v315
  let v317 : BitVec 32 := Scalar.select v314 v316 v305
  let v328 : BitVec 32 := Scalar.maxsi v317 v327
  let v329 : BitVec 32 := Scalar.select v326 v328 v317
  let v340 : BitVec 32 := Scalar.maxsi v329 v339
  let v341 : BitVec 32 := Scalar.select v338 v340 v329
  let c0_i32_110 : BitVec 32 := 0#32
  let v347 : BitVec 1 := Scalar.cmpi .sgt v341 c0_i32_110
  let v348 : BitVec 32 := Scalar.extui v347
  let c0_i32_111 : BitVec 32 := 0#32
  let v349 : BitVec 1 := Scalar.cmpi .slt v341 c0_i32_111
  let v350 : BitVec 32 := Scalar.extui v349
  let v351 : BitVec 32 := Scalar.subi v348 v350
  let c256_i32_109 : BitVec 32 := 256#32
  let c0_i32_112 : BitVec 32 := 0#32
  let v352 : BitVec 1 := Scalar.cmpi .sgt c256_i32_109 c0_i32_112
  let v353 : BitVec 32 := Scalar.extui v352
  let c0_i32_113 : BitVec 32 := 0#32
  let v354 : BitVec 1 := Scalar.cmpi .slt c256_i32_109 c0_i32_113
  let v355 : BitVec 32 := Scalar.extui v354
  let v356 : BitVec 32 := Scalar.subi v353 v355
  let v357 : BitVec 1 := Scalar.cmpi .ne v351 v356
  let v358 : BitVec 32 := Scalar.remsi v341 c256_i32_109
  let c0_i32_114 : BitVec 32 := 0#32
  let v359 : BitVec 1 := Scalar.cmpi .ne v358 c0_i32_114
  let v360 : BitVec 1 := Scalar.andi v357 v359
  let v346 : BitVec 32 := Scalar.divsi v341 c256_i32_109
  let c1_i32_115 : BitVec 32 := 1#32
  let v361 : BitVec 32 := Scalar.subi v346 c1_i32_115
  let v362 : BitVec 32 := Scalar.select v360 v361 v346
  let c1_i32_128 : BitVec 32 := 1#32
  let arg22 : BitVec 32 := Scf.iv v362 c1_i32_128 k0_t7
  let c256_i32_141 : BitVec 32 := 256#32
  let v420 : BitVec 32 := Scalar.muli arg22 c256_i32_141
  v420
def k0_off70 (i : grid0.Coords) (v265 : BitVec 32) (v267 : BitVec 32) (v277 : BitVec 32) (v279 : BitVec 32) (v289 : BitVec 32) (v291 : BitVec 32) (v301 : BitVec 32) (v303 : BitVec 32) (v313 : BitVec 32) (v315 : BitVec 32) (v325 : BitVec 32) (v327 : BitVec 32) (v337 : BitVec 32) (v339 : BitVec 32) (k0_t7 : Fin (k0_t7_loop i v265 v267 v277 v279 v289 v291 v301 v303 v313 v315 v325 v327 v337 v339).trips) : Fin 2 → Nat :=
  let arg0 : BitVec 32 := BitVec.ofNat 32 (i 0).val
  let c256_i32_72 : BitVec 32 := 256#32
  let v252 : BitVec 32 := Scalar.muli arg0 c256_i32_72
  let c128_i32_73 : BitVec 32 := 128#32
  let v253 : BitVec 32 := Scalar.addi v252 c128_i32_73
  let v338 : BitVec 1 := Scalar.cmpi .sle v337 v253
  let v326 : BitVec 1 := Scalar.cmpi .sle v325 v253
  let v314 : BitVec 1 := Scalar.cmpi .sle v313 v253
  let v302 : BitVec 1 := Scalar.cmpi .sle v301 v253
  let v290 : BitVec 1 := Scalar.cmpi .sle v289 v253
  let v278 : BitVec 1 := Scalar.cmpi .sle v277 v253
  let v266 : BitVec 1 := Scalar.cmpi .sle v265 v253
  let c0_i32_79 : BitVec 32 := 0#32
  let v268 : BitVec 32 := Scalar.maxsi c0_i32_79 v267
  let c0_i32_80 : BitVec 32 := 0#32
  let v269 : BitVec 32 := Scalar.select v266 v268 c0_i32_80
  let v280 : BitVec 32 := Scalar.maxsi v269 v279
  let v281 : BitVec 32 := Scalar.select v278 v280 v269
  let v292 : BitVec 32 := Scalar.maxsi v281 v291
  let v293 : BitVec 32 := Scalar.select v290 v292 v281
  let v304 : BitVec 32 := Scalar.maxsi v293 v303
  let v305 : BitVec 32 := Scalar.select v302 v304 v293
  let v316 : BitVec 32 := Scalar.maxsi v305 v315
  let v317 : BitVec 32 := Scalar.select v314 v316 v305
  let v328 : BitVec 32 := Scalar.maxsi v317 v327
  let v329 : BitVec 32 := Scalar.select v326 v328 v317
  let v340 : BitVec 32 := Scalar.maxsi v329 v339
  let v341 : BitVec 32 := Scalar.select v338 v340 v329
  let c0_i32_110 : BitVec 32 := 0#32
  let v347 : BitVec 1 := Scalar.cmpi .sgt v341 c0_i32_110
  let v348 : BitVec 32 := Scalar.extui v347
  let c0_i32_111 : BitVec 32 := 0#32
  let v349 : BitVec 1 := Scalar.cmpi .slt v341 c0_i32_111
  let v350 : BitVec 32 := Scalar.extui v349
  let v351 : BitVec 32 := Scalar.subi v348 v350
  let c256_i32_109 : BitVec 32 := 256#32
  let c0_i32_112 : BitVec 32 := 0#32
  let v352 : BitVec 1 := Scalar.cmpi .sgt c256_i32_109 c0_i32_112
  let v353 : BitVec 32 := Scalar.extui v352
  let c0_i32_113 : BitVec 32 := 0#32
  let v354 : BitVec 1 := Scalar.cmpi .slt c256_i32_109 c0_i32_113
  let v355 : BitVec 32 := Scalar.extui v354
  let v356 : BitVec 32 := Scalar.subi v353 v355
  let v357 : BitVec 1 := Scalar.cmpi .ne v351 v356
  let v358 : BitVec 32 := Scalar.remsi v341 c256_i32_109
  let c0_i32_114 : BitVec 32 := 0#32
  let v359 : BitVec 1 := Scalar.cmpi .ne v358 c0_i32_114
  let v360 : BitVec 1 := Scalar.andi v357 v359
  let v346 : BitVec 32 := Scalar.divsi v341 c256_i32_109
  let c1_i32_115 : BitVec 32 := 1#32
  let v361 : BitVec 32 := Scalar.subi v346 c1_i32_115
  let v362 : BitVec 32 := Scalar.select v360 v361 v346
  let c1_i32_128 : BitVec 32 := 1#32
  let arg22 : BitVec 32 := Scf.iv v362 c1_i32_128 k0_t7
  let c256_i32_141 : BitVec 32 := 256#32
  let v420 : BitVec 32 := Scalar.muli arg22 c256_i32_141
  let v421 : BitVec 32 := v420
  let v434 : Index := Scalar.indexCast v421
  let c0_144 : Index := 0#32
  ![v434.toNat, 0]
@[reducible] def k0_t8_loop (i : grid0.Coords) (v265 : BitVec 32) (v267 : BitVec 32) (v277 : BitVec 32) (v279 : BitVec 32) (v289 : BitVec 32) (v291 : BitVec 32) (v301 : BitVec 32) (v303 : BitVec 32) (v313 : BitVec 32) (v315 : BitVec 32) (v325 : BitVec 32) (v327 : BitVec 32) (v337 : BitVec 32) (v339 : BitVec 32) : Scf.Loop 32 :=
  let arg0 : BitVec 32 := BitVec.ofNat 32 (i 0).val
  let c256_i32_72 : BitVec 32 := 256#32
  let v252 : BitVec 32 := Scalar.muli arg0 c256_i32_72
  let c128_i32_73 : BitVec 32 := 128#32
  let v253 : BitVec 32 := Scalar.addi v252 c128_i32_73
  let v338 : BitVec 1 := Scalar.cmpi .sle v337 v253
  let v326 : BitVec 1 := Scalar.cmpi .sle v325 v253
  let v314 : BitVec 1 := Scalar.cmpi .sle v313 v253
  let v302 : BitVec 1 := Scalar.cmpi .sle v301 v253
  let v290 : BitVec 1 := Scalar.cmpi .sle v289 v253
  let v278 : BitVec 1 := Scalar.cmpi .sle v277 v253
  let v266 : BitVec 1 := Scalar.cmpi .sle v265 v253
  let c0_i32_79 : BitVec 32 := 0#32
  let v268 : BitVec 32 := Scalar.maxsi c0_i32_79 v267
  let c0_i32_80 : BitVec 32 := 0#32
  let v269 : BitVec 32 := Scalar.select v266 v268 c0_i32_80
  let v280 : BitVec 32 := Scalar.maxsi v269 v279
  let v281 : BitVec 32 := Scalar.select v278 v280 v269
  let v292 : BitVec 32 := Scalar.maxsi v281 v291
  let v293 : BitVec 32 := Scalar.select v290 v292 v281
  let v304 : BitVec 32 := Scalar.maxsi v293 v303
  let v305 : BitVec 32 := Scalar.select v302 v304 v293
  let v316 : BitVec 32 := Scalar.maxsi v305 v315
  let v317 : BitVec 32 := Scalar.select v314 v316 v305
  let v328 : BitVec 32 := Scalar.maxsi v317 v327
  let v329 : BitVec 32 := Scalar.select v326 v328 v317
  let v340 : BitVec 32 := Scalar.maxsi v329 v339
  let v341 : BitVec 32 := Scalar.select v338 v340 v329
  let c0_i32_110 : BitVec 32 := 0#32
  let v347 : BitVec 1 := Scalar.cmpi .sgt v341 c0_i32_110
  let v348 : BitVec 32 := Scalar.extui v347
  let c0_i32_111 : BitVec 32 := 0#32
  let v349 : BitVec 1 := Scalar.cmpi .slt v341 c0_i32_111
  let v350 : BitVec 32 := Scalar.extui v349
  let v351 : BitVec 32 := Scalar.subi v348 v350
  let c256_i32_109 : BitVec 32 := 256#32
  let c0_i32_112 : BitVec 32 := 0#32
  let v352 : BitVec 1 := Scalar.cmpi .sgt c256_i32_109 c0_i32_112
  let v353 : BitVec 32 := Scalar.extui v352
  let c0_i32_113 : BitVec 32 := 0#32
  let v354 : BitVec 1 := Scalar.cmpi .slt c256_i32_109 c0_i32_113
  let v355 : BitVec 32 := Scalar.extui v354
  let v356 : BitVec 32 := Scalar.subi v353 v355
  let v357 : BitVec 1 := Scalar.cmpi .ne v351 v356
  let v358 : BitVec 32 := Scalar.remsi v341 c256_i32_109
  let c0_i32_114 : BitVec 32 := 0#32
  let v359 : BitVec 1 := Scalar.cmpi .ne v358 c0_i32_114
  let v360 : BitVec 1 := Scalar.andi v357 v359
  let v346 : BitVec 32 := Scalar.divsi v341 c256_i32_109
  let c1_i32_115 : BitVec 32 := 1#32
  let v361 : BitVec 32 := Scalar.subi v346 c1_i32_115
  let v362 : BitVec 32 := Scalar.select v360 v361 v346
  let c128_i32_116 : BitVec 32 := 128#32
  let v363 : BitVec 32 := Scalar.addi v253 c128_i32_116
  let c1_i32_117 : BitVec 32 := 1#32
  let v364 : BitVec 32 := Scalar.subi v363 c1_i32_117
  let c0_i32_119 : BitVec 32 := 0#32
  let v366 : BitVec 1 := Scalar.cmpi .sgt v364 c0_i32_119
  let v367 : BitVec 32 := Scalar.extui v366
  let c0_i32_120 : BitVec 32 := 0#32
  let v368 : BitVec 1 := Scalar.cmpi .slt v364 c0_i32_120
  let v369 : BitVec 32 := Scalar.extui v368
  let v370 : BitVec 32 := Scalar.subi v367 v369
  let c256_i32_118 : BitVec 32 := 256#32
  let c0_i32_121 : BitVec 32 := 0#32
  let v371 : BitVec 1 := Scalar.cmpi .sgt c256_i32_118 c0_i32_121
  let v372 : BitVec 32 := Scalar.extui v371
  let c0_i32_122 : BitVec 32 := 0#32
  let v373 : BitVec 1 := Scalar.cmpi .slt c256_i32_118 c0_i32_122
  let v374 : BitVec 32 := Scalar.extui v373
  let v375 : BitVec 32 := Scalar.subi v372 v374
  let v376 : BitVec 1 := Scalar.cmpi .ne v370 v375
  let v377 : BitVec 32 := Scalar.remsi v364 c256_i32_118
  let c0_i32_123 : BitVec 32 := 0#32
  let v378 : BitVec 1 := Scalar.cmpi .ne v377 c0_i32_123
  let v379 : BitVec 1 := Scalar.andi v376 v378
  let v365 : BitVec 32 := Scalar.divsi v364 c256_i32_118
  let c1_i32_124 : BitVec 32 := 1#32
  let v380 : BitVec 32 := Scalar.subi v365 c1_i32_124
  let v381 : BitVec 32 := Scalar.select v379 v380 v365
  let c1_i32_125 : BitVec 32 := 1#32
  let v382 : BitVec 32 := Scalar.addi v381 c1_i32_125
  let v383 : BitVec 32 := Scalar.subi v382 v362
  let c1_i32_127 : BitVec 32 := 1#32
  let v385 : BitVec 32 := Scalar.divsi v383 c1_i32_127
  let v386 : BitVec 32 := Scalar.muli v385 c1_i32_127
  let v387 : BitVec 32 := Scalar.addi v362 v386
  let v384 : BitVec 32 := Scalar.addi v362 v383
  let c1_i32_129 : BitVec 32 := 1#32
  ⟨v387, v384, c1_i32_129⟩
def k0_mult13 (i : grid0.Coords) (v265 : BitVec 32) (v267 : BitVec 32) (v277 : BitVec 32) (v279 : BitVec 32) (v289 : BitVec 32) (v291 : BitVec 32) (v301 : BitVec 32) (v303 : BitVec 32) (v313 : BitVec 32) (v315 : BitVec 32) (v325 : BitVec 32) (v327 : BitVec 32) (v337 : BitVec 32) (v339 : BitVec 32) (k0_t8 : Fin (k0_t8_loop i v265 v267 v277 v279 v289 v291 v301 v303 v313 v315 v325 v327 v337 v339).trips) : BitVec 32 :=
  let arg0 : BitVec 32 := BitVec.ofNat 32 (i 0).val
  let c256_i32_72 : BitVec 32 := 256#32
  let v252 : BitVec 32 := Scalar.muli arg0 c256_i32_72
  let c128_i32_73 : BitVec 32 := 128#32
  let v253 : BitVec 32 := Scalar.addi v252 c128_i32_73
  let v338 : BitVec 1 := Scalar.cmpi .sle v337 v253
  let v326 : BitVec 1 := Scalar.cmpi .sle v325 v253
  let v314 : BitVec 1 := Scalar.cmpi .sle v313 v253
  let v302 : BitVec 1 := Scalar.cmpi .sle v301 v253
  let v290 : BitVec 1 := Scalar.cmpi .sle v289 v253
  let v278 : BitVec 1 := Scalar.cmpi .sle v277 v253
  let v266 : BitVec 1 := Scalar.cmpi .sle v265 v253
  let c0_i32_79 : BitVec 32 := 0#32
  let v268 : BitVec 32 := Scalar.maxsi c0_i32_79 v267
  let c0_i32_80 : BitVec 32 := 0#32
  let v269 : BitVec 32 := Scalar.select v266 v268 c0_i32_80
  let v280 : BitVec 32 := Scalar.maxsi v269 v279
  let v281 : BitVec 32 := Scalar.select v278 v280 v269
  let v292 : BitVec 32 := Scalar.maxsi v281 v291
  let v293 : BitVec 32 := Scalar.select v290 v292 v281
  let v304 : BitVec 32 := Scalar.maxsi v293 v303
  let v305 : BitVec 32 := Scalar.select v302 v304 v293
  let v316 : BitVec 32 := Scalar.maxsi v305 v315
  let v317 : BitVec 32 := Scalar.select v314 v316 v305
  let v328 : BitVec 32 := Scalar.maxsi v317 v327
  let v329 : BitVec 32 := Scalar.select v326 v328 v317
  let v340 : BitVec 32 := Scalar.maxsi v329 v339
  let v341 : BitVec 32 := Scalar.select v338 v340 v329
  let c0_i32_110 : BitVec 32 := 0#32
  let v347 : BitVec 1 := Scalar.cmpi .sgt v341 c0_i32_110
  let v348 : BitVec 32 := Scalar.extui v347
  let c0_i32_111 : BitVec 32 := 0#32
  let v349 : BitVec 1 := Scalar.cmpi .slt v341 c0_i32_111
  let v350 : BitVec 32 := Scalar.extui v349
  let v351 : BitVec 32 := Scalar.subi v348 v350
  let c256_i32_109 : BitVec 32 := 256#32
  let c0_i32_112 : BitVec 32 := 0#32
  let v352 : BitVec 1 := Scalar.cmpi .sgt c256_i32_109 c0_i32_112
  let v353 : BitVec 32 := Scalar.extui v352
  let c0_i32_113 : BitVec 32 := 0#32
  let v354 : BitVec 1 := Scalar.cmpi .slt c256_i32_109 c0_i32_113
  let v355 : BitVec 32 := Scalar.extui v354
  let v356 : BitVec 32 := Scalar.subi v353 v355
  let v357 : BitVec 1 := Scalar.cmpi .ne v351 v356
  let v358 : BitVec 32 := Scalar.remsi v341 c256_i32_109
  let c0_i32_114 : BitVec 32 := 0#32
  let v359 : BitVec 1 := Scalar.cmpi .ne v358 c0_i32_114
  let v360 : BitVec 1 := Scalar.andi v357 v359
  let v346 : BitVec 32 := Scalar.divsi v341 c256_i32_109
  let c1_i32_115 : BitVec 32 := 1#32
  let v361 : BitVec 32 := Scalar.subi v346 c1_i32_115
  let v362 : BitVec 32 := Scalar.select v360 v361 v346
  let c128_i32_116 : BitVec 32 := 128#32
  let v363 : BitVec 32 := Scalar.addi v253 c128_i32_116
  let c1_i32_117 : BitVec 32 := 1#32
  let v364 : BitVec 32 := Scalar.subi v363 c1_i32_117
  let c0_i32_119 : BitVec 32 := 0#32
  let v366 : BitVec 1 := Scalar.cmpi .sgt v364 c0_i32_119
  let v367 : BitVec 32 := Scalar.extui v366
  let c0_i32_120 : BitVec 32 := 0#32
  let v368 : BitVec 1 := Scalar.cmpi .slt v364 c0_i32_120
  let v369 : BitVec 32 := Scalar.extui v368
  let v370 : BitVec 32 := Scalar.subi v367 v369
  let c256_i32_118 : BitVec 32 := 256#32
  let c0_i32_121 : BitVec 32 := 0#32
  let v371 : BitVec 1 := Scalar.cmpi .sgt c256_i32_118 c0_i32_121
  let v372 : BitVec 32 := Scalar.extui v371
  let c0_i32_122 : BitVec 32 := 0#32
  let v373 : BitVec 1 := Scalar.cmpi .slt c256_i32_118 c0_i32_122
  let v374 : BitVec 32 := Scalar.extui v373
  let v375 : BitVec 32 := Scalar.subi v372 v374
  let v376 : BitVec 1 := Scalar.cmpi .ne v370 v375
  let v377 : BitVec 32 := Scalar.remsi v364 c256_i32_118
  let c0_i32_123 : BitVec 32 := 0#32
  let v378 : BitVec 1 := Scalar.cmpi .ne v377 c0_i32_123
  let v379 : BitVec 1 := Scalar.andi v376 v378
  let v365 : BitVec 32 := Scalar.divsi v364 c256_i32_118
  let c1_i32_124 : BitVec 32 := 1#32
  let v380 : BitVec 32 := Scalar.subi v365 c1_i32_124
  let v381 : BitVec 32 := Scalar.select v379 v380 v365
  let c1_i32_125 : BitVec 32 := 1#32
  let v382 : BitVec 32 := Scalar.addi v381 c1_i32_125
  let v383 : BitVec 32 := Scalar.subi v382 v362
  let c1_i32_127 : BitVec 32 := 1#32
  let v385 : BitVec 32 := Scalar.divsi v383 c1_i32_127
  let v386 : BitVec 32 := Scalar.muli v385 c1_i32_127
  let v387 : BitVec 32 := Scalar.addi v362 v386
  let c1_i32_129 : BitVec 32 := 1#32
  let arg22 : BitVec 32 := Scf.iv v387 c1_i32_129 k0_t8
  let c256_i32_141 : BitVec 32 := 256#32
  let v420 : BitVec 32 := Scalar.muli arg22 c256_i32_141
  v420
def k0_off71 (i : grid0.Coords) (v265 : BitVec 32) (v267 : BitVec 32) (v277 : BitVec 32) (v279 : BitVec 32) (v289 : BitVec 32) (v291 : BitVec 32) (v301 : BitVec 32) (v303 : BitVec 32) (v313 : BitVec 32) (v315 : BitVec 32) (v325 : BitVec 32) (v327 : BitVec 32) (v337 : BitVec 32) (v339 : BitVec 32) (k0_t8 : Fin (k0_t8_loop i v265 v267 v277 v279 v289 v291 v301 v303 v313 v315 v325 v327 v337 v339).trips) : Fin 2 → Nat :=
  let arg0 : BitVec 32 := BitVec.ofNat 32 (i 0).val
  let c256_i32_72 : BitVec 32 := 256#32
  let v252 : BitVec 32 := Scalar.muli arg0 c256_i32_72
  let c128_i32_73 : BitVec 32 := 128#32
  let v253 : BitVec 32 := Scalar.addi v252 c128_i32_73
  let v338 : BitVec 1 := Scalar.cmpi .sle v337 v253
  let v326 : BitVec 1 := Scalar.cmpi .sle v325 v253
  let v314 : BitVec 1 := Scalar.cmpi .sle v313 v253
  let v302 : BitVec 1 := Scalar.cmpi .sle v301 v253
  let v290 : BitVec 1 := Scalar.cmpi .sle v289 v253
  let v278 : BitVec 1 := Scalar.cmpi .sle v277 v253
  let v266 : BitVec 1 := Scalar.cmpi .sle v265 v253
  let c0_i32_79 : BitVec 32 := 0#32
  let v268 : BitVec 32 := Scalar.maxsi c0_i32_79 v267
  let c0_i32_80 : BitVec 32 := 0#32
  let v269 : BitVec 32 := Scalar.select v266 v268 c0_i32_80
  let v280 : BitVec 32 := Scalar.maxsi v269 v279
  let v281 : BitVec 32 := Scalar.select v278 v280 v269
  let v292 : BitVec 32 := Scalar.maxsi v281 v291
  let v293 : BitVec 32 := Scalar.select v290 v292 v281
  let v304 : BitVec 32 := Scalar.maxsi v293 v303
  let v305 : BitVec 32 := Scalar.select v302 v304 v293
  let v316 : BitVec 32 := Scalar.maxsi v305 v315
  let v317 : BitVec 32 := Scalar.select v314 v316 v305
  let v328 : BitVec 32 := Scalar.maxsi v317 v327
  let v329 : BitVec 32 := Scalar.select v326 v328 v317
  let v340 : BitVec 32 := Scalar.maxsi v329 v339
  let v341 : BitVec 32 := Scalar.select v338 v340 v329
  let c0_i32_110 : BitVec 32 := 0#32
  let v347 : BitVec 1 := Scalar.cmpi .sgt v341 c0_i32_110
  let v348 : BitVec 32 := Scalar.extui v347
  let c0_i32_111 : BitVec 32 := 0#32
  let v349 : BitVec 1 := Scalar.cmpi .slt v341 c0_i32_111
  let v350 : BitVec 32 := Scalar.extui v349
  let v351 : BitVec 32 := Scalar.subi v348 v350
  let c256_i32_109 : BitVec 32 := 256#32
  let c0_i32_112 : BitVec 32 := 0#32
  let v352 : BitVec 1 := Scalar.cmpi .sgt c256_i32_109 c0_i32_112
  let v353 : BitVec 32 := Scalar.extui v352
  let c0_i32_113 : BitVec 32 := 0#32
  let v354 : BitVec 1 := Scalar.cmpi .slt c256_i32_109 c0_i32_113
  let v355 : BitVec 32 := Scalar.extui v354
  let v356 : BitVec 32 := Scalar.subi v353 v355
  let v357 : BitVec 1 := Scalar.cmpi .ne v351 v356
  let v358 : BitVec 32 := Scalar.remsi v341 c256_i32_109
  let c0_i32_114 : BitVec 32 := 0#32
  let v359 : BitVec 1 := Scalar.cmpi .ne v358 c0_i32_114
  let v360 : BitVec 1 := Scalar.andi v357 v359
  let v346 : BitVec 32 := Scalar.divsi v341 c256_i32_109
  let c1_i32_115 : BitVec 32 := 1#32
  let v361 : BitVec 32 := Scalar.subi v346 c1_i32_115
  let v362 : BitVec 32 := Scalar.select v360 v361 v346
  let c128_i32_116 : BitVec 32 := 128#32
  let v363 : BitVec 32 := Scalar.addi v253 c128_i32_116
  let c1_i32_117 : BitVec 32 := 1#32
  let v364 : BitVec 32 := Scalar.subi v363 c1_i32_117
  let c0_i32_119 : BitVec 32 := 0#32
  let v366 : BitVec 1 := Scalar.cmpi .sgt v364 c0_i32_119
  let v367 : BitVec 32 := Scalar.extui v366
  let c0_i32_120 : BitVec 32 := 0#32
  let v368 : BitVec 1 := Scalar.cmpi .slt v364 c0_i32_120
  let v369 : BitVec 32 := Scalar.extui v368
  let v370 : BitVec 32 := Scalar.subi v367 v369
  let c256_i32_118 : BitVec 32 := 256#32
  let c0_i32_121 : BitVec 32 := 0#32
  let v371 : BitVec 1 := Scalar.cmpi .sgt c256_i32_118 c0_i32_121
  let v372 : BitVec 32 := Scalar.extui v371
  let c0_i32_122 : BitVec 32 := 0#32
  let v373 : BitVec 1 := Scalar.cmpi .slt c256_i32_118 c0_i32_122
  let v374 : BitVec 32 := Scalar.extui v373
  let v375 : BitVec 32 := Scalar.subi v372 v374
  let v376 : BitVec 1 := Scalar.cmpi .ne v370 v375
  let v377 : BitVec 32 := Scalar.remsi v364 c256_i32_118
  let c0_i32_123 : BitVec 32 := 0#32
  let v378 : BitVec 1 := Scalar.cmpi .ne v377 c0_i32_123
  let v379 : BitVec 1 := Scalar.andi v376 v378
  let v365 : BitVec 32 := Scalar.divsi v364 c256_i32_118
  let c1_i32_124 : BitVec 32 := 1#32
  let v380 : BitVec 32 := Scalar.subi v365 c1_i32_124
  let v381 : BitVec 32 := Scalar.select v379 v380 v365
  let c1_i32_125 : BitVec 32 := 1#32
  let v382 : BitVec 32 := Scalar.addi v381 c1_i32_125
  let v383 : BitVec 32 := Scalar.subi v382 v362
  let c1_i32_127 : BitVec 32 := 1#32
  let v385 : BitVec 32 := Scalar.divsi v383 c1_i32_127
  let v386 : BitVec 32 := Scalar.muli v385 c1_i32_127
  let v387 : BitVec 32 := Scalar.addi v362 v386
  let c1_i32_129 : BitVec 32 := 1#32
  let arg22 : BitVec 32 := Scf.iv v387 c1_i32_129 k0_t8
  let c256_i32_141 : BitVec 32 := 256#32
  let v420 : BitVec 32 := Scalar.muli arg22 c256_i32_141
  let v421 : BitVec 32 := v420
  let v434 : Index := Scalar.indexCast v421
  let c0_144 : Index := 0#32
  ![v434.toNat, 0]

def k0_chk2 (i : grid0.Coords) (v265 : BitVec 32) (v267 : BitVec 32) (v277 : BitVec 32) (v279 : BitVec 32) (v289 : BitVec 32) (v291 : BitVec 32) (v301 : BitVec 32) (v303 : BitVec 32) (v313 : BitVec 32) (v315 : BitVec 32) (v325 : BitVec 32) (v327 : BitVec 32) (v337 : BitVec 32) (v339 : BitVec 32) : Prop :=
  ((k0_t7_loop i v265 v267 v277 v279 v289 v291 v301 v303 v313 v315 v325 v327 v337 v339).OK) ∧
  (∀ k0_t7 : Fin (k0_t7_loop i v265 v267 v277 v279 v289 v291 v301 v303 v313 v315 v325 v327 v337 v339).trips, 256 ∣ (k0_mult12 i v265 v267 v277 v279 v289 v291 v301 v303 v313 v315 v325 v327 v337 v339 k0_t7).toNat) ∧
  (∀ k0_t7 : Fin (k0_t7_loop i v265 v267 v277 v279 v289 v291 v301 v303 v313 v315 v325 v327 v337 v339).trips, ∀ a, (k0_off70 i v265 v267 v277 v279 v289 v291 v301 v303 v313 v315 v325 v327 v337 v339 k0_t7) a + S256x576.size a ≤ S8192x576.size a) ∧
  ((k0_t8_loop i v265 v267 v277 v279 v289 v291 v301 v303 v313 v315 v325 v327 v337 v339).OK) ∧
  (∀ k0_t8 : Fin (k0_t8_loop i v265 v267 v277 v279 v289 v291 v301 v303 v313 v315 v325 v327 v337 v339).trips, 256 ∣ (k0_mult13 i v265 v267 v277 v279 v289 v291 v301 v303 v313 v315 v325 v327 v337 v339 k0_t8).toNat) ∧
  (∀ k0_t8 : Fin (k0_t8_loop i v265 v267 v277 v279 v289 v291 v301 v303 v313 v315 v325 v327 v337 v339).trips, ∀ a, (k0_off71 i v265 v267 v277 v279 v289 v291 v301 v303 v313 v315 v325 v327 v337 v339 k0_t8) a + S256x576.size a ≤ S8192x576.size a)
theorem k0_t7_ok : ∀ (i : grid0.Coords) (v265 : BitVec 32) (v267 : BitVec 32) (v277 : BitVec 32) (v279 : BitVec 32) (v289 : BitVec 32) (v291 : BitVec 32) (v301 : BitVec 32) (v303 : BitVec 32) (v313 : BitVec 32) (v315 : BitVec 32) (v325 : BitVec 32) (v327 : BitVec 32) (v337 : BitVec 32) (v339 : BitVec 32) (k0_hw2 : k0_chk2 i v265 v267 v277 v279 v289 v291 v301 v303 v313 v315 v325 v327 v337 v339), (k0_t7_loop i v265 v267 v277 v279 v289 v291 v301 v303 v313 v315 v325 v327 v337 v339).OK := fun i v265 v267 v277 v279 v289 v291 v301 v303 v313 v315 v325 v327 v337 v339 k0_hw2 => k0_hw2.1
theorem k0_mult12_dvd : ∀ (i : grid0.Coords) (v265 : BitVec 32) (v267 : BitVec 32) (v277 : BitVec 32) (v279 : BitVec 32) (v289 : BitVec 32) (v291 : BitVec 32) (v301 : BitVec 32) (v303 : BitVec 32) (v313 : BitVec 32) (v315 : BitVec 32) (v325 : BitVec 32) (v327 : BitVec 32) (v337 : BitVec 32) (v339 : BitVec 32) (k0_hw2 : k0_chk2 i v265 v267 v277 v279 v289 v291 v301 v303 v313 v315 v325 v327 v337 v339) (k0_t7 : Fin (k0_t7_loop i v265 v267 v277 v279 v289 v291 v301 v303 v313 v315 v325 v327 v337 v339).trips), 256 ∣ (k0_mult12 i v265 v267 v277 v279 v289 v291 v301 v303 v313 v315 v325 v327 v337 v339 k0_t7).toNat := fun i v265 v267 v277 v279 v289 v291 v301 v303 v313 v315 v325 v327 v337 v339 k0_hw2 k0_t7 => k0_hw2.2.1 k0_t7
theorem k0_off70_inb : ∀ (i : grid0.Coords) (v265 : BitVec 32) (v267 : BitVec 32) (v277 : BitVec 32) (v279 : BitVec 32) (v289 : BitVec 32) (v291 : BitVec 32) (v301 : BitVec 32) (v303 : BitVec 32) (v313 : BitVec 32) (v315 : BitVec 32) (v325 : BitVec 32) (v327 : BitVec 32) (v337 : BitVec 32) (v339 : BitVec 32) (k0_hw2 : k0_chk2 i v265 v267 v277 v279 v289 v291 v301 v303 v313 v315 v325 v327 v337 v339) (k0_t7 : Fin (k0_t7_loop i v265 v267 v277 v279 v289 v291 v301 v303 v313 v315 v325 v327 v337 v339).trips), ∀ a, (k0_off70 i v265 v267 v277 v279 v289 v291 v301 v303 v313 v315 v325 v327 v337 v339 k0_t7) a + S256x576.size a ≤ S8192x576.size a := fun i v265 v267 v277 v279 v289 v291 v301 v303 v313 v315 v325 v327 v337 v339 k0_hw2 k0_t7 => k0_hw2.2.2.1 k0_t7
theorem k0_t8_ok : ∀ (i : grid0.Coords) (v265 : BitVec 32) (v267 : BitVec 32) (v277 : BitVec 32) (v279 : BitVec 32) (v289 : BitVec 32) (v291 : BitVec 32) (v301 : BitVec 32) (v303 : BitVec 32) (v313 : BitVec 32) (v315 : BitVec 32) (v325 : BitVec 32) (v327 : BitVec 32) (v337 : BitVec 32) (v339 : BitVec 32) (k0_hw2 : k0_chk2 i v265 v267 v277 v279 v289 v291 v301 v303 v313 v315 v325 v327 v337 v339), (k0_t8_loop i v265 v267 v277 v279 v289 v291 v301 v303 v313 v315 v325 v327 v337 v339).OK := fun i v265 v267 v277 v279 v289 v291 v301 v303 v313 v315 v325 v327 v337 v339 k0_hw2 => k0_hw2.2.2.2.1
theorem k0_mult13_dvd : ∀ (i : grid0.Coords) (v265 : BitVec 32) (v267 : BitVec 32) (v277 : BitVec 32) (v279 : BitVec 32) (v289 : BitVec 32) (v291 : BitVec 32) (v301 : BitVec 32) (v303 : BitVec 32) (v313 : BitVec 32) (v315 : BitVec 32) (v325 : BitVec 32) (v327 : BitVec 32) (v337 : BitVec 32) (v339 : BitVec 32) (k0_hw2 : k0_chk2 i v265 v267 v277 v279 v289 v291 v301 v303 v313 v315 v325 v327 v337 v339) (k0_t8 : Fin (k0_t8_loop i v265 v267 v277 v279 v289 v291 v301 v303 v313 v315 v325 v327 v337 v339).trips), 256 ∣ (k0_mult13 i v265 v267 v277 v279 v289 v291 v301 v303 v313 v315 v325 v327 v337 v339 k0_t8).toNat := fun i v265 v267 v277 v279 v289 v291 v301 v303 v313 v315 v325 v327 v337 v339 k0_hw2 k0_t8 => k0_hw2.2.2.2.2.1 k0_t8
theorem k0_off71_inb : ∀ (i : grid0.Coords) (v265 : BitVec 32) (v267 : BitVec 32) (v277 : BitVec 32) (v279 : BitVec 32) (v289 : BitVec 32) (v291 : BitVec 32) (v301 : BitVec 32) (v303 : BitVec 32) (v313 : BitVec 32) (v315 : BitVec 32) (v325 : BitVec 32) (v327 : BitVec 32) (v337 : BitVec 32) (v339 : BitVec 32) (k0_hw2 : k0_chk2 i v265 v267 v277 v279 v289 v291 v301 v303 v313 v315 v325 v327 v337 v339) (k0_t8 : Fin (k0_t8_loop i v265 v267 v277 v279 v289 v291 v301 v303 v313 v315 v325 v327 v337 v339).trips), ∀ a, (k0_off71 i v265 v267 v277 v279 v289 v291 v301 v303 v313 v315 v325 v327 v337 v339 k0_t8) a + S256x576.size a ≤ S8192x576.size a := fun i v265 v267 v277 v279 v289 v291 v301 v303 v313 v315 v325 v327 v337 v339 k0_hw2 k0_t8 => k0_hw2.2.2.2.2.2 k0_t8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S24x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3072x1536 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8192x512 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8192x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8192x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1536 : Shape := ⟨2, ![8192, 1536]⟩
abbrev S8192x12 : Shape := ⟨2, ![8192, 12]⟩
abbrev S8192x512 : Shape := ⟨2, ![8192, 512]⟩
abbrev S8192x4 : Shape := ⟨2, ![8192, 4]⟩
abbrev S8192x64 : Shape := ⟨2, ![8192, 64]⟩
abbrev S7 : Shape := ⟨1, ![7]⟩
abbrev S8192x32 : Shape := ⟨2, ![8192, 32]⟩
abbrev S3072x1536 : Shape := ⟨2, ![3072, 1536]⟩
abbrev S24x12 : Shape := ⟨2, ![24, 12]⟩
abbrev S2048x512 : Shape := ⟨2, ![2048, 512]⟩
abbrev S16x4 : Shape := ⟨2, ![16, 4]⟩
abbrev S8192x16 : Shape := ⟨2, ![8192, 16]⟩
abbrev S16x128 : Shape := ⟨2, ![16, 128]⟩
abbrev S8192x1x12x128 : Shape := ⟨4, ![8192, 1, 12, 128]⟩
abbrev S8192x1x12x1 : Shape := ⟨4, ![8192, 1, 12, 1]⟩
abbrev S24x128x12x128 : Shape := ⟨4, ![24, 128, 12, 128]⟩
abbrev S24x1x12x1 : Shape := ⟨4, ![24, 1, 12, 1]⟩
abbrev S8192x3072 : Shape := ⟨2, ![8192, 3072]⟩
abbrev S8192x16x192 : Shape := ⟨3, ![8192, 16, 192]⟩
abbrev S8192x16x64 : Shape := ⟨3, ![8192, 16, 64]⟩
abbrev S8192x16x32x2 : Shape := ⟨4, ![8192, 16, 32, 2]⟩
abbrev S8192x16x32x1 : Shape := ⟨4, ![8192, 16, 32, 1]⟩
abbrev S8192x16x32 : Shape := ⟨3, ![8192, 16, 32]⟩
abbrev S8192x1x32 : Shape := ⟨3, ![8192, 1, 32]⟩
abbrev S8192x16x128 : Shape := ⟨3, ![8192, 16, 128]⟩
abbrev S16x128x4x128 : Shape := ⟨4, ![16, 128, 4, 128]⟩
abbrev S16x1x4x1 : Shape := ⟨4, ![16, 1, 4, 1]⟩
abbrev S16x128x512 : Shape := ⟨3, ![16, 128, 512]⟩
abbrev S16x512x8192 : Shape := ⟨3, ![16, 512, 8192]⟩
abbrev S8192x16x512 : Shape := ⟨3, ![8192, 16, 512]⟩
abbrev S8192x1x4x128 : Shape := ⟨4, ![8192, 1, 4, 128]⟩
abbrev S8192x1x4x1 : Shape := ⟨4, ![8192, 1, 4, 1]⟩
abbrev S8192x16x8192 : Shape := ⟨3, ![8192, 16, 8192]⟩
abbrev S8192x1 : Shape := ⟨2, ![8192, 1]⟩
abbrev S1 : Shape := ⟨1, ![1]⟩
abbrev S1x8192 : Shape := ⟨2, ![1, 8192]⟩
abbrev S8192x8192 : Shape := ⟨2, ![8192, 8192]⟩
abbrev S8192x1x8192 : Shape := ⟨3, ![8192, 1, 8192]⟩
abbrev S16 : Shape := ⟨1, ![16]⟩
abbrev S16x1 : Shape := ⟨2, ![16, 1]⟩

abbrev nBuf : Space → Nat
  | .hbm => 14
  | .vmem => 13
  | .smem => 1
  | _ => 0

abbrev bufTy : (tb : Table) → Fin (tcTables nBuf tb) → BufTy
  | .hbm, ⟨0, _⟩ => ⟨S8192x1536, .fp8e4m3⟩
  | .hbm, ⟨1, _⟩ => ⟨S8192x12, .f32⟩
  | .hbm, ⟨2, _⟩ => ⟨S8192x512, .fp8e4m3⟩
  | .hbm, ⟨3, _⟩ => ⟨S8192x4, .f32⟩
  | .hbm, ⟨4, _⟩ => ⟨S8192x64, .bf16⟩
  | .hbm, ⟨5, _⟩ => ⟨S7, .i32⟩
  | .hbm, ⟨6, _⟩ => ⟨S8192x32, .f32⟩
  | .hbm, ⟨7, _⟩ => ⟨S8192x32, .f32⟩
  | .hbm, ⟨8, _⟩ => ⟨S3072x1536, .fp8e4m3⟩
  | .hbm, ⟨9, _⟩ => ⟨S24x12, .f32⟩
  | .hbm, ⟨10, _⟩ => ⟨S2048x512, .fp8e4m3⟩
  | .hbm, ⟨11, _⟩ => ⟨S16x4, .f32⟩
  | .hbm, ⟨12, _⟩ => ⟨S8192x16, .f32⟩
  | .hbm, ⟨13, _⟩ => ⟨S16x128, .f32⟩
  | .local _ .vmem, ⟨0, _⟩ => ⟨S8192x1536, .fp8e4m3⟩
  | .local _ .vmem, ⟨1, _⟩ => ⟨S8192x12, .f32⟩
  | .local _ .vmem, ⟨2, _⟩ => ⟨S8192x512, .fp8e4m3⟩
  | .local _ .vmem, ⟨3, _⟩ => ⟨S8192x4, .f32⟩
  | .local _ .vmem, ⟨4, _⟩ => ⟨S8192x64, .bf16⟩
  | .local _ .vmem, ⟨5, _⟩ => ⟨S8192x32, .f32⟩
  | .local _ .vmem, ⟨6, _⟩ => ⟨S8192x32, .f32⟩
  | .local _ .vmem, ⟨7, _⟩ => ⟨S3072x1536, .fp8e4m3⟩
  | .local _ .vmem, ⟨8, _⟩ => ⟨S24x12, .f32⟩
  | .local _ .vmem, ⟨9, _⟩ => ⟨S2048x512, .fp8e4m3⟩
  | .local _ .vmem, ⟨10, _⟩ => ⟨S16x4, .f32⟩
  | .local _ .vmem, ⟨11, _⟩ => ⟨S8192x16, .f32⟩
  | .local _ .vmem, ⟨12, _⟩ => ⟨S16x128, .f32⟩
  | .local _ .smem, ⟨0, _⟩ => ⟨S7, .i32⟩
  | _, _ => ⟨S8192x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S8192x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S7 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x1536 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x12 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x512 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Kernel.Kit.lean ====
/- What the launch of the kernel's pipeline needs beside the body: when each window is fetched and written back, the
   tables and the blocks as the region finds them, the branch conditions over the grid's points, and the memrefs the
   body is handed. -/
module

public import proofs.«01_k».proof.Proof.Gen.Kernel
public import proofs.«01_k».proof.Proof.Gen.Kernel.Launch
public import proofs.«01_k».proof.Proof.Gen.Kernel.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg9)) is fetched at the first point only, at any contents of the tables (its index map reads none). -/
theorem fetch0_0 (a : (pcfg0 (F := F)).Adm) : ∀ t : Fin (cfg0 a).N, ((cfg0 a).win 0).fetch t = true ↔ t.val % 32 = 0 :=
  (fun t => Pipeline.Window.fetchOf_const cc0_transform_0 (fun _ _ => rfl) (n := 32) (by decide) t : ∀ t : Fin grid0.N, Pipeline.Window.fetchOf grid0 false cc0_transform_0 t = true ↔ t.val % 32 = 0)
/-- Window 1 (operand 2 (%arg11)) is fetched at the first point only, at any contents of the tables (its index map reads none). -/
theorem fetch0_1 (a : (pcfg0 (F := F)).Adm) : ∀ t : Fin (cfg0 a).N, ((cfg0 a).win 1).fetch t = true ↔ t.val % 32 = 0 :=
  (fun t => Pipeline.Window.fetchOf_const cc0_transform_1 (fun _ _ => rfl) (n := 32) (by decide) t : ∀ t : Fin grid0.N, Pipeline.Window.fetchOf grid0 false cc0_transform_1 t = true ↔ t.val % 32 = 0)
/-- Window 2 (operand 3 (%arg0)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg1)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 5 (%arg6)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 0 (fun _ => rfl) (by decide)) (P := 1) (by decide) t).mpr (Nat.mod_one _) : ∀ t : Fin grid0.N, Pipeline.Window.fetchOf grid0 false cc0_transform_4 t = true)
/-- Window 5 (operand 6 (%arg7)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 0 (fun _ => rfl) (by decide)) (P := 1) (by decide) t).mpr (Nat.mod_one _) : ∀ t : Fin grid0.N, Pipeline.Window.fetchOf grid0 false cc0_transform_5 t = true)
/-- Window 6 (operand 7 (%arg8)) is fetched at the first point only, at any contents of the tables (its index map reads none). -/
theorem fetch0_6 (a : (pcfg0 (F := F)).Adm) : ∀ t : Fin (cfg0 a).N, ((cfg0 a).win 6).fetch t = true ↔ t.val % 32 = 0 :=
  (fun t => Pipeline.Window.fetchOf_const cc0_transform_6 (fun _ _ => rfl) (n := 32) (by decide) t : ∀ t : Fin grid0.N, Pipeline.Window.fetchOf grid0 false cc0_transform_6 t = true ↔ t.val % 32 = 0)
/-- Window 7 (operand 8 (%arg10)) is fetched at the first point only, at any contents of the tables (its index map reads none). -/
theorem fetch0_7 (a : (pcfg0 (F := F)).Adm) : ∀ t : Fin (cfg0 a).N, ((cfg0 a).win 7).fetch t = true ↔ t.val % 32 = 0 :=
  (fun t => Pipeline.Window.fetchOf_const cc0_transform_7 (fun _ _ => rfl) (n := 32) (by decide) t : ∀ t : Fin grid0.N, Pipeline.Window.fetchOf grid0 false cc0_transform_7 t = true ↔ t.val % 32 = 0)
/-- Window 8 (operand 9 (%arg2)) is fetched at the first point only, at any contents of the tables (its index map reads none). -/
theorem fetch0_8 (a : (pcfg0 (F := F)).Adm) : ∀ t : Fin (cfg0 a).N, ((cfg0 a).win 8).fetch t = true ↔ t.val % 32 = 0 :=
  (fun t => Pipeline.Window.fetchOf_const cc0_transform_8 (fun _ _ => rfl) (n := 32) (by decide) t : ∀ t : Fin grid0.N, Pipeline.Window.fetchOf grid0 false cc0_transform_8 t = true ↔ t.val % 32 = 0)
/-- Window 9 (operand 10 (%arg3)) is fetched at the first point only, at any contents of the tables (its index map reads none). -/
theorem fetch0_9 (a : (pcfg0 (F := F)).Adm) : ∀ t : Fin (cfg0 a).N, ((cfg0 a).win 9).fetch t = true ↔ t.val % 32 = 0 :=
  (fun t => Pipeline.Window.fetchOf_const cc0_transform_9 (fun _ _ => rfl) (n := 32) (by decide) t : ∀ t : Fin grid0.N, Pipeline.Window.fetchOf grid0 false cc0_transform_9 t = true ↔ t.val % 32 = 0)
/-- Window 10 (operand 11 (%arg4)) is fetched at the first point only, at any contents of the tables (its index map reads none). -/
theorem fetch0_10 (a : (pcfg0 (F := F)).Adm) : ∀ t : Fin (cfg0 a).N, ((cfg0 a).win 10).fetch t = true ↔ t.val % 32 = 0 :=
  (fun t => Pipeline.Window.fetchOf_const cc0_transform_10 (fun _ _ => rfl) (n := 32) (by decide) t : ∀ t : Fin grid0.N, Pipeline.Window.fetchOf grid0 false cc0_transform_10 t = true ↔ t.val % 32 = 0)
/-- Window 11 (result 0 (%0#0)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 0 (by decide) (by decide) (Pipeline.Window.sep_of_coord cc0_transform_11 0 0 (fun _ => rfl) (by decide)) (P := 1) (m := 0) (by decide) rfl t).mpr (Nat.mod_one _) : ∀ t : Fin grid0.N, Pipeline.Window.flushOf grid0 true cc0_transform_11 t = true)
/-- Window 12 (result 1 (%0#1)) is written back at the last point only, at any contents of the tables (its index map reads none). -/
theorem flush0_12 (a : (pcfg0 (F := F)).Adm) : ∀ t : Fin (cfg0 a).N, ((cfg0 a).win 12).flush t = true ↔ t.val % 32 = 31 :=
  (fun t => Pipeline.Window.flushOf_const cc0_transform_12 (fun _ _ => rfl) (n := 32) (by decide) rfl t : ∀ t : Fin grid0.N, Pipeline.Window.flushOf grid0 true cc0_transform_12 t = true ↔ t.val % 32 = 31)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_row_max_logits (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S7 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Each input window's staging buffer holds its block at every point, for any proof data that leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 2).trans (((dats 0 c).arrAt_in 2 rfl _).trans ((hA c 2).trans (V_main_arg0 m c))),
      ((h c).1 3).trans (((dats 0 c).arrAt_in 3 rfl _).trans ((hA c 3).trans (V_main_arg1 m c))),
      ((h c).1 8).trans (((dats 0 c).arrAt_in 8 rfl _).trans ((hA c 8).trans (V_main_arg2 m c))),
      ((h c).1 9).trans (((dats 0 c).arrAt_in 9 rfl _).trans ((hA c 9).trans (V_main_arg3 m c))),
      ((h c).1 10).trans (((dats 0 c).arrAt_in 10 rfl _).trans ((hA c 10).trans (V_main_arg4 m c))),
      ((h c).2 main_arg5 (by decide : main_arg5 ∈ Pipeline.restRefs sig spec0)).trans (V_main_arg5 m c),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c))),
      ((h c).1 0).trans (((dats 0 c).arrAt_in 0 rfl _).trans ((hA c 0).trans (V_main_arg9 m c))),
      ((h c).1 7).trans (((dats 0 c).arrAt_in 7 rfl _).trans ((hA c 7).trans (V_main_arg10 m c))),
      ((h c).1 1).trans (((dats 0 c).arrAt_in 1 rfl _).trans ((hA c 1).trans (V_main_arg11 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's closing `scf.if`, from the grid coordinates. -/
abbrev cond0_1 (i : grid0.Coords) : Prop := (Scalar.cmpi .ne (Scalar.extui (Scalar.cmpi .eq (BitVec.ofNat 32 (i 0).val) 31#32)) 0#32) = 1#1
/-- It holds at the last point only. -/
theorem hcond0_1 : ∀ t : Fin grid0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, e0]
    word_cmp
   : ∀ t : Fin grid0.N, cond0_1 (grid0.coords t) ↔ t.val % 32 = 31)

/-! ## The memrefs the body is handed -/

/-- One staging buffer of output window 11, through which its contents are stated (`View.read_writes_of_cover`: the
    choice does not matter). -/
abbrev VO0_11 : View sig .tc .vmem S256x16 .f32 := (Memref.whole cc0_stg11_0 : Memref sig .tc .vmem S256x16 .f32).view
/-- One staging buffer of output window 12, through which its contents are stated (`View.read_writes_of_cover`: the
    choice does not matter). -/
abbrev VO0_12 : View sig .tc .vmem S16x128 .f32 := (Memref.whole cc0_stg12_0 : Memref sig .tc .vmem S16x128 .f32).view
/-- Each window's current staging memref at point `t`, spelled as the pipeline passes it (`bodyAt0`), and its wholeness. -/
abbrev ms0_0 (hO : Ok m) (t : Fin (cfgM m hO).N) : Memref sig .tc .smem S24x12 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .smem S16x4 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S256x1536 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x12 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x32 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x32 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S3072x1536 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S2048x512 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S8192x512 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S8192x4 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S8192x64 .bf16 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S256x16 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S16x128 .f32 := spec0_12.stage ((cfgM m hO).slots t 12)
abbrev hs0_12 (hO : Ok m) (t : Fin (cfgM m hO).N) : (ms0_12 m hO t).IsWhole := hstage0_12 (((cfgM m hO).slots t 12).cast nbuf0_12)
/-- The scratch operands: whole scoped buffers of the kernel's own, passed beside the windows. -/
abbrev scM0_0 : Memref sig .tc .vmem S3072x1536 .bf16 := Memref.whole cc0_scratch0
abbrev scM0_1 : Memref sig .tc .vmem S16x512x128 .bf16 := Memref.whole cc0_scratch1
abbrev scM0_2 : Memref sig .tc .vmem S8192x576 .bf16 := Memref.whole cc0_scratch2
abbrev scM0_3 : Memref sig .tc .vmem S1536x256 .bf16 := Memref.whole cc0_scratch3
abbrev scM0_4 : Memref sig .tc .vmem S2x8x576x256 .bf16 := Memref.whole cc0_scratch4
abbrev scM0_5 : Memref sig .tc .vmem S12x64x128 .f32 := Memref.whole cc0_scratch5
abbrev scM0_6 : Memref sig .tc .vmem S8x8x256 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Gen

end
-- ==== Proof.Words.lean ====
/- Words the kernel computes from the segment table: the greatest segment start not past a token, its chunk of keys, and
   the loop over chunks from there to the token's own chunk. -/
module

public import Idealize.ShloMosaic.Lib.Tactic
public import Idealize.ShloMosaic.Lib.WordArith
public import Idealize.ShloMosaic.Lib.LoopRemainder

@[expose] public section

set_option maxRecDepth 16384

noncomputable section

namespace Cert.Words

open Idealize.ShloMosaic

/-- One entry of the segment table folded into the greatest start not past `t`. -/
def segW (t f c : BitVec 32) : BitVec 32 := Scalar.select (Scalar.cmpi .sle c t) (Scalar.maxsi f c) f

theorem segW_eq (t f c : BitVec 32) : segW t f c = if c.toInt ≤ t.toInt then (if c.toInt < f.toInt then f else c) else f := by
  unfold segW Scalar.select Scalar.cmpi Scalar.maxsi IntOp.cmpi IntOp.maxsi
  simp only [BitVec.sle, BitVec.slt]
  by_cases h : c.toInt ≤ t.toInt <;> simp [h]

theorem segW_bounds (t f c : BitVec 32) (h : 0 ≤ f.toInt ∧ f.toInt ≤ t.toInt) :
    0 ≤ (segW t f c).toInt ∧ (segW t f c).toInt ≤ t.toInt := by
  rw [segW_eq]; split
  · split <;> omega
  · exact h

/-- The greatest of 0 and the table's entries not past `t`. -/
def firstW (t : BitVec 32) (a0 a1 a2 a3 a4 a5 a6 : BitVec 32) : BitVec 32 :=
  segW t (segW t (segW t (segW t (segW t (segW t (segW t 0#32 a0) a1) a2) a3) a4) a5) a6

theorem firstW_bounds (t a0 a1 a2 a3 a4 a5 a6 : BitVec 32) (h : 0 ≤ t.toInt) :
    0 ≤ (firstW t a0 a1 a2 a3 a4 a5 a6).toInt ∧ (firstW t a0 a1 a2 a3 a4 a5 a6).toInt ≤ t.toInt := by
  unfold firstW
  exact segW_bounds _ _ _ (segW_bounds _ _ _ (segW_bounds _ _ _ (segW_bounds _ _ _ (segW_bounds _ _ _ (segW_bounds _ _ _ (segW_bounds _ _ _ ⟨by decide, by simpa using h⟩))))))

/-- Floor division by 256, as it is printed. -/
def fdivW (x : BitVec 32) : BitVec 32 :=
  Scalar.select
    (Scalar.andi
      (Scalar.cmpi .ne (Scalar.subi (Scalar.extui (Scalar.cmpi .sgt x 0#32) : BitVec 32) (Scalar.extui (Scalar.cmpi .slt x 0#32)))
        (Scalar.subi (Scalar.extui (Scalar.cmpi .sgt 256#32 0#32) : BitVec 32) (Scalar.extui (Scalar.cmpi .slt 256#32 0#32))))
      (Scalar.cmpi .ne (Scalar.remsi x 256#32) 0#32))
    (Scalar.subi (Scalar.divsi x 256#32) 1#32)
    (Scalar.divsi x 256#32)

theorem fdivW_small : ∀ n : Fin 8192, fdivW (BitVec.ofNat 32 n.val) = BitVec.ofNat 32 (n.val / 256) := by decide +kernel

theorem fdivW_eq (x : BitVec 32) (h : x.toNat < 8192) : fdivW x = BitVec.ofNat 32 (x.toNat / 256) := by
  have := fdivW_small ⟨x.toNat, h⟩
  simpa using this

/-- The upper bound of the loop over chunks, as it is printed. -/
def ubW (lb t : BitVec 32) : BitVec 32 :=
  Scalar.addi lb (Scalar.muli (Scalar.divsi (Scalar.subi (Scalar.addi (fdivW (Scalar.subi (Scalar.addi t 128#32) 1#32)) 1#32) lb) 1#32) 1#32)

theorem ubW_eq (lb : BitVec 32) (n : ℕ) (h : n + 127 < 8192) : ubW lb (BitVec.ofNat 32 n) = BitVec.ofNat 32 ((n + 127) / 256 + 1) := by
  have e : Scalar.subi (Scalar.addi (BitVec.ofNat 32 n) 128#32) 1#32 = BitVec.ofNat 32 (n + 127) := by
    apply BitVec.eq_of_toNat_eq
    simp only [Scalar.subi, Scalar.addi, IntOp.addi, IntOp.subi, BitVec.toNat_sub, BitVec.toNat_add, BitVec.toNat_ofNat]
    omega
  have e2 : fdivW (BitVec.ofNat 32 (n + 127)) = BitVec.ofNat 32 ((n + 127) / 256) := fdivW_small ⟨n + 127, h⟩
  unfold ubW
  rw [Scalar.muli_divsi_one, e, e2]
  apply BitVec.eq_of_toNat_eq
  have := lb.isLt
  simp only [Scalar.subi, Scalar.addi, IntOp.addi, IntOp.subi, BitVec.toNat_sub, BitVec.toNat_add, BitVec.toNat_ofNat]
  omega

theorem trips_eq (lo hi : ℕ) (h : hi < 64) (h' : lo ≤ hi) : Scf.trips (BitVec.ofNat 32 lo) (BitVec.ofNat 32 hi) 1#32 = hi - lo := by
  unfold Scf.trips
  rw [Idealize.ShloMosaic.WordArith.toInt_ofNat_small lo (by omega), Idealize.ShloMosaic.WordArith.toInt_ofNat_small hi (by omega), show (1#32 : BitVec 32).toInt = 1 from by decide]
  omega

theorem ok_eq (lo hi : ℕ) (h : hi < 64) (h' : lo ≤ hi) : Scf.OK (BitVec.ofNat 32 lo) (BitVec.ofNat 32 hi) 1#32 := by
  unfold Scf.OK
  rw [trips_eq lo hi h h', Idealize.ShloMosaic.WordArith.toInt_ofNat_small lo (by omega), show (1#32 : BitVec 32).toInt = 1 from by decide]
  constructor
  · decide
  · rw [Int.mul_one, show (2 : ℤ) ^ (32 - 1) = 2147483648 from by decide]; omega

/-- The first key row of the chunk that trip `k` reads. -/
theorem row_eq (lo k : ℕ) (h : lo + k < 64) : (Scalar.muli (Scf.iv (BitVec.ofNat 32 lo) 1#32 k) 256#32).toNat = 256 * (lo + k) := by
  unfold Scf.iv Scalar.muli IntOp.muli
  simp only [BitVec.toNat_add, BitVec.toNat_mul, BitVec.toNat_ofNat]
  omega

end Cert.Words

end
-- ==== Proof.Kernel.Chk.lean ====
/- The side conditions the body assumes of the segment table's words hold of every table, and the loops over key chunks
   in closed form. -/
module

public import proofs.«01_k».proof.Proof.Kernel.Kit
public import proofs.«01_k».proof.Proof.Words

@[expose] public section

set_option maxRecDepth 16384

noncomputable section

namespace Cert.Kernel.Gen

open Idealize.ShloMosaic Cert.Words

/-- The first token of subtile `s` of grid point `i`. -/
def tok0 (s : ℕ) (i : grid0.Coords) : ℕ := (i 0).val * 256 + 128 * s

/-- The first chunk of keys a subtile reads. -/
def chunk0 (s : ℕ) (i : grid0.Coords) (a0 a1 a2 a3 a4 a5 a6 : BitVec 32) : ℕ :=
  (firstW (BitVec.ofNat 32 (tok0 s i)) a0 a1 a2 a3 a4 a5 a6).toNat / 256

theorem i_lt (i : grid0.Coords) : (i 0).val < 32 := (i 0).isLt

theorem first_le (s : ℕ) (hs : s < 2) (i : grid0.Coords) (a0 a1 a2 a3 a4 a5 a6 : BitVec 32) :
    (firstW (BitVec.ofNat 32 (tok0 s i)) a0 a1 a2 a3 a4 a5 a6).toNat ≤ tok0 s i := by
  have hi := i_lt i
  have e : (BitVec.ofNat 32 (tok0 s i)).toInt = tok0 s i := WordArith.toInt_ofNat_small _ (by unfold tok0; omega)
  have h := firstW_bounds (BitVec.ofNat 32 (tok0 s i)) a0 a1 a2 a3 a4 a5 a6 (by rw [e]; omega)
  rw [e] at h
  have := BitVec.toInt_eq_toNat_cond (firstW (BitVec.ofNat 32 (tok0 s i)) a0 a1 a2 a3 a4 a5 a6)
  have := (firstW (BitVec.ofNat 32 (tok0 s i)) a0 a1 a2 a3 a4 a5 a6).isLt
  omega

theorem chunk0_le (s : ℕ) (hs : s < 2) (i : grid0.Coords) (a0 a1 a2 a3 a4 a5 a6 : BitVec 32) :
    chunk0 s i a0 a1 a2 a3 a4 a5 a6 ≤ (i 0).val := by
  have h := first_le s hs i a0 a1 a2 a3 a4 a5 a6
  unfold chunk0
  unfold tok0 at h ⊢
  omega

theorem lo_eq (s : ℕ) (hs : s < 2) (i : grid0.Coords) (a0 a1 a2 a3 a4 a5 a6 : BitVec 32) :
    fdivW (firstW (BitVec.ofNat 32 (tok0 s i)) a0 a1 a2 a3 a4 a5 a6) = BitVec.ofNat 32 (chunk0 s i a0 a1 a2 a3 a4 a5 a6) := by
  have hi := i_lt i
  have h := first_le s hs i a0 a1 a2 a3 a4 a5 a6
  rw [fdivW_eq _ (by unfold tok0 at h ⊢; omega)]; rfl

theorem t0_eq0 (i : grid0.Coords) : (Scalar.addi (Scalar.muli (BitVec.ofNat 32 (i 0).val) 256#32) 0#32) = BitVec.ofNat 32 (tok0 0 i) := by
  have hi := i_lt i
  apply BitVec.eq_of_toNat_eq
  unfold tok0
  simp only [Scalar.muli, Scalar.addi, IntOp.addi, IntOp.muli, BitVec.toNat_mul, BitVec.toNat_add, BitVec.toNat_ofNat]
  omega

theorem t5_loop_eq (i : grid0.Coords) (a0 a1 a2 a3 a4 a5 a6 : BitVec 32) :
    k0_t5_loop i a0 a0 a1 a1 a2 a2 a3 a3 a4 a4 a5 a5 a6 a6 = ⟨BitVec.ofNat 32 (chunk0 0 i a0 a1 a2 a3 a4 a5 a6), BitVec.ofNat 32 ((i 0).val + 1), 1#32⟩ := by
  have hi := i_lt i
  have e : k0_t5_loop i a0 a0 a1 a1 a2 a2 a3 a3 a4 a4 a5 a5 a6 a6 = ⟨fdivW (firstW (Scalar.addi (Scalar.muli (BitVec.ofNat 32 (i 0).val) 256#32) 0#32) a0 a1 a2 a3 a4 a5 a6), ubW (fdivW (firstW (Scalar.addi (Scalar.muli (BitVec.ofNat 32 (i 0).val) 256#32) 0#32) a0 a1 a2 a3 a4 a5 a6)) (Scalar.addi (Scalar.muli (BitVec.ofNat 32 (i 0).val) 256#32) 0#32), 1#32⟩ := rfl
  rw [e, t0_eq0, lo_eq 0 (by omega), ubW_eq _ _ (by unfold tok0; omega)]
  congr 2
  unfold tok0
  omega

theorem t5_trips (i : grid0.Coords) (a0 a1 a2 a3 a4 a5 a6 : BitVec 32) :
    (k0_t5_loop i a0 a0 a1 a1 a2 a2 a3 a3 a4 a4 a5 a5 a6 a6).trips = (i 0).val + 1 - chunk0 0 i a0 a1 a2 a3 a4 a5 a6 := by
  have hi := i_lt i
  have h := chunk0_le 0 (by omega) i a0 a1 a2 a3 a4 a5 a6
  rw [t5_loop_eq]
  exact trips_eq _ _ (by omega) (by omega)

theorem off68_eq (i : grid0.Coords) (a0 a1 a2 a3 a4 a5 a6 : BitVec 32) (k : Fin (k0_t5_loop i a0 a0 a1 a1 a2 a2 a3 a3 a4 a4 a5 a5 a6 a6).trips) :
    k0_off68 i a0 a0 a1 a1 a2 a2 a3 a3 a4 a4 a5 a5 a6 a6 k = ![256 * (chunk0 0 i a0 a1 a2 a3 a4 a5 a6 + k.val), 0] := by
  have hi := i_lt i
  have h := chunk0_le 0 (by omega) i a0 a1 a2 a3 a4 a5 a6
  have hk := lt_of_lt_of_eq k.isLt (t5_trips i a0 a1 a2 a3 a4 a5 a6)
  have e : k0_off68 i a0 a0 a1 a1 a2 a2 a3 a3 a4 a4 a5 a5 a6 a6 k = ![(Scalar.muli (Scf.iv (fdivW (firstW (Scalar.addi (Scalar.muli (BitVec.ofNat 32 (i 0).val) 256#32) 0#32) a0 a1 a2 a3 a4 a5 a6)) 1#32 k.val) 256#32).toNat, 0] := rfl
  rw [e, t0_eq0, lo_eq 0 (by omega), row_eq _ _ (by omega)]

theorem mult10_dvd (i : grid0.Coords) (a0 a1 a2 a3 a4 a5 a6 : BitVec 32) (k : Fin (k0_t5_loop i a0 a0 a1 a1 a2 a2 a3 a3 a4 a4 a5 a5 a6 a6).trips) :
    256 ∣ (k0_mult10 i a0 a0 a1 a1 a2 a2 a3 a3 a4 a4 a5 a5 a6 a6 k).toNat := by
  have h := off68_eq i a0 a1 a2 a3 a4 a5 a6 k
  have e : (k0_mult10 i a0 a0 a1 a1 a2 a2 a3 a3 a4 a4 a5 a5 a6 a6 k).toNat = k0_off68 i a0 a0 a1 a1 a2 a2 a3 a3 a4 a4 a5 a5 a6 a6 k 0 := rfl
  rw [e, h]
  exact ⟨_, rfl⟩

theorem t6_ok (i : grid0.Coords) (a0 a1 a2 a3 a4 a5 a6 : BitVec 32) : (k0_t6_loop i a0 a0 a1 a1 a2 a2 a3 a3 a4 a4 a5 a5 a6 a6).OK := Scf.rem_ok _ _

/-- The side condition assumed before the loop over key chunks of subtile 0 holds of every table. -/
theorem chk1_all (i : grid0.Coords) (a0 a1 a2 a3 a4 a5 a6 : BitVec 32) : k0_chk1 i a0 a0 a1 a1 a2 a2 a3 a3 a4 a4 a5 a5 a6 a6 := by
  have hi := i_lt i
  have h := chunk0_le 0 (by omega) i a0 a1 a2 a3 a4 a5 a6
  refine ⟨?_, fun k => mult10_dvd i a0 a1 a2 a3 a4 a5 a6 k, fun k a => ?_, t6_ok i a0 a1 a2 a3 a4 a5 a6, fun k => (Scf.rem_no_trip _ _ k).elim, fun k => (Scf.rem_no_trip _ _ k).elim⟩
  · rw [t5_loop_eq]
    exact ok_eq _ _ (by omega) (by omega)
  · have hk := lt_of_lt_of_eq k.isLt (t5_trips i a0 a1 a2 a3 a4 a5 a6)
    rw [off68_eq]
    match a with
    | ⟨0, _⟩ => show 256 * _ + 256 ≤ 8192; omega
    | ⟨1, _⟩ => show 0 + 576 ≤ 576; omega

theorem t0_eq1 (i : grid0.Coords) : (Scalar.addi (Scalar.muli (BitVec.ofNat 32 (i 0).val) 256#32) 128#32) = BitVec.ofNat 32 (tok0 1 i) := by
  have hi := i_lt i
  apply BitVec.eq_of_toNat_eq
  unfold tok0
  simp only [Scalar.muli, Scalar.addi, IntOp.addi, IntOp.muli, BitVec.toNat_mul, BitVec.toNat_add, BitVec.toNat_ofNat]
  omega

theorem t7_loop_eq (i : grid0.Coords) (a0 a1 a2 a3 a4 a5 a6 : BitVec 32) :
    k0_t7_loop i a0 a0 a1 a1 a2 a2 a3 a3 a4 a4 a5 a5 a6 a6 = ⟨BitVec.ofNat 32 (chunk0 1 i a0 a1 a2 a3 a4 a5 a6), BitVec.ofNat 32 ((i 0).val + 1), 1#32⟩ := by
  have hi := i_lt i
  have e : k0_t7_loop i a0 a0 a1 a1 a2 a2 a3 a3 a4 a4 a5 a5 a6 a6 = ⟨fdivW (firstW (Scalar.addi (Scalar.muli (BitVec.ofNat 32 (i 0).val) 256#32) 128#32) a0 a1 a2 a3 a4 a5 a6), ubW (fdivW (firstW (Scalar.addi (Scalar.muli (BitVec.ofNat 32 (i 0).val) 256#32) 128#32) a0 a1 a2 a3 a4 a5 a6)) (Scalar.addi (Scalar.muli (BitVec.ofNat 32 (i 0).val) 256#32) 128#32), 1#32⟩ := rfl
  rw [e, t0_eq1, lo_eq 1 (by omega), ubW_eq _ _ (by unfold tok0; omega)]
  congr 2
  unfold tok0
  omega

theorem t7_trips (i : grid0.Coords) (a0 a1 a2 a3 a4 a5 a6 : BitVec 32) :
    (k0_t7_loop i a0 a0 a1 a1 a2 a2 a3 a3 a4 a4 a5 a5 a6 a6).trips = (i 0).val + 1 - chunk0 1 i a0 a1 a2 a3 a4 a5 a6 := by
  have hi := i_lt i
  have h := chunk0_le 1 (by omega) i a0 a1 a2 a3 a4 a5 a6
  rw [t7_loop_eq]
  exact trips_eq _ _ (by omega) (by omega)

theorem off70_eq (i : grid0.Coords) (a0 a1 a2 a3 a4 a5 a6 : BitVec 32) (k : Fin (k0_t7_loop i a0 a0 a1 a1 a2 a2 a3 a3 a4 a4 a5 a5 a6 a6).trips) :
    k0_off70 i a0 a0 a1 a1 a2 a2 a3 a3 a4 a4 a5 a5 a6 a6 k = ![256 * (chunk0 1 i a0 a1 a2 a3 a4 a5 a6 + k.val), 0] := by
  have hi := i_lt i
  have h := chunk0_le 1 (by omega) i a0 a1 a2 a3 a4 a5 a6
  have hk := lt_of_lt_of_eq k.isLt (t7_trips i a0 a1 a2 a3 a4 a5 a6)
  have e : k0_off70 i a0 a0 a1 a1 a2 a2 a3 a3 a4 a4 a5 a5 a6 a6 k = ![(Scalar.muli (Scf.iv (fdivW (firstW (Scalar.addi (Scalar.muli (BitVec.ofNat 32 (i 0).val) 256#32) 128#32) a0 a1 a2 a3 a4 a5 a6)) 1#32 k.val) 256#32).toNat, 0] := rfl
  rw [e, t0_eq1, lo_eq 1 (by omega), row_eq _ _ (by omega)]

theorem mult12_dvd (i : grid0.Coords) (a0 a1 a2 a3 a4 a5 a6 : BitVec 32) (k : Fin (k0_t7_loop i a0 a0 a1 a1 a2 a2 a3 a3 a4 a4 a5 a5 a6 a6).trips) :
    256 ∣ (k0_mult12 i a0 a0 a1 a1 a2 a2 a3 a3 a4 a4 a5 a5 a6 a6 k).toNat := by
  have h := off70_eq i a0 a1 a2 a3 a4 a5 a6 k
  have e : (k0_mult12 i a0 a0 a1 a1 a2 a2 a3 a3 a4 a4 a5 a5 a6 a6 k).toNat = k0_off70 i a0 a0 a1 a1 a2 a2 a3 a3 a4 a4 a5 a5 a6 a6 k 0 := rfl
  rw [e, h]
  exact ⟨_, rfl⟩

theorem t8_ok (i : grid0.Coords) (a0 a1 a2 a3 a4 a5 a6 : BitVec 32) : (k0_t8_loop i a0 a0 a1 a1 a2 a2 a3 a3 a4 a4 a5 a5 a6 a6).OK := Scf.rem_ok _ _

/-- The side condition assumed before the loop over key chunks of subtile 1 holds of every table. -/
theorem chk2_all (i : grid0.Coords) (a0 a1 a2 a3 a4 a5 a6 : BitVec 32) : k0_chk2 i a0 a0 a1 a1 a2 a2 a3 a3 a4 a4 a5 a5 a6 a6 := by
  have hi := i_lt i
  have h := chunk0_le 1 (by omega) i a0 a1 a2 a3 a4 a5 a6
  refine ⟨?_, fun k => mult12_dvd i a0 a1 a2 a3 a4 a5 a6 k, fun k a => ?_, t8_ok i a0 a1 a2 a3 a4 a5 a6, fun k => (Scf.rem_no_trip _ _ k).elim, fun k => (Scf.rem_no_trip _ _ k).elim⟩
  · rw [t7_loop_eq]
    exact ok_eq _ _ (by omega) (by omega)
  · have hk := lt_of_lt_of_eq k.isLt (t7_trips i a0 a1 a2 a3 a4 a5 a6)
    rw [off70_eq]
    match a with
    | ⟨0, _⟩ => show 256 * _ + 256 ≤ 8192; omega
    | ⟨1, _⟩ => show 0 + 576 ≤ 576; omega

end Cert.Kernel.Gen

end
-- ==== Proof.Kernel.RunFirst.lean ====
/- The body at the first point runs from any contents of its outputs and scratch buffers and leaves its inputs as they were. -/
module

public import proofs.«01_k».proof.Proof.Kernel.Chk
public import proofs.«01_k».proof.Proof.Gen.Kernel.Loops
public import Idealize.ShloMosaic.Lib.LoopRemainder

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at the first point, at any contents of the outputs and the scratch buffers: it runs, and the inputs keep their contents. -/
theorem bodyRun_A (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : cond0_0 i) (hc1 : ¬cond0_1 i)
    (x0 : Vec F S24x12 .f32) (x1 : Vec F S16x4 .f32) (x2 : Vec F S256x1536 .fp8e4m3) (x3 : Vec F S256x12 .f32) (x4 : Vec F S256x32 .f32) (x5 : Vec F S256x32 .f32) (x6 : Vec F S3072x1536 .fp8e4m3) (x7 : Vec F S2048x512 .fp8e4m3) (x8 : Vec F S8192x512 .fp8e4m3) (x9 : Vec F S8192x4 .f32) (x10 : Vec F S8192x64 .bf16) (xt0 : TbBuf0 (F := F) c tbM0_0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0) -∗ K ⟨⟩))
      ⊢ wp frame (wpE (defs₀ (F := F)) Variants.none c none) E (cc0_row_max_logits i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_row_max_logits_eq_skeleton]; unfold cc0_row_max_logits_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, HT0, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact (chk1_all i _ _ _ _ _ _ _) | sl_exact (chk2_all i _ _ _ _ _ _ _))
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  iexact HT0

end Cert.Kernel.Gen

end
-- ==== Proof.Kernel.RunMid.lean ====
/- The body at a point that is neither the first nor the last runs from any contents of its outputs and scratch buffers and leaves its inputs as they were. -/
module

public import proofs.«01_k».proof.Proof.Kernel.Chk
public import proofs.«01_k».proof.Proof.Gen.Kernel.Loops
public import Idealize.ShloMosaic.Lib.LoopRemainder

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at a point that is neither the first nor the last, at any contents of the outputs and the scratch buffers: it runs, and the inputs keep their contents. -/
theorem bodyRun_B (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : ¬cond0_0 i) (hc1 : ¬cond0_1 i)
    (x0 : Vec F S24x12 .f32) (x1 : Vec F S16x4 .f32) (x2 : Vec F S256x1536 .fp8e4m3) (x3 : Vec F S256x12 .f32) (x4 : Vec F S256x32 .f32) (x5 : Vec F S256x32 .f32) (x6 : Vec F S3072x1536 .fp8e4m3) (x7 : Vec F S2048x512 .fp8e4m3) (x8 : Vec F S8192x512 .fp8e4m3) (x9 : Vec F S8192x4 .f32) (x10 : Vec F S8192x64 .bf16) (xt0 : TbBuf0 (F := F) c tbM0_0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0) -∗ K ⟨⟩))
      ⊢ wp frame (wpE (defs₀ (F := F)) Variants.none c none) E (cc0_row_max_logits i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_row_max_logits_eq_skeleton]; unfold cc0_row_max_logits_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, HT0, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact (chk1_all i _ _ _ _ _ _ _) | sl_exact (chk2_all i _ _ _ _ _ _ _))
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  iexact HT0

end Cert.Kernel.Gen

end
-- ==== Proof.Kernel.RunLast.lean ====
/- The body at the last point runs from any contents of its outputs and scratch buffers and leaves its inputs as they were. -/
module

public import proofs.«01_k».proof.Proof.Kernel.Chk
public import proofs.«01_k».proof.Proof.Gen.Kernel.Loops
public import Idealize.ShloMosaic.Lib.LoopRemainder

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at the last point, at any contents of the outputs and the scratch buffers: it runs, and the inputs keep their contents. -/
theorem bodyRun_C (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : ¬cond0_0 i) (hc1 : cond0_1 i)
    (x0 : Vec F S24x12 .f32) (x1 : Vec F S16x4 .f32) (x2 : Vec F S256x1536 .fp8e4m3) (x3 : Vec F S256x12 .f32) (x4 : Vec F S256x32 .f32) (x5 : Vec F S256x32 .f32) (x6 : Vec F S3072x1536 .fp8e4m3) (x7 : Vec F S2048x512 .fp8e4m3) (x8 : Vec F S8192x512 .fp8e4m3) (x9 : Vec F S8192x4 .f32) (x10 : Vec F S8192x64 .bf16) (xt0 : TbBuf0 (F := F) c tbM0_0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0) -∗ K ⟨⟩))
      ⊢ wp frame (wpE (defs₀ (F := F)) Variants.none c none) E (cc0_row_max_logits i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_row_max_logits_eq_skeleton]; unfold cc0_row_max_logits_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, HT0, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact (chk1_all i _ _ _ _ _ _ _) | sl_exact (chk2_all i _ _ _ _ _ _ _))
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  iexact HT0

end Cert.Kernel.Gen

end
-- ==== Proof.Kernel.Frame.lean ====
/- The kernel runs from every memory, leaves its arguments as they were and every semaphore counter at zero: the frame claim, what its outputs hold left unsaid. -/
module

public import proofs.«01_k».proof.Proof.Kernel.RunFirst
public import proofs.«01_k».proof.Proof.Kernel.RunMid
public import proofs.«01_k».proof.Proof.Kernel.RunLast

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs are the windows whose contents the frame does not name. -/
def fgt : Fin (13 : ℕ) → Bool := fun w => decide (11 ≤ w.val)

/-- The proof data: inputs at their blocks, outputs unnamed, the scratch buffers at some contents. -/
def datsF (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => Dat.unnamed 11 t
    | ⟨12, _⟩ => Dat.unnamed 12 t
  Φ _ := iprop(Pipeline.ΦA spec0 c ∗ Pipeline.ΦT pre0 (tbl m) c)
  q _ := fullShare
  owed _ := 0

theorem datsF_A (hO : Ok m) (c : Dev nD) (w : Fin (cfgM m hO).W) : (datsF m hO 0 c).A w = V m c (Pipeline.arrRef spec0 w) := by
  dsimp only [datsF]
theorem datsF_after0 (hO : Ok m) (c : Dev nD) (t : Fin (cfgM m hO).N) : (datsF m hO 0 c).after 0 t = iblk m hO c 0 t := by dsimp only [datsF]; try rfl
theorem datsF_after1 (hO : Ok m) (c : Dev nD) (t : Fin (cfgM m hO).N) : (datsF m hO 0 c).after 1 t = iblk m hO c 1 t := by dsimp only [datsF]; try rfl
theorem datsF_after2 (hO : Ok m) (c : Dev nD) (t : Fin (cfgM m hO).N) : (datsF m hO 0 c).after 2 t = iblk m hO c 2 t := by dsimp only [datsF]; try rfl
theorem datsF_after3 (hO : Ok m) (c : Dev nD) (t : Fin (cfgM m hO).N) : (datsF m hO 0 c).after 3 t = iblk m hO c 3 t := by dsimp only [datsF]; try rfl
theorem datsF_after4 (hO : Ok m) (c : Dev nD) (t : Fin (cfgM m hO).N) : (datsF m hO 0 c).after 4 t = iblk m hO c 4 t := by dsimp only [datsF]; try rfl
theorem datsF_after5 (hO : Ok m) (c : Dev nD) (t : Fin (cfgM m hO).N) : (datsF m hO 0 c).after 5 t = iblk m hO c 5 t := by dsimp only [datsF]; try rfl
theorem datsF_after6 (hO : Ok m) (c : Dev nD) (t : Fin (cfgM m hO).N) : (datsF m hO 0 c).after 6 t = iblk m hO c 6 t := by dsimp only [datsF]; try rfl
theorem datsF_after7 (hO : Ok m) (c : Dev nD) (t : Fin (cfgM m hO).N) : (datsF m hO 0 c).after 7 t = iblk m hO c 7 t := by dsimp only [datsF]; try rfl
theorem datsF_after8 (hO : Ok m) (c : Dev nD) (t : Fin (cfgM m hO).N) : (datsF m hO 0 c).after 8 t = iblk m hO c 8 t := by dsimp only [datsF]; try rfl
theorem datsF_after9 (hO : Ok m) (c : Dev nD) (t : Fin (cfgM m hO).N) : (datsF m hO 0 c).after 9 t = iblk m hO c 9 t := by dsimp only [datsF]; try rfl
theorem datsF_after10 (hO : Ok m) (c : Dev nD) (t : Fin (cfgM m hO).N) : (datsF m hO 0 c).after 10 t = iblk m hO c 10 t := by dsimp only [datsF]; try rfl
theorem datsF_before0 (hO : Ok m) (c : Dev nD) (t : Fin (cfgM m hO).N) (d) : (datsF m hO 0 c).before 0 t d = iblk m hO c 0 t :=
  before0_0_of m hO (datsF m hO 0 c) (datsF_A m hO c 0) (datsF_after0 m hO c) t d
theorem datsF_before1 (hO : Ok m) (c : Dev nD) (t : Fin (cfgM m hO).N) (d) : (datsF m hO 0 c).before 1 t d = iblk m hO c 1 t :=
  before0_1_of m hO (datsF m hO 0 c) (datsF_A m hO c 1) (datsF_after1 m hO c) t d
theorem datsF_before2 (hO : Ok m) (c : Dev nD) (t : Fin (cfgM m hO).N) (d) : (datsF m hO 0 c).before 2 t d = iblk m hO c 2 t :=
  before0_2_of m hO (datsF m hO 0 c) (datsF_A m hO c 2) (datsF_after2 m hO c) t d
theorem datsF_before3 (hO : Ok m) (c : Dev nD) (t : Fin (cfgM m hO).N) (d) : (datsF m hO 0 c).before 3 t d = iblk m hO c 3 t :=
  before0_3_of m hO (datsF m hO 0 c) (datsF_A m hO c 3) (datsF_after3 m hO c) t d
theorem datsF_before4 (hO : Ok m) (c : Dev nD) (t : Fin (cfgM m hO).N) (d) : (datsF m hO 0 c).before 4 t d = iblk m hO c 4 t :=
  before0_4_of m hO (datsF m hO 0 c) (datsF_A m hO c 4) (datsF_after4 m hO c) t d
theorem datsF_before5 (hO : Ok m) (c : Dev nD) (t : Fin (cfgM m hO).N) (d) : (datsF m hO 0 c).before 5 t d = iblk m hO c 5 t :=
  before0_5_of m hO (datsF m hO 0 c) (datsF_A m hO c 5) (datsF_after5 m hO c) t d
theorem datsF_before6 (hO : Ok m) (c : Dev nD) (t : Fin (cfgM m hO).N) (d) : (datsF m hO 0 c).before 6 t d = iblk m hO c 6 t :=
  before0_6_of m hO (datsF m hO 0 c) (datsF_A m hO c 6) (datsF_after6 m hO c) t d
theorem datsF_before7 (hO : Ok m) (c : Dev nD) (t : Fin (cfgM m hO).N) (d) : (datsF m hO 0 c).before 7 t d = iblk m hO c 7 t :=
  before0_7_of m hO (datsF m hO 0 c) (datsF_A m hO c 7) (datsF_after7 m hO c) t d
theorem datsF_before8 (hO : Ok m) (c : Dev nD) (t : Fin (cfgM m hO).N) (d) : (datsF m hO 0 c).before 8 t d = iblk m hO c 8 t :=
  before0_8_of m hO (datsF m hO 0 c) (datsF_A m hO c 8) (datsF_after8 m hO c) t d
theorem datsF_before9 (hO : Ok m) (c : Dev nD) (t : Fin (cfgM m hO).N) (d) : (datsF m hO 0 c).before 9 t d = iblk m hO c 9 t :=
  before0_9_of m hO (datsF m hO 0 c) (datsF_A m hO c 9) (datsF_after9 m hO c) t d
theorem datsF_before10 (hO : Ok m) (c : Dev nD) (t : Fin (cfgM m hO).N) (d) : (datsF m hO 0 c).before 10 t d = iblk m hO c 10 t :=
  before0_10_of m hO (datsF m hO 0 c) (datsF_A m hO c 10) (datsF_after10 m hO c) t d

/-- What the body is called with at a point, -/
def bodyPreF (hO : Ok m) (c : Dev nD) (t : Fin (cfgM m hO).N) : sProp 𝕄 :=
  iprop((datsF m hO 0 c).Φ t.castSucc ∗ (datsF m hO 0 c).owesAt () t.castSucc
    ∗ (∃ d, owns (c : Thread nD τ) (ms0_0 m hO t) fullShare ((datsF m hO 0 c).before 0 t d))
    ∗ (∃ d, owns (c : Thread nD τ) (ms0_1 m hO t) fullShare ((datsF m hO 0 c).before 1 t d))
    ∗ (∃ d, owns (c : Thread nD τ) (ms0_2 m hO t) fullShare ((datsF m hO 0 c).before 2 t d))
    ∗ (∃ d, owns (c : Thread nD τ) (ms0_3 m hO t) fullShare ((datsF m hO 0 c).before 3 t d))
    ∗ (∃ d, owns (c : Thread nD τ) (ms0_4 m hO t) fullShare ((datsF m hO 0 c).before 4 t d))
    ∗ (∃ d, owns (c : Thread nD τ) (ms0_5 m hO t) fullShare ((datsF m hO 0 c).before 5 t d))
    ∗ (∃ d, owns (c : Thread nD τ) (ms0_6 m hO t) fullShare ((datsF m hO 0 c).before 6 t d))
    ∗ (∃ d, owns (c : Thread nD τ) (ms0_7 m hO t) fullShare ((datsF m hO 0 c).before 7 t d))
    ∗ (∃ d, owns (c : Thread nD τ) (ms0_8 m hO t) fullShare ((datsF m hO 0 c).before 8 t d))
    ∗ (∃ d, owns (c : Thread nD τ) (ms0_9 m hO t) fullShare ((datsF m hO 0 c).before 9 t d))
    ∗ (∃ d, owns (c : Thread nD τ) (ms0_10 m hO t) fullShare ((datsF m hO 0 c).before 10 t d))
    ∗ (∃ X, owns (c : Thread nD τ) (ms0_11 m hO t) fullShare X)
    ∗ (∃ X, owns (c : Thread nD τ) (ms0_12 m hO t) fullShare X))

/-- and what it returns. -/
def bodyPostF (hO : Ok m) (c : Dev nD) (t : Fin (cfgM m hO).N) : sProp 𝕄 :=
  iprop((datsF m hO 0 c).Φ t.succ ∗ (datsF m hO 0 c).owesAt () t.succ
    ∗ owns (c : Thread nD τ) (ms0_0 m hO t) fullShare ((datsF m hO 0 c).after 0 t)
    ∗ owns (c : Thread nD τ) (ms0_1 m hO t) fullShare ((datsF m hO 0 c).after 1 t)
    ∗ owns (c : Thread nD τ) (ms0_2 m hO t) fullShare ((datsF m hO 0 c).after 2 t)
    ∗ owns (c : Thread nD τ) (ms0_3 m hO t) fullShare ((datsF m hO 0 c).after 3 t)
    ∗ owns (c : Thread nD τ) (ms0_4 m hO t) fullShare ((datsF m hO 0 c).after 4 t)
    ∗ owns (c : Thread nD τ) (ms0_5 m hO t) fullShare ((datsF m hO 0 c).after 5 t)
    ∗ owns (c : Thread nD τ) (ms0_6 m hO t) fullShare ((datsF m hO 0 c).after 6 t)
    ∗ owns (c : Thread nD τ) (ms0_7 m hO t) fullShare ((datsF m hO 0 c).after 7 t)
    ∗ owns (c : Thread nD τ) (ms0_8 m hO t) fullShare ((datsF m hO 0 c).after 8 t)
    ∗ owns (c : Thread nD τ) (ms0_9 m hO t) fullShare ((datsF m hO 0 c).after 9 t)
    ∗ owns (c : Thread nD τ) (ms0_10 m hO t) fullShare ((datsF m hO 0 c).after 10 t)
    ∗ (∃ X, owns (c : Thread nD τ) (ms0_11 m hO t) fullShare X)
    ∗ (∃ X, owns (c : Thread nD τ) (ms0_12 m hO t) fullShare X))

set_option maxHeartbeats 4000000 in
/-- The body at any point, by the run of its case. -/
theorem sound_bodyF (hO : Ok m) (c : Dev nD) (t : Fin (cfgM m hO).N) :
    bodyPreF m hO c t ⊢ wp frame (wpE (defs₀ (F := F)) Variants.none c none) Set.univ (bodyAt0 (adm m hO) t) (fun _ => bodyPostF m hO c t) := by
  unfold bodyPreF bodyPostF bodyAt0
  simp only [datsF_before0, datsF_before1, datsF_before2, datsF_before3, datsF_before4, datsF_before5, datsF_before6, datsF_before7, datsF_before8, datsF_before9, datsF_before10]
  rw [show (datsF m hO 0 c).Φ t.succ = (datsF m hO 0 c).Φ t.castSucc from rfl,
    show (datsF m hO 0 c).owesAt () t.succ = (datsF m hO 0 c).owesAt () t.castSucc from rfl,
    datsF_after0, datsF_after1, datsF_after2, datsF_after3, datsF_after4, datsF_after5, datsF_after6, datsF_after7, datsF_after8, datsF_after9, datsF_after10]
  rw [show (datsF m hO 0 c).Φ t.castSucc = iprop(Pipeline.ΦA spec0 c ∗ Pipeline.ΦT pre0 (tbl m) c) from rfl, PhiT0_eq, PhiA0_eq]
  have hN : t.val < 32 := lt_of_lt_of_eq t.isLt (show (cfgM m hO).N = 32 from N_0)
  have run : ∀ K : PUnit → sProp 𝕄, iprop(owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare (iblk m hO c 4 t) ∗ owns (c : Thread nD τ) (ms0_5 m hO t) fullShare (iblk m hO c 5 t) ∗ owns (c : Thread nD τ) (ms0_6 m hO t) fullShare (iblk m hO c 6 t) ∗ owns (c : Thread nD τ) (ms0_7 m hO t) fullShare (iblk m hO c 7 t) ∗ owns (c : Thread nD τ) (ms0_8 m hO t) fullShare (iblk m hO c 8 t) ∗ owns (c : Thread nD τ) (ms0_9 m hO t) fullShare (iblk m hO c 9 t) ∗ owns (c : Thread nD τ) (ms0_10 m hO t) fullShare (iblk m hO c 10 t) ∗ (∃ d, owns (c : Thread nD τ) (ms0_11 m hO t) fullShare d) ∗ (∃ d, owns (c : Thread nD τ) (ms0_12 m hO t) fullShare d) ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ tbPt0 c tbM0_0 (tbl m 0)
      ∗ (iprop(owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare (iblk m hO c 4 t) ∗ owns (c : Thread nD τ) (ms0_5 m hO t) fullShare (iblk m hO c 5 t) ∗ owns (c : Thread nD τ) (ms0_6 m hO t) fullShare (iblk m hO c 6 t) ∗ owns (c : Thread nD τ) (ms0_7 m hO t) fullShare (iblk m hO c 7 t) ∗ owns (c : Thread nD τ) (ms0_8 m hO t) fullShare (iblk m hO c 8 t) ∗ owns (c : Thread nD τ) (ms0_9 m hO t) fullShare (iblk m hO c 9 t) ∗ owns (c : Thread nD τ) (ms0_10 m hO t) fullShare (iblk m hO c 10 t) ∗ (∃ d, owns (c : Thread nD τ) (ms0_11 m hO t) fullShare d) ∗ (∃ d, owns (c : Thread nD τ) (ms0_12 m hO t) fullShare d) ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ tbPt0 c tbM0_0 (tbl m 0)) -∗ K ⟨⟩))
      ⊢ wp frame (wpE (defs₀ (F := F)) Variants.none c none) Set.univ (bodyAt0 (adm m hO) t) K := by
    intro K
    unfold bodyAt0
    by_cases h0 : t.val % 32 = 0
    · exact bodyRun_A c (grid0.coords t) _ _ _ _ _ _ _ _ _ _ _ _ _ _ _ _ _ _ _ _ _ _ _ _ _ _ _ _ _ _ _ _ _ _ _ _ _ _ _ _ ((hcond0_0 t).mpr h0) (fun h => by have := (hcond0_1 t).mp h; omega) _ _ _ _ _ _ _ _ _ _ _ (tbl m 0) _ K
    · by_cases h1 : t.val % 32 = 31
      · exact bodyRun_C c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) _ _ _ _ _ _ _ _ _ _ _ (tbl m 0) _ K
      · exact bodyRun_B c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) _ _ _ _ _ _ _ _ _ _ _ (tbl m 0) _ K
  unfold bodyAt0 at run
  iintro ⟨⟨⟨⟨HS0, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12⟩
  iapply (run _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HT0]; · iexact HT0
  iintro ⟨H0, H1, H2, H3, H4, H5, H6, H7, H8, H9, H10, H11, H12, HS0, HS1, HS2, HS3, HS4, HS5, HS6, HT0⟩
  isplitl [HS0 HS1 HS2 HS3 HS4 HS5 HS6 Hg HT0]
  · isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligationF (hO : Ok m) (c : Dev nD) : BodyObligation (datsF (F := F) m hO 0 c) (defs₀ (F := F)) Variants.none () Set.univ fgt := fun t => by
  rw [bigSep_W0, bigSep_W0, defs₀_row m hO]
  exact triple_restated (sound_bodyF m hO c t) rfl .rfl fun _ => .rfl

set_option backward.isDefEq.respectTransparency.types false in
/-- The launch, its outputs unnamed. -/
theorem run_mainF (hO : Ok m) : θ_run defs (onTc (τ := τ) (main (F := F))) (s₀ m ρ) (fun r => Pipeline.RDat.FramePost (cfgM m hO) (fun c => (datsF m hO 0 c).toRForget fgt) (V m) r ∧ r.2.sem = fun _ => 0) :=
  Pipeline.θ_run_frameP_forget (Q' := _) pcfgs (fun _ => adm m hO) (datsF m hO) (0 : Fin 1) launch0 defs₀ Variants.none fgt m ρ main
    (hbody := fun c => (body_obligationF m hO c).loose) (hshare := fun c => (datsF m hO 0 c).share_full fun _ => rfl)
    (howed := fun _ _ => rfl) (V := V m) (hmain := hmain m Variants.none) (hA := datsF_A m hO) (hpf := V_pre m)
    (hΦ := fun _ _ => rfl)

/-- The frame: the arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  have hO : Ok m := trivial
  (θ_run defs _ _).mono (fun _ ⟨h, hz⟩ => ⟨fun c => ⟨(Pipeline.RDat.FramePost.arr_in h c 2 rfl).trans ((datsF_A m hO c 2).trans (V_main_arg0 m c)),
      (Pipeline.RDat.FramePost.arr_in h c 3 rfl).trans ((datsF_A m hO c 3).trans (V_main_arg1 m c)),
      (Pipeline.RDat.FramePost.arr_in h c 8 rfl).trans ((datsF_A m hO c 8).trans (V_main_arg2 m c)),
      (Pipeline.RDat.FramePost.arr_in h c 9 rfl).trans ((datsF_A m hO c 9).trans (V_main_arg3 m c)),
      (Pipeline.RDat.FramePost.arr_in h c 10 rfl).trans ((datsF_A m hO c 10).trans (V_main_arg4 m c)),
      ((h c).2 main_arg5 (by decide : main_arg5 ∈ Pipeline.restRefs sig spec0)).trans (V_main_arg5 m c),
      (Pipeline.RDat.FramePost.arr_in h c 4 rfl).trans ((datsF_A m hO c 4).trans (V_main_arg6 m c)),
      (Pipeline.RDat.FramePost.arr_in h c 5 rfl).trans ((datsF_A m hO c 5).trans (V_main_arg7 m c)),
      (Pipeline.RDat.FramePost.arr_in h c 6 rfl).trans ((datsF_A m hO c 6).trans (V_main_arg8 m c)),
      (Pipeline.RDat.FramePost.arr_in h c 0 rfl).trans ((datsF_A m hO c 0).trans (V_main_arg9 m c)),
      (Pipeline.RDat.FramePost.arr_in h c 7 rfl).trans ((datsF_A m hO c 7).trans (V_main_arg10 m c)),
      (Pipeline.RDat.FramePost.arr_in h c 1 rfl).trans ((datsF_A m hO c 1).trans (V_main_arg11 m c))⟩, hz⟩) (run_mainF m ρ hO)

end Cert.Kernel.Gen

end
-- ==== Proof.KernelIdeal.Kit.lean ====
/- What the launch of the kernel's pipeline needs beside the body: when each window is fetched and written back, the
   tables and the blocks as the region finds them, the branch conditions over the grid's points, and the memrefs the
   body is handed. -/
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg9)) is fetched at the first point only, at any contents of the tables (its index map reads none). -/
theorem fetch0_0 (a : (pcfg0 (F := F)).Adm) : ∀ t : Fin (cfg0 a).N, ((cfg0 a).win 0).fetch t = true ↔ t.val % 32 = 0 :=
  (fun t => Pipeline.Window.fetchOf_const cc0_transform_0 (fun _ _ => rfl) (n := 32) (by decide) t : ∀ t : Fin grid0.N, Pipeline.Window.fetchOf grid0 false cc0_transform_0 t = true ↔ t.val % 32 = 0)
/-- Window 1 (operand 2 (%arg11)) is fetched at the first point only, at any contents of the tables (its index map reads none). -/
theorem fetch0_1 (a : (pcfg0 (F := F)).Adm) : ∀ t : Fin (cfg0 a).N, ((cfg0 a).win 1).fetch t = true ↔ t.val % 32 = 0 :=
  (fun t => Pipeline.Window.fetchOf_const cc0_transform_1 (fun _ _ => rfl) (n := 32) (by decide) t : ∀ t : Fin grid0.N, Pipeline.Window.fetchOf grid0 false cc0_transform_1 t = true ↔ t.val % 32 = 0)
/-- Window 2 (operand 3 (%arg0)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg1)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 5 (%arg6)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 0 (fun _ => rfl) (by decide)) (P := 1) (by decide) t).mpr (Nat.mod_one _) : ∀ t : Fin grid0.N, Pipeline.Window.fetchOf grid0 false cc0_transform_4 t = true)
/-- Window 5 (operand 6 (%arg7)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 0 (fun _ => rfl) (by decide)) (P := 1) (by decide) t).mpr (Nat.mod_one _) : ∀ t : Fin grid0.N, Pipeline.Window.fetchOf grid0 false cc0_transform_5 t = true)
/-- Window 6 (operand 7 (%arg8)) is fetched at the first point only, at any contents of the tables (its index map reads none). -/
theorem fetch0_6 (a : (pcfg0 (F := F)).Adm) : ∀ t : Fin (cfg0 a).N, ((cfg0 a).win 6).fetch t = true ↔ t.val % 32 = 0 :=
  (fun t => Pipeline.Window.fetchOf_const cc0_transform_6 (fun _ _ => rfl) (n := 32) (by decide) t : ∀ t : Fin grid0.N, Pipeline.Window.fetchOf grid0 false cc0_transform_6 t = true ↔ t.val % 32 = 0)
/-- Window 7 (operand 8 (%arg10)) is fetched at the first point only, at any contents of the tables (its index map reads none). -/
theorem fetch0_7 (a : (pcfg0 (F := F)).Adm) : ∀ t : Fin (cfg0 a).N, ((cfg0 a).win 7).fetch t = true ↔ t.val % 32 = 0 :=
  (fun t => Pipeline.Window.fetchOf_const cc0_transform_7 (fun _ _ => rfl) (n := 32) (by decide) t : ∀ t : Fin grid0.N, Pipeline.Window.fetchOf grid0 false cc0_transform_7 t = true ↔ t.val % 32 = 0)
/-- Window 8 (operand 9 (%arg2)) is fetched at the first point only, at any contents of the tables (its index map reads none). -/
theorem fetch0_8 (a : (pcfg0 (F := F)).Adm) : ∀ t : Fin (cfg0 a).N, ((cfg0 a).win 8).fetch t = true ↔ t.val % 32 = 0 :=
  (fun t => Pipeline.Window.fetchOf_const cc0_transform_8 (fun _ _ => rfl) (n := 32) (by decide) t : ∀ t : Fin grid0.N, Pipeline.Window.fetchOf grid0 false cc0_transform_8 t = true ↔ t.val % 32 = 0)
/-- Window 9 (operand 10 (%arg3)) is fetched at the first point only, at any contents of the tables (its index map reads none). -/
theorem fetch0_9 (a : (pcfg0 (F := F)).Adm) : ∀ t : Fin (cfg0 a).N, ((cfg0 a).win 9).fetch t = true ↔ t.val % 32 = 0 :=
  (fun t => Pipeline.Window.fetchOf_const cc0_transform_9 (fun _ _ => rfl) (n := 32) (by decide) t : ∀ t : Fin grid0.N, Pipeline.Window.fetchOf grid0 false cc0_transform_9 t = true ↔ t.val % 32 = 0)
/-- Window 10 (operand 11 (%arg4)) is fetched at the first point only, at any contents of the tables (its index map reads none). -/
theorem fetch0_10 (a : (pcfg0 (F := F)).Adm) : ∀ t : Fin (cfg0 a).N, ((cfg0 a).win 10).fetch t = true ↔ t.val % 32 = 0 :=
  (fun t => Pipeline.Window.fetchOf_const cc0_transform_10 (fun _ _ => rfl) (n := 32) (by decide) t : ∀ t : Fin grid0.N, Pipeline.Window.fetchOf grid0 false cc0_transform_10 t = true ↔ t.val % 32 = 0)
/-- Window 11 (result 0 (%0#0)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 0 (by decide) (by decide) (Pipeline.Window.sep_of_coord cc0_transform_11 0 0 (fun _ => rfl) (by decide)) (P := 1) (m := 0) (by decide) rfl t).mpr (Nat.mod_one _) : ∀ t : Fin grid0.N, Pipeline.Window.flushOf grid0 true cc0_transform_11 t = true)
/-- Window 12 (result 1 (%0#1)) is written back at the last point only, at any contents of the tables (its index map reads none). -/
theorem flush0_12 (a : (pcfg0 (F := F)).Adm) : ∀ t : Fin (cfg0 a).N, ((cfg0 a).win 12).flush t = true ↔ t.val % 32 = 31 :=
  (fun t => Pipeline.Window.flushOf_const cc0_transform_12 (fun _ _ => rfl) (n := 32) (by decide) rfl t : ∀ t : Fin grid0.N, Pipeline.Window.flushOf grid0 true cc0_transform_12 t = true ↔ t.val % 32 = 31)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_row_max_logits (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S7 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Each input window's staging buffer holds its block at every point, for any proof data that leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 2).trans (((dats 0 c).arrAt_in 2 rfl _).trans ((hA c 2).trans (V_main_arg0 m c))),
      ((h c).1 3).trans (((dats 0 c).arrAt_in 3 rfl _).trans ((hA c 3).trans (V_main_arg1 m c))),
      ((h c).1 8).trans (((dats 0 c).arrAt_in 8 rfl _).trans ((hA c 8).trans (V_main_arg2 m c))),
      ((h c).1 9).trans (((dats 0 c).arrAt_in 9 rfl _).trans ((hA c 9).trans (V_main_arg3 m c))),
      ((h c).1 10).trans (((dats 0 c).arrAt_in 10 rfl _).trans ((hA c 10).trans (V_main_arg4 m c))),
      ((h c).2 main_arg5 (by decide : main_arg5 ∈ Pipeline.restRefs sig spec0)).trans (V_main_arg5 m c),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c))),
      ((h c).1 0).trans (((dats 0 c).arrAt_in 0 rfl _).trans ((hA c 0).trans (V_main_arg9 m c))),
      ((h c).1 7).trans (((dats 0 c).arrAt_in 7 rfl _).trans ((hA c 7).trans (V_main_arg10 m c))),
      ((h c).1 1).trans (((dats 0 c).arrAt_in 1 rfl _).trans ((hA c 1).trans (V_main_arg11 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's closing `scf.if`, from the grid coordinates. -/
abbrev cond0_1 (i : grid0.Coords) : Prop := (Scalar.cmpi .ne (Scalar.extui (Scalar.cmpi .eq (BitVec.ofNat 32 (i 0).val) 31#32)) 0#32) = 1#1
/-- It holds at the last point only. -/
theorem hcond0_1 : ∀ t : Fin grid0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, e0]
    word_cmp
   : ∀ t : Fin grid0.N, cond0_1 (grid0.coords t) ↔ t.val % 32 = 31)

/-! ## The memrefs the body is handed -/

/-- One staging buffer of output window 11, through which its contents are stated (`View.read_writes_of_cover`: the
    choice does not matter). -/
abbrev VO0_11 : View sig .tc .vmem S256x16 .f32 := (Memref.whole cc0_stg11_0 : Memref sig .tc .vmem S256x16 .f32).view
/-- One staging buffer of output window 12, through which its contents are stated (`View.read_writes_of_cover`: the
    choice does not matter). -/
abbrev VO0_12 : View sig .tc .vmem S16x128 .f32 := (Memref.whole cc0_stg12_0 : Memref sig .tc .vmem S16x128 .f32).view
/-- Each window's current staging memref at point `t`, spelled as the pipeline passes it (`bodyAt0`), and its wholeness. -/
abbrev ms0_0 (hO : Ok m) (t : Fin (cfgM m hO).N) : Memref sig .tc .smem S24x12 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .smem S16x4 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S256x1536 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x12 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x32 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x32 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S3072x1536 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S2048x512 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S8192x512 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S8192x4 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S8192x64 .bf16 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S256x16 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S16x128 .f32 := spec0_12.stage ((cfgM m hO).slots t 12)
abbrev hs0_12 (hO : Ok m) (t : Fin (cfgM m hO).N) : (ms0_12 m hO t).IsWhole := hstage0_12 (((cfgM m hO).slots t 12).cast nbuf0_12)
/-- The scratch operands: whole scoped buffers of the kernel's own, passed beside the windows. -/
abbrev scM0_0 : Memref sig .tc .vmem S3072x1536 .bf16 := Memref.whole cc0_scratch0
abbrev scM0_1 : Memref sig .tc .vmem S16x512x128 .bf16 := Memref.whole cc0_scratch1
abbrev scM0_2 : Memref sig .tc .vmem S8192x576 .bf16 := Memref.whole cc0_scratch2
abbrev scM0_3 : Memref sig .tc .vmem S1536x256 .bf16 := Memref.whole cc0_scratch3
abbrev scM0_4 : Memref sig .tc .vmem S2x8x576x256 .bf16 := Memref.whole cc0_scratch4
abbrev scM0_5 : Memref sig .tc .vmem S12x64x128 .f32 := Memref.whole cc0_scratch5
abbrev scM0_6 : Memref sig .tc .vmem S8x8x256 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Gen

end
-- ==== Proof.KernelIdeal.Chk.lean ====
/- The side conditions the body assumes of the segment table's words hold of every table, and the loops over key chunks
   in closed form. -/
module

public import proofs.«01_k».proof.Proof.KernelIdeal.Kit
public import proofs.«01_k».proof.Proof.Words

@[expose] public section

set_option maxRecDepth 16384

noncomputable section

namespace Cert.KernelIdeal.Gen

open Idealize.ShloMosaic Cert.Words

/-- The first token of subtile `s` of grid point `i`. -/
def tok0 (s : ℕ) (i : grid0.Coords) : ℕ := (i 0).val * 256 + 128 * s

/-- The first chunk of keys a subtile reads. -/
def chunk0 (s : ℕ) (i : grid0.Coords) (a0 a1 a2 a3 a4 a5 a6 : BitVec 32) : ℕ :=
  (firstW (BitVec.ofNat 32 (tok0 s i)) a0 a1 a2 a3 a4 a5 a6).toNat / 256

theorem i_lt (i : grid0.Coords) : (i 0).val < 32 := (i 0).isLt

theorem first_le (s : ℕ) (hs : s < 2) (i : grid0.Coords) (a0 a1 a2 a3 a4 a5 a6 : BitVec 32) :
    (firstW (BitVec.ofNat 32 (tok0 s i)) a0 a1 a2 a3 a4 a5 a6).toNat ≤ tok0 s i := by
  have hi := i_lt i
  have e : (BitVec.ofNat 32 (tok0 s i)).toInt = tok0 s i := WordArith.toInt_ofNat_small _ (by unfold tok0; omega)
  have h := firstW_bounds (BitVec.ofNat 32 (tok0 s i)) a0 a1 a2 a3 a4 a5 a6 (by rw [e]; omega)
  rw [e] at h
  have := BitVec.toInt_eq_toNat_cond (firstW (BitVec.ofNat 32 (tok0 s i)) a0 a1 a2 a3 a4 a5 a6)
  have := (firstW (BitVec.ofNat 32 (tok0 s i)) a0 a1 a2 a3 a4 a5 a6).isLt
  omega

theorem chunk0_le (s : ℕ) (hs : s < 2) (i : grid0.Coords) (a0 a1 a2 a3 a4 a5 a6 : BitVec 32) :
    chunk0 s i a0 a1 a2 a3 a4 a5 a6 ≤ (i 0).val := by
  have h := first_le s hs i a0 a1 a2 a3 a4 a5 a6
  unfold chunk0
  unfold tok0 at h ⊢
  omega

theorem lo_eq (s : ℕ) (hs : s < 2) (i : grid0.Coords) (a0 a1 a2 a3 a4 a5 a6 : BitVec 32) :
    fdivW (firstW (BitVec.ofNat 32 (tok0 s i)) a0 a1 a2 a3 a4 a5 a6) = BitVec.ofNat 32 (chunk0 s i a0 a1 a2 a3 a4 a5 a6) := by
  have hi := i_lt i
  have h := first_le s hs i a0 a1 a2 a3 a4 a5 a6
  rw [fdivW_eq _ (by unfold tok0 at h ⊢; omega)]; rfl

theorem t0_eq0 (i : grid0.Coords) : (Scalar.addi (Scalar.muli (BitVec.ofNat 32 (i 0).val) 256#32) 0#32) = BitVec.ofNat 32 (tok0 0 i) := by
  have hi := i_lt i
  apply BitVec.eq_of_toNat_eq
  unfold tok0
  simp only [Scalar.muli, Scalar.addi, IntOp.addi, IntOp.muli, BitVec.toNat_mul, BitVec.toNat_add, BitVec.toNat_ofNat]
  omega

theorem t5_loop_eq (i : grid0.Coords) (a0 a1 a2 a3 a4 a5 a6 : BitVec 32) :
    k0_t5_loop i a0 a0 a1 a1 a2 a2 a3 a3 a4 a4 a5 a5 a6 a6 = ⟨BitVec.ofNat 32 (chunk0 0 i a0 a1 a2 a3 a4 a5 a6), BitVec.ofNat 32 ((i 0).val + 1), 1#32⟩ := by
  have hi := i_lt i
  have e : k0_t5_loop i a0 a0 a1 a1 a2 a2 a3 a3 a4 a4 a5 a5 a6 a6 = ⟨fdivW (firstW (Scalar.addi (Scalar.muli (BitVec.ofNat 32 (i 0).val) 256#32) 0#32) a0 a1 a2 a3 a4 a5 a6), ubW (fdivW (firstW (Scalar.addi (Scalar.muli (BitVec.ofNat 32 (i 0).val) 256#32) 0#32) a0 a1 a2 a3 a4 a5 a6)) (Scalar.addi (Scalar.muli (BitVec.ofNat 32 (i 0).val) 256#32) 0#32), 1#32⟩ := rfl
  rw [e, t0_eq0, lo_eq 0 (by omega), ubW_eq _ _ (by unfold tok0; omega)]
  congr 2
  unfold tok0
  omega

theorem t5_trips (i : grid0.Coords) (a0 a1 a2 a3 a4 a5 a6 : BitVec 32) :
    (k0_t5_loop i a0 a0 a1 a1 a2 a2 a3 a3 a4 a4 a5 a5 a6 a6).trips = (i 0).val + 1 - chunk0 0 i a0 a1 a2 a3 a4 a5 a6 := by
  have hi := i_lt i
  have h := chunk0_le 0 (by omega) i a0 a1 a2 a3 a4 a5 a6
  rw [t5_loop_eq]
  exact trips_eq _ _ (by omega) (by omega)

theorem off68_eq (i : grid0.Coords) (a0 a1 a2 a3 a4 a5 a6 : BitVec 32) (k : Fin (k0_t5_loop i a0 a0 a1 a1 a2 a2 a3 a3 a4 a4 a5 a5 a6 a6).trips) :
    k0_off68 i a0 a0 a1 a1 a2 a2 a3 a3 a4 a4 a5 a5 a6 a6 k = ![256 * (chunk0 0 i a0 a1 a2 a3 a4 a5 a6 + k.val), 0] := by
  have hi := i_lt i
  have h := chunk0_le 0 (by omega) i a0 a1 a2 a3 a4 a5 a6
  have hk := lt_of_lt_of_eq k.isLt (t5_trips i a0 a1 a2 a3 a4 a5 a6)
  have e : k0_off68 i a0 a0 a1 a1 a2 a2 a3 a3 a4 a4 a5 a5 a6 a6 k = ![(Scalar.muli (Scf.iv (fdivW (firstW (Scalar.addi (Scalar.muli (BitVec.ofNat 32 (i 0).val) 256#32) 0#32) a0 a1 a2 a3 a4 a5 a6)) 1#32 k.val) 256#32).toNat, 0] := rfl
  rw [e, t0_eq0, lo_eq 0 (by omega), row_eq _ _ (by omega)]

theorem mult10_dvd (i : grid0.Coords) (a0 a1 a2 a3 a4 a5 a6 : BitVec 32) (k : Fin (k0_t5_loop i a0 a0 a1 a1 a2 a2 a3 a3 a4 a4 a5 a5 a6 a6).trips) :
    256 ∣ (k0_mult10 i a0 a0 a1 a1 a2 a2 a3 a3 a4 a4 a5 a5 a6 a6 k).toNat := by
  have h := off68_eq i a0 a1 a2 a3 a4 a5 a6 k
  have e : (k0_mult10 i a0 a0 a1 a1 a2 a2 a3 a3 a4 a4 a5 a5 a6 a6 k).toNat = k0_off68 i a0 a0 a1 a1 a2 a2 a3 a3 a4 a4 a5 a5 a6 a6 k 0 := rfl
  rw [e, h]
  exact ⟨_, rfl⟩

theorem t6_ok (i : grid0.Coords) (a0 a1 a2 a3 a4 a5 a6 : BitVec 32) : (k0_t6_loop i a0 a0 a1 a1 a2 a2 a3 a3 a4 a4 a5 a5 a6 a6).OK := Scf.rem_ok _ _

/-- The side condition assumed before the loop over key chunks of subtile 0 holds of every table. -/
theorem chk1_all (i : grid0.Coords) (a0 a1 a2 a3 a4 a5 a6 : BitVec 32) : k0_chk1 i a0 a0 a1 a1 a2 a2 a3 a3 a4 a4 a5 a5 a6 a6 := by
  have hi := i_lt i
  have h := chunk0_le 0 (by omega) i a0 a1 a2 a3 a4 a5 a6
  refine ⟨?_, fun k => mult10_dvd i a0 a1 a2 a3 a4 a5 a6 k, fun k a => ?_, t6_ok i a0 a1 a2 a3 a4 a5 a6, fun k => (Scf.rem_no_trip _ _ k).elim, fun k => (Scf.rem_no_trip _ _ k).elim⟩
  · rw [t5_loop_eq]
    exact ok_eq _ _ (by omega) (by omega)
  · have hk := lt_of_lt_of_eq k.isLt (t5_trips i a0 a1 a2 a3 a4 a5 a6)
    rw [off68_eq]
    match a with
    | ⟨0, _⟩ => show 256 * _ + 256 ≤ 8192; omega
    | ⟨1, _⟩ => show 0 + 576 ≤ 576; omega

theorem t0_eq1 (i : grid0.Coords) : (Scalar.addi (Scalar.muli (BitVec.ofNat 32 (i 0).val) 256#32) 128#32) = BitVec.ofNat 32 (tok0 1 i) := by
  have hi := i_lt i
  apply BitVec.eq_of_toNat_eq
  unfold tok0
  simp only [Scalar.muli, Scalar.addi, IntOp.addi, IntOp.muli, BitVec.toNat_mul, BitVec.toNat_add, BitVec.toNat_ofNat]
  omega

theorem t7_loop_eq (i : grid0.Coords) (a0 a1 a2 a3 a4 a5 a6 : BitVec 32) :
    k0_t7_loop i a0 a0 a1 a1 a2 a2 a3 a3 a4 a4 a5 a5 a6 a6 = ⟨BitVec.ofNat 32 (chunk0 1 i a0 a1 a2 a3 a4 a5 a6), BitVec.ofNat 32 ((i 0).val + 1), 1#32⟩ := by
  have hi := i_lt i
  have e : k0_t7_loop i a0 a0 a1 a1 a2 a2 a3 a3 a4 a4 a5 a5 a6 a6 = ⟨fdivW (firstW (Scalar.addi (Scalar.muli (BitVec.ofNat 32 (i 0).val) 256#32) 128#32) a0 a1 a2 a3 a4 a5 a6), ubW (fdivW (firstW (Scalar.addi (Scalar.muli (BitVec.ofNat 32 (i 0).val) 256#32) 128#32) a0 a1 a2 a3 a4 a5 a6)) (Scalar.addi (Scalar.muli (BitVec.ofNat 32 (i 0).val) 256#32) 128#32), 1#32⟩ := rfl
  rw [e, t0_eq1, lo_eq 1 (by omega), ubW_eq _ _ (by unfold tok0; omega)]
  congr 2
  unfold tok0
  omega

theorem t7_trips (i : grid0.Coords) (a0 a1 a2 a3 a4 a5 a6 : BitVec 32) :
    (k0_t7_loop i a0 a0 a1 a1 a2 a2 a3 a3 a4 a4 a5 a5 a6 a6).trips = (i 0).val + 1 - chunk0 1 i a0 a1 a2 a3 a4 a5 a6 := by
  have hi := i_lt i
  have h := chunk0_le 1 (by omega) i a0 a1 a2 a3 a4 a5 a6
  rw [t7_loop_eq]
  exact trips_eq _ _ (by omega) (by omega)

theorem off70_eq (i : grid0.Coords) (a0 a1 a2 a3 a4 a5 a6 : BitVec 32) (k : Fin (k0_t7_loop i a0 a0 a1 a1 a2 a2 a3 a3 a4 a4 a5 a5 a6 a6).trips) :
    k0_off70 i a0 a0 a1 a1 a2 a2 a3 a3 a4 a4 a5 a5 a6 a6 k = ![256 * (chunk0 1 i a0 a1 a2 a3 a4 a5 a6 + k.val), 0] := by
  have hi := i_lt i
  have h := chunk0_le 1 (by omega) i a0 a1 a2 a3 a4 a5 a6
  have hk := lt_of_lt_of_eq k.isLt (t7_trips i a0 a1 a2 a3 a4 a5 a6)
  have e : k0_off70 i a0 a0 a1 a1 a2 a2 a3 a3 a4 a4 a5 a5 a6 a6 k = ![(Scalar.muli (Scf.iv (fdivW (firstW (Scalar.addi (Scalar.muli (BitVec.ofNat 32 (i 0).val) 256#32) 128#32) a0 a1 a2 a3 a4 a5 a6)) 1#32 k.val) 256#32).toNat, 0] := rfl
  rw [e, t0_eq1, lo_eq 1 (by omega), row_eq _ _ (by omega)]

theorem mult12_dvd (i : grid0.Coords) (a0 a1 a2 a3 a4 a5 a6 : BitVec 32) (k : Fin (k0_t7_loop i a0 a0 a1 a1 a2 a2 a3 a3 a4 a4 a5 a5 a6 a6).trips) :
    256 ∣ (k0_mult12 i a0 a0 a1 a1 a2 a2 a3 a3 a4 a4 a5 a5 a6 a6 k).toNat := by
  have h := off70_eq i a0 a1 a2 a3 a4 a5 a6 k
  have e : (k0_mult12 i a0 a0 a1 a1 a2 a2 a3 a3 a4 a4 a5 a5 a6 a6 k).toNat = k0_off70 i a0 a0 a1 a1 a2 a2 a3 a3 a4 a4 a5 a5 a6 a6 k 0 := rfl
  rw [e, h]
  exact ⟨_, rfl⟩

theorem t8_ok (i : grid0.Coords) (a0 a1 a2 a3 a4 a5 a6 : BitVec 32) : (k0_t8_loop i a0 a0 a1 a1 a2 a2 a3 a3 a4 a4 a5 a5 a6 a6).OK := Scf.rem_ok _ _

/-- The side condition assumed before the loop over key chunks of subtile 1 holds of every table. -/
theorem chk2_all (i : grid0.Coords) (a0 a1 a2 a3 a4 a5 a6 : BitVec 32) : k0_chk2 i a0 a0 a1 a1 a2 a2 a3 a3 a4 a4 a5 a5 a6 a6 := by
  have hi := i_lt i
  have h := chunk0_le 1 (by omega) i a0 a1 a2 a3 a4 a5 a6
  refine ⟨?_, fun k => mult12_dvd i a0 a1 a2 a3 a4 a5 a6 k, fun k a => ?_, t8_ok i a0 a1 a2 a3 a4 a5 a6, fun k => (Scf.rem_no_trip _ _ k).elim, fun k => (Scf.rem_no_trip _ _ k).elim⟩
  · rw [t7_loop_eq]
    exact ok_eq _ _ (by omega) (by omega)
  · have hk := lt_of_lt_of_eq k.isLt (t7_trips i a0 a1 a2 a3 a4 a5 a6)
    rw [off70_eq]
    match a with
    | ⟨0, _⟩ => show 256 * _ + 256 ≤ 8192; omega
    | ⟨1, _⟩ => show 0 + 576 ≤ 576; omega

end Cert.KernelIdeal.Gen

end
-- ==== Proof.KernelIdeal.RunFirst.lean ====
/- The body at the first point runs from any contents of its outputs and scratch buffers and leaves its inputs as they were. -/
module

public import proofs.«01_k».proof.Proof.KernelIdeal.Chk
public import proofs.«01_k».proof.Proof.Gen.KernelIdeal.Loops
public import Idealize.ShloMosaic.Lib.LoopRemainder

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at the first point, at any contents of the outputs and the scratch buffers: it runs, and the inputs keep their contents. -/
theorem bodyRun_A (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : cond0_0 i) (hc1 : ¬cond0_1 i)
    (x0 : Vec F S24x12 .f32) (x1 : Vec F S16x4 .f32) (x2 : Vec F S256x1536 .fp8e4m3) (x3 : Vec F S256x12 .f32) (x4 : Vec F S256x32 .f32) (x5 : Vec F S256x32 .f32) (x6 : Vec F S3072x1536 .fp8e4m3) (x7 : Vec F S2048x512 .fp8e4m3) (x8 : Vec F S8192x512 .fp8e4m3) (x9 : Vec F S8192x4 .f32) (x10 : Vec F S8192x64 .bf16) (xt0 : TbBuf0 (F := F) c tbM0_0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0) -∗ K ⟨⟩))
      ⊢ wp frame (wpE (defs₀ (F := F)) Variants.none c none) E (cc0_row_max_logits i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_row_max_logits_eq_skeleton]; unfold cc0_row_max_logits_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, HT0, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact (chk1_all i _ _ _ _ _ _ _) | sl_exact (chk2_all i _ _ _ _ _ _ _))
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  iexact HT0

end Cert.KernelIdeal.Gen

end
-- ==== Proof.KernelIdeal.RunMid.lean ====
/- The body at a point that is neither the first nor the last runs from any contents of its outputs and scratch buffers and leaves its inputs as they were. -/
module

public import proofs.«01_k».proof.Proof.KernelIdeal.Chk
public import proofs.«01_k».proof.Proof.Gen.KernelIdeal.Loops
public import Idealize.ShloMosaic.Lib.LoopRemainder

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at a point that is neither the first nor the last, at any contents of the outputs and the scratch buffers: it runs, and the inputs keep their contents. -/
theorem bodyRun_B (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : ¬cond0_0 i) (hc1 : ¬cond0_1 i)
    (x0 : Vec F S24x12 .f32) (x1 : Vec F S16x4 .f32) (x2 : Vec F S256x1536 .fp8e4m3) (x3 : Vec F S256x12 .f32) (x4 : Vec F S256x32 .f32) (x5 : Vec F S256x32 .f32) (x6 : Vec F S3072x1536 .fp8e4m3) (x7 : Vec F S2048x512 .fp8e4m3) (x8 : Vec F S8192x512 .fp8e4m3) (x9 : Vec F S8192x4 .f32) (x10 : Vec F S8192x64 .bf16) (xt0 : TbBuf0 (F := F) c tbM0_0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0) -∗ K ⟨⟩))
      ⊢ wp frame (wpE (defs₀ (F := F)) Variants.none c none) E (cc0_row_max_logits i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_row_max_logits_eq_skeleton]; unfold cc0_row_max_logits_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, HT0, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact (chk1_all i _ _ _ _ _ _ _) | sl_exact (chk2_all i _ _ _ _ _ _ _))
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  iexact HT0

end Cert.KernelIdeal.Gen

end
-- ==== Proof.KernelIdeal.RunLast.lean ====
/- The body at the last point runs from any contents of its outputs and scratch buffers and leaves its inputs as they were. -/
module

public import proofs.«01_k».proof.Proof.KernelIdeal.Chk
public import proofs.«01_k».proof.Proof.Gen.KernelIdeal.Loops
public import Idealize.ShloMosaic.Lib.LoopRemainder

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at the last point, at any contents of the outputs and the scratch buffers: it runs, and the inputs keep their contents. -/
theorem bodyRun_C (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : ¬cond0_0 i) (hc1 : cond0_1 i)
    (x0 : Vec F S24x12 .f32) (x1 : Vec F S16x4 .f32) (x2 : Vec F S256x1536 .fp8e4m3) (x3 : Vec F S256x12 .f32) (x4 : Vec F S256x32 .f32) (x5 : Vec F S256x32 .f32) (x6 : Vec F S3072x1536 .fp8e4m3) (x7 : Vec F S2048x512 .fp8e4m3) (x8 : Vec F S8192x512 .fp8e4m3) (x9 : Vec F S8192x4 .f32) (x10 : Vec F S8192x64 .bf16) (xt0 : TbBuf0 (F := F) c tbM0_0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ tbPt0 c tbM0_0 xt0) -∗ K ⟨⟩))
      ⊢ wp frame (wpE (defs₀ (F := F)) Variants.none c none) E (cc0_row_max_logits i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_row_max_logits_eq_skeleton]; unfold cc0_row_max_logits_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, HT0, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact (chk1_all i _ _ _ _ _ _ _) | sl_exact (chk2_all i _ _ _ _ _ _ _))
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  iexact HT0

end Cert.KernelIdeal.Gen

end
-- ==== Proof.KernelIdeal.Frame.lean ====
/- The kernel runs from every memory, leaves its arguments as they were and every semaphore counter at zero: the frame claim, what its outputs hold left unsaid. -/
module

public import proofs.«01_k».proof.Proof.KernelIdeal.RunFirst
public import proofs.«01_k».proof.Proof.KernelIdeal.RunMid
public import proofs.«01_k».proof.Proof.KernelIdeal.RunLast

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs are the windows whose contents the frame does not name. -/
def fgt : Fin (13 : ℕ) → Bool := fun w => decide (11 ≤ w.val)

/-- The proof data: inputs at their blocks, outputs unnamed, the scratch buffers at some contents. -/
def datsF (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => Dat.unnamed 11 t
    | ⟨12, _⟩ => Dat.unnamed 12 t
  Φ _ := iprop(Pipeline.ΦA spec0 c ∗ Pipeline.ΦT pre0 (tbl m) c)
  q _ := fullShare
  owed _ := 0

theorem datsF_A (hO : Ok m) (c : Dev nD) (w : Fin (cfgM m hO).W) : (datsF m hO 0 c).A w = V m c (Pipeline.arrRef spec0 w) := by
  dsimp only [datsF]
theorem datsF_after0 (hO : Ok m) (c : Dev nD) (t : Fin (cfgM m hO).N) : (datsF m hO 0 c).after 0 t = iblk m hO c 0 t := by dsimp only [datsF]; try rfl
theorem datsF_after1 (hO : Ok m) (c : Dev nD) (t : Fin (cfgM m hO).N) : (datsF m hO 0 c).after 1 t = iblk m hO c 1 t := by dsimp only [datsF]; try rfl
theorem datsF_after2 (hO : Ok m) (c : Dev nD) (t : Fin (cfgM m hO).N) : (datsF m hO 0 c).after 2 t = iblk m hO c 2 t := by dsimp only [datsF]; try rfl
theorem datsF_after3 (hO : Ok m) (c : Dev nD) (t : Fin (cfgM m hO).N) : (datsF m hO 0 c).after 3 t = iblk m hO c 3 t := by dsimp only [datsF]; try rfl
theorem datsF_after4 (hO : Ok m) (c : Dev nD) (t : Fin (cfgM m hO).N) : (datsF m hO 0 c).after 4 t = iblk m hO c 4 t := by dsimp only [datsF]; try rfl
theorem datsF_after5 (hO : Ok m) (c : Dev nD) (t : Fin (cfgM m hO).N) : (datsF m hO 0 c).after 5 t = iblk m hO c 5 t := by dsimp only [datsF]; try rfl
theorem datsF_after6 (hO : Ok m) (c : Dev nD) (t : Fin (cfgM m hO).N) : (datsF m hO 0 c).after 6 t = iblk m hO c 6 t := by dsimp only [datsF]; try rfl
theorem datsF_after7 (hO : Ok m) (c : Dev nD) (t : Fin (cfgM m hO).N) : (datsF m hO 0 c).after 7 t = iblk m hO c 7 t := by dsimp only [datsF]; try rfl
theorem datsF_after8 (hO : Ok m) (c : Dev nD) (t : Fin (cfgM m hO).N) : (datsF m hO 0 c).after 8 t = iblk m hO c 8 t := by dsimp only [datsF]; try rfl
theorem datsF_after9 (hO : Ok m) (c : Dev nD) (t : Fin (cfgM m hO).N) : (datsF m hO 0 c).after 9 t = iblk m hO c 9 t := by dsimp only [datsF]; try rfl
theorem datsF_after10 (hO : Ok m) (c : Dev nD) (t : Fin (cfgM m hO).N) : (datsF m hO 0 c).after 10 t = iblk m hO c 10 t := by dsimp only [datsF]; try rfl
theorem datsF_before0 (hO : Ok m) (c : Dev nD) (t : Fin (cfgM m hO).N) (d) : (datsF m hO 0 c).before 0 t d = iblk m hO c 0 t :=
  before0_0_of m hO (datsF m hO 0 c) (datsF_A m hO c 0) (datsF_after0 m hO c) t d
theorem datsF_before1 (hO : Ok m) (c : Dev nD) (t : Fin (cfgM m hO).N) (d) : (datsF m hO 0 c).before 1 t d = iblk m hO c 1 t :=
  before0_1_of m hO (datsF m hO 0 c) (datsF_A m hO c 1) (datsF_after1 m hO c) t d
theorem datsF_before2 (hO : Ok m) (c : Dev nD) (t : Fin (cfgM m hO).N) (d) : (datsF m hO 0 c).before 2 t d = iblk m hO c 2 t :=
  before0_2_of m hO (datsF m hO 0 c) (datsF_A m hO c 2) (datsF_after2 m hO c) t d
theorem datsF_before3 (hO : Ok m) (c : Dev nD) (t : Fin (cfgM m hO).N) (d) : (datsF m hO 0 c).before 3 t d = iblk m hO c 3 t :=
  before0_3_of m hO (datsF m hO 0 c) (datsF_A m hO c 3) (datsF_after3 m hO c) t d
theorem datsF_before4 (hO : Ok m) (c : Dev nD) (t : Fin (cfgM m hO).N) (d) : (datsF m hO 0 c).before 4 t d = iblk m hO c 4 t :=
  before0_4_of m hO (datsF m hO 0 c) (datsF_A m hO c 4) (datsF_after4 m hO c) t d
theorem datsF_before5 (hO : Ok m) (c : Dev nD) (t : Fin (cfgM m hO).N) (d) : (datsF m hO 0 c).before 5 t d = iblk m hO c 5 t :=
  before0_5_of m hO (datsF m hO 0 c) (datsF_A m hO c 5) (datsF_after5 m hO c) t d
theorem datsF_before6 (hO : Ok m) (c : Dev nD) (t : Fin (cfgM m hO).N) (d) : (datsF m hO 0 c).before 6 t d = iblk m hO c 6 t :=
  before0_6_of m hO (datsF m hO 0 c) (datsF_A m hO c 6) (datsF_after6 m hO c) t d
theorem datsF_before7 (hO : Ok m) (c : Dev nD) (t : Fin (cfgM m hO).N) (d) : (datsF m hO 0 c).before 7 t d = iblk m hO c 7 t :=
  before0_7_of m hO (datsF m hO 0 c) (datsF_A m hO c 7) (datsF_after7 m hO c) t d
theorem datsF_before8 (hO : Ok m) (c : Dev nD) (t : Fin (cfgM m hO).N) (d) : (datsF m hO 0 c).before 8 t d = iblk m hO c 8 t :=
  before0_8_of m hO (datsF m hO 0 c) (datsF_A m hO c 8) (datsF_after8 m hO c) t d
theorem datsF_before9 (hO : Ok m) (c : Dev nD) (t : Fin (cfgM m hO).N) (d) : (datsF m hO 0 c).before 9 t d = iblk m hO c 9 t :=
  before0_9_of m hO (datsF m hO 0 c) (datsF_A m hO c 9) (datsF_after9 m hO c) t d
theorem datsF_before10 (hO : Ok m) (c : Dev nD) (t : Fin (cfgM m hO).N) (d) : (datsF m hO 0 c).before 10 t d = iblk m hO c 10 t :=
  before0_10_of m hO (datsF m hO 0 c) (datsF_A m hO c 10) (datsF_after10 m hO c) t d

/-- What the body is called with at a point, -/
def bodyPreF (hO : Ok m) (c : Dev nD) (t : Fin (cfgM m hO).N) : sProp 𝕄 :=
  iprop((datsF m hO 0 c).Φ t.castSucc ∗ (datsF m hO 0 c).owesAt () t.castSucc
    ∗ (∃ d, owns (c : Thread nD τ) (ms0_0 m hO t) fullShare ((datsF m hO 0 c).before 0 t d))
    ∗ (∃ d, owns (c : Thread nD τ) (ms0_1 m hO t) fullShare ((datsF m hO 0 c).before 1 t d))
    ∗ (∃ d, owns (c : Thread nD τ) (ms0_2 m hO t) fullShare ((datsF m hO 0 c).before 2 t d))
    ∗ (∃ d, owns (c : Thread nD τ) (ms0_3 m hO t) fullShare ((datsF m hO 0 c).before 3 t d))
    ∗ (∃ d, owns (c : Thread nD τ) (ms0_4 m hO t) fullShare ((datsF m hO 0 c).before 4 t d))
    ∗ (∃ d, owns (c : Thread nD τ) (ms0_5 m hO t) fullShare ((datsF m hO 0 c).before 5 t d))
    ∗ (∃ d, owns (c : Thread nD τ) (ms0_6 m hO t) fullShare ((datsF m hO 0 c).before 6 t d))
    ∗ (∃ d, owns (c : Thread nD τ) (ms0_7 m hO t) fullShare ((datsF m hO 0 c).before 7 t d))
    ∗ (∃ d, owns (c : Thread nD τ) (ms0_8 m hO t) fullShare ((datsF m hO 0 c).before 8 t d))
    ∗ (∃ d, owns (c : Thread nD τ) (ms0_9 m hO t) fullShare ((datsF m hO 0 c).before 9 t d))
    ∗ (∃ d, owns (c : Thread nD τ) (ms0_10 m hO t) fullShare ((datsF m hO 0 c).before 10 t d))
    ∗ (∃ X, owns (c : Thread nD τ) (ms0_11 m hO t) fullShare X)
    ∗ (∃ X, owns (c : Thread nD τ) (ms0_12 m hO t) fullShare X))

/-- and what it returns. -/
def bodyPostF (hO : Ok m) (c : Dev nD) (t : Fin (cfgM m hO).N) : sProp 𝕄 :=
  iprop((datsF m hO 0 c).Φ t.succ ∗ (datsF m hO 0 c).owesAt () t.succ
    ∗ owns (c : Thread nD τ) (ms0_0 m hO t) fullShare ((datsF m hO 0 c).after 0 t)
    ∗ owns (c : Thread nD τ) (ms0_1 m hO t) fullShare ((datsF m hO 0 c).after 1 t)
    ∗ owns (c : Thread nD τ) (ms0_2 m hO t) fullShare ((datsF m hO 0 c).after 2 t)
    ∗ owns (c : Thread nD τ) (ms0_3 m hO t) fullShare ((datsF m hO 0 c).after 3 t)
    ∗ owns (c : Thread nD τ) (ms0_4 m hO t) fullShare ((datsF m hO 0 c).after 4 t)
    ∗ owns (c : Thread nD τ) (ms0_5 m hO t) fullShare ((datsF m hO 0 c).after 5 t)
    ∗ owns (c : Thread nD τ) (ms0_6 m hO t) fullShare ((datsF m hO 0 c).after 6 t)
    ∗ owns (c : Thread nD τ) (ms0_7 m hO t) fullShare ((datsF m hO 0 c).after 7 t)
    ∗ owns (c : Thread nD τ) (ms0_8 m hO t) fullShare ((datsF m hO 0 c).after 8 t)
    ∗ owns (c : Thread nD τ) (ms0_9 m hO t) fullShare ((datsF m hO 0 c).after 9 t)
    ∗ owns (c : Thread nD τ) (ms0_10 m hO t) fullShare ((datsF m hO 0 c).after 10 t)
    ∗ (∃ X, owns (c : Thread nD τ) (ms0_11 m hO t) fullShare X)
    ∗ (∃ X, owns (c : Thread nD τ) (ms0_12 m hO t) fullShare X))

set_option maxHeartbeats 4000000 in
/-- The body at any point, by the run of its case. -/
theorem sound_bodyF (hO : Ok m) (c : Dev nD) (t : Fin (cfgM m hO).N) :
    bodyPreF m hO c t ⊢ wp frame (wpE (defs₀ (F := F)) Variants.none c none) Set.univ (bodyAt0 (adm m hO) t) (fun _ => bodyPostF m hO c t) := by
  unfold bodyPreF bodyPostF bodyAt0
  simp only [datsF_before0, datsF_before1, datsF_before2, datsF_before3, datsF_before4, datsF_before5, datsF_before6, datsF_before7, datsF_before8, datsF_before9, datsF_before10]
  rw [show (datsF m hO 0 c).Φ t.succ = (datsF m hO 0 c).Φ t.castSucc from rfl,
    show (datsF m hO 0 c).owesAt () t.succ = (datsF m hO 0 c).owesAt () t.castSucc from rfl,
    datsF_after0, datsF_after1, datsF_after2, datsF_after3, datsF_after4, datsF_after5, datsF_after6, datsF_after7, datsF_after8, datsF_after9, datsF_after10]
  rw [show (datsF m hO 0 c).Φ t.castSucc = iprop(Pipeline.ΦA spec0 c ∗ Pipeline.ΦT pre0 (tbl m) c) from rfl, PhiT0_eq, PhiA0_eq]
  have hN : t.val < 32 := lt_of_lt_of_eq t.isLt (show (cfgM m hO).N = 32 from N_0)
  have run : ∀ K : PUnit → sProp 𝕄, iprop(owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare (iblk m hO c 4 t) ∗ owns (c : Thread nD τ) (ms0_5 m hO t) fullShare (iblk m hO c 5 t) ∗ owns (c : Thread nD τ) (ms0_6 m hO t) fullShare (iblk m hO c 6 t) ∗ owns (c : Thread nD τ) (ms0_7 m hO t) fullShare (iblk m hO c 7 t) ∗ owns (c : Thread nD τ) (ms0_8 m hO t) fullShare (iblk m hO c 8 t) ∗ owns (c : Thread nD τ) (ms0_9 m hO t) fullShare (iblk m hO c 9 t) ∗ owns (c : Thread nD τ) (ms0_10 m hO t) fullShare (iblk m hO c 10 t) ∗ (∃ d, owns (c : Thread nD τ) (ms0_11 m hO t) fullShare d) ∗ (∃ d, owns (c : Thread nD τ) (ms0_12 m hO t) fullShare d) ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ tbPt0 c tbM0_0 (tbl m 0)
      ∗ (iprop(owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare (iblk m hO c 4 t) ∗ owns (c : Thread nD τ) (ms0_5 m hO t) fullShare (iblk m hO c 5 t) ∗ owns (c : Thread nD τ) (ms0_6 m hO t) fullShare (iblk m hO c 6 t) ∗ owns (c : Thread nD τ) (ms0_7 m hO t) fullShare (iblk m hO c 7 t) ∗ owns (c : Thread nD τ) (ms0_8 m hO t) fullShare (iblk m hO c 8 t) ∗ owns (c : Thread nD τ) (ms0_9 m hO t) fullShare (iblk m hO c 9 t) ∗ owns (c : Thread nD τ) (ms0_10 m hO t) fullShare (iblk m hO c 10 t) ∗ (∃ d, owns (c : Thread nD τ) (ms0_11 m hO t) fullShare d) ∗ (∃ d, owns (c : Thread nD τ) (ms0_12 m hO t) fullShare d) ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ tbPt0 c tbM0_0 (tbl m 0)) -∗ K ⟨⟩))
      ⊢ wp frame (wpE (defs₀ (F := F)) Variants.none c none) Set.univ (bodyAt0 (adm m hO) t) K := by
    intro K
    unfold bodyAt0
    by_cases h0 : t.val % 32 = 0
    · exact bodyRun_A c (grid0.coords t) _ _ _ _ _ _ _ _ _ _ _ _ _ _ _ _ _ _ _ _ _ _ _ _ _ _ _ _ _ _ _ _ _ _ _ _ _ _ _ _ ((hcond0_0 t).mpr h0) (fun h => by have := (hcond0_1 t).mp h; omega) _ _ _ _ _ _ _ _ _ _ _ (tbl m 0) _ K
    · by_cases h1 : t.val % 32 = 31
      · exact bodyRun_C c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) _ _ _ _ _ _ _ _ _ _ _ (tbl m 0) _ K
      · exact bodyRun_B c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) _ _ _ _ _ _ _ _ _ _ _ (tbl m 0) _ K
  unfold bodyAt0 at run
  iintro ⟨⟨⟨⟨HS0, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12⟩
  iapply (run _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HT0]; · iexact HT0
  iintro ⟨H0, H1, H2, H3, H4, H5, H6, H7, H8, H9, H10, H11, H12, HS0, HS1, HS2, HS3, HS4, HS5, HS6, HT0⟩
  isplitl [HS0 HS1 HS2 HS3 HS4 HS5 HS6 Hg HT0]
  · isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligationF (hO : Ok m) (c : Dev nD) : BodyObligation (datsF (F := F) m hO 0 c) (defs₀ (F := F)) Variants.none () Set.univ fgt := fun t => by
  rw [bigSep_W0, bigSep_W0, defs₀_row m hO]
  exact triple_restated (sound_bodyF m hO c t) rfl .rfl fun _ => .rfl

set_option backward.isDefEq.respectTransparency.types false in
/-- The launch, its outputs unnamed. -/
theorem run_mainF (hO : Ok m) : θ_run defs (onTc (τ := τ) (main (F := F))) (s₀ m ρ) (fun r => Pipeline.RDat.FramePost (cfgM m hO) (fun c => (datsF m hO 0 c).toRForget fgt) (V m) r ∧ r.2.sem = fun _ => 0) :=
  Pipeline.θ_run_frameP_forget (Q' := _) pcfgs (fun _ => adm m hO) (datsF m hO) (0 : Fin 1) launch0 defs₀ Variants.none fgt m ρ main
    (hbody := fun c => (body_obligationF m hO c).loose) (hshare := fun c => (datsF m hO 0 c).share_full fun _ => rfl)
    (howed := fun _ _ => rfl) (V := V m) (hmain := hmain m Variants.none) (hA := datsF_A m hO) (hpf := V_pre m)
    (hΦ := fun _ _ => rfl)

/-- The frame: the arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  have hO : Ok m := trivial
  (θ_run defs _ _).mono (fun _ ⟨h, hz⟩ => ⟨fun c => ⟨(Pipeline.RDat.FramePost.arr_in h c 2 rfl).trans ((datsF_A m hO c 2).trans (V_main_arg0 m c)),
      (Pipeline.RDat.FramePost.arr_in h c 3 rfl).trans ((datsF_A m hO c 3).trans (V_main_arg1 m c)),
      (Pipeline.RDat.FramePost.arr_in h c 8 rfl).trans ((datsF_A m hO c 8).trans (V_main_arg2 m c)),
      (Pipeline.RDat.FramePost.arr_in h c 9 rfl).trans ((datsF_A m hO c 9).trans (V_main_arg3 m c)),
      (Pipeline.RDat.FramePost.arr_in h c 10 rfl).trans ((datsF_A m hO c 10).trans (V_main_arg4 m c)),
      ((h c).2 main_arg5 (by decide : main_arg5 ∈ Pipeline.restRefs sig spec0)).trans (V_main_arg5 m c),
      (Pipeline.RDat.FramePost.arr_in h c 4 rfl).trans ((datsF_A m hO c 4).trans (V_main_arg6 m c)),
      (Pipeline.RDat.FramePost.arr_in h c 5 rfl).trans ((datsF_A m hO c 5).trans (V_main_arg7 m c)),
      (Pipeline.RDat.FramePost.arr_in h c 6 rfl).trans ((datsF_A m hO c 6).trans (V_main_arg8 m c)),
      (Pipeline.RDat.FramePost.arr_in h c 0 rfl).trans ((datsF_A m hO c 0).trans (V_main_arg9 m c)),
      (Pipeline.RDat.FramePost.arr_in h c 7 rfl).trans ((datsF_A m hO c 7).trans (V_main_arg10 m c)),
      (Pipeline.RDat.FramePost.arr_in h c 1 rfl).trans ((datsF_A m hO c 1).trans (V_main_arg11 m c))⟩, hz⟩) (run_mainF m ρ hO)

end Cert.KernelIdeal.Gen

end
-- ==== Proof.KernelIdeal.Spec.lean ====
/- What the scratch buffers of the ideal program hold, as functions of the arrays they are computed from. -/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The row of the projection's weights that row `r` of the permuted ones holds: within each group of 64 rotary rows the even ones first. -/
def srcRow (r : Fin 3072) : Fin 3072 :=
  if r.val % 192 < 128 then r else ⟨r.val / 64 * 64 + 2 * (r.val % 32) + r.val % 64 / 32, by omega⟩

/-- The dequantised weights of the query projection, their rotary rows permuted. -/
def WQs (x8 : FVec Ideal S3072x1536 .fp8e4m3) (x2 : FVec Ideal S24x12 .f32) : FVec Ideal S3072x1536 .bf16 := fun y =>
  x8 (ix2 (srcRow (y 0)) (y 1)) * x2 (ix2 ⟨(y 0).val / 128, by have := (y 0).isLt; change (y 0).val < 3072 at this; omega⟩ ⟨(y 1).val / 128, by have := (y 1).isLt; change (y 1).val < 1536 at this; omega⟩)

/-- The dequantised weights of the key projection, each head's block transposed. -/
def WKs (x9 : FVec Ideal S2048x512 .fp8e4m3) (x3 : FVec Ideal S16x4 .f32) : FVec Ideal S16x512x128 .bf16 := fun y =>
  x9 (ix2 ⟨(y 0).val * 128 + (y 2).val, by have := (y 0).isLt; have h2 := (y 2).isLt; change (y 0).val < 16 at this; change (y 2).val < 128 at h2; omega⟩ (y 1)) * x3 (ix2 (y 0) ⟨(y 1).val / 128, by have := (y 1).isLt; change (y 1).val < 512 at this; omega⟩)

/-- The keys: the dequantised latent columns, then the rotary ones with the even ones first. -/
def KSs (x10 : FVec Ideal S8192x512 .fp8e4m3) (x11 : FVec Ideal S8192x4 .f32) (x12 : FVec Ideal S8192x64 .bf16) : FVec Ideal S8192x576 .bf16 := fun y =>
  if h : (y 1).val < 512 then x10 (ix2 (y 0) ⟨(y 1).val, h⟩) * x11 (ix2 (y 0) ⟨(y 1).val / 128, by omega⟩)
  else x12 (ix2 (y 0) ⟨2 * ((y 1).val % 32) + ((y 1).val - 512) / 32, by have := (y 1).isLt; change (y 1).val < 576 at this; omega⟩)

/-- A block's dequantised latent queries, transposed. -/
def CQs (x4 : FVec Ideal S256x1536 .fp8e4m3) (x5 : FVec Ideal S256x12 .f32) : FVec Ideal S1536x256 .bf16 := fun y =>
  x4 (ix2 (y 1) (y 0)) * x5 (ix2 (y 1) ⟨(y 0).val / 128, by have := (y 0).isLt; change (y 0).val < 1536 at this; omega⟩)

/-- Row `r` of the product of the permuted weights with the transposed queries, at a block's token `t`. -/
def Q15 (x15 : FVec Ideal S3072x1536 .bf16) (x18 : FVec Ideal S1536x256 .bf16) (r : Fin 3072) (t : Fin 256) : EReal :=
  ∑ c : Fin 1536, x15 (ix2 r c) * x18 (ix2 c t)

/-- The projected queries of a block: the latent columns, then the rotated even and odd ones. -/
def QTs (x15 : FVec Ideal S3072x1536 .bf16) (x16 : FVec Ideal S16x512x128 .bf16) (x18 : FVec Ideal S1536x256 .bf16)
    (v82 v84 : FVec Ideal S256x32 .f32) (s : Fin 2) (p : Fin 8) (r : Fin 576) (l : Fin 256) : EReal :=
  if h : r.val < 512 then
    ∑ d : Fin 128, x16 (ix3 ⟨2 * p.val + l.val / 128, by omega⟩ ⟨r.val, h⟩ d)
      * Q15 x15 x18 ⟨384 * p.val + 192 * (l.val / 128) + d.val, by omega⟩ ⟨128 * s.val + l.val % 128, by omega⟩
  else if h2 : r.val < 544 then
    Q15 x15 x18 ⟨384 * p.val + 192 * (l.val / 128) + 128 + (r.val - 512), by omega⟩ ⟨128 * s.val + l.val % 128, by omega⟩
        * v82 (ix2 ⟨128 * s.val + l.val % 128, by omega⟩ ⟨r.val - 512, by omega⟩)
      - Q15 x15 x18 ⟨384 * p.val + 192 * (l.val / 128) + 160 + (r.val - 512), by omega⟩ ⟨128 * s.val + l.val % 128, by omega⟩
        * v84 (ix2 ⟨128 * s.val + l.val % 128, by omega⟩ ⟨r.val - 512, by omega⟩)
  else
    Q15 x15 x18 ⟨384 * p.val + 192 * (l.val / 128) + 128 + (r.val - 544), by omega⟩ ⟨128 * s.val + l.val % 128, by omega⟩
        * v84 (ix2 ⟨128 * s.val + l.val % 128, by omega⟩ ⟨r.val - 544, by omega⟩)
      + Q15 x15 x18 ⟨384 * p.val + 192 * (l.val / 128) + 160 + (r.val - 544), by omega⟩ ⟨128 * s.val + l.val % 128, by omega⟩
        * v82 (ix2 ⟨128 * s.val + l.val % 128, by omega⟩ ⟨r.val - 544, by omega⟩)

/-- The projected queries as one array. -/
def QTa (x15 : FVec Ideal S3072x1536 .bf16) (x16 : FVec Ideal S16x512x128 .bf16) (x18 : FVec Ideal S1536x256 .bf16)
    (v82 v84 : FVec Ideal S256x32 .f32) : FVec Ideal S2x8x576x256 .bf16 := fun y => QTs x15 x16 x18 v82 v84 (y 0) (y 1) (y 2) (y 3)

/-- The score of a key (a row of the scratch keys) against a lane's query in a pair of heads; keys are counted modulo their number. -/
def scoreN (x17 : FVec Ideal S8192x576 .bf16) (x19 : FVec Ideal S2x8x576x256 .bf16) (s : Fin 2) (p : Fin 8) (key : ℕ) (l : Fin 256) : EReal :=
  ∑ d : Fin 576, x17 (ix2 ⟨key % 8192, Nat.mod_lt _ (by decide)⟩ d) * x19 (ix4 s p d l)

/-- The running maxima after one more chunk of keys, each score cut off by its bound. -/
def accStep (x17 : FVec Ideal S8192x576 .bf16) (x19 : FVec Ideal S2x8x576x256 .bf16) (B : ℕ → Fin 128 → EReal) (s : Fin 2) (q : ℕ)
    (A : FVec Ideal S8x8x256 .f32) : FVec Ideal S8x8x256 .f32 := fun y =>
  max (A y) (Finset.univ.fold max ⊥ fun j : Fin 32 =>
    min (scoreN x17 x19 s (y 0) (256 * q + 8 * j.val + (y 1).val) (y 2)) (B (256 * q + 8 * j.val + (y 1).val) ⟨(y 2).val % 128, Nat.mod_lt _ (by decide)⟩))

/-- The running maxima after `n` chunks from chunk `q`. -/
def accN (x17 : FVec Ideal S8192x576 .bf16) (x19 : FVec Ideal S2x8x576x256 .bf16) (B : ℕ → Fin 128 → EReal) (s : Fin 2) (q : ℕ)
    (A : FVec Ideal S8x8x256 .f32) : ℕ → FVec Ideal S8x8x256 .f32
  | 0 => A
  | n + 1 => accStep x17 x19 B s (q + n) (accN x17 x19 B s q A n)

theorem ninf_eq : (Ideal.ofBits .f32 0xFF800000#32 : EReal) = ⊥ := by
  simp [Ideal.ofBits, Ideal.ieee]

theorem pinf_eq : (Ideal.ofBits .f32 0x7F800000#32 : EReal) = ⊤ := by
  simp [Ideal.ofBits, Ideal.ieee]

/-- The score scale is a positive real. -/
theorem qk_pos : ∃ r : ℝ, 0 < r ∧ (Ideal.ofBits .f32 0x3D93CD3A#32 : EReal) = (r : EReal) := by
  simp [Ideal.ofBits, Ideal.ieee, -EReal.coe_mul]

theorem bnd_congr (B : ℕ → Fin 128 → EReal) {a b : ℕ} {x y : Fin 128} (h : a = b) (h' : x.val = y.val) : B a x = B b y := by
  rw [h, Fin.ext h']

theorem first_S1x1 (h : 0 < (S1x1 : Shape).numel) : (Shape.Idx.first h : S1x1.Idx) = ix2 0 0 := by
  funext a; apply Fin.ext
  match a with
  | ⟨0, _⟩ => exact Nat.lt_one_iff.mp ((Shape.Idx.first h : S1x1.Idx) 0).isLt
  | ⟨1, _⟩ => exact Nat.lt_one_iff.mp ((Shape.Idx.first h : S1x1.Idx) 1).isLt

/-- A member of a rectangle of a matrix, its offsets given in closed form. -/
theorem mem_unit2 {n0 n1 : ℕ} {off size : Fin 2 → ℕ} (y : Shape.Idx ⟨2, ![n0, n1]⟩) {o0 o1 s0 s1 : ℕ}
    (ho : off = ![o0, o1]) (hs : size = ![s0, s1])
    (h0 : o0 ≤ (y 0).val ∧ (y 0).val < o0 + s0) (h1 : o1 ≤ (y 1).val ∧ (y 1).val < o1 + s1) :
    ∀ a, off a ≤ (y a).val ∧ (y a).val < off a + size a := by
  subst ho hs; intro a; match a with
  | ⟨0, _⟩ => exact h0
  | ⟨1, _⟩ => exact h1

/-- A member of a rectangle of an array of rank three, its offsets given in closed form. -/
theorem mem_unit3 {n0 n1 n2 : ℕ} {off size : Fin 3 → ℕ} (y : Shape.Idx ⟨3, ![n0, n1, n2]⟩) {o0 o1 o2 s0 s1 s2 : ℕ}
    (ho : off = ![o0, o1, o2]) (hs : size = ![s0, s1, s2])
    (h0 : o0 ≤ (y 0).val ∧ (y 0).val < o0 + s0) (h1 : o1 ≤ (y 1).val ∧ (y 1).val < o1 + s1)
    (h2 : o2 ≤ (y 2).val ∧ (y 2).val < o2 + s2) :
    ∀ a, off a ≤ (y a).val ∧ (y a).val < off a + size a := by
  subst ho hs; intro a; match a with
  | ⟨0, _⟩ => exact h0
  | ⟨1, _⟩ => exact h1
  | ⟨2, _⟩ => exact h2

/-- A member of a rectangle of an array of rank four, its offsets given in closed form. -/
theorem mem_unit4 {n0 n1 n2 n3 : ℕ} {off size : Fin 4 → ℕ} (y : Shape.Idx ⟨4, ![n0, n1, n2, n3]⟩) {o0 o1 o2 o3 s0 s1 s2 s3 : ℕ}
    (ho : off = ![o0, o1, o2, o3]) (hs : size = ![s0, s1, s2, s3])
    (h0 : o0 ≤ (y 0).val ∧ (y 0).val < o0 + s0) (h1 : o1 ≤ (y 1).val ∧ (y 1).val < o1 + s1)
    (h2 : o2 ≤ (y 2).val ∧ (y 2).val < o2 + s2) (h3 : o3 ≤ (y 3).val ∧ (y 3).val < o3 + s3) :
    ∀ a, off a ≤ (y a).val ∧ (y a).val < off a + size a := by
  subst ho hs; intro a; match a with
  | ⟨0, _⟩ => exact h0
  | ⟨1, _⟩ => exact h1
  | ⟨2, _⟩ => exact h2
  | ⟨3, _⟩ => exact h3

end Cert.KernelIdeal.Gen

end
-- ==== Proof.KernelIdeal.Mask.lean ====
/- Which keys a token may read: the words the kernel compares, as numbers. -/
module

public import proofs.«01_k».proof.Proof.KernelIdeal.Spec
public import proofs.«01_k».proof.Proof.KernelIdeal.Chk

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Words

/-- The first key token `l` of a subtile may read. -/
def startN (s : ℕ) (i : grid0.Coords) (a0 a1 a2 a3 a4 a5 a6 : BitVec 32) (l : ℕ) : ℕ := (firstW (BitVec.ofNat 32 (tok0 s i + l)) a0 a1 a2 a3 a4 a5 a6).toNat

/-- The bound a subtile puts on a score: no bound where the key may be read, and minus infinity elsewhere. -/
def maskB (s : ℕ) (i : grid0.Coords) (a0 a1 a2 a3 a4 a5 a6 : BitVec 32) (key : ℕ) (l : Fin 128) : EReal :=
  if key ≤ tok0 s i + l.val ∧ startN s i a0 a1 a2 a3 a4 a5 a6 l.val ≤ key then ⊤ else ⊥

theorem startN_le (s : ℕ) (hs : s < 2) (i : grid0.Coords) (a0 a1 a2 a3 a4 a5 a6 : BitVec 32) (l : Fin 128) :
    startN s i a0 a1 a2 a3 a4 a5 a6 l.val ≤ tok0 s i + l.val := by
  have hi := i_lt i
  have hl := l.isLt
  have e : (BitVec.ofNat 32 (tok0 s i + l.val)).toInt = (tok0 s i + l.val : ℕ) := WordArith.toInt_ofNat_small _ (by unfold tok0; omega)
  have h := firstW_bounds (BitVec.ofNat 32 (tok0 s i + l.val)) a0 a1 a2 a3 a4 a5 a6 (by rw [e]; omega)
  rw [e] at h
  unfold startN
  have := BitVec.toInt_eq_toNat_cond (firstW (BitVec.ofNat 32 (tok0 s i + l.val)) a0 a1 a2 a3 a4 a5 a6)
  split at this <;> omega

/-- The comparison words, read as numbers. -/
theorem word_mask (s : ℕ) (hs : s < 2) (i : grid0.Coords) (a0 a1 a2 a3 a4 a5 a6 : BitVec 32) (q r : ℕ) (hq : q < 32) (hr : r < 256) (l : Fin 128) (w : BitVec 32)
    (hw : w = BitVec.ofNat 32 (256 * q + r)) :
    (Scalar.select (IntOp.andi (IntOp.cmpi .sle w (BitVec.ofNat 32 (tok0 s i + l.val))) (IntOp.cmpi .sge w (firstW (BitVec.ofNat 32 (tok0 s i + l.val)) a0 a1 a2 a3 a4 a5 a6)))
      (Ideal.ofBits .f32 0x7F800000#32) (Ideal.ofBits .f32 0xFF800000#32) : EReal) = maskB s i a0 a1 a2 a3 a4 a5 a6 (256 * q + r) l := by
  have hi := i_lt i
  have hl := l.isLt
  have e1 : (BitVec.ofNat 32 (tok0 s i + l.val)).toInt = (tok0 s i + l.val : ℕ) := WordArith.toInt_ofNat_small _ (by unfold tok0; omega)
  have e2 : w.toInt = (256 * q + r : ℕ) := by rw [hw]; exact WordArith.toInt_ofNat_small _ (by omega)
  have e3 : (firstW (BitVec.ofNat 32 (tok0 s i + l.val)) a0 a1 a2 a3 a4 a5 a6).toInt = (startN s i a0 a1 a2 a3 a4 a5 a6 l.val : ℕ) := by
    have h := firstW_bounds (BitVec.ofNat 32 (tok0 s i + l.val)) a0 a1 a2 a3 a4 a5 a6 (by rw [e1]; omega)
    unfold startN
    have := BitVec.toInt_eq_toNat_cond (firstW (BitVec.ofNat 32 (tok0 s i + l.val)) a0 a1 a2 a3 a4 a5 a6)
    split at this <;> omega
  unfold Scalar.select IntOp.cmpi IntOp.andi maskB
  simp only [BitVec.sle, e1, e2, e3, pinf_eq, ninf_eq]
  clear e1 e2 e3 hw
  generalize 256 * q + r = m
  generalize tok0 s i + l.val = t
  generalize startN s i a0 a1 a2 a3 a4 a5 a6 l.val = n
  simp only [Int.ofNat_le]
  by_cases h1 : m ≤ t <;> by_cases h2 : n ≤ m <;> simp [h1, h2]

theorem bnd5 (i : grid0.Coords) (a0 a1 a2 a3 a4 a5 a6 : BitVec 32) (v91 v171 : IVec S1x128 32) (v197 : BitVec 32)
    (ha : ∀ l : Fin 128, v91 (ix2 0 l) = BitVec.ofNat 32 (tok0 0 i + l.val)) (hb : ∀ l : Fin 128, v171 (ix2 0 l) = firstW (BitVec.ofNat 32 (tok0 0 i + l.val)) a0 a1 a2 a3 a4 a5 a6)
    (hc : v197 = BitVec.ofNat 32 (chunk0 0 i a0 a1 a2 a3 a4 a5 a6))
    (k : Fin (k0_t5_loop i a0 a0 a1 a1 a2 a2 a3 a3 a4 a4 a5 a5 a6 a6).trips) (r l : Fin 256) :
    k0_pay172 (F := Ideal) i v91 a0 a0 a1 a1 a2 a2 a3 a3 a4 a4 a5 a5 v171 a6 a6 v197 1#32 k (ix2 r l) = maskB 0 i a0 a1 a2 a3 a4 a5 a6 (256 * (chunk0 0 i a0 a1 a2 a3 a4 a5 a6 + k.val) + r.val) ⟨l.val % 128, Nat.mod_lt _ (by decide)⟩ := by
  have hi := i_lt i
  have hq := chunk0_le 0 (by omega) i a0 a1 a2 a3 a4 a5 a6
  have hk := lt_of_lt_of_eq k.isLt (t5_trips i a0 a1 a2 a3 a4 a5 a6)
  refine Eq.trans ?_ (word_mask 0 (by omega) i a0 a1 a2 a3 a4 a5 a6 (chunk0 0 i a0 a1 a2 a3 a4 a5 a6 + k.val) r.val (by omega) r.isLt ⟨l.val % 128, Nat.mod_lt _ (by decide)⟩ (IntOp.addi (Scalar.muli (Scf.iv v197 1#32 k) 256#32) (BitVec.ofNat 32 r.val)) ?_)
  · rw [← hb, ← ha]
    pointwise [k0_pay172]
    split
    · rename_i h
      have e : l.val % 128 = l.val := Nat.mod_eq_of_lt h
      simp only [e]
    · rename_i h
      have e : l.val % 128 = l.val - 128 := by have := l.isLt; omega
      simp only [e]
  · rw [hc]
    apply BitVec.eq_of_toNat_eq
    have := row_eq (chunk0 0 i a0 a1 a2 a3 a4 a5 a6) k.val (by omega)
    have hr := r.isLt
    simp only [IntOp.addi, BitVec.toNat_add, BitVec.toNat_ofNat, this]
    omega

theorem bnd7 (i : grid0.Coords) (a0 a1 a2 a3 a4 a5 a6 : BitVec 32) (v256 v336 : IVec S1x128 32) (v362 : BitVec 32)
    (ha : ∀ l : Fin 128, v256 (ix2 0 l) = BitVec.ofNat 32 (tok0 1 i + l.val)) (hb : ∀ l : Fin 128, v336 (ix2 0 l) = firstW (BitVec.ofNat 32 (tok0 1 i + l.val)) a0 a1 a2 a3 a4 a5 a6)
    (hc : v362 = BitVec.ofNat 32 (chunk0 1 i a0 a1 a2 a3 a4 a5 a6))
    (k : Fin (k0_t7_loop i a0 a0 a1 a1 a2 a2 a3 a3 a4 a4 a5 a5 a6 a6).trips) (r l : Fin 256) :
    k0_pay196 (F := Ideal) i v256 a0 a0 a1 a1 a2 a2 a3 a3 a4 a4 a5 a5 v336 a6 a6 v362 1#32 k (ix2 r l) = maskB 1 i a0 a1 a2 a3 a4 a5 a6 (256 * (chunk0 1 i a0 a1 a2 a3 a4 a5 a6 + k.val) + r.val) ⟨l.val % 128, Nat.mod_lt _ (by decide)⟩ := by
  have hi := i_lt i
  have hq := chunk0_le 1 (by omega) i a0 a1 a2 a3 a4 a5 a6
  have hk := lt_of_lt_of_eq k.isLt (t7_trips i a0 a1 a2 a3 a4 a5 a6)
  refine Eq.trans ?_ (word_mask 1 (by omega) i a0 a1 a2 a3 a4 a5 a6 (chunk0 1 i a0 a1 a2 a3 a4 a5 a6 + k.val) r.val (by omega) r.isLt ⟨l.val % 128, Nat.mod_lt _ (by decide)⟩ (IntOp.addi (Scalar.muli (Scf.iv v362 1#32 k) 256#32) (BitVec.ofNat 32 r.val)) ?_)
  · rw [← hb, ← ha]
    pointwise [k0_pay196]
    split
    · rename_i h
      have e : l.val % 128 = l.val := Nat.mod_eq_of_lt h
      simp only [e]
    · rename_i h
      have e : l.val % 128 = l.val - 128 := by have := l.isLt; omega
      simp only [e]
  · rw [hc]
    apply BitVec.eq_of_toNat_eq
    have := row_eq (chunk0 1 i a0 a1 a2 a3 a4 a5 a6) k.val (by omega)
    have hr := r.isLt
    simp only [IntOp.addi, BitVec.toNat_add, BitVec.toNat_ofNat, this]
    omega

end Cert.KernelIdeal.Gen

end
-- ==== Proof.KernelIdeal.T5.lean ====
/- The trips of the loop over chunks of keys for subtile 0 raise the running maxima by the chunk's scores. -/
module

public import proofs.«01_k».proof.Proof.Gen.KernelIdeal.Loops
public import proofs.«01_k».proof.Proof.KernelIdeal.Spec
public import proofs.«01_k».proof.Proof.KernelIdeal.Chk

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000 in
/-- What a trip stores is the running maxima after its chunk, at the place it stores them. -/
theorem t5_pieces (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (arg0 : BitVec 32) (v91 : IVec S1x128 32) (a0 a1 a2 a3 a4 a5 a6 : BitVec 32) (v171 : IVec S1x128 32) (k0_hw : k0_chk1 i a0 a0 a1 a1 a2 a2 a3 a3 a4 a4 a5 a5 a6 a6) (v197 c0_i32_57 v221 : BitVec 32) (x17 : FVec Ideal S8192x576 .bf16) (x19 : FVec Ideal S2x8x576x256 .bf16)
    (B : ℕ → Fin 128 → EReal) (hB : ∀ (k : Fin (k0_t5_loop i a0 a0 a1 a1 a2 a2 a3 a3 a4 a4 a5 a5 a6 a6).trips) (r l : Fin 256), k0_pay172 (F := Ideal) i v91 a0 a0 a1 a1 a2 a2 a3 a3 a4 a4 a5 a5 v171 a6 a6 v197 1#32 k (ix2 r l) = B (256 * (chunk0 0 i a0 a1 a2 a3 a4 a5 a6 + k.val) + r.val) ⟨l.val % 128, Nat.mod_lt _ (by decide)⟩)
    (k : Fin (k0_t5_loop i a0 a0 a1 a1 a2 a2 a3 a3 a4 a4 a5 a5 a6 a6).trips) (acc : BitVec 32) (x21 : FVec Ideal S8x8x256 .f32) :
    ∀ p ∈ (trip_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v91 a0 a0 a1 a1 a2 a2 a3 a3 a4 a4 a5 a5 v171 a6 a6 k0_hw v197 c0_i32_57 v221 (harg17.unread x17) (harg19.unread x19) k).2.1 acc (harg21.unread x21), ∀ x, p.2 x = accStep x17 x19 B 0 (chunk0 0 i a0 a1 a2 a3 a4 a5 a6 + k.val) x21 (p.1.emb x) := by
  have ho := off68_eq i a0 a1 a2 a3 a4 a5 a6 k
  have htr := lt_of_lt_of_eq k.isLt (t5_trips i a0 a1 a2 a3 a4 a5 a6)
  have hi := i_lt i
  have hkB := hB k
  clear hB
  unfold trip_k0_t5
  dsimp only
  generalize chunk0 0 i a0 a1 a2 a3 a4 a5 a6 = q at hkB ho htr ⊢
  simp only [trip_k0_t5.sl.r_4, trip_k0_t5.sl.r_3, trip_k0_t5.sl.r_2, trip_k0_t5.sl.r_1, trip_k0_t5.sl.r]
  simp only [trip_k0_t5.sl.v456, trip_k0_t5.sl.v470, trip_k0_t5.sl.v484, trip_k0_t5.sl.v498, trip_k0_t5.sl.v512, trip_k0_t5.sl.v526, trip_k0_t5.sl.v540, View.readAt_eq_ld, harg17.read_unread, harg19.read_unread, harg21.read_unread, List.forall_mem_cons, List.not_mem_nil, false_imp_iff, implies_true, _root_.and_true]
  unfold k0_pay173 k0_pay174
  generalize k0_pay172 (F := Ideal) i v91 a0 a0 a1 a1 a2 a2 a3 a3 a4 a4 a5 a5 v171 a6 a6 v197 1#32 k = bnd at hkB ⊢
  refine ⟨fun x => ?_, fun x => ?_, fun x => ?_, fun x => ?_, fun x => ?_, fun x => ?_, fun x => ?_, fun x => ?_⟩
  all_goals
    idx_vars x
    unfold accStep scoreN
    pointwise [k0_pay173, k0_pay174, k0_pay175, k0_pay176, k0_pay177, k0_pay178, k0_pay179, k0_pay180, k0_pay181, k0_pay182, k0_pay183, k0_pay245]
    simp only [hkB]
    refine congrArg₂ max (by blk_ext) ?_
    rw [ninf_eq]
    refine Finset.fold_congr fun j _ => congrArg₂ min (Finset.sum_congr rfl fun d _ => Ideal.mul_congr (by blk_ext [ho]) (by blk_ext)) ?_
    have hj := j.isLt
    exact bnd_congr B (by blk_simp <;> omega) (by blk_simp <;> omega)

/-- A trip's pieces cover the running maxima. -/
theorem t5_cover (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (arg0 : BitVec 32) (v91 : IVec S1x128 32) (a0 a1 a2 a3 a4 a5 a6 : BitVec 32) (v171 : IVec S1x128 32) (k0_hw : k0_chk1 i a0 a0 a1 a1 a2 a2 a3 a3 a4 a4 a5 a5 a6 a6) (v197 c0_i32_57 v221 : BitVec 32) (x17 : FVec Ideal S8192x576 .bf16) (x19 : FVec Ideal S2x8x576x256 .bf16)
    (k : Fin (k0_t5_loop i a0 a0 a1 a1 a2 a2 a3 a3 a4 a4 a5 a5 a6 a6).trips) (acc : BitVec 32) (f21 : BufTy.Contents (Elt Ideal) arg21.view.ty) (y : S8x8x256.Idx) :
    ∃ p ∈ (trip_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v91 a0 a0 a1 a1 a2 a2 a3 a3 a4 a4 a5 a5 v171 a6 a6 k0_hw v197 c0_i32_57 v221 (harg17.unread x17) (harg19.unread x19) k).2.1 acc f21, y ∈ p.1.set := by
  unfold trip_k0_t5
  dsimp only
  have h0 : (y 0).val < 8 := (y 0).isLt
  have h1 : (y 1).val < 8 := (y 1).isLt
  have h2 : (y 2).val < 256 := (y 2).isLt
  rcases (by omega : (y 0).val = 7 ∨ (y 0).val = 6 ∨ (y 0).val = 5 ∨ (y 0).val = 4 ∨ (y 0).val = 3 ∨ (y 0).val = 2 ∨ (y 0).val = 1 ∨ (y 0).val = 0) with h | h | h | h | h | h | h | h
  · refine ⟨_, List.mem_cons_self, ?_⟩; rw [Rect.mem_set_unit]; exact mem_unit3 y rfl rfl (by omega) (by omega) (by omega)
  · refine ⟨_, List.mem_cons_of_mem _ (List.mem_cons_self), ?_⟩; rw [Rect.mem_set_unit]; exact mem_unit3 y rfl rfl (by omega) (by omega) (by omega)
  · refine ⟨_, List.mem_cons_of_mem _ (List.mem_cons_of_mem _ (List.mem_cons_self)), ?_⟩; rw [Rect.mem_set_unit]; exact mem_unit3 y rfl rfl (by omega) (by omega) (by omega)
  · refine ⟨_, List.mem_cons_of_mem _ (List.mem_cons_of_mem _ (List.mem_cons_of_mem _ (List.mem_cons_self))), ?_⟩; rw [Rect.mem_set_unit]; exact mem_unit3 y rfl rfl (by omega) (by omega) (by omega)
  · refine ⟨_, List.mem_cons_of_mem _ (List.mem_cons_of_mem _ (List.mem_cons_of_mem _ (List.mem_cons_of_mem _ (List.mem_cons_self)))), ?_⟩; rw [Rect.mem_set_unit]; exact mem_unit3 y rfl rfl (by omega) (by omega) (by omega)
  · refine ⟨_, List.mem_cons_of_mem _ (List.mem_cons_of_mem _ (List.mem_cons_of_mem _ (List.mem_cons_of_mem _ (List.mem_cons_of_mem _ (List.mem_cons_self))))), ?_⟩; rw [Rect.mem_set_unit]; exact mem_unit3 y rfl rfl (by omega) (by omega) (by omega)
  · refine ⟨_, List.mem_cons_of_mem _ (List.mem_cons_of_mem _ (List.mem_cons_of_mem _ (List.mem_cons_of_mem _ (List.mem_cons_of_mem _ (List.mem_cons_of_mem _ (List.mem_cons_self)))))), ?_⟩; rw [Rect.mem_set_unit]; exact mem_unit3 y rfl rfl (by omega) (by omega) (by omega)
  · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩; rw [Rect.mem_set_unit]; exact mem_unit3 y rfl rfl (by omega) (by omega) (by omega)

/-- After `m` trips the scratch buffer holds the running maxima of as many chunks. -/
theorem t5_read (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (arg0 : BitVec 32) (v91 : IVec S1x128 32) (a0 a1 a2 a3 a4 a5 a6 : BitVec 32) (v171 : IVec S1x128 32) (k0_hw : k0_chk1 i a0 a0 a1 a1 a2 a2 a3 a3 a4 a4 a5 a5 a6 a6) (v197 c0_i32_57 v221 : BitVec 32) (x17 : FVec Ideal S8192x576 .bf16) (x19 : FVec Ideal S2x8x576x256 .bf16)
    (B : ℕ → Fin 128 → EReal) (hB : ∀ (k : Fin (k0_t5_loop i a0 a0 a1 a1 a2 a2 a3 a3 a4 a4 a5 a5 a6 a6).trips) (r l : Fin 256), k0_pay172 (F := Ideal) i v91 a0 a0 a1 a1 a2 a2 a3 a3 a4 a4 a5 a5 v171 a6 a6 v197 1#32 k (ix2 r l) = B (256 * (chunk0 0 i a0 a1 a2 a3 a4 a5 a6 + k.val) + r.val) ⟨l.val % 128, Nat.mod_lt _ (by decide)⟩)
    (G : BufTy.Contents (Elt Ideal) arg21.view.ty) (init : BitVec 32) (m : ℕ) (hm : m ≤ (k0_t5_loop i a0 a0 a1 a1 a2 a2 a3 a3 a4 a4 a5 a5 a6 a6).trips) :
    arg21.view.read (Elt Ideal) (arg21.view.writes (Elt Ideal) G (st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v91 a0 a0 a1 a1 a2 a2 a3 a3 a4 a4 a5 a5 v171 a6 a6 k0_hw v197 c0_i32_57 v221 (harg17.unread x17) (harg19.unread x19) G init m).2)
      = accN x17 x19 B 0 (chunk0 0 i a0 a1 a2 a3 a4 a5 a6) (arg21.view.read (Elt Ideal) G) m := by
  induction m with
  | zero => rfl
  | succ m ih =>
    rw [st_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v91 a0 a0 a1 a1 a2 a2 a3 a3 a4 a4 a5 a5 v171 a6 a6 k0_hw v197 c0_i32_57 v221 (harg17.unread x17) (harg19.unread x19) G init ⟨m, hm⟩]
    have ih := ih (by omega)
    show arg21.view.read (Elt Ideal) (arg21.view.writes (Elt Ideal) G (_ ++ _)) = accStep x17 x19 B 0 (chunk0 0 i a0 a1 a2 a3 a4 a5 a6 + m) (accN x17 x19 B 0 (chunk0 0 i a0 a1 a2 a3 a4 a5 a6) (arg21.view.read (Elt Ideal) G) m)
    rw [View.writes_append, ← ih]
    generalize (st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v91 a0 a0 a1 a1 a2 a2 a3 a3 a4 a4 a5 a5 v171 a6 a6 k0_hw v197 c0_i32_57 v221 (harg17.unread x17) (harg19.unread x19) G init m).1 = a
    generalize (arg21.view.writes (Elt Ideal) G (st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v91 a0 a0 a1 a1 a2 a2 a3 a3 a4 a4 a5 a5 v171 a6 a6 k0_hw v197 c0_i32_57 v221 (harg17.unread x17) (harg19.unread x19) G init m).2) = f
    funext y
    refine View.read_writes_apply_of_pieces _ _ _ _ ?_ y (t5_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v91 a0 a1 a2 a3 a4 a5 a6 v171 k0_hw v197 c0_i32_57 v221 x17 x19 ⟨m, hm⟩ a f y)
    have := t5_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v91 a0 a1 a2 a3 a4 a5 a6 v171 k0_hw v197 c0_i32_57 v221 x17 x19 B hB ⟨m, hm⟩ a (arg21.view.read (Elt Ideal) f)
    rw [harg21.unread_read] at this
    exact this

end Cert.KernelIdeal.Gen

end
-- ==== Proof.KernelIdeal.T7.lean ====
/- The trips of the loop over chunks of keys for subtile 1 raise the running maxima by the chunk's scores. -/
module

public import proofs.«01_k».proof.Proof.Gen.KernelIdeal.Loops
public import proofs.«01_k».proof.Proof.KernelIdeal.Spec
public import proofs.«01_k».proof.Proof.KernelIdeal.Chk

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000 in
/-- What a trip stores is the running maxima after its chunk, at the place it stores them. -/
theorem t7_pieces (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (v256 : IVec S1x128 32) (a0 a1 a2 a3 a4 a5 a6 : BitVec 32) (v336 : IVec S1x128 32) (k0_hw : k0_chk2 i a0 a0 a1 a1 a2 a2 a3 a3 a4 a4 a5 a5 a6 a6) (v362 c1_i32_128 : BitVec 32) (x17 : FVec Ideal S8192x576 .bf16) (x19 : FVec Ideal S2x8x576x256 .bf16)
    (B : ℕ → Fin 128 → EReal) (hB : ∀ (k : Fin (k0_t7_loop i a0 a0 a1 a1 a2 a2 a3 a3 a4 a4 a5 a5 a6 a6).trips) (r l : Fin 256), k0_pay196 (F := Ideal) i v256 a0 a0 a1 a1 a2 a2 a3 a3 a4 a4 a5 a5 v336 a6 a6 v362 c1_i32_128 k (ix2 r l) = B (256 * (chunk0 1 i a0 a1 a2 a3 a4 a5 a6 + k.val) + r.val) ⟨l.val % 128, Nat.mod_lt _ (by decide)⟩)
    (k : Fin (k0_t7_loop i a0 a0 a1 a1 a2 a2 a3 a3 a4 a4 a5 a5 a6 a6).trips) (acc : BitVec 32) (x21 : FVec Ideal S8x8x256 .f32) :
    ∀ p ∈ (trip_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v256 a0 a0 a1 a1 a2 a2 a3 a3 a4 a4 a5 a5 v336 a6 a6 k0_hw v362 c1_i32_128 (harg17.unread x17) (harg19.unread x19) k).2.1 acc (harg21.unread x21), ∀ x, p.2 x = accStep x17 x19 B 1 (chunk0 1 i a0 a1 a2 a3 a4 a5 a6 + k.val) x21 (p.1.emb x) := by
  have ho := off70_eq i a0 a1 a2 a3 a4 a5 a6 k
  have htr := lt_of_lt_of_eq k.isLt (t7_trips i a0 a1 a2 a3 a4 a5 a6)
  have hi := i_lt i
  have hkB := hB k
  clear hB
  unfold trip_k0_t7
  dsimp only
  generalize chunk0 1 i a0 a1 a2 a3 a4 a5 a6 = q at hkB ho htr ⊢
  simp only [trip_k0_t7.sl.r_3, trip_k0_t7.sl.r_2, trip_k0_t7.sl.r_1, trip_k0_t7.sl.r]
  simp only [trip_k0_t7.sl.v456, trip_k0_t7.sl.v470, trip_k0_t7.sl.v484, trip_k0_t7.sl.v498, trip_k0_t7.sl.v512, trip_k0_t7.sl.v526, trip_k0_t7.sl.v540, View.readAt_eq_ld, harg17.read_unread, harg19.read_unread, harg21.read_unread, List.forall_mem_cons, List.not_mem_nil, false_imp_iff, implies_true, _root_.and_true]
  unfold k0_pay197 k0_pay198
  generalize k0_pay196 (F := Ideal) i v256 a0 a0 a1 a1 a2 a2 a3 a3 a4 a4 a5 a5 v336 a6 a6 v362 c1_i32_128 k = bnd at hkB ⊢
  refine ⟨fun x => ?_, fun x => ?_, fun x => ?_, fun x => ?_, fun x => ?_, fun x => ?_, fun x => ?_, fun x => ?_⟩
  all_goals
    idx_vars x
    unfold accStep scoreN
    pointwise [k0_pay197, k0_pay198, k0_pay199, k0_pay200, k0_pay201, k0_pay202, k0_pay203, k0_pay204, k0_pay205, k0_pay206, k0_pay207, k0_pay1]
    simp only [hkB]
    refine congrArg₂ max (by blk_ext) ?_
    rw [ninf_eq]
    refine Finset.fold_congr fun j _ => congrArg₂ min (Finset.sum_congr rfl fun d _ => Ideal.mul_congr (by blk_ext [ho]) (by blk_ext)) ?_
    have hj := j.isLt
    exact bnd_congr B (by blk_simp <;> omega) (by blk_simp <;> omega)

/-- A trip's pieces cover the running maxima. -/
theorem t7_cover (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (v256 : IVec S1x128 32) (a0 a1 a2 a3 a4 a5 a6 : BitVec 32) (v336 : IVec S1x128 32) (k0_hw : k0_chk2 i a0 a0 a1 a1 a2 a2 a3 a3 a4 a4 a5 a5 a6 a6) (v362 c1_i32_128 : BitVec 32) (x17 : FVec Ideal S8192x576 .bf16) (x19 : FVec Ideal S2x8x576x256 .bf16)
    (k : Fin (k0_t7_loop i a0 a0 a1 a1 a2 a2 a3 a3 a4 a4 a5 a5 a6 a6).trips) (acc : BitVec 32) (f21 : BufTy.Contents (Elt Ideal) arg21.view.ty) (y : S8x8x256.Idx) :
    ∃ p ∈ (trip_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v256 a0 a0 a1 a1 a2 a2 a3 a3 a4 a4 a5 a5 v336 a6 a6 k0_hw v362 c1_i32_128 (harg17.unread x17) (harg19.unread x19) k).2.1 acc f21, y ∈ p.1.set := by
  unfold trip_k0_t7
  dsimp only
  have h0 : (y 0).val < 8 := (y 0).isLt
  have h1 : (y 1).val < 8 := (y 1).isLt
  have h2 : (y 2).val < 256 := (y 2).isLt
  rcases (by omega : (y 0).val = 7 ∨ (y 0).val = 6 ∨ (y 0).val = 5 ∨ (y 0).val = 4 ∨ (y 0).val = 3 ∨ (y 0).val = 2 ∨ (y 0).val = 1 ∨ (y 0).val = 0) with h | h | h | h | h | h | h | h
  · refine ⟨_, List.mem_cons_self, ?_⟩; rw [Rect.mem_set_unit]; exact mem_unit3 y rfl rfl (by omega) (by omega) (by omega)
  · refine ⟨_, List.mem_cons_of_mem _ (List.mem_cons_self), ?_⟩; rw [Rect.mem_set_unit]; exact mem_unit3 y rfl rfl (by omega) (by omega) (by omega)
  · refine ⟨_, List.mem_cons_of_mem _ (List.mem_cons_of_mem _ (List.mem_cons_self)), ?_⟩; rw [Rect.mem_set_unit]; exact mem_unit3 y rfl rfl (by omega) (by omega) (by omega)
  · refine ⟨_, List.mem_cons_of_mem _ (List.mem_cons_of_mem _ (List.mem_cons_of_mem _ (List.mem_cons_self))), ?_⟩; rw [Rect.mem_set_unit]; exact mem_unit3 y rfl rfl (by omega) (by omega) (by omega)
  · refine ⟨_, List.mem_cons_of_mem _ (List.mem_cons_of_mem _ (List.mem_cons_of_mem _ (List.mem_cons_of_mem _ (List.mem_cons_self)))), ?_⟩; rw [Rect.mem_set_unit]; exact mem_unit3 y rfl rfl (by omega) (by omega) (by omega)
  · refine ⟨_, List.mem_cons_of_mem _ (List.mem_cons_of_mem _ (List.mem_cons_of_mem _ (List.mem_cons_of_mem _ (List.mem_cons_of_mem _ (List.mem_cons_self))))), ?_⟩; rw [Rect.mem_set_unit]; exact mem_unit3 y rfl rfl (by omega) (by omega) (by omega)
  · refine ⟨_, List.mem_cons_of_mem _ (List.mem_cons_of_mem _ (List.mem_cons_of_mem _ (List.mem_cons_of_mem _ (List.mem_cons_of_mem _ (List.mem_cons_of_mem _ (List.mem_cons_self)))))), ?_⟩; rw [Rect.mem_set_unit]; exact mem_unit3 y rfl rfl (by omega) (by omega) (by omega)
  · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩; rw [Rect.mem_set_unit]; exact mem_unit3 y rfl rfl (by omega) (by omega) (by omega)

/-- After `m` trips the scratch buffer holds the running maxima of as many chunks. -/
theorem t7_read (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (v256 : IVec S1x128 32) (a0 a1 a2 a3 a4 a5 a6 : BitVec 32) (v336 : IVec S1x128 32) (k0_hw : k0_chk2 i a0 a0 a1 a1 a2 a2 a3 a3 a4 a4 a5 a5 a6 a6) (v362 c1_i32_128 : BitVec 32) (x17 : FVec Ideal S8192x576 .bf16) (x19 : FVec Ideal S2x8x576x256 .bf16)
    (B : ℕ → Fin 128 → EReal) (hB : ∀ (k : Fin (k0_t7_loop i a0 a0 a1 a1 a2 a2 a3 a3 a4 a4 a5 a5 a6 a6).trips) (r l : Fin 256), k0_pay196 (F := Ideal) i v256 a0 a0 a1 a1 a2 a2 a3 a3 a4 a4 a5 a5 v336 a6 a6 v362 c1_i32_128 k (ix2 r l) = B (256 * (chunk0 1 i a0 a1 a2 a3 a4 a5 a6 + k.val) + r.val) ⟨l.val % 128, Nat.mod_lt _ (by decide)⟩)
    (G : BufTy.Contents (Elt Ideal) arg21.view.ty) (init : BitVec 32) (m : ℕ) (hm : m ≤ (k0_t7_loop i a0 a0 a1 a1 a2 a2 a3 a3 a4 a4 a5 a5 a6 a6).trips) :
    arg21.view.read (Elt Ideal) (arg21.view.writes (Elt Ideal) G (st_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v256 a0 a0 a1 a1 a2 a2 a3 a3 a4 a4 a5 a5 v336 a6 a6 k0_hw v362 c1_i32_128 (harg17.unread x17) (harg19.unread x19) G init m).2)
      = accN x17 x19 B 1 (chunk0 1 i a0 a1 a2 a3 a4 a5 a6) (arg21.view.read (Elt Ideal) G) m := by
  induction m with
  | zero => rfl
  | succ m ih =>
    rw [st_k0_t7_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v256 a0 a0 a1 a1 a2 a2 a3 a3 a4 a4 a5 a5 v336 a6 a6 k0_hw v362 c1_i32_128 (harg17.unread x17) (harg19.unread x19) G init ⟨m, hm⟩]
    have ih := ih (by omega)
    show arg21.view.read (Elt Ideal) (arg21.view.writes (Elt Ideal) G (_ ++ _)) = accStep x17 x19 B 1 (chunk0 1 i a0 a1 a2 a3 a4 a5 a6 + m) (accN x17 x19 B 1 (chunk0 1 i a0 a1 a2 a3 a4 a5 a6) (arg21.view.read (Elt Ideal) G) m)
    rw [View.writes_append, ← ih]
    generalize (st_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v256 a0 a0 a1 a1 a2 a2 a3 a3 a4 a4 a5 a5 v336 a6 a6 k0_hw v362 c1_i32_128 (harg17.unread x17) (harg19.unread x19) G init m).1 = a
    generalize (arg21.view.writes (Elt Ideal) G (st_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v256 a0 a0 a1 a1 a2 a2 a3 a3 a4 a4 a5 a5 v336 a6 a6 k0_hw v362 c1_i32_128 (harg17.unread x17) (harg19.unread x19) G init m).2) = f
    funext y
    refine View.read_writes_apply_of_pieces _ _ _ _ ?_ y (t7_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v256 a0 a1 a2 a3 a4 a5 a6 v336 k0_hw v362 c1_i32_128 x17 x19 ⟨m, hm⟩ a f y)
    have := t7_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v256 a0 a1 a2 a3 a4 a5 a6 v336 k0_hw v362 c1_i32_128 x17 x19 B hB ⟨m, hm⟩ a (arg21.view.read (Elt Ideal) f)
    rw [harg21.unread_read] at this
    exact this

end Cert.KernelIdeal.Gen

end
-- ==== Proof.KernelIdeal.Acc.lean ====
/- The running maxima of a subtile after its loop over chunks of keys. -/
module

public import proofs.«01_k».proof.Proof.KernelIdeal.Mask
public import proofs.«01_k».proof.Proof.KernelIdeal.T5
public import proofs.«01_k».proof.Proof.KernelIdeal.T7
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Words

/-- The running maxima of subtile 0 after its loops. -/
theorem acc0_read (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (arg0 : BitVec 32) (a0 a1 a2 a3 a4 a5 a6 : BitVec 32) (v91 v171 : IVec S1x128 32) (v197 : BitVec 32) (v221 v222 : BitVec 32)
    (ha : ∀ l : Fin 128, v91 (ix2 0 l) = BitVec.ofNat 32 (tok0 0 i + l.val)) (hb : ∀ l : Fin 128, v171 (ix2 0 l) = firstW (BitVec.ofNat 32 (tok0 0 i + l.val)) a0 a1 a2 a3 a4 a5 a6)
    (hc : v197 = BitVec.ofNat 32 (chunk0 0 i a0 a1 a2 a3 a4 a5 a6))
    (hw : k0_chk1 i a0 a0 a1 a1 a2 a2 a3 a3 a4 a4 a5 a5 a6 a6)
    (x17 : FVec Ideal S8192x576 .bf16) (x19 : FVec Ideal S2x8x576x256 .bf16) (G19 : BufTy.Contents (Elt Ideal) arg19.view.ty) (h19 : arg19.view.read (Elt Ideal) G19 = x19)
    (L : List (View.Piece (Elt Ideal) S8x8x256 .f32)) (G' : BufTy.Contents (Elt Ideal) arg21.view.ty) (init' : BitVec 32) (n n' : ℕ) (hn : n = (i 0).val + 1 - chunk0 0 i a0 a1 a2 a3 a4 a5 a6) (hn' : n' = 0) :
    arg21.view.readCov (Val := Elt Ideal) ((st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v91 a0 a0 a1 a1 a2 a2 a3 a3 a4 a4 a5 a5 v171 a6 a6 hw v197 0#32 v221 v222 (harg17.unread x17) G19 G' init' n').2
        ++ ((st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v91 a0 a0 a1 a1 a2 a2 a3 a3 a4 a4 a5 a5 v171 a6 a6 hw v197 0#32 v221 (harg17.unread x17) G19 (arg21.view.writes (Elt Ideal) arg21.view.junk (⟨Rect.unit ![0, 0, 0] S8x8x256.size inb_S8x8x256_S8x8x256_0_0_0, k0_pay244 (F := Ideal)⟩ :: L)) 0#32 n).2 ++ (⟨Rect.unit ![0, 0, 0] S8x8x256.size inb_S8x8x256_S8x8x256_0_0_0, k0_pay244 (F := Ideal)⟩ :: L)))
      (Rect.unit ![0, 0, 0] S8x8x256.size inb_S8x8x256_S8x8x256_0_0_0).toLoadRect
      = accN x17 x19 (maskB 0 i a0 a1 a2 a3 a4 a5 a6) 0 (chunk0 0 i a0 a1 a2 a3 a4 a5 a6) (fun _ => ⊥) ((i 0).val + 1 - chunk0 0 i a0 a1 a2 a3 a4 a5 a6) := by
  obtain rfl := harg19.eq_unread h19
  subst hn'
  rw [show (st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v91 a0 a0 a1 a1 a2 a2 a3 a3 a4 a4 a5 a5 v171 a6 a6 hw v197 0#32 v221 v222 (harg17.unread x17) (harg19.unread x19) G' init' 0).2 = [] from rfl, List.nil_append]
  show arg21.view.readAt (Elt Ideal) _ (arg21.view.writes (Elt Ideal) arg21.view.junk (_ ++ _)) = _
  rw [View.readAt_eq_ld, View.ld_unit_zero (by decide +kernel), View.writes_append,
    t5_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v91 a0 a1 a2 a3 a4 a5 a6 v171 hw v197 0#32 v221 x17 x19 (maskB 0 i a0 a1 a2 a3 a4 a5 a6) (fun k r l => bnd5 i a0 a1 a2 a3 a4 a5 a6 v91 v171 v197 ha hb hc k r l) _ 0#32 n (by rw [t5_trips, hn])]
  rw [hn]
  congr 1
  funext y
  rw [View.read_writes_junk_apply_eq_canon, View.canon_cons_unit_zero (by decide +kernel)]
  exact ninf_eq

/-- The running maxima of subtile 1 after its loops. -/
theorem acc1_read (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole)  (a0 a1 a2 a3 a4 a5 a6 : BitVec 32) (v256 v336 : IVec S1x128 32) (v362 : BitVec 32) (v387 : BitVec 32)
    (ha : ∀ l : Fin 128, v256 (ix2 0 l) = BitVec.ofNat 32 (tok0 1 i + l.val)) (hb : ∀ l : Fin 128, v336 (ix2 0 l) = firstW (BitVec.ofNat 32 (tok0 1 i + l.val)) a0 a1 a2 a3 a4 a5 a6)
    (hc : v362 = BitVec.ofNat 32 (chunk0 1 i a0 a1 a2 a3 a4 a5 a6))
    (hw : k0_chk2 i a0 a0 a1 a1 a2 a2 a3 a3 a4 a4 a5 a5 a6 a6)
    (x17 : FVec Ideal S8192x576 .bf16) (x19 : FVec Ideal S2x8x576x256 .bf16) (G19 : BufTy.Contents (Elt Ideal) arg19.view.ty) (h19 : arg19.view.read (Elt Ideal) G19 = x19)
    (L : List (View.Piece (Elt Ideal) S8x8x256 .f32)) (G' : BufTy.Contents (Elt Ideal) arg21.view.ty) (init' : BitVec 32) (n n' : ℕ) (hn : n = (i 0).val + 1 - chunk0 1 i a0 a1 a2 a3 a4 a5 a6) (hn' : n' = 0) :
    arg21.view.readCov (Val := Elt Ideal) ((st_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v256 a0 a0 a1 a1 a2 a2 a3 a3 a4 a4 a5 a5 v336 a6 a6 hw v387 (harg17.unread x17) G19 G' init' n').2
        ++ ((st_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v256 a0 a0 a1 a1 a2 a2 a3 a3 a4 a4 a5 a5 v336 a6 a6 hw v362 1#32 (harg17.unread x17) G19 (arg21.view.writes (Elt Ideal) arg21.view.junk (⟨Rect.unit ![0, 0, 0] S8x8x256.size inb_S8x8x256_S8x8x256_0_0_0, k0_pay255 (F := Ideal)⟩ :: L)) 0#32 n).2 ++ (⟨Rect.unit ![0, 0, 0] S8x8x256.size inb_S8x8x256_S8x8x256_0_0_0, k0_pay255 (F := Ideal)⟩ :: L)))
      (Rect.unit ![0, 0, 0] S8x8x256.size inb_S8x8x256_S8x8x256_0_0_0).toLoadRect
      = accN x17 x19 (maskB 1 i a0 a1 a2 a3 a4 a5 a6) 1 (chunk0 1 i a0 a1 a2 a3 a4 a5 a6) (fun _ => ⊥) ((i 0).val + 1 - chunk0 1 i a0 a1 a2 a3 a4 a5 a6) := by
  obtain rfl := harg19.eq_unread h19
  subst hn'
  rw [show (st_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v256 a0 a0 a1 a1 a2 a2 a3 a3 a4 a4 a5 a5 v336 a6 a6 hw v387 (harg17.unread x17) (harg19.unread x19) G' init' 0).2 = [] from rfl, List.nil_append]
  show arg21.view.readAt (Elt Ideal) _ (arg21.view.writes (Elt Ideal) arg21.view.junk (_ ++ _)) = _
  rw [View.readAt_eq_ld, View.ld_unit_zero (by decide +kernel), View.writes_append,
    t7_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v256 a0 a1 a2 a3 a4 a5 a6 v336 hw v362 1#32 x17 x19 (maskB 1 i a0 a1 a2 a3 a4 a5 a6) (fun k r l => bnd7 i a0 a1 a2 a3 a4 a5 a6 v256 v336 v362 ha hb hc k r l) _ 0#32 n (by rw [t7_trips, hn])]
  rw [hn]
  congr 1
  funext y
  rw [View.read_writes_junk_apply_eq_canon, View.canon_cons_unit_zero (by decide +kernel)]
  exact ninf_eq

end Cert.KernelIdeal.Gen

end
-- ==== Proof.KernelIdeal.Pay.lean ====
/- The vector terms outside the loops, read at an index. -/
module

public import proofs.«01_k».proof.Proof.Gen.KernelIdeal.Skeleton
public import proofs.«01_k».proof.Proof.KernelIdeal.Spec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The greatest of a head's eight rows of running maxima, scaled. -/
def topN (acc : FVec Ideal S8x8x256 .f32) (h : Fin 16) (t : Fin 128) : EReal :=
  (Finset.univ : Finset (Fin 8)).fold max ⊥ (fun j => acc (ix3 ⟨h.val / 2, by omega⟩ j ⟨128 * (h.val % 2) + t.val, by omega⟩)) * Ideal.ofBits .f32 0x3D93CD3A#32

set_option maxHeartbeats 4000000 in
theorem pay247_eq (acc : FVec Ideal S8x8x256 .f32) (h : Fin 16) (t : Fin 128) : k0_pay247 (F := Ideal) acc (ix2 h t) = topN acc h t := by
  have hm : ∀ (a : Fin 8) (b : Fin 256), multiReduction (F := Ideal) .maximumf [1] S8x256 acc 0xFF800000#32 reduces_S8x8x256_S8x256 (.inl rfl) rfl (ix2 a b)
      = (Finset.univ : Finset (Fin 8)).fold max ⊥ (fun j => acc (ix3 a j b)) := by
    intro a b
    rw [← ninf_eq]
    pointwise []
  unfold topN
  rw [← hm]
  unfold k0_pay247
  dsimp only
  generalize multiReduction (F := Ideal) .maximumf [1] S8x256 acc 0xFF800000#32 reduces_S8x8x256_S8x256 (.inl rfl) rfl = m
  clear hm
  fin_cases h
  all_goals
    pointwise []
    try refine Ideal.mul_congr ?_ rfl
    try blk_ext

theorem pay3_eq (acc : FVec Ideal S8x8x256 .f32) : k0_pay3 (F := Ideal) acc = k0_pay247 acc := rfl

theorem pay4_eq (acc : FVec Ideal S8x8x256 .f32) (o : FVec Ideal S16x128 .f32) (h : Fin 16) (t : Fin 128) :
    k0_pay4 (F := Ideal) acc o (ix2 h t) = max (o (ix2 h t)) (topN acc h t) := by
  rw [← pay247_eq, ← pay3_eq]
  generalize hx : k0_pay3 (F := Ideal) acc = x
  unfold k0_pay4
  rw [hx]
  pointwise []

theorem pay248_eq (acc : FVec Ideal S8x8x256 .f32) (o : FVec Ideal S16x128 .f32) (h : Fin 16) (t : Fin 128) :
    k0_pay248 (F := Ideal) acc o (ix2 h t) = max (o (ix2 h t)) (topN acc h t) := by
  rw [← pay247_eq]
  generalize hx : k0_pay247 (F := Ideal) acc = x
  unfold k0_pay248
  rw [hx]
  pointwise []

theorem pay5_eq (acc : FVec Ideal S8x8x256 .f32) (h : Fin 16) (t : Fin 128) :
    k0_pay5 (F := Ideal) acc (ix2 t h) = topN acc h t := by
  rw [← pay247_eq, ← pay3_eq]
  generalize hx : k0_pay3 (F := Ideal) acc = x
  unfold k0_pay5
  rw [hx]
  pointwise []

theorem pay6_eq (o : FVec Ideal S16x128 .f32) (h : Fin 16) (t : Fin 128) :
    k0_pay6 (F := Ideal) o (ix2 h t) = (Finset.univ : Finset (Fin 128)).fold max ⊥ (fun j => o (ix2 h j)) := by
  rw [← ninf_eq]
  pointwise [k0_pay6]

theorem pay146_eq (y : S16x128.Idx) : k0_pay146 (F := Ideal) y = ⊥ := ninf_eq

theorem dite_all {α : Type} {p : Prop} [Decidable p] {a : p → α} {b : ¬p → α} {r : α} (h1 : ∀ h, a h = r) (h2 : ∀ h, b h = r) : dite p a b = r := by
  by_cases h : p
  · rw [dif_pos h]; exact h1 h
  · rw [dif_neg h]; exact h2 h

set_option maxHeartbeats 4000000 in
theorem cq_eq (x4 : FVec Ideal S256x1536 .fp8e4m3) (x5 : FVec Ideal S256x12 .f32) :
    k0_pay230 (F := Ideal) x4 x5 (k0_pay222 x4 x5) (k0_pay223 x4 x5) (k0_pay224 x4 x5) (k0_pay225 x4 x5) (k0_pay226 x4 x5) (k0_pay227 x4 x5) (k0_pay228 x4 x5) (k0_pay229 x4 x5) = CQs x4 x5 := by
  funext y
  idx_vars y
  unfold CQs
  pointwise [k0_pay222, k0_pay223, k0_pay224, k0_pay225, k0_pay226, k0_pay227, k0_pay228, k0_pay229, k0_pay230]
  refine dite_all (fun _ => ?_) (fun _ => dite_all (fun _ => ?_) (fun _ => dite_all (fun _ => ?_) (fun _ => dite_all (fun _ => ?_) (fun _ => dite_all (fun _ => ?_) (fun _ => dite_all (fun _ => ?_) (fun _ => dite_all (fun _ => ?_) (fun _ => dite_all (fun _ => ?_) (fun _ => dite_all (fun _ => ?_) (fun _ => dite_all (fun _ => ?_) (fun _ => dite_all (fun _ => ?_) (fun _ => ?_)))))))))))
  all_goals
    refine Ideal.mul_congr ?_ ?_
    · blk_ext
    · blk_ext

end Cert.KernelIdeal.Gen

end
-- ==== Proof.KernelIdeal.T4.lean ====
/- The trips of the projection loop fill the scratch buffer with the projected queries. -/
module

public import proofs.«01_k».proof.Proof.Gen.KernelIdeal.Loops
public import proofs.«01_k».proof.Proof.KernelIdeal.Spec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What a trip stores is the projected queries at the place it stores them. -/
theorem t4_pieces (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (arg0 : BitVec 32) (v3 : Vec Ideal S256x1536 .fp8e4m3) (v4 : Vec Ideal S256x12 .f32) (v10 : FVec Ideal S256x128 .bf16) (v16 : FVec Ideal S256x128 .bf16) (v22 : FVec Ideal S256x128 .bf16) (v28 : FVec Ideal S256x128 .bf16) (v34 : FVec Ideal S256x128 .bf16) (v40 : FVec Ideal S256x128 .bf16) (v46 : FVec Ideal S256x128 .bf16) (v51 : FVec Ideal S256x128 .f32) (v82 : Vec Ideal S256x32 .f32) (v84 : Vec Ideal S256x32 .f32) (x15 : FVec Ideal S3072x1536 .bf16) (x16 : FVec Ideal S16x512x128 .bf16) (x18 : FVec Ideal S1536x256 .bf16) (k : Fin k0_t4_loop.trips) :
    ∀ p ∈ (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v3 v4 v10 v16 v22 v28 v34 v40 v46 v51 v82 v84 (harg15.unread x15) (harg16.unread x16) (harg18.unread x18) k).1, ∀ x, p.2 x = (QTa x15 x16 x18 v82 v84 : FVec Ideal S2x8x576x256 .bf16) (p.1.emb x) := by
  unfold trip_k0_t4
  dsimp only
  have h55a : k0_off55 k 0#32 = ![2 * k.val, 0, 0] := k0_off55_eq k 0
  have h55b : k0_off55 k 1#32 = ![2 * k.val + 1, 0, 0] := k0_off55_eq k 1
  have hk : k.val < 8 := Nat.lt_of_lt_of_le k.isLt k0_t4_abs.2.1
  simp only [ trip_k0_t4.sl.r_8, trip_k0_t4.sl.r_7, trip_k0_t4.sl.r_6, trip_k0_t4.sl.r_5, trip_k0_t4.sl.r_4, trip_k0_t4.sl.r_3, trip_k0_t4.sl.r_2, trip_k0_t4.sl.r_1, View.readAt_eq_ld, harg15.read_unread, harg16.read_unread, harg18.read_unread, List.forall_mem_cons, List.not_mem_nil, false_imp_iff, implies_true, and_true]
  refine ⟨fun x => ?_, fun x => ?_, fun x => ?_, fun x => ?_, fun x => ?_, fun x => ?_, fun x => ?_, fun x => ?_, fun x => ?_, fun x => ?_, fun x => ?_, fun x => ?_⟩
  · idx_vars x
    unfold QTa QTs
    rw [dif_neg (by blk_simp [k0_off67_eq]; omega), dif_neg (by blk_simp [k0_off67_eq]; omega)]
    simp only [trip_k0_t4.sl.r, View.readAt_eq_ld, harg15.read_unread, harg18.read_unread]
    pointwise [k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay231, k0_pay232, k0_pay233, k0_pay234, k0_pay235, k0_pay236, k0_pay237, k0_pay238, Q15]
    blk_point [k0_off67_eq, k0_off54_eq, h55a, h55b]
  · idx_vars x
    unfold QTa QTs
    rw [dif_neg (by blk_simp [k0_off66_eq]; omega), dif_pos (by blk_simp [k0_off66_eq]; omega)]
    simp only [trip_k0_t4.sl.r, View.readAt_eq_ld, harg15.read_unread, harg18.read_unread]
    pointwise [k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay231, k0_pay232, k0_pay233, k0_pay234, k0_pay235, k0_pay236, k0_pay237, k0_pay238, Q15]
    blk_point [k0_off66_eq, k0_off54_eq, h55a, h55b]
  · idx_vars x
    unfold QTa QTs
    rw [dif_pos (by blk_simp [k0_off65_eq]; omega)]
    simp only [trip_k0_t4.sl.r, View.readAt_eq_ld, harg15.read_unread, harg18.read_unread]
    pointwise [k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay231, k0_pay232, k0_pay233, k0_pay234, k0_pay235, k0_pay236, k0_pay237, k0_pay238, Q15]
    blk_point [k0_off65_eq, k0_off54_eq, h55a, h55b]
  · idx_vars x
    unfold QTa QTs
    rw [dif_neg (by blk_simp [k0_off64_eq]; omega), dif_neg (by blk_simp [k0_off64_eq]; omega)]
    simp only [trip_k0_t4.sl.r, View.readAt_eq_ld, harg15.read_unread, harg18.read_unread]
    pointwise [k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay231, k0_pay232, k0_pay233, k0_pay234, k0_pay235, k0_pay236, k0_pay237, k0_pay238, Q15]
    blk_point [k0_off64_eq, k0_off54_eq, h55a, h55b]
  · idx_vars x
    unfold QTa QTs
    rw [dif_neg (by blk_simp [k0_off63_eq]; omega), dif_pos (by blk_simp [k0_off63_eq]; omega)]
    simp only [trip_k0_t4.sl.r, View.readAt_eq_ld, harg15.read_unread, harg18.read_unread]
    pointwise [k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay231, k0_pay232, k0_pay233, k0_pay234, k0_pay235, k0_pay236, k0_pay237, k0_pay238, Q15]
    blk_point [k0_off63_eq, k0_off54_eq, h55a, h55b]
  · idx_vars x
    unfold QTa QTs
    rw [dif_pos (by blk_simp [k0_off62_eq]; omega)]
    simp only [trip_k0_t4.sl.r, View.readAt_eq_ld, harg15.read_unread, harg18.read_unread]
    pointwise [k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay231, k0_pay232, k0_pay233, k0_pay234, k0_pay235, k0_pay236, k0_pay237, k0_pay238, Q15]
    blk_point [k0_off62_eq, k0_off54_eq, h55a, h55b]
  · idx_vars x
    unfold QTa QTs
    rw [dif_neg (by blk_simp [k0_off61_eq]; omega), dif_neg (by blk_simp [k0_off61_eq]; omega)]
    pointwise [k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay231, k0_pay232, k0_pay233, k0_pay234, k0_pay235, k0_pay236, k0_pay237, k0_pay238, Q15]
    blk_point [k0_off61_eq, k0_off54_eq, h55a, h55b]
  · idx_vars x
    unfold QTa QTs
    rw [dif_neg (by blk_simp [k0_off60_eq]; omega), dif_pos (by blk_simp [k0_off60_eq]; omega)]
    pointwise [k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay231, k0_pay232, k0_pay233, k0_pay234, k0_pay235, k0_pay236, k0_pay237, k0_pay238, Q15]
    blk_point [k0_off60_eq, k0_off54_eq, h55a, h55b]
  · idx_vars x
    unfold QTa QTs
    rw [dif_pos (by blk_simp [k0_off59_eq]; omega)]
    pointwise [k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay231, k0_pay232, k0_pay233, k0_pay234, k0_pay235, k0_pay236, k0_pay237, k0_pay238, Q15]
    blk_point [k0_off59_eq, k0_off54_eq, h55a, h55b]
  · idx_vars x
    unfold QTa QTs
    rw [dif_neg (by blk_simp [k0_off58_eq]; omega), dif_neg (by blk_simp [k0_off58_eq]; omega)]
    pointwise [k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay231, k0_pay232, k0_pay233, k0_pay234, k0_pay235, k0_pay236, k0_pay237, k0_pay238, Q15]
    blk_point [k0_off58_eq, k0_off54_eq, h55a, h55b]
  · idx_vars x
    unfold QTa QTs
    rw [dif_neg (by blk_simp [k0_off57_eq]; omega), dif_pos (by blk_simp [k0_off57_eq]; omega)]
    pointwise [k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay231, k0_pay232, k0_pay233, k0_pay234, k0_pay235, k0_pay236, k0_pay237, k0_pay238, Q15]
    blk_point [k0_off57_eq, k0_off54_eq, h55a, h55b]
  · idx_vars x
    unfold QTa QTs
    rw [dif_pos (by blk_simp [k0_off56_eq]; omega)]
    pointwise [k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay231, k0_pay232, k0_pay233, k0_pay234, k0_pay235, k0_pay236, k0_pay237, k0_pay238, Q15]
    blk_point [k0_off56_eq, k0_off54_eq, h55a, h55b]

/-- A trip's pieces cover its pair of heads. -/
theorem t4_cover (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (arg0 : BitVec 32) (v3 : Vec Ideal S256x1536 .fp8e4m3) (v4 : Vec Ideal S256x12 .f32) (v10 : FVec Ideal S256x128 .bf16) (v16 : FVec Ideal S256x128 .bf16) (v22 : FVec Ideal S256x128 .bf16) (v28 : FVec Ideal S256x128 .bf16) (v34 : FVec Ideal S256x128 .bf16) (v40 : FVec Ideal S256x128 .bf16) (v46 : FVec Ideal S256x128 .bf16) (v51 : FVec Ideal S256x128 .f32) (v82 : Vec Ideal S256x32 .f32) (v84 : Vec Ideal S256x32 .f32) (x15 : FVec Ideal S3072x1536 .bf16) (x16 : FVec Ideal S16x512x128 .bf16) (x18 : FVec Ideal S1536x256 .bf16) (k : Fin k0_t4_loop.trips) (y : S2x8x576x256.Idx) (hy : (y 1).val = k.val) :
    ∃ p ∈ (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v3 v4 v10 v16 v22 v28 v34 v40 v46 v51 v82 v84 (harg15.unread x15) (harg16.unread x16) (harg18.unread x18) k).1, y ∈ p.1.set := by
  unfold trip_k0_t4
  dsimp only
  have h0 : (y 0).val < 2 := (y 0).isLt
  have h2 : (y 2).val < 576 := (y 2).isLt
  have h3 : (y 3).val < 256 := (y 3).isLt
  rcases (by omega : (y 3).val < 128 ∨ 128 ≤ (y 3).val) with hc | hc
  · rcases (by omega : (y 0).val = 0 ∨ (y 0).val = 1) with ha | ha
    · rcases (by omega : (y 2).val < 512 ∨ (512 ≤ (y 2).val ∧ (y 2).val < 544) ∨ 544 ≤ (y 2).val) with hb | hb | hb
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), ?_⟩; rw [Rect.mem_set_unit]; exact mem_unit4 y (k0_off56_eq k) rfl (by omega) (by omega) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), ?_⟩; rw [Rect.mem_set_unit]; exact mem_unit4 y (k0_off57_eq k) rfl (by omega) (by omega) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), ?_⟩; rw [Rect.mem_set_unit]; exact mem_unit4 y (k0_off58_eq k) rfl (by omega) (by omega) (by omega) (by omega)
    · rcases (by omega : (y 2).val < 512 ∨ (512 ≤ (y 2).val ∧ (y 2).val < 544) ∨ 544 ≤ (y 2).val) with hb | hb | hb
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), ?_⟩; rw [Rect.mem_set_unit]; exact mem_unit4 y (k0_off59_eq k) rfl (by omega) (by omega) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩; rw [Rect.mem_set_unit]; exact mem_unit4 y (k0_off60_eq k) rfl (by omega) (by omega) (by omega) (by omega)
      · refine ⟨_, List.mem_cons_of_mem _ (List.mem_cons_of_mem _ (List.mem_cons_of_mem _ (List.mem_cons_of_mem _ (List.mem_cons_of_mem _ (List.mem_cons_of_mem _ (List.mem_cons_self)))))), ?_⟩; rw [Rect.mem_set_unit]; exact mem_unit4 y (k0_off61_eq k) rfl (by omega) (by omega) (by omega) (by omega)
  · rcases (by omega : (y 0).val = 0 ∨ (y 0).val = 1) with ha | ha
    · rcases (by omega : (y 2).val < 512 ∨ (512 ≤ (y 2).val ∧ (y 2).val < 544) ∨ 544 ≤ (y 2).val) with hb | hb | hb
      · refine ⟨_, List.mem_cons_of_mem _ (List.mem_cons_of_mem _ (List.mem_cons_of_mem _ (List.mem_cons_of_mem _ (List.mem_cons_of_mem _ (List.mem_cons_self))))), ?_⟩; rw [Rect.mem_set_unit]; exact mem_unit4 y (k0_off62_eq k) rfl (by omega) (by omega) (by omega) (by omega)
      · refine ⟨_, List.mem_cons_of_mem _ (List.mem_cons_of_mem _ (List.mem_cons_of_mem _ (List.mem_cons_of_mem _ (List.mem_cons_self)))), ?_⟩; rw [Rect.mem_set_unit]; exact mem_unit4 y (k0_off63_eq k) rfl (by omega) (by omega) (by omega) (by omega)
      · refine ⟨_, List.mem_cons_of_mem _ (List.mem_cons_of_mem _ (List.mem_cons_of_mem _ (List.mem_cons_self))), ?_⟩; rw [Rect.mem_set_unit]; exact mem_unit4 y (k0_off64_eq k) rfl (by omega) (by omega) (by omega) (by omega)
    · rcases (by omega : (y 2).val < 512 ∨ (512 ≤ (y 2).val ∧ (y 2).val < 544) ∨ 544 ≤ (y 2).val) with hb | hb | hb
      · refine ⟨_, List.mem_cons_of_mem _ (List.mem_cons_of_mem _ (List.mem_cons_self)), ?_⟩; rw [Rect.mem_set_unit]; exact mem_unit4 y (k0_off65_eq k) rfl (by omega) (by omega) (by omega) (by omega)
      · refine ⟨_, List.mem_cons_of_mem _ (List.mem_cons_self), ?_⟩; rw [Rect.mem_set_unit]; exact mem_unit4 y (k0_off66_eq k) rfl (by omega) (by omega) (by omega) (by omega)
      · refine ⟨_, List.mem_cons_self, ?_⟩; rw [Rect.mem_set_unit]; exact mem_unit4 y (k0_off67_eq k) rfl (by omega) (by omega) (by omega) (by omega)

theorem t4_trips : k0_t4_loop.trips = 8 := by decide +kernel

/-- After the loop the scratch buffer holds the specified array, whatever it held before. -/
theorem t4_read (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (arg0 : BitVec 32) (v3 : Vec Ideal S256x1536 .fp8e4m3) (v4 : Vec Ideal S256x12 .f32) (v10 : FVec Ideal S256x128 .bf16) (v16 : FVec Ideal S256x128 .bf16) (v22 : FVec Ideal S256x128 .bf16) (v28 : FVec Ideal S256x128 .bf16) (v34 : FVec Ideal S256x128 .bf16) (v40 : FVec Ideal S256x128 .bf16) (v46 : FVec Ideal S256x128 .bf16) (v51 : FVec Ideal S256x128 .f32) (v82 : Vec Ideal S256x32 .f32) (v84 : Vec Ideal S256x32 .f32) (x15 : FVec Ideal S3072x1536 .bf16) (x16 : FVec Ideal S16x512x128 .bf16) (x18 : FVec Ideal S1536x256 .bf16)  (f : BufTy.Contents (Elt Ideal) arg19.view.ty) :
    arg19.view.read (Elt Ideal) (arg19.view.writes (Elt Ideal) f (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v3 v4 v10 v16 v22 v28 v34 v40 v46 v51 v82 v84 (harg15.unread x15) (harg16.unread x16) (harg18.unread x18) k0_t4_loop.trips)) = QTa x15 x16 x18 v82 v84 := by
  funext y
  have hall : ∀ n, n ≤ k0_t4_loop.trips → ∀ p ∈ pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v3 v4 v10 v16 v22 v28 v34 v40 v46 v51 v82 v84 (harg15.unread x15) (harg16.unread x16) (harg18.unread x18) n, ∀ x, p.2 x = (QTa x15 x16 x18 v82 v84 : FVec Ideal S2x8x576x256 .bf16) (p.1.emb x) := by
    intro n; induction n with
    | zero => intro _ p hp; exact absurd hp List.not_mem_nil
    | succ n ih =>
      intro hn p hp
      rw [pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v3 v4 v10 v16 v22 v28 v34 v40 v46 v51 v82 v84 (harg15.unread x15) (harg16.unread x16) (harg18.unread x18) ⟨n, hn⟩] at hp
      rcases List.mem_append.mp hp with hp | hp
      · exact t4_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v3 v4 v10 v16 v22 v28 v34 v40 v46 v51 v82 v84 x15 x16 x18  ⟨n, hn⟩ p hp
      · exact ih (by omega) p hp
  have hmem : ∀ n, n ≤ k0_t4_loop.trips → ∀ (k : Fin k0_t4_loop.trips), k.val < n → ∀ p ∈ (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v3 v4 v10 v16 v22 v28 v34 v40 v46 v51 v82 v84 (harg15.unread x15) (harg16.unread x16) (harg18.unread x18) k).1,
      p ∈ pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v3 v4 v10 v16 v22 v28 v34 v40 v46 v51 v82 v84 (harg15.unread x15) (harg16.unread x16) (harg18.unread x18) n := by
    intro n; induction n with
    | zero => intro _ k hk; exact absurd hk (by omega)
    | succ n ih =>
      intro hn k hk p hp
      rw [pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v3 v4 v10 v16 v22 v28 v34 v40 v46 v51 v82 v84 (harg15.unread x15) (harg16.unread x16) (harg18.unread x18) ⟨n, hn⟩]
      rcases (by omega : k.val < n ∨ k.val = n) with h | h
      · exact List.mem_append_right _ (ih (by omega) k h p hp)
      · obtain rfl : k = ⟨n, hn⟩ := Fin.ext h
        exact List.mem_append_left _ hp
  have hy0 : (y 1).val < 8 := by have := (y 1).isLt; change (y 1).val < 8 at this; omega
  obtain ⟨p, hp, hy⟩ := t4_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v3 v4 v10 v16 v22 v28 v34 v40 v46 v51 v82 v84 x15 x16 x18 ⟨(y 1).val, lt_of_lt_of_eq hy0 t4_trips.symm⟩ y rfl
  exact View.read_writes_apply_of_pieces _ _ _ _ (hall _ le_rfl) y ⟨p, hmem _ le_rfl _ (lt_of_lt_of_eq hy0 t4_trips.symm) p hp, hy⟩

end Cert.KernelIdeal.Gen

end
-- ==== Proof.KernelIdeal.ReadCommon.lean ====
/- The values the body computes from its operands, shared by the three kinds of grid point. -/
module

public import proofs.«01_k».proof.Proof.KernelIdeal.Acc
public import proofs.«01_k».proof.Proof.KernelIdeal.Pay
public import proofs.«01_k».proof.Proof.KernelIdeal.T4
public import proofs.«01_k».proof.Proof.KernelIdeal.Kit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Words

/-- Entry `j` of the segment table. -/
def tw (c : Dev nD) (xt0 : TbBuf0 (F := Ideal) c tbM0_0) (j : Fin 7) : BitVec 32 := tbM0_0.view.read (Elt Ideal) xt0 (ix1 j)

/-- The running maxima of subtile `s` at a grid point, from the scratch weights and keys and the block's own queries. -/
def accOf (s : Fin 2) (i : grid0.Coords) (a0 a1 a2 a3 a4 a5 a6 : BitVec 32) (z15 : FVec Ideal S3072x1536 .bf16) (z16 : FVec Ideal S16x512x128 .bf16) (z17 : FVec Ideal S8192x576 .bf16)
    (x2 : FVec Ideal S256x1536 .fp8e4m3) (x3 : FVec Ideal S256x12 .f32) (x4 x5 : FVec Ideal S256x32 .f32) : FVec Ideal S8x8x256 .f32 :=
  accN z17 (QTa z15 z16 (CQs x2 x3) x4 x5) (maskB s.val i a0 a1 a2 a3 a4 a5 a6) s (chunk0 s.val i a0 a1 a2 a3 a4 a5 a6) (fun _ => ⊥) ((i 0).val + 1 - chunk0 s.val i a0 a1 a2 a3 a4 a5 a6)

/-- The block of row maxima a grid point stores. -/
def rmOf (i : grid0.Coords) (a0 a1 a2 a3 a4 a5 a6 : BitVec 32) (z15 : FVec Ideal S3072x1536 .bf16) (z16 : FVec Ideal S16x512x128 .bf16) (z17 : FVec Ideal S8192x576 .bf16)
    (x2 : FVec Ideal S256x1536 .fp8e4m3) (x3 : FVec Ideal S256x12 .f32) (x4 x5 : FVec Ideal S256x32 .f32) : FVec Ideal S256x16 .f32 := fun y =>
  topN (accOf ⟨(y 0).val / 128, by have := (y 0).isLt; change (y 0).val < 256 at this; omega⟩ i a0 a1 a2 a3 a4 a5 a6 z15 z16 z17 x2 x3 x4 x5) (y 1) ⟨(y 0).val % 128, Nat.mod_lt _ (by decide)⟩

/-- The lanes' maxima so far, raised by a grid point. -/
def smOf (i : grid0.Coords) (a0 a1 a2 a3 a4 a5 a6 : BitVec 32) (z15 : FVec Ideal S3072x1536 .bf16) (z16 : FVec Ideal S16x512x128 .bf16) (z17 : FVec Ideal S8192x576 .bf16)
    (x2 : FVec Ideal S256x1536 .fp8e4m3) (x3 : FVec Ideal S256x12 .f32) (x4 x5 : FVec Ideal S256x32 .f32) (o : FVec Ideal S16x128 .f32) : FVec Ideal S16x128 .f32 := fun y =>
  max (max (o y) (topN (accOf 0 i a0 a1 a2 a3 a4 a5 a6 z15 z16 z17 x2 x3 x4 x5) (y 0) (y 1))) (topN (accOf 1 i a0 a1 a2 a3 a4 a5 a6 z15 z16 z17 x2 x3 x4 x5) (y 0) (y 1))

theorem pay239_eq (i : grid0.Coords) (l : Fin 128) : k0_pay239 (BitVec.ofNat 32 (i 0).val) (ix2 0 l) = BitVec.ofNat 32 (tok0 0 i + l.val) := by
  have e : k0_pay239 (BitVec.ofNat 32 (i 0).val) (ix2 0 l) = IntOp.addi (Scalar.addi (Scalar.muli (BitVec.ofNat 32 (i 0).val) 256#32) 0#32) (BitVec.ofNat 32 l.val) := by
    pointwise [k0_pay239]
    try rfl
  rw [e, t0_eq0]
  exact (BitVec.ofNat_add _ _).symm

theorem pay250_eq (i : grid0.Coords) (l : Fin 128) : k0_pay250 (BitVec.ofNat 32 (i 0).val) (ix2 0 l) = BitVec.ofNat 32 (tok0 1 i + l.val) := by
  have e : k0_pay250 (BitVec.ofNat 32 (i 0).val) (ix2 0 l) = IntOp.addi (Scalar.addi (Scalar.muli (BitVec.ofNat 32 (i 0).val) 256#32) 128#32) (BitVec.ofNat 32 l.val) := by
    pointwise [k0_pay250]
    try rfl
  rw [e, t0_eq1]
  exact (BitVec.ofNat_add _ _).symm

theorem rows_read (arg13 : Memref sig .tc .vmem S256x16 .f32) (f : BufTy.Contents (Elt Ideal) arg13.view.ty) (u w : FVec Ideal S128x16 .f32) (G : FVec Ideal S256x16 .f32)
    (hu : ∀ (t : Fin 128) (h : Fin 16), u (ix2 t h) = G (ix2 ⟨128 + t.val, by omega⟩ h)) (hw : ∀ (t : Fin 128) (h : Fin 16), w (ix2 t h) = G (ix2 ⟨t.val, by omega⟩ h)) :
    arg13.view.read (Elt Ideal) (arg13.view.writes (Elt Ideal) f [⟨Rect.unit ![128, 0] S128x16.size inb_S256x16_S128x16_128_0, u⟩, ⟨Rect.unit ![0, 0] S128x16.size inb_S256x16_S128x16_0_0, w⟩]) = G := by
  funext y
  refine View.read_writes_apply_of_pieces (Val := Elt Ideal) arg13.view _ G _ ?_ y ?_
  · simp only [List.forall_mem_cons, List.not_mem_nil, false_imp_iff, implies_true, _root_.and_true]
    refine ⟨fun x => ?_, fun x => ?_⟩
    · idx_vars x
      refine (hu _ _).trans (congrArg G ?_)
      blk_ext
    · idx_vars x
      refine (hw _ _).trans (congrArg G ?_)
      blk_ext
  · have h0 : (y 0).val < 256 := (y 0).isLt
    have h1 : (y 1).val < 16 := (y 1).isLt
    rcases (by omega : 128 ≤ (y 0).val ∨ (y 0).val < 128) with h | h
    · refine ⟨_, List.mem_cons_self, ?_⟩; rw [Rect.mem_set_unit]; exact mem_unit2 y rfl rfl (by omega) (by omega)
    · refine ⟨_, List.mem_cons_of_mem _ List.mem_cons_self, ?_⟩; rw [Rect.mem_set_unit]; exact mem_unit2 y rfl rfl (by omega) (by omega)

end Cert.KernelIdeal.Gen

end
-- ==== Proof.KernelIdeal.RowsOf.lean ====
/- The rows a grid point stores, by subtile. -/
module

public import proofs.«01_k».proof.Proof.KernelIdeal.ReadCommon

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Words

local notation "𝕄" => MT nD τ sig Unit (Elt Ideal) ℕ (UR sig nD τ) ℕ

theorem pay249_eq (acc : FVec Ideal S8x8x256 .f32) (h : Fin 16) (t : Fin 128) :
    k0_pay249 (F := Ideal) acc (ix2 t h) = topN acc h t := by
  rw [← pay247_eq]
  generalize hx : k0_pay247 (F := Ideal) acc = x
  unfold k0_pay249
  rw [hx]
  pointwise []

/-- The greatest of a row's lanes, in every lane. -/
def lanesOf (o : FVec Ideal S16x128 .f32) : FVec Ideal S16x128 .f32 := fun y => (Finset.univ : Finset (Fin 128)).fold max ⊥ (fun j => o (ix2 (y 0) j))

theorem word_0 (c : Dev nD) (xt0 : TbBuf0 (F := Ideal) c tbM0_0) :
    tbM0_0.view.readAt (Elt Ideal) (Rect.unit (s := S7) ![0] S1.size inb_S7_S1_0).toLoadRect xt0 (Shape.Idx.first (s := S1) (by decide)) = tw c xt0 0 := by
  rw [View.readAt_eq_ld]
  refine congrArg (tbM0_0.view.read (Elt Ideal) xt0) ?_
  funext a
  refine Fin.ext ?_
  fin_cases a
  rfl

theorem word_1 (c : Dev nD) (xt0 : TbBuf0 (F := Ideal) c tbM0_0) :
    tbM0_0.view.readAt (Elt Ideal) (Rect.unit (s := S7) ![1] S1.size inb_S7_S1_1).toLoadRect xt0 (Shape.Idx.first (s := S1) (by decide)) = tw c xt0 1 := by
  rw [View.readAt_eq_ld]
  refine congrArg (tbM0_0.view.read (Elt Ideal) xt0) ?_
  funext a
  refine Fin.ext ?_
  fin_cases a
  rfl

theorem word_2 (c : Dev nD) (xt0 : TbBuf0 (F := Ideal) c tbM0_0) :
    tbM0_0.view.readAt (Elt Ideal) (Rect.unit (s := S7) ![2] S1.size inb_S7_S1_2).toLoadRect xt0 (Shape.Idx.first (s := S1) (by decide)) = tw c xt0 2 := by
  rw [View.readAt_eq_ld]
  refine congrArg (tbM0_0.view.read (Elt Ideal) xt0) ?_
  funext a
  refine Fin.ext ?_
  fin_cases a
  rfl

theorem word_3 (c : Dev nD) (xt0 : TbBuf0 (F := Ideal) c tbM0_0) :
    tbM0_0.view.readAt (Elt Ideal) (Rect.unit (s := S7) ![3] S1.size inb_S7_S1_3).toLoadRect xt0 (Shape.Idx.first (s := S1) (by decide)) = tw c xt0 3 := by
  rw [View.readAt_eq_ld]
  refine congrArg (tbM0_0.view.read (Elt Ideal) xt0) ?_
  funext a
  refine Fin.ext ?_
  fin_cases a
  rfl

theorem word_4 (c : Dev nD) (xt0 : TbBuf0 (F := Ideal) c tbM0_0) :
    tbM0_0.view.readAt (Elt Ideal) (Rect.unit (s := S7) ![4] S1.size inb_S7_S1_4).toLoadRect xt0 (Shape.Idx.first (s := S1) (by decide)) = tw c xt0 4 := by
  rw [View.readAt_eq_ld]
  refine congrArg (tbM0_0.view.read (Elt Ideal) xt0) ?_
  funext a
  refine Fin.ext ?_
  fin_cases a
  rfl

theorem word_5 (c : Dev nD) (xt0 : TbBuf0 (F := Ideal) c tbM0_0) :
    tbM0_0.view.readAt (Elt Ideal) (Rect.unit (s := S7) ![5] S1.size inb_S7_S1_5).toLoadRect xt0 (Shape.Idx.first (s := S1) (by decide)) = tw c xt0 5 := by
  rw [View.readAt_eq_ld]
  refine congrArg (tbM0_0.view.read (Elt Ideal) xt0) ?_
  funext a
  refine Fin.ext ?_
  fin_cases a
  rfl

theorem word_6 (c : Dev nD) (xt0 : TbBuf0 (F := Ideal) c tbM0_0) :
    tbM0_0.view.readAt (Elt Ideal) (Rect.unit (s := S7) ![6] S1.size inb_S7_S1_6).toLoadRect xt0 (Shape.Idx.first (s := S1) (by decide)) = tw c xt0 6 := by
  rw [View.readAt_eq_ld]
  refine congrArg (tbM0_0.view.read (Elt Ideal) xt0) ?_
  funext a
  refine Fin.ext ?_
  fin_cases a
  rfl

section
variable (i : grid0.Coords) (a0 a1 a2 a3 a4 a5 a6 : BitVec 32) (z15 : FVec Ideal S3072x1536 .bf16) (z16 : FVec Ideal S16x512x128 .bf16) (z17 : FVec Ideal S8192x576 .bf16)
    (x2 : FVec Ideal S256x1536 .fp8e4m3) (x3 : FVec Ideal S256x12 .f32) (x4 x5 : FVec Ideal S256x32 .f32)

theorem rmOf_hi (t : Fin 128) (h : Fin 16) : topN (accOf 1 i a0 a1 a2 a3 a4 a5 a6 z15 z16 z17 x2 x3 x4 x5) h t = rmOf i a0 a1 a2 a3 a4 a5 a6 z15 z16 z17 x2 x3 x4 x5 (ix2 ⟨128 + t.val, by omega⟩ h) := by
  have e1 : (⟨(128 + t.val) / 128, by omega⟩ : Fin 2) = 1 := Fin.ext (by show (128 + t.val) / 128 = 1; omega)
  have e2 : (⟨(128 + t.val) % 128, Nat.mod_lt _ (by decide)⟩ : Fin 128) = t := Fin.ext (by show (128 + t.val) % 128 = t.val; omega)
  show _ = topN (accOf ⟨(128 + t.val) / 128, _⟩ i a0 a1 a2 a3 a4 a5 a6 z15 z16 z17 x2 x3 x4 x5) h ⟨(128 + t.val) % 128, _⟩
  rw [e1, e2]

theorem rmOf_lo (t : Fin 128) (h : Fin 16) : topN (accOf 0 i a0 a1 a2 a3 a4 a5 a6 z15 z16 z17 x2 x3 x4 x5) h t = rmOf i a0 a1 a2 a3 a4 a5 a6 z15 z16 z17 x2 x3 x4 x5 (ix2 ⟨t.val, by omega⟩ h) := by
  have e1 : (⟨t.val / 128, by omega⟩ : Fin 2) = 0 := Fin.ext (by show t.val / 128 = 0; omega)
  have e2 : (⟨t.val % 128, Nat.mod_lt _ (by decide)⟩ : Fin 128) = t := Fin.ext (by show t.val % 128 = t.val; omega)
  show _ = topN (accOf ⟨t.val / 128, _⟩ i a0 a1 a2 a3 a4 a5 a6 z15 z16 z17 x2 x3 x4 x5) h ⟨t.val % 128, _⟩
  rw [e1, e2]
end

end Cert.KernelIdeal.Gen

end
-- ==== Proof.KernelIdeal.ValMid.lean ====
/- The body at a point that is neither the first nor the last: what it leaves in its outputs and scratch buffers. -/
module

public import proofs.«01_k».proof.Proof.KernelIdeal.Chk
public import proofs.«01_k».proof.Proof.Gen.KernelIdeal.Loops
public import Idealize.ShloMosaic.Lib.LoopRemainder

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at a point that is neither the first nor the last: it runs, the inputs keep their contents, and the outputs and scratch buffers hold the contents named here. -/
@[irreducible] def bodyV_B (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : ¬cond0_0 i) (hc1 : ¬cond0_1 i)
    (x0 : Vec F S24x12 .f32) (x1 : Vec F S16x4 .f32) (x2 : Vec F S256x1536 .fp8e4m3) (x3 : Vec F S256x12 .f32) (x4 : Vec F S256x32 .f32) (x5 : Vec F S256x32 .f32) (x6 : Vec F S3072x1536 .fp8e4m3) (x7 : Vec F S2048x512 .fp8e4m3) (x8 : Vec F S8192x512 .fp8e4m3) (x9 : Vec F S8192x4 .f32) (x10 : Vec F S8192x64 .bf16) (xt0 : TbBuf0 (F := F) c tbM0_0) (z14 : Vec F S16x128 .f32) (z15 : Vec F S3072x1536 .bf16) (z16 : Vec F S16x512x128 .bf16) (z17 : Vec F S8192x576 .bf16) (f13 : BufTy.Contents (Elt F) arg13.view.ty) (f18 : BufTy.Contents (Elt F) arg18.view.ty) (f19 : BufTy.Contents (Elt F) arg19.view.ty) (f20 : BufTy.Contents (Elt F) arg20.view.ty) (f21 : BufTy.Contents (Elt F) arg21.view.ty) :
    Σ' (R13 : BufTy.Contents (Elt F) arg13.view.ty), { R14 : BufTy.Contents (Elt F) arg14.view.ty // ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (arg13.view.loc (c : Thread nD τ) ↦[arg13.view.set]{fullShare} f13) ∗ (arg14.view.loc (c : Thread nD τ) ↦[arg14.view.set]{fullShare} (harg14.unread z14)) ∗ (arg15.view.loc (c : Thread nD τ) ↦[arg15.view.set]{fullShare} (harg15.unread z15)) ∗ (arg16.view.loc (c : Thread nD τ) ↦[arg16.view.set]{fullShare} (harg16.unread z16)) ∗ (arg17.view.loc (c : Thread nD τ) ↦[arg17.view.set]{fullShare} (harg17.unread z17)) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (arg13.view.loc (c : Thread nD τ) ↦[arg13.view.set]{fullShare} R13) ∗ (arg14.view.loc (c : Thread nD τ) ↦[arg14.view.set]{fullShare} R14) ∗ (arg15.view.loc (c : Thread nD τ) ↦[arg15.view.set]{fullShare} (harg15.unread z15)) ∗ (arg16.view.loc (c : Thread nD τ) ↦[arg16.view.set]{fullShare} (harg16.unread z16)) ∗ (arg17.view.loc (c : Thread nD τ) ↦[arg17.view.set]{fullShare} (harg17.unread z17)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ tbPt0 c tbM0_0 xt0) -∗ K ⟨⟩))
      ⊢ wp frame (wpE (defs₀ (F := F)) Variants.none c none) E (cc0_row_max_logits i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, fun E K => ?run⟩
  case run =>
    simp only [cc0_row_max_logits_eq_skeleton]; unfold cc0_row_max_logits_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, H13, H14, H15, H16, H17, H18, H19, H20, H21, HT0, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc0 | sl_exact hc1 | sl_exact (chk1_all i _ _ _ _ _ _ _) | sl_exact (chk2_all i _ _ _ _ _ _ _))
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]; · iexists _; iexact H21
    iexact HT0

end Cert.KernelIdeal.Gen

end
-- ==== Proof.KernelIdeal.ReadMid.lean ====
/- The running maxima the body computes. -/
module

public import proofs.«01_k».proof.Proof.KernelIdeal.ReadCommon
public import proofs.«01_k».proof.Proof.KernelIdeal.ValMid

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Words

theorem seg0_B (c : Dev nD) (i : grid0.Coords) (xt0 : TbBuf0 (F := Ideal) c tbM0_0) (l : Fin 128) :
    bodyV_B.sl.r_20 (F := Ideal) c i xt0 (ix2 0 l) = firstW (k0_pay239 (BitVec.ofNat 32 (i 0).val) (ix2 0 l)) (bodyV_B.sl.r_13 c xt0) (bodyV_B.sl.r_14 c xt0) (bodyV_B.sl.r_15 c xt0) (bodyV_B.sl.r_16 c xt0) (bodyV_B.sl.r_17 c xt0) (bodyV_B.sl.r_18 c xt0) (bodyV_B.sl.r_19 c xt0) := by
  change _ = firstW (bodyV_B.sl.r_11 i (ix2 0 l)) (bodyV_B.sl.r_13 c xt0) (bodyV_B.sl.r_14 c xt0) (bodyV_B.sl.r_15 c xt0) (bodyV_B.sl.r_16 c xt0) (bodyV_B.sl.r_17 c xt0) (bodyV_B.sl.r_18 c xt0) (bodyV_B.sl.r_19 c xt0)
  unfold firstW segW
  rfl

theorem first0_B (c : Dev nD) (i : grid0.Coords) (xt0 : TbBuf0 (F := Ideal) c tbM0_0) :
    bodyV_B.sl.v197 (F := Ideal) c i xt0 = fdivW (firstW (Scalar.addi (Scalar.muli (BitVec.ofNat 32 (i 0).val) 256#32) 0#32) (bodyV_B.sl.r_13 c xt0) (bodyV_B.sl.r_14 c xt0) (bodyV_B.sl.r_15 c xt0) (bodyV_B.sl.r_16 c xt0) (bodyV_B.sl.r_17 c xt0) (bodyV_B.sl.r_18 c xt0) (bodyV_B.sl.r_19 c xt0)) := by
  have h : bodyV_B.sl.v176 (F := Ideal) c i xt0 = firstW (Scalar.addi (Scalar.muli (BitVec.ofNat 32 (i 0).val) 256#32) 0#32) (bodyV_B.sl.r_13 c xt0) (bodyV_B.sl.r_14 c xt0) (bodyV_B.sl.r_15 c xt0) (bodyV_B.sl.r_16 c xt0) (bodyV_B.sl.r_17 c xt0) (bodyV_B.sl.r_18 c xt0) (bodyV_B.sl.r_19 c xt0) := rfl
  rw [← h]
  rfl

set_option maxHeartbeats 4000000 in
/-- The running maxima of subtile 0, as the body computes them. -/
theorem acc0_B (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole)  (x2 : FVec Ideal S256x1536 .fp8e4m3) (x3 : FVec Ideal S256x12 .f32) (x4 : FVec Ideal S256x32 .f32) (x5 : FVec Ideal S256x32 .f32) (xt0 : TbBuf0 (F := Ideal) c tbM0_0) (z15 : FVec Ideal S3072x1536 .bf16) (z16 : FVec Ideal S16x512x128 .bf16) (z17 : FVec Ideal S8192x576 .bf16) (f19 : BufTy.Contents (Elt Ideal) arg19.view.ty) :
    bodyV_B.sl.v225 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 xt0 z15 z16 z17 f19 = accOf 0 i (bodyV_B.sl.r_13 c xt0) (bodyV_B.sl.r_14 c xt0) (bodyV_B.sl.r_15 c xt0) (bodyV_B.sl.r_16 c xt0) (bodyV_B.sl.r_17 c xt0) (bodyV_B.sl.r_18 c xt0) (bodyV_B.sl.r_19 c xt0) z15 z16 z17 x2 x3 x4 x5 := by
  have e18 : arg18.view.writes (Elt Ideal) arg18.view.junk (bodyV_B.sl.H18_1 (F := Ideal) c arg4 harg4 arg5 harg5 x2 x3) = harg18.unread (CQs x2 x3) := by
    refine harg18.eq_unread ?_
    funext y
    unfold bodyV_B.sl.H18_1
    rw [View.read_writes_junk_apply_eq_canon, View.canon_unit_zero (by decide +kernel)]
    unfold bodyV_B.sl.r bodyV_B.sl.r_1 bodyV_B.sl.r_2 bodyV_B.sl.r_3 bodyV_B.sl.r_4 bodyV_B.sl.r_5 bodyV_B.sl.r_6 bodyV_B.sl.r_7 bodyV_B.sl.r_8 bodyV_B.sl.r_9
    simp only [View.readAt_eq_ld, harg4.read_unread, harg5.read_unread]
    rw [View.ld_unit_zero (by decide +kernel), View.ld_unit_zero (by decide +kernel)]
    exact congrFun (cq_eq x2 x3) y
  unfold bodyV_B.sl.v225
  refine acc0_read Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 0).val) (bodyV_B.sl.r_13 c xt0) (bodyV_B.sl.r_14 c xt0) (bodyV_B.sl.r_15 c xt0) (bodyV_B.sl.r_16 c xt0) (bodyV_B.sl.r_17 c xt0) (bodyV_B.sl.r_18 c xt0) (bodyV_B.sl.r_19 c xt0) _ _ _ _ _ ?_ ?_ ?_ _ _ _ _ ?_ _ _ _ _ _ ?_ ?_
  · intro l; exact pay239_eq i l
  · intro l
    rw [← pay239_eq i l]
    exact seg0_B c i xt0 l
  · rw [first0_B, t0_eq0, lo_eq 0 (by omega)]
  · rw [e18]
    have e4 : View.readAt (Elt Ideal) arg6.view (Rect.unit ![0, 0] S256x32.size inb_S256x32_S256x32_0_0).toLoadRect (harg6.unread x4) = x4 := by
      rw [View.readAt_eq_ld, harg6.read_unread, View.ld_unit_zero (by decide +kernel)]
    have e5 : View.readAt (Elt Ideal) arg7.view (Rect.unit ![0, 0] S256x32.size inb_S256x32_S256x32_0_0).toLoadRect (harg7.unread x5) = x5 := by
      rw [View.readAt_eq_ld, harg7.read_unread, View.ld_unit_zero (by decide +kernel)]
    rw [e4, e5]
    exact t4_read Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ x4 x5 z15 z16 (CQs x2 x3) f19
  · exact t5_trips i (bodyV_B.sl.r_13 c xt0) (bodyV_B.sl.r_14 c xt0) (bodyV_B.sl.r_15 c xt0) (bodyV_B.sl.r_16 c xt0) (bodyV_B.sl.r_17 c xt0) (bodyV_B.sl.r_18 c xt0) (bodyV_B.sl.r_19 c xt0)
  · exact Scf.rem_trips _ _

theorem seg1_B (c : Dev nD) (i : grid0.Coords) (xt0 : TbBuf0 (F := Ideal) c tbM0_0) (l : Fin 128) :
    bodyV_B.sl.r_31 (F := Ideal) c i xt0 (ix2 0 l) = firstW (k0_pay250 (BitVec.ofNat 32 (i 0).val) (ix2 0 l)) (bodyV_B.sl.r_24 c xt0) (bodyV_B.sl.r_25 c xt0) (bodyV_B.sl.r_26 c xt0) (bodyV_B.sl.r_27 c xt0) (bodyV_B.sl.r_28 c xt0) (bodyV_B.sl.r_29 c xt0) (bodyV_B.sl.r_30 c xt0) := by
  change _ = firstW (bodyV_B.sl.r_22 i (ix2 0 l)) (bodyV_B.sl.r_24 c xt0) (bodyV_B.sl.r_25 c xt0) (bodyV_B.sl.r_26 c xt0) (bodyV_B.sl.r_27 c xt0) (bodyV_B.sl.r_28 c xt0) (bodyV_B.sl.r_29 c xt0) (bodyV_B.sl.r_30 c xt0)
  unfold firstW segW
  rfl

theorem first1_B (c : Dev nD) (i : grid0.Coords) (xt0 : TbBuf0 (F := Ideal) c tbM0_0) :
    bodyV_B.sl.v362 (F := Ideal) c i xt0 = fdivW (firstW (Scalar.addi (Scalar.muli (BitVec.ofNat 32 (i 0).val) 256#32) 128#32) (bodyV_B.sl.r_24 c xt0) (bodyV_B.sl.r_25 c xt0) (bodyV_B.sl.r_26 c xt0) (bodyV_B.sl.r_27 c xt0) (bodyV_B.sl.r_28 c xt0) (bodyV_B.sl.r_29 c xt0) (bodyV_B.sl.r_30 c xt0)) := by
  have h : bodyV_B.sl.v341 (F := Ideal) c i xt0 = firstW (Scalar.addi (Scalar.muli (BitVec.ofNat 32 (i 0).val) 256#32) 128#32) (bodyV_B.sl.r_24 c xt0) (bodyV_B.sl.r_25 c xt0) (bodyV_B.sl.r_26 c xt0) (bodyV_B.sl.r_27 c xt0) (bodyV_B.sl.r_28 c xt0) (bodyV_B.sl.r_29 c xt0) (bodyV_B.sl.r_30 c xt0) := rfl
  rw [← h]
  rfl

set_option maxHeartbeats 4000000 in
/-- The running maxima of subtile 1, as the body computes them. -/
theorem acc1_B (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole)  (x2 : FVec Ideal S256x1536 .fp8e4m3) (x3 : FVec Ideal S256x12 .f32) (x4 : FVec Ideal S256x32 .f32) (x5 : FVec Ideal S256x32 .f32) (xt0 : TbBuf0 (F := Ideal) c tbM0_0) (z15 : FVec Ideal S3072x1536 .bf16) (z16 : FVec Ideal S16x512x128 .bf16) (z17 : FVec Ideal S8192x576 .bf16) (f19 : BufTy.Contents (Elt Ideal) arg19.view.ty) :
    bodyV_B.sl.v390 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 xt0 z15 z16 z17 f19 = accOf 1 i (bodyV_B.sl.r_24 c xt0) (bodyV_B.sl.r_25 c xt0) (bodyV_B.sl.r_26 c xt0) (bodyV_B.sl.r_27 c xt0) (bodyV_B.sl.r_28 c xt0) (bodyV_B.sl.r_29 c xt0) (bodyV_B.sl.r_30 c xt0) z15 z16 z17 x2 x3 x4 x5 := by
  have e18 : arg18.view.writes (Elt Ideal) arg18.view.junk (bodyV_B.sl.H18_1 (F := Ideal) c arg4 harg4 arg5 harg5 x2 x3) = harg18.unread (CQs x2 x3) := by
    refine harg18.eq_unread ?_
    funext y
    unfold bodyV_B.sl.H18_1
    rw [View.read_writes_junk_apply_eq_canon, View.canon_unit_zero (by decide +kernel)]
    unfold bodyV_B.sl.r bodyV_B.sl.r_1 bodyV_B.sl.r_2 bodyV_B.sl.r_3 bodyV_B.sl.r_4 bodyV_B.sl.r_5 bodyV_B.sl.r_6 bodyV_B.sl.r_7 bodyV_B.sl.r_8 bodyV_B.sl.r_9
    simp only [View.readAt_eq_ld, harg4.read_unread, harg5.read_unread]
    rw [View.ld_unit_zero (by decide +kernel), View.ld_unit_zero (by decide +kernel)]
    exact congrFun (cq_eq x2 x3) y
  unfold bodyV_B.sl.v390
  refine acc1_read Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (bodyV_B.sl.r_24 c xt0) (bodyV_B.sl.r_25 c xt0) (bodyV_B.sl.r_26 c xt0) (bodyV_B.sl.r_27 c xt0) (bodyV_B.sl.r_28 c xt0) (bodyV_B.sl.r_29 c xt0) (bodyV_B.sl.r_30 c xt0) _ _ _ _ ?_ ?_ ?_ _ _ _ _ ?_ _ _ _ _ _ ?_ ?_
  · intro l; exact pay250_eq i l
  · intro l
    rw [← pay250_eq i l]
    exact seg1_B c i xt0 l
  · rw [first1_B, t0_eq1, lo_eq 1 (by omega)]
  · rw [e18]
    have e4 : View.readAt (Elt Ideal) arg6.view (Rect.unit ![0, 0] S256x32.size inb_S256x32_S256x32_0_0).toLoadRect (harg6.unread x4) = x4 := by
      rw [View.readAt_eq_ld, harg6.read_unread, View.ld_unit_zero (by decide +kernel)]
    have e5 : View.readAt (Elt Ideal) arg7.view (Rect.unit ![0, 0] S256x32.size inb_S256x32_S256x32_0_0).toLoadRect (harg7.unread x5) = x5 := by
      rw [View.readAt_eq_ld, harg7.read_unread, View.ld_unit_zero (by decide +kernel)]
    rw [e4, e5]
    exact t4_read Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ x4 x5 z15 z16 (CQs x2 x3) f19
  · exact t7_trips i (bodyV_B.sl.r_24 c xt0) (bodyV_B.sl.r_25 c xt0) (bodyV_B.sl.r_26 c xt0) (bodyV_B.sl.r_27 c xt0) (bodyV_B.sl.r_28 c xt0) (bodyV_B.sl.r_29 c xt0) (bodyV_B.sl.r_30 c xt0)
  · exact Scf.rem_trips _ _

end Cert.KernelIdeal.Gen

end
-- ==== Proof.KernelIdeal.PointMid.lean ====
/- What a run of the body leaves. -/
module

public import proofs.«01_k».proof.Proof.KernelIdeal.RowsOf
public import proofs.«01_k».proof.Proof.KernelIdeal.ReadMid

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Words

local notation "𝕄" => MT nD τ sig Unit (Elt Ideal) ℕ (UR sig nD τ) ℕ

theorem accT0_B (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : ¬cond0_0 i) (hc1 : ¬cond0_1 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0) (z14 : FVec Ideal S16x128 .f32) (z15 : FVec Ideal S3072x1536 .bf16) (z16 : FVec Ideal S16x512x128 .bf16) (z17 : FVec Ideal S8192x576 .bf16) (f13 : BufTy.Contents (Elt Ideal) arg13.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) : bodyV_B.sl.v225 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 xt0 z15 z16 z17 f19 = accOf 0 i (tw c xt0 0) (tw c xt0 1) (tw c xt0 2) (tw c xt0 3) (tw c xt0 4) (tw c xt0 5) (tw c xt0 6) z15 z16 z17 x2 x3 x4 x5 := by
  have e := acc0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 xt0 z15 z16 z17 f19
  rw [e]
  rw [show bodyV_B.sl.r_13 (F := Ideal) c xt0 = tw c xt0 0 from word_0 c xt0]
  rw [show bodyV_B.sl.r_14 (F := Ideal) c xt0 = tw c xt0 1 from word_1 c xt0]
  rw [show bodyV_B.sl.r_15 (F := Ideal) c xt0 = tw c xt0 2 from word_2 c xt0]
  rw [show bodyV_B.sl.r_16 (F := Ideal) c xt0 = tw c xt0 3 from word_3 c xt0]
  rw [show bodyV_B.sl.r_17 (F := Ideal) c xt0 = tw c xt0 4 from word_4 c xt0]
  rw [show bodyV_B.sl.r_18 (F := Ideal) c xt0 = tw c xt0 5 from word_5 c xt0]
  rw [show bodyV_B.sl.r_19 (F := Ideal) c xt0 = tw c xt0 6 from word_6 c xt0]

theorem accT1_B (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : ¬cond0_0 i) (hc1 : ¬cond0_1 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0) (z14 : FVec Ideal S16x128 .f32) (z15 : FVec Ideal S3072x1536 .bf16) (z16 : FVec Ideal S16x512x128 .bf16) (z17 : FVec Ideal S8192x576 .bf16) (f13 : BufTy.Contents (Elt Ideal) arg13.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) : bodyV_B.sl.v390 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 xt0 z15 z16 z17 f19 = accOf 1 i (tw c xt0 0) (tw c xt0 1) (tw c xt0 2) (tw c xt0 3) (tw c xt0 4) (tw c xt0 5) (tw c xt0 6) z15 z16 z17 x2 x3 x4 x5 := by
  have e := acc1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 xt0 z15 z16 z17 f19
  rw [e]
  rw [show bodyV_B.sl.r_24 (F := Ideal) c xt0 = tw c xt0 0 from word_0 c xt0]
  rw [show bodyV_B.sl.r_25 (F := Ideal) c xt0 = tw c xt0 1 from word_1 c xt0]
  rw [show bodyV_B.sl.r_26 (F := Ideal) c xt0 = tw c xt0 2 from word_2 c xt0]
  rw [show bodyV_B.sl.r_27 (F := Ideal) c xt0 = tw c xt0 3 from word_3 c xt0]
  rw [show bodyV_B.sl.r_28 (F := Ideal) c xt0 = tw c xt0 4 from word_4 c xt0]
  rw [show bodyV_B.sl.r_29 (F := Ideal) c xt0 = tw c xt0 5 from word_5 c xt0]
  rw [show bodyV_B.sl.r_30 (F := Ideal) c xt0 = tw c xt0 6 from word_6 c xt0]

set_option maxHeartbeats 4000000 in
theorem rm_B (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : ¬cond0_0 i) (hc1 : ¬cond0_1 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0) (z14 : FVec Ideal S16x128 .f32) (z15 : FVec Ideal S3072x1536 .bf16) (z16 : FVec Ideal S16x512x128 .bf16) (z17 : FVec Ideal S8192x576 .bf16) (f13 : BufTy.Contents (Elt Ideal) arg13.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) : arg13.view.read (Elt Ideal) (bodyV_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21).1 = (rmOf i (tw c xt0 0) (tw c xt0 1) (tw c xt0 2) (tw c xt0 3) (tw c xt0 4) (tw c xt0 5) (tw c xt0 6) z15 z16 z17 x2 x3 x4 x5) := by
  unfold bodyV_B; dsimp only
  refine rows_read arg13 f13 _ _ _ (fun t h => ?_) (fun t h => ?_)
  · rw [pay5_eq, accT1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21]
    exact rmOf_hi _ _ _ _ _ _ _ _ _ _ _ _ _ _ _ t h
  · rw [pay249_eq, accT0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21]
    exact rmOf_lo _ _ _ _ _ _ _ _ _ _ _ _ _ _ _ t h

set_option maxHeartbeats 4000000 in
theorem sm_B (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : ¬cond0_0 i) (hc1 : ¬cond0_1 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0) (z14 : FVec Ideal S16x128 .f32) (z15 : FVec Ideal S3072x1536 .bf16) (z16 : FVec Ideal S16x512x128 .bf16) (z17 : FVec Ideal S8192x576 .bf16) (f13 : BufTy.Contents (Elt Ideal) arg13.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) : arg14.view.read (Elt Ideal) (bodyV_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21).2.1 = (smOf i (tw c xt0 0) (tw c xt0 1) (tw c xt0 2) (tw c xt0 3) (tw c xt0 4) (tw c xt0 5) (tw c xt0 6) z15 z16 z17 x2 x3 x4 x5 z14) := by
  unfold bodyV_B; dsimp only
  have e0 := accT0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21
  have e1 := accT1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21
  have h1 : ∀ h t, bodyV_B.sl.v411 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 xt0 z14 z15 z16 z17 f19 (ix2 h t) = max (z14 (ix2 h t)) (topN (accOf 0 i (tw c xt0 0) (tw c xt0 1) (tw c xt0 2) (tw c xt0 3) (tw c xt0 4) (tw c xt0 5) (tw c xt0 6) z15 z16 z17 x2 x3 x4 x5) h t) := by
    intro h t
    unfold bodyV_B.sl.v411 bodyV_B.sl.H14_1
    show View.readAt (Elt Ideal) arg14.view _ (arg14.view.writes (Elt Ideal) arg14.view.junk _) _ = _
    rw [View.readAt_eq_ld, View.ld_unit_zero (by decide +kernel), View.read_writes_junk_apply_eq_canon, View.canon_cons_unit_zero (by decide +kernel), pay248_eq, e0]
    rw [View.readAt_eq_ld, harg14.read_unread, View.ld_unit_zero (by decide +kernel)]
  funext y
  idx_vars y
  rw [View.read_writes_junk_apply_eq_canon, View.canon_cons_unit_zero (by decide +kernel), pay4_eq, h1, e1]
  rfl

set_option maxHeartbeats 8000000 in
/-- The body's run with the values it leaves. -/
theorem runV_B (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : ¬cond0_0 i) (hc1 : ¬cond0_1 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0) (z14 : FVec Ideal S16x128 .f32) (z15 : FVec Ideal S3072x1536 .bf16) (z16 : FVec Ideal S16x512x128 .bf16) (z17 : FVec Ideal S8192x576 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ X, owns (c : Thread nD τ) arg13 fullShare X) ∗ owns (c : Thread nD τ) arg14 fullShare z14 ∗ owns (c : Thread nD τ) arg15 fullShare z15 ∗ owns (c : Thread nD τ) arg16 fullShare z16 ∗ owns (c : Thread nD τ) arg17 fullShare z17 ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (rmOf i (tw c xt0 0) (tw c xt0 1) (tw c xt0 2) (tw c xt0 3) (tw c xt0 4) (tw c xt0 5) (tw c xt0 6) z15 z16 z17 x2 x3 x4 x5) ∗ owns (c : Thread nD τ) arg14 fullShare (smOf i (tw c xt0 0) (tw c xt0 1) (tw c xt0 2) (tw c xt0 3) (tw c xt0 4) (tw c xt0 5) (tw c xt0 6) z15 z16 z17 x2 x3 x4 x5 z14) ∗ owns (c : Thread nD τ) arg15 fullShare z15 ∗ owns (c : Thread nD τ) arg16 fullShare z16 ∗ owns (c : Thread nD τ) arg17 fullShare z17 ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ tbPt0 c tbM0_0 xt0) -∗ K ⟨⟩))
      ⊢ wp frame (wpE (defs₀ (F := Ideal)) Variants.none c none) Set.univ (cc0_row_max_logits i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨H2, H3, H4, H5, H6, H7, H8, H9, H10, H11, H12, ⟨%X13, %f13, %hf13, H13⟩, ⟨%f14, %hf14, H14⟩, ⟨%f15, %hf15, H15⟩, ⟨%f16, %hf16, H16⟩, ⟨%f17, %hf17, H17⟩, ⟨%X18, %f18, %hf18, H18⟩, ⟨%X19, %f19, %hf19, H19⟩, ⟨%X20, %f20, %hf20, H20⟩, ⟨%X21, %f21, %hf21, H21⟩, HT0, Hk⟩
  obtain rfl := harg14.eq_unread hf14; obtain rfl := harg15.eq_unread hf15; obtain rfl := harg16.eq_unread hf16; obtain rfl := harg17.eq_unread hf17
  have run := (bodyV_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21).2.2 Set.univ K
  have e13 := rm_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21
  have e14 := sm_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21
  unfold owns at run
  iapply run
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [HT0]; · iexact HT0
  iintro ⟨H2, H3, H4, H5, H6, H7, H8, H9, H10, H11, H12, H13, H14, H15, H16, H17, ⟨%g18, H18⟩, ⟨%g19, H19⟩, ⟨%g20, H20⟩, ⟨%g21, H21⟩, HT0⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr
    swap; · iexact H13
    ipureintro; exact e13
  isplitl [H14]
  · iexists _; isplitr
    swap; · iexact H14
    ipureintro; exact e14
  isplitl [H15]
  · iexists _; isplitr
    swap; · iexact H15
    ipureintro; exact harg15.read_unread _
  isplitl [H16]
  · iexists _; isplitr
    swap; · iexact H16
    ipureintro; exact harg16.read_unread _
  isplitl [H17]
  · iexists _; isplitr
    swap; · iexact H17
    ipureintro; exact harg17.read_unread _
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  isplitl [H21]
  · iexists _; iexists _; isplitr
    swap; · iexact H21
    ipureintro; rfl
  iexact HT0

end Cert.KernelIdeal.Gen

end
-- ==== Proof.KernelIdeal.ValLast.lean ====
/- The body at the last point: what it leaves in its outputs and scratch buffers. -/
module

public import proofs.«01_k».proof.Proof.KernelIdeal.Chk
public import proofs.«01_k».proof.Proof.Gen.KernelIdeal.Loops
public import Idealize.ShloMosaic.Lib.LoopRemainder

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at the last point: it runs, the inputs keep their contents, and the outputs and scratch buffers hold the contents named here. -/
@[irreducible] def bodyV_C (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : ¬cond0_0 i) (hc1 : cond0_1 i)
    (x0 : Vec F S24x12 .f32) (x1 : Vec F S16x4 .f32) (x2 : Vec F S256x1536 .fp8e4m3) (x3 : Vec F S256x12 .f32) (x4 : Vec F S256x32 .f32) (x5 : Vec F S256x32 .f32) (x6 : Vec F S3072x1536 .fp8e4m3) (x7 : Vec F S2048x512 .fp8e4m3) (x8 : Vec F S8192x512 .fp8e4m3) (x9 : Vec F S8192x4 .f32) (x10 : Vec F S8192x64 .bf16) (xt0 : TbBuf0 (F := F) c tbM0_0) (z14 : Vec F S16x128 .f32) (z15 : Vec F S3072x1536 .bf16) (z16 : Vec F S16x512x128 .bf16) (z17 : Vec F S8192x576 .bf16) (f13 : BufTy.Contents (Elt F) arg13.view.ty) (f18 : BufTy.Contents (Elt F) arg18.view.ty) (f19 : BufTy.Contents (Elt F) arg19.view.ty) (f20 : BufTy.Contents (Elt F) arg20.view.ty) (f21 : BufTy.Contents (Elt F) arg21.view.ty) :
    Σ' (R13 : BufTy.Contents (Elt F) arg13.view.ty), { R14 : BufTy.Contents (Elt F) arg14.view.ty // ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (arg13.view.loc (c : Thread nD τ) ↦[arg13.view.set]{fullShare} f13) ∗ (arg14.view.loc (c : Thread nD τ) ↦[arg14.view.set]{fullShare} (harg14.unread z14)) ∗ (arg15.view.loc (c : Thread nD τ) ↦[arg15.view.set]{fullShare} (harg15.unread z15)) ∗ (arg16.view.loc (c : Thread nD τ) ↦[arg16.view.set]{fullShare} (harg16.unread z16)) ∗ (arg17.view.loc (c : Thread nD τ) ↦[arg17.view.set]{fullShare} (harg17.unread z17)) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (arg13.view.loc (c : Thread nD τ) ↦[arg13.view.set]{fullShare} R13) ∗ (arg14.view.loc (c : Thread nD τ) ↦[arg14.view.set]{fullShare} R14) ∗ (arg15.view.loc (c : Thread nD τ) ↦[arg15.view.set]{fullShare} (harg15.unread z15)) ∗ (arg16.view.loc (c : Thread nD τ) ↦[arg16.view.set]{fullShare} (harg16.unread z16)) ∗ (arg17.view.loc (c : Thread nD τ) ↦[arg17.view.set]{fullShare} (harg17.unread z17)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ tbPt0 c tbM0_0 xt0) -∗ K ⟨⟩))
      ⊢ wp frame (wpE (defs₀ (F := F)) Variants.none c none) E (cc0_row_max_logits i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, fun E K => ?run⟩
  case run =>
    simp only [cc0_row_max_logits_eq_skeleton]; unfold cc0_row_max_logits_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, H13, H14, H15, H16, H17, H18, H19, H20, H21, HT0, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc0 | sl_exact hc1 | sl_exact (chk1_all i _ _ _ _ _ _ _) | sl_exact (chk2_all i _ _ _ _ _ _ _))
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]; · iexists _; iexact H21
    iexact HT0

end Cert.KernelIdeal.Gen

end
-- ==== Proof.KernelIdeal.ReadLast.lean ====
/- The running maxima the body computes. -/
module

public import proofs.«01_k».proof.Proof.KernelIdeal.ReadCommon
public import proofs.«01_k».proof.Proof.KernelIdeal.ValLast

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Words

theorem seg0_C (c : Dev nD) (i : grid0.Coords) (xt0 : TbBuf0 (F := Ideal) c tbM0_0) (l : Fin 128) :
    bodyV_C.sl.r_20 (F := Ideal) c i xt0 (ix2 0 l) = firstW (k0_pay239 (BitVec.ofNat 32 (i 0).val) (ix2 0 l)) (bodyV_C.sl.r_13 c xt0) (bodyV_C.sl.r_14 c xt0) (bodyV_C.sl.r_15 c xt0) (bodyV_C.sl.r_16 c xt0) (bodyV_C.sl.r_17 c xt0) (bodyV_C.sl.r_18 c xt0) (bodyV_C.sl.r_19 c xt0) := by
  change _ = firstW (bodyV_C.sl.r_11 i (ix2 0 l)) (bodyV_C.sl.r_13 c xt0) (bodyV_C.sl.r_14 c xt0) (bodyV_C.sl.r_15 c xt0) (bodyV_C.sl.r_16 c xt0) (bodyV_C.sl.r_17 c xt0) (bodyV_C.sl.r_18 c xt0) (bodyV_C.sl.r_19 c xt0)
  unfold firstW segW
  rfl

theorem first0_C (c : Dev nD) (i : grid0.Coords) (xt0 : TbBuf0 (F := Ideal) c tbM0_0) :
    bodyV_C.sl.v197 (F := Ideal) c i xt0 = fdivW (firstW (Scalar.addi (Scalar.muli (BitVec.ofNat 32 (i 0).val) 256#32) 0#32) (bodyV_C.sl.r_13 c xt0) (bodyV_C.sl.r_14 c xt0) (bodyV_C.sl.r_15 c xt0) (bodyV_C.sl.r_16 c xt0) (bodyV_C.sl.r_17 c xt0) (bodyV_C.sl.r_18 c xt0) (bodyV_C.sl.r_19 c xt0)) := by
  have h : bodyV_C.sl.v176 (F := Ideal) c i xt0 = firstW (Scalar.addi (Scalar.muli (BitVec.ofNat 32 (i 0).val) 256#32) 0#32) (bodyV_C.sl.r_13 c xt0) (bodyV_C.sl.r_14 c xt0) (bodyV_C.sl.r_15 c xt0) (bodyV_C.sl.r_16 c xt0) (bodyV_C.sl.r_17 c xt0) (bodyV_C.sl.r_18 c xt0) (bodyV_C.sl.r_19 c xt0) := rfl
  rw [← h]
  rfl

set_option maxHeartbeats 4000000 in
/-- The running maxima of subtile 0, as the body computes them. -/
theorem acc0_C (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole)  (x2 : FVec Ideal S256x1536 .fp8e4m3) (x3 : FVec Ideal S256x12 .f32) (x4 : FVec Ideal S256x32 .f32) (x5 : FVec Ideal S256x32 .f32) (xt0 : TbBuf0 (F := Ideal) c tbM0_0) (z15 : FVec Ideal S3072x1536 .bf16) (z16 : FVec Ideal S16x512x128 .bf16) (z17 : FVec Ideal S8192x576 .bf16) (f19 : BufTy.Contents (Elt Ideal) arg19.view.ty) :
    bodyV_C.sl.v225 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 xt0 z15 z16 z17 f19 = accOf 0 i (bodyV_C.sl.r_13 c xt0) (bodyV_C.sl.r_14 c xt0) (bodyV_C.sl.r_15 c xt0) (bodyV_C.sl.r_16 c xt0) (bodyV_C.sl.r_17 c xt0) (bodyV_C.sl.r_18 c xt0) (bodyV_C.sl.r_19 c xt0) z15 z16 z17 x2 x3 x4 x5 := by
  have e18 : arg18.view.writes (Elt Ideal) arg18.view.junk (bodyV_C.sl.H18_1 (F := Ideal) c arg4 harg4 arg5 harg5 x2 x3) = harg18.unread (CQs x2 x3) := by
    refine harg18.eq_unread ?_
    funext y
    unfold bodyV_C.sl.H18_1
    rw [View.read_writes_junk_apply_eq_canon, View.canon_unit_zero (by decide +kernel)]
    unfold bodyV_C.sl.r bodyV_C.sl.r_1 bodyV_C.sl.r_2 bodyV_C.sl.r_3 bodyV_C.sl.r_4 bodyV_C.sl.r_5 bodyV_C.sl.r_6 bodyV_C.sl.r_7 bodyV_C.sl.r_8 bodyV_C.sl.r_9
    simp only [View.readAt_eq_ld, harg4.read_unread, harg5.read_unread]
    rw [View.ld_unit_zero (by decide +kernel), View.ld_unit_zero (by decide +kernel)]
    exact congrFun (cq_eq x2 x3) y
  unfold bodyV_C.sl.v225
  refine acc0_read Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 0).val) (bodyV_C.sl.r_13 c xt0) (bodyV_C.sl.r_14 c xt0) (bodyV_C.sl.r_15 c xt0) (bodyV_C.sl.r_16 c xt0) (bodyV_C.sl.r_17 c xt0) (bodyV_C.sl.r_18 c xt0) (bodyV_C.sl.r_19 c xt0) _ _ _ _ _ ?_ ?_ ?_ _ _ _ _ ?_ _ _ _ _ _ ?_ ?_
  · intro l; exact pay239_eq i l
  · intro l
    rw [← pay239_eq i l]
    exact seg0_C c i xt0 l
  · rw [first0_C, t0_eq0, lo_eq 0 (by omega)]
  · rw [e18]
    have e4 : View.readAt (Elt Ideal) arg6.view (Rect.unit ![0, 0] S256x32.size inb_S256x32_S256x32_0_0).toLoadRect (harg6.unread x4) = x4 := by
      rw [View.readAt_eq_ld, harg6.read_unread, View.ld_unit_zero (by decide +kernel)]
    have e5 : View.readAt (Elt Ideal) arg7.view (Rect.unit ![0, 0] S256x32.size inb_S256x32_S256x32_0_0).toLoadRect (harg7.unread x5) = x5 := by
      rw [View.readAt_eq_ld, harg7.read_unread, View.ld_unit_zero (by decide +kernel)]
    rw [e4, e5]
    exact t4_read Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ x4 x5 z15 z16 (CQs x2 x3) f19
  · exact t5_trips i (bodyV_C.sl.r_13 c xt0) (bodyV_C.sl.r_14 c xt0) (bodyV_C.sl.r_15 c xt0) (bodyV_C.sl.r_16 c xt0) (bodyV_C.sl.r_17 c xt0) (bodyV_C.sl.r_18 c xt0) (bodyV_C.sl.r_19 c xt0)
  · exact Scf.rem_trips _ _

theorem seg1_C (c : Dev nD) (i : grid0.Coords) (xt0 : TbBuf0 (F := Ideal) c tbM0_0) (l : Fin 128) :
    bodyV_C.sl.r_31 (F := Ideal) c i xt0 (ix2 0 l) = firstW (k0_pay250 (BitVec.ofNat 32 (i 0).val) (ix2 0 l)) (bodyV_C.sl.r_24 c xt0) (bodyV_C.sl.r_25 c xt0) (bodyV_C.sl.r_26 c xt0) (bodyV_C.sl.r_27 c xt0) (bodyV_C.sl.r_28 c xt0) (bodyV_C.sl.r_29 c xt0) (bodyV_C.sl.r_30 c xt0) := by
  change _ = firstW (bodyV_C.sl.r_22 i (ix2 0 l)) (bodyV_C.sl.r_24 c xt0) (bodyV_C.sl.r_25 c xt0) (bodyV_C.sl.r_26 c xt0) (bodyV_C.sl.r_27 c xt0) (bodyV_C.sl.r_28 c xt0) (bodyV_C.sl.r_29 c xt0) (bodyV_C.sl.r_30 c xt0)
  unfold firstW segW
  rfl

theorem first1_C (c : Dev nD) (i : grid0.Coords) (xt0 : TbBuf0 (F := Ideal) c tbM0_0) :
    bodyV_C.sl.v362 (F := Ideal) c i xt0 = fdivW (firstW (Scalar.addi (Scalar.muli (BitVec.ofNat 32 (i 0).val) 256#32) 128#32) (bodyV_C.sl.r_24 c xt0) (bodyV_C.sl.r_25 c xt0) (bodyV_C.sl.r_26 c xt0) (bodyV_C.sl.r_27 c xt0) (bodyV_C.sl.r_28 c xt0) (bodyV_C.sl.r_29 c xt0) (bodyV_C.sl.r_30 c xt0)) := by
  have h : bodyV_C.sl.v341 (F := Ideal) c i xt0 = firstW (Scalar.addi (Scalar.muli (BitVec.ofNat 32 (i 0).val) 256#32) 128#32) (bodyV_C.sl.r_24 c xt0) (bodyV_C.sl.r_25 c xt0) (bodyV_C.sl.r_26 c xt0) (bodyV_C.sl.r_27 c xt0) (bodyV_C.sl.r_28 c xt0) (bodyV_C.sl.r_29 c xt0) (bodyV_C.sl.r_30 c xt0) := rfl
  rw [← h]
  rfl

set_option maxHeartbeats 4000000 in
/-- The running maxima of subtile 1, as the body computes them. -/
theorem acc1_C (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole)  (x2 : FVec Ideal S256x1536 .fp8e4m3) (x3 : FVec Ideal S256x12 .f32) (x4 : FVec Ideal S256x32 .f32) (x5 : FVec Ideal S256x32 .f32) (xt0 : TbBuf0 (F := Ideal) c tbM0_0) (z15 : FVec Ideal S3072x1536 .bf16) (z16 : FVec Ideal S16x512x128 .bf16) (z17 : FVec Ideal S8192x576 .bf16) (f19 : BufTy.Contents (Elt Ideal) arg19.view.ty) :
    bodyV_C.sl.v390 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 xt0 z15 z16 z17 f19 = accOf 1 i (bodyV_C.sl.r_24 c xt0) (bodyV_C.sl.r_25 c xt0) (bodyV_C.sl.r_26 c xt0) (bodyV_C.sl.r_27 c xt0) (bodyV_C.sl.r_28 c xt0) (bodyV_C.sl.r_29 c xt0) (bodyV_C.sl.r_30 c xt0) z15 z16 z17 x2 x3 x4 x5 := by
  have e18 : arg18.view.writes (Elt Ideal) arg18.view.junk (bodyV_C.sl.H18_1 (F := Ideal) c arg4 harg4 arg5 harg5 x2 x3) = harg18.unread (CQs x2 x3) := by
    refine harg18.eq_unread ?_
    funext y
    unfold bodyV_C.sl.H18_1
    rw [View.read_writes_junk_apply_eq_canon, View.canon_unit_zero (by decide +kernel)]
    unfold bodyV_C.sl.r bodyV_C.sl.r_1 bodyV_C.sl.r_2 bodyV_C.sl.r_3 bodyV_C.sl.r_4 bodyV_C.sl.r_5 bodyV_C.sl.r_6 bodyV_C.sl.r_7 bodyV_C.sl.r_8 bodyV_C.sl.r_9
    simp only [View.readAt_eq_ld, harg4.read_unread, harg5.read_unread]
    rw [View.ld_unit_zero (by decide +kernel), View.ld_unit_zero (by decide +kernel)]
    exact congrFun (cq_eq x2 x3) y
  unfold bodyV_C.sl.v390
  refine acc1_read Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (bodyV_C.sl.r_24 c xt0) (bodyV_C.sl.r_25 c xt0) (bodyV_C.sl.r_26 c xt0) (bodyV_C.sl.r_27 c xt0) (bodyV_C.sl.r_28 c xt0) (bodyV_C.sl.r_29 c xt0) (bodyV_C.sl.r_30 c xt0) _ _ _ _ ?_ ?_ ?_ _ _ _ _ ?_ _ _ _ _ _ ?_ ?_
  · intro l; exact pay250_eq i l
  · intro l
    rw [← pay250_eq i l]
    exact seg1_C c i xt0 l
  · rw [first1_C, t0_eq1, lo_eq 1 (by omega)]
  · rw [e18]
    have e4 : View.readAt (Elt Ideal) arg6.view (Rect.unit ![0, 0] S256x32.size inb_S256x32_S256x32_0_0).toLoadRect (harg6.unread x4) = x4 := by
      rw [View.readAt_eq_ld, harg6.read_unread, View.ld_unit_zero (by decide +kernel)]
    have e5 : View.readAt (Elt Ideal) arg7.view (Rect.unit ![0, 0] S256x32.size inb_S256x32_S256x32_0_0).toLoadRect (harg7.unread x5) = x5 := by
      rw [View.readAt_eq_ld, harg7.read_unread, View.ld_unit_zero (by decide +kernel)]
    rw [e4, e5]
    exact t4_read Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ x4 x5 z15 z16 (CQs x2 x3) f19
  · exact t7_trips i (bodyV_C.sl.r_24 c xt0) (bodyV_C.sl.r_25 c xt0) (bodyV_C.sl.r_26 c xt0) (bodyV_C.sl.r_27 c xt0) (bodyV_C.sl.r_28 c xt0) (bodyV_C.sl.r_29 c xt0) (bodyV_C.sl.r_30 c xt0)
  · exact Scf.rem_trips _ _

end Cert.KernelIdeal.Gen

end
-- ==== Proof.KernelIdeal.PointLast.lean ====
/- What a run of the body leaves. -/
module

public import proofs.«01_k».proof.Proof.KernelIdeal.RowsOf
public import proofs.«01_k».proof.Proof.KernelIdeal.ReadLast

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Words

local notation "𝕄" => MT nD τ sig Unit (Elt Ideal) ℕ (UR sig nD τ) ℕ

theorem accT0_C (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : ¬cond0_0 i) (hc1 : cond0_1 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0) (z14 : FVec Ideal S16x128 .f32) (z15 : FVec Ideal S3072x1536 .bf16) (z16 : FVec Ideal S16x512x128 .bf16) (z17 : FVec Ideal S8192x576 .bf16) (f13 : BufTy.Contents (Elt Ideal) arg13.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) : bodyV_C.sl.v225 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 xt0 z15 z16 z17 f19 = accOf 0 i (tw c xt0 0) (tw c xt0 1) (tw c xt0 2) (tw c xt0 3) (tw c xt0 4) (tw c xt0 5) (tw c xt0 6) z15 z16 z17 x2 x3 x4 x5 := by
  have e := acc0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 xt0 z15 z16 z17 f19
  rw [e]
  rw [show bodyV_C.sl.r_13 (F := Ideal) c xt0 = tw c xt0 0 from word_0 c xt0]
  rw [show bodyV_C.sl.r_14 (F := Ideal) c xt0 = tw c xt0 1 from word_1 c xt0]
  rw [show bodyV_C.sl.r_15 (F := Ideal) c xt0 = tw c xt0 2 from word_2 c xt0]
  rw [show bodyV_C.sl.r_16 (F := Ideal) c xt0 = tw c xt0 3 from word_3 c xt0]
  rw [show bodyV_C.sl.r_17 (F := Ideal) c xt0 = tw c xt0 4 from word_4 c xt0]
  rw [show bodyV_C.sl.r_18 (F := Ideal) c xt0 = tw c xt0 5 from word_5 c xt0]
  rw [show bodyV_C.sl.r_19 (F := Ideal) c xt0 = tw c xt0 6 from word_6 c xt0]

theorem accT1_C (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : ¬cond0_0 i) (hc1 : cond0_1 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0) (z14 : FVec Ideal S16x128 .f32) (z15 : FVec Ideal S3072x1536 .bf16) (z16 : FVec Ideal S16x512x128 .bf16) (z17 : FVec Ideal S8192x576 .bf16) (f13 : BufTy.Contents (Elt Ideal) arg13.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) : bodyV_C.sl.v390 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 xt0 z15 z16 z17 f19 = accOf 1 i (tw c xt0 0) (tw c xt0 1) (tw c xt0 2) (tw c xt0 3) (tw c xt0 4) (tw c xt0 5) (tw c xt0 6) z15 z16 z17 x2 x3 x4 x5 := by
  have e := acc1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 xt0 z15 z16 z17 f19
  rw [e]
  rw [show bodyV_C.sl.r_24 (F := Ideal) c xt0 = tw c xt0 0 from word_0 c xt0]
  rw [show bodyV_C.sl.r_25 (F := Ideal) c xt0 = tw c xt0 1 from word_1 c xt0]
  rw [show bodyV_C.sl.r_26 (F := Ideal) c xt0 = tw c xt0 2 from word_2 c xt0]
  rw [show bodyV_C.sl.r_27 (F := Ideal) c xt0 = tw c xt0 3 from word_3 c xt0]
  rw [show bodyV_C.sl.r_28 (F := Ideal) c xt0 = tw c xt0 4 from word_4 c xt0]
  rw [show bodyV_C.sl.r_29 (F := Ideal) c xt0 = tw c xt0 5 from word_5 c xt0]
  rw [show bodyV_C.sl.r_30 (F := Ideal) c xt0 = tw c xt0 6 from word_6 c xt0]

set_option maxHeartbeats 4000000 in
theorem rm_C (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : ¬cond0_0 i) (hc1 : cond0_1 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0) (z14 : FVec Ideal S16x128 .f32) (z15 : FVec Ideal S3072x1536 .bf16) (z16 : FVec Ideal S16x512x128 .bf16) (z17 : FVec Ideal S8192x576 .bf16) (f13 : BufTy.Contents (Elt Ideal) arg13.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) : arg13.view.read (Elt Ideal) (bodyV_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21).1 = (rmOf i (tw c xt0 0) (tw c xt0 1) (tw c xt0 2) (tw c xt0 3) (tw c xt0 4) (tw c xt0 5) (tw c xt0 6) z15 z16 z17 x2 x3 x4 x5) := by
  unfold bodyV_C; dsimp only
  refine rows_read arg13 f13 _ _ _ (fun t h => ?_) (fun t h => ?_)
  · rw [pay5_eq, accT1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21]
    exact rmOf_hi _ _ _ _ _ _ _ _ _ _ _ _ _ _ _ t h
  · rw [pay249_eq, accT0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21]
    exact rmOf_lo _ _ _ _ _ _ _ _ _ _ _ _ _ _ _ t h

set_option maxHeartbeats 4000000 in
theorem sm_C (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : ¬cond0_0 i) (hc1 : cond0_1 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0) (z14 : FVec Ideal S16x128 .f32) (z15 : FVec Ideal S3072x1536 .bf16) (z16 : FVec Ideal S16x512x128 .bf16) (z17 : FVec Ideal S8192x576 .bf16) (f13 : BufTy.Contents (Elt Ideal) arg13.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) : arg14.view.read (Elt Ideal) (bodyV_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21).2.1 = (lanesOf (smOf i (tw c xt0 0) (tw c xt0 1) (tw c xt0 2) (tw c xt0 3) (tw c xt0 4) (tw c xt0 5) (tw c xt0 6) z15 z16 z17 x2 x3 x4 x5 z14)) := by
  unfold bodyV_C; dsimp only
  have e0 := accT0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21
  have e1 := accT1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21
  have h1 : ∀ h t, bodyV_C.sl.v411 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 xt0 z14 z15 z16 z17 f19 (ix2 h t) = max (z14 (ix2 h t)) (topN (accOf 0 i (tw c xt0 0) (tw c xt0 1) (tw c xt0 2) (tw c xt0 3) (tw c xt0 4) (tw c xt0 5) (tw c xt0 6) z15 z16 z17 x2 x3 x4 x5) h t) := by
    intro h t
    unfold bodyV_C.sl.v411 bodyV_C.sl.H14_1
    show View.readAt (Elt Ideal) arg14.view _ (arg14.view.writes (Elt Ideal) arg14.view.junk _) _ = _
    rw [View.readAt_eq_ld, View.ld_unit_zero (by decide +kernel), View.read_writes_junk_apply_eq_canon, View.canon_cons_unit_zero (by decide +kernel), pay248_eq, e0]
    rw [View.readAt_eq_ld, harg14.read_unread, View.ld_unit_zero (by decide +kernel)]
  have h2 : bodyV_C.sl.v420 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 x5 xt0 z14 z15 z16 z17 f19 = smOf i (tw c xt0 0) (tw c xt0 1) (tw c xt0 2) (tw c xt0 3) (tw c xt0 4) (tw c xt0 5) (tw c xt0 6) z15 z16 z17 x2 x3 x4 x5 z14 := by
    funext y
    idx_vars y
    unfold bodyV_C.sl.v420 bodyV_C.sl.H14_2
    show View.readAt (Elt Ideal) arg14.view _ (arg14.view.writes (Elt Ideal) arg14.view.junk _) _ = _
    rw [View.readAt_eq_ld, View.ld_unit_zero (by decide +kernel), View.read_writes_junk_apply_eq_canon, View.canon_cons_unit_zero (by decide +kernel), pay4_eq, h1, e1]
    rfl
  funext y
  idx_vars y
  rw [View.read_writes_junk_apply_eq_canon, View.canon_cons_unit_zero (by decide +kernel), pay6_eq, h2]
  rfl

set_option maxHeartbeats 8000000 in
/-- The body's run with the values it leaves. -/
theorem runV_C (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : ¬cond0_0 i) (hc1 : cond0_1 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0) (z14 : FVec Ideal S16x128 .f32) (z15 : FVec Ideal S3072x1536 .bf16) (z16 : FVec Ideal S16x512x128 .bf16) (z17 : FVec Ideal S8192x576 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ X, owns (c : Thread nD τ) arg13 fullShare X) ∗ owns (c : Thread nD τ) arg14 fullShare z14 ∗ owns (c : Thread nD τ) arg15 fullShare z15 ∗ owns (c : Thread nD τ) arg16 fullShare z16 ∗ owns (c : Thread nD τ) arg17 fullShare z17 ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (rmOf i (tw c xt0 0) (tw c xt0 1) (tw c xt0 2) (tw c xt0 3) (tw c xt0 4) (tw c xt0 5) (tw c xt0 6) z15 z16 z17 x2 x3 x4 x5) ∗ owns (c : Thread nD τ) arg14 fullShare (lanesOf (smOf i (tw c xt0 0) (tw c xt0 1) (tw c xt0 2) (tw c xt0 3) (tw c xt0 4) (tw c xt0 5) (tw c xt0 6) z15 z16 z17 x2 x3 x4 x5 z14)) ∗ owns (c : Thread nD τ) arg15 fullShare z15 ∗ owns (c : Thread nD τ) arg16 fullShare z16 ∗ owns (c : Thread nD τ) arg17 fullShare z17 ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ tbPt0 c tbM0_0 xt0) -∗ K ⟨⟩))
      ⊢ wp frame (wpE (defs₀ (F := Ideal)) Variants.none c none) Set.univ (cc0_row_max_logits i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨H2, H3, H4, H5, H6, H7, H8, H9, H10, H11, H12, ⟨%X13, %f13, %hf13, H13⟩, ⟨%f14, %hf14, H14⟩, ⟨%f15, %hf15, H15⟩, ⟨%f16, %hf16, H16⟩, ⟨%f17, %hf17, H17⟩, ⟨%X18, %f18, %hf18, H18⟩, ⟨%X19, %f19, %hf19, H19⟩, ⟨%X20, %f20, %hf20, H20⟩, ⟨%X21, %f21, %hf21, H21⟩, HT0, Hk⟩
  obtain rfl := harg14.eq_unread hf14; obtain rfl := harg15.eq_unread hf15; obtain rfl := harg16.eq_unread hf16; obtain rfl := harg17.eq_unread hf17
  have run := (bodyV_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21).2.2 Set.univ K
  have e13 := rm_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21
  have e14 := sm_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 z14 z15 z16 z17 f13 f18 f19 f20 f21
  unfold owns at run
  iapply run
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [HT0]; · iexact HT0
  iintro ⟨H2, H3, H4, H5, H6, H7, H8, H9, H10, H11, H12, H13, H14, H15, H16, H17, ⟨%g18, H18⟩, ⟨%g19, H19⟩, ⟨%g20, H20⟩, ⟨%g21, H21⟩, HT0⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr
    swap; · iexact H13
    ipureintro; exact e13
  isplitl [H14]
  · iexists _; isplitr
    swap; · iexact H14
    ipureintro; exact e14
  isplitl [H15]
  · iexists _; isplitr
    swap; · iexact H15
    ipureintro; exact harg15.read_unread _
  isplitl [H16]
  · iexists _; isplitr
    swap; · iexact H16
    ipureintro; exact harg16.read_unread _
  isplitl [H17]
  · iexists _; isplitr
    swap; · iexact H17
    ipureintro; exact harg17.read_unread _
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  isplitl [H21]
  · iexists _; iexists _; isplitr
    swap; · iexact H21
    ipureintro; rfl
  iexact HT0

end Cert.KernelIdeal.Gen

end
-- ==== Proof.KernelIdeal.Launch.lean ====
/- The launch with its contents named: what every buffer holds after every grid point. -/
module

public import proofs.«01_k».proof.Proof.KernelIdeal.Frame
public import proofs.«01_k».proof.Proof.KernelIdeal.PointMid
public import proofs.«01_k».proof.Proof.KernelIdeal.PointLast

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The first grid point. -/
def tFst (hO : Ok m) : Fin (cfgM m hO).N := ⟨0, by rw [show (cfgM m hO).N = 32 from N_0]; decide⟩

/-- The scratch weights and keys the first point leaves. -/
def Z15 (hO : Ok m) (c : Dev nD) : FVec Ideal S3072x1536 .bf16 := WQs (iblk m hO c 6 (tFst m hO)) (iblk m hO c 0 (tFst m hO))
@[inherit_doc Z15] def Z16 (hO : Ok m) (c : Dev nD) : FVec Ideal S16x512x128 .bf16 := WKs (iblk m hO c 7 (tFst m hO)) (iblk m hO c 1 (tFst m hO))
@[inherit_doc Z15] def Z17 (hO : Ok m) (c : Dev nD) : FVec Ideal S8192x576 .bf16 := KSs (iblk m hO c 8 (tFst m hO)) (iblk m hO c 9 (tFst m hO)) (iblk m hO c 10 (tFst m hO))

/-- The block of row maxima a point leaves. -/
def rmAt (hO : Ok m) (c : Dev nD) (t : Fin (cfgM m hO).N) : FVec Ideal S256x16 .f32 := rmOf (grid0.coords t) (tw c (tbl m 0) 0) (tw c (tbl m 0) 1) (tw c (tbl m 0) 2) (tw c (tbl m 0) 3) (tw c (tbl m 0) 4) (tw c (tbl m 0) 5) (tw c (tbl m 0) 6) (Z15 m hO c) (Z16 m hO c) (Z17 m hO c) (iblk m hO c 2 t) (iblk m hO c 3 t) (iblk m hO c 4 t) (iblk m hO c 5 t)

/-- The lanes' maxima raised by a point. -/
def smStep (hO : Ok m) (c : Dev nD) (t : Fin (cfgM m hO).N) (o : FVec Ideal S16x128 .f32) : FVec Ideal S16x128 .f32 := smOf (grid0.coords t) (tw c (tbl m 0) 0) (tw c (tbl m 0) 1) (tw c (tbl m 0) 2) (tw c (tbl m 0) 3) (tw c (tbl m 0) 4) (tw c (tbl m 0) 5) (tw c (tbl m 0) 6) (Z15 m hO c) (Z16 m hO c) (Z17 m hO c) (iblk m hO c 2 t) (iblk m hO c 3 t) (iblk m hO c 4 t) (iblk m hO c 5 t) o

/-- The lanes' maxima after a point. -/
def smAt (hO : Ok m) (c : Dev nD) : (n : ℕ) → n < (cfgM m hO).N → FVec Ideal S16x128 .f32
  | 0, h => smStep m hO c ⟨0, h⟩ (fun _ => ⊥)
  | n + 1, h => if (n + 1) % 32 = 31 then lanesOf (smStep m hO c ⟨n + 1, h⟩ (smAt hO c n (Nat.lt_of_succ_lt h))) else smStep m hO c ⟨n + 1, h⟩ (smAt hO c n (Nat.lt_of_succ_lt h))

theorem smAt_A (hO : Ok m) (c : Dev nD) (t : Fin (cfgM m hO).N) (h0 : t.val = 0) : smAt m hO c t.val t.isLt = smStep m hO c t (fun _ => ⊥) := by
  obtain ⟨n, hn⟩ := t
  cases n with
  | zero => rfl
  | succ n => exact absurd h0 (Nat.succ_ne_zero n)

theorem smAt_B (hO : Ok m) (c : Dev nD) (t : Fin (cfgM m hO).N) (h0 : ¬t.val = 0) (h1 : ¬t.val % 32 = 31) :
    smAt m hO c t.val t.isLt = smStep m hO c t (smAt m hO c (t.val - 1) (Nat.lt_of_le_of_lt (Nat.sub_le _ _) t.isLt)) := by
  obtain ⟨n, hn⟩ := t
  cases n with
  | zero => exact absurd rfl h0
  | succ n => exact if_neg h1

theorem smAt_C (hO : Ok m) (c : Dev nD) (t : Fin (cfgM m hO).N) (h1 : t.val % 32 = 31) :
    smAt m hO c t.val t.isLt = lanesOf (smStep m hO c t (smAt m hO c (t.val - 1) (Nat.lt_of_le_of_lt (Nat.sub_le _ _) t.isLt))) := by
  obtain ⟨n, hn⟩ := t
  cases n with
  | zero => exact absurd (show 0 % 32 = 31 from h1) (by decide)
  | succ n => exact if_pos h1

/-- Between points: the scratch weights and keys at their contents once the first point has run. -/
def PhiV (hO : Ok m) (c : Dev nD) (n : ℕ) : sProp 𝕄 :=
  if n = 0 then iprop(Pipeline.ΦA spec0 c ∗ Pipeline.ΦT pre0 (tbl m) c)
  else iprop(iprop(iprop(owns (c : Thread nD τ) scM0_0 fullShare (Z15 m hO c) ∗ owns (c : Thread nD τ) scM0_1 fullShare (Z16 m hO c) ∗ owns (c : Thread nD τ) scM0_2 fullShare (Z17 m hO c) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) ∗ tbPt0 c tbM0_0 (tbl m 0))

/-- The proof data: inputs at their blocks, outputs at their maxima, the scratch buffers by `PhiV`. -/
def datsV (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => rmAt m hO c t
    | ⟨12, _⟩ => smAt m hO c t.val t.isLt
  Φ t := PhiV m hO c t.val
  q _ := fullShare
  owed _ := 0

theorem datsV_A (hO : Ok m) (c : Dev nD) (w : Fin (cfgM m hO).W) : (datsV m hO 0 c).A w = V m c (Pipeline.arrRef spec0 w) := by
  dsimp only [datsV]
theorem datsV_after0 (hO : Ok m) (c : Dev nD) (t : Fin (cfgM m hO).N) : (datsV m hO 0 c).after 0 t = iblk m hO c 0 t := by dsimp only [datsV]; try rfl
theorem datsV_after1 (hO : Ok m) (c : Dev nD) (t : Fin (cfgM m hO).N) : (datsV m hO 0 c).after 1 t = iblk m hO c 1 t := by dsimp only [datsV]; try rfl
theorem datsV_after2 (hO : Ok m) (c : Dev nD) (t : Fin (cfgM m hO).N) : (datsV m hO 0 c).after 2 t = iblk m hO c 2 t := by dsimp only [datsV]; try rfl
theorem datsV_after3 (hO : Ok m) (c : Dev nD) (t : Fin (cfgM m hO).N) : (datsV m hO 0 c).after 3 t = iblk m hO c 3 t := by dsimp only [datsV]; try rfl
theorem datsV_after4 (hO : Ok m) (c : Dev nD) (t : Fin (cfgM m hO).N) : (datsV m hO 0 c).after 4 t = iblk m hO c 4 t := by dsimp only [datsV]; try rfl
theorem datsV_after5 (hO : Ok m) (c : Dev nD) (t : Fin (cfgM m hO).N) : (datsV m hO 0 c).after 5 t = iblk m hO c 5 t := by dsimp only [datsV]; try rfl
theorem datsV_after6 (hO : Ok m) (c : Dev nD) (t : Fin (cfgM m hO).N) : (datsV m hO 0 c).after 6 t = iblk m hO c 6 t := by dsimp only [datsV]; try rfl
theorem datsV_after7 (hO : Ok m) (c : Dev nD) (t : Fin (cfgM m hO).N) : (datsV m hO 0 c).after 7 t = iblk m hO c 7 t := by dsimp only [datsV]; try rfl
theorem datsV_after8 (hO : Ok m) (c : Dev nD) (t : Fin (cfgM m hO).N) : (datsV m hO 0 c).after 8 t = iblk m hO c 8 t := by dsimp only [datsV]; try rfl
theorem datsV_after9 (hO : Ok m) (c : Dev nD) (t : Fin (cfgM m hO).N) : (datsV m hO 0 c).after 9 t = iblk m hO c 9 t := by dsimp only [datsV]; try rfl
theorem datsV_after10 (hO : Ok m) (c : Dev nD) (t : Fin (cfgM m hO).N) : (datsV m hO 0 c).after 10 t = iblk m hO c 10 t := by dsimp only [datsV]; try rfl
theorem datsV_before0 (hO : Ok m) (c : Dev nD) (t : Fin (cfgM m hO).N) (d) : (datsV m hO 0 c).before 0 t d = iblk m hO c 0 t :=
  before0_0_of m hO (datsV m hO 0 c) (datsV_A m hO c 0) (datsV_after0 m hO c) t d
theorem datsV_before1 (hO : Ok m) (c : Dev nD) (t : Fin (cfgM m hO).N) (d) : (datsV m hO 0 c).before 1 t d = iblk m hO c 1 t :=
  before0_1_of m hO (datsV m hO 0 c) (datsV_A m hO c 1) (datsV_after1 m hO c) t d
theorem datsV_before2 (hO : Ok m) (c : Dev nD) (t : Fin (cfgM m hO).N) (d) : (datsV m hO 0 c).before 2 t d = iblk m hO c 2 t :=
  before0_2_of m hO (datsV m hO 0 c) (datsV_A m hO c 2) (datsV_after2 m hO c) t d
theorem datsV_before3 (hO : Ok m) (c : Dev nD) (t : Fin (cfgM m hO).N) (d) : (datsV m hO 0 c).before 3 t d = iblk m hO c 3 t :=
  before0_3_of m hO (datsV m hO 0 c) (datsV_A m hO c 3) (datsV_after3 m hO c) t d
theorem datsV_before4 (hO : Ok m) (c : Dev nD) (t : Fin (cfgM m hO).N) (d) : (datsV m hO 0 c).before 4 t d = iblk m hO c 4 t :=
  before0_4_of m hO (datsV m hO 0 c) (datsV_A m hO c 4) (datsV_after4 m hO c) t d
theorem datsV_before5 (hO : Ok m) (c : Dev nD) (t : Fin (cfgM m hO).N) (d) : (datsV m hO 0 c).before 5 t d = iblk m hO c 5 t :=
  before0_5_of m hO (datsV m hO 0 c) (datsV_A m hO c 5) (datsV_after5 m hO c) t d
theorem datsV_before6 (hO : Ok m) (c : Dev nD) (t : Fin (cfgM m hO).N) (d) : (datsV m hO 0 c).before 6 t d = iblk m hO c 6 t :=
  before0_6_of m hO (datsV m hO 0 c) (datsV_A m hO c 6) (datsV_after6 m hO c) t d
theorem datsV_before7 (hO : Ok m) (c : Dev nD) (t : Fin (cfgM m hO).N) (d) : (datsV m hO 0 c).before 7 t d = iblk m hO c 7 t :=
  before0_7_of m hO (datsV m hO 0 c) (datsV_A m hO c 7) (datsV_after7 m hO c) t d
theorem datsV_before8 (hO : Ok m) (c : Dev nD) (t : Fin (cfgM m hO).N) (d) : (datsV m hO 0 c).before 8 t d = iblk m hO c 8 t :=
  before0_8_of m hO (datsV m hO 0 c) (datsV_A m hO c 8) (datsV_after8 m hO c) t d
theorem datsV_before9 (hO : Ok m) (c : Dev nD) (t : Fin (cfgM m hO).N) (d) : (datsV m hO 0 c).before 9 t d = iblk m hO c 9 t :=
  before0_9_of m hO (datsV m hO 0 c) (datsV_A m hO c 9) (datsV_after9 m hO c) t d
theorem datsV_before10 (hO : Ok m) (c : Dev nD) (t : Fin (cfgM m hO).N) (d) : (datsV m hO 0 c).before 10 t d = iblk m hO c 10 t :=
  before0_10_of m hO (datsV m hO 0 c) (datsV_A m hO c 10) (datsV_after10 m hO c) t d

theorem datsV_after11 (hO : Ok m) (c : Dev nD) (t : Fin (cfgM m hO).N) : (datsV m hO 0 c).after 11 t = rmAt m hO c t := by dsimp only [datsV]; try rfl
theorem datsV_after12 (hO : Ok m) (c : Dev nD) (t : Fin (cfgM m hO).N) : (datsV m hO 0 c).after 12 t = smAt m hO c t.val t.isLt := by dsimp only [datsV]; try rfl

theorem datsV_before12 (hO : Ok m) (c : Dev nD) (t : Fin (cfgM m hO).N) (h0 : ¬t.val = 0) (d) :
    (datsV m hO 0 c).before 12 t d = smAt m hO c (t.val - 1) (Nat.lt_of_le_of_lt (Nat.sub_le _ _) t.isLt) := by
  have hN : t.val < 32 := lt_of_lt_of_eq t.isLt (show (cfgM m hO).N = 32 from N_0)
  rw [Dat.before_out_kept _ 12 rfl t (by omega) (Bool.eq_false_iff.mpr fun h => by have := (flush0_12 (adm m hO) _).mp h; dsimp only at this; omega)
    (fun _ => rfl) (fun _ _ => rfl)]
  dsimp only [datsV]
  try rfl

/-- What the body is called with at a point, -/
def bodyPreV (hO : Ok m) (c : Dev nD) (t : Fin (cfgM m hO).N) : sProp 𝕄 :=
  iprop((datsV m hO 0 c).Φ t.castSucc ∗ (datsV m hO 0 c).owesAt () t.castSucc
    ∗ (∃ d, owns (c : Thread nD τ) (ms0_0 m hO t) fullShare ((datsV m hO 0 c).before 0 t d))
    ∗ (∃ d, owns (c : Thread nD τ) (ms0_1 m hO t) fullShare ((datsV m hO 0 c).before 1 t d))
    ∗ (∃ d, owns (c : Thread nD τ) (ms0_2 m hO t) fullShare ((datsV m hO 0 c).before 2 t d))
    ∗ (∃ d, owns (c : Thread nD τ) (ms0_3 m hO t) fullShare ((datsV m hO 0 c).before 3 t d))
    ∗ (∃ d, owns (c : Thread nD τ) (ms0_4 m hO t) fullShare ((datsV m hO 0 c).before 4 t d))
    ∗ (∃ d, owns (c : Thread nD τ) (ms0_5 m hO t) fullShare ((datsV m hO 0 c).before 5 t d))
    ∗ (∃ d, owns (c : Thread nD τ) (ms0_6 m hO t) fullShare ((datsV m hO 0 c).before 6 t d))
    ∗ (∃ d, owns (c : Thread nD τ) (ms0_7 m hO t) fullShare ((datsV m hO 0 c).before 7 t d))
    ∗ (∃ d, owns (c : Thread nD τ) (ms0_8 m hO t) fullShare ((datsV m hO 0 c).before 8 t d))
    ∗ (∃ d, owns (c : Thread nD τ) (ms0_9 m hO t) fullShare ((datsV m hO 0 c).before 9 t d))
    ∗ (∃ d, owns (c : Thread nD τ) (ms0_10 m hO t) fullShare ((datsV m hO 0 c).before 10 t d))
    ∗ (∃ d, owns (c : Thread nD τ) (ms0_11 m hO t) fullShare ((datsV m hO 0 c).before 11 t d))
    ∗ (∃ d, owns (c : Thread nD τ) (ms0_12 m hO t) fullShare ((datsV m hO 0 c).before 12 t d)))

/-- and what it returns. -/
def bodyPostV (hO : Ok m) (c : Dev nD) (t : Fin (cfgM m hO).N) : sProp 𝕄 :=
  iprop((datsV m hO 0 c).Φ t.succ ∗ (datsV m hO 0 c).owesAt () t.succ
    ∗ owns (c : Thread nD τ) (ms0_0 m hO t) fullShare ((datsV m hO 0 c).after 0 t)
    ∗ owns (c : Thread nD τ) (ms0_1 m hO t) fullShare ((datsV m hO 0 c).after 1 t)
    ∗ owns (c : Thread nD τ) (ms0_2 m hO t) fullShare ((datsV m hO 0 c).after 2 t)
    ∗ owns (c : Thread nD τ) (ms0_3 m hO t) fullShare ((datsV m hO 0 c).after 3 t)
    ∗ owns (c : Thread nD τ) (ms0_4 m hO t) fullShare ((datsV m hO 0 c).after 4 t)
    ∗ owns (c : Thread nD τ) (ms0_5 m hO t) fullShare ((datsV m hO 0 c).after 5 t)
    ∗ owns (c : Thread nD τ) (ms0_6 m hO t) fullShare ((datsV m hO 0 c).after 6 t)
    ∗ owns (c : Thread nD τ) (ms0_7 m hO t) fullShare ((datsV m hO 0 c).after 7 t)
    ∗ owns (c : Thread nD τ) (ms0_8 m hO t) fullShare ((datsV m hO 0 c).after 8 t)
    ∗ owns (c : Thread nD τ) (ms0_9 m hO t) fullShare ((datsV m hO 0 c).after 9 t)
    ∗ owns (c : Thread nD τ) (ms0_10 m hO t) fullShare ((datsV m hO 0 c).after 10 t)
    ∗ owns (c : Thread nD τ) (ms0_11 m hO t) fullShare ((datsV m hO 0 c).after 11 t)
    ∗ owns (c : Thread nD τ) (ms0_12 m hO t) fullShare ((datsV m hO 0 c).after 12 t))

set_option maxHeartbeats 4000000 in
/-- The body at a point of case B. -/
theorem sound_bodyV_B (hO : Ok m) (c : Dev nD) (t : Fin (cfgM m hO).N) (h0 : ¬t.val = 0) (h1 : ¬t.val % 32 = 31) :
    bodyPreV m hO c t ⊢ wp Idealize.ShloMosaic.frame (wpE (defs₀ (F := Ideal)) Variants.none c none) Set.univ (bodyAt0 (adm m hO) t) (fun _ => bodyPostV m hO c t) := by
  have hN : t.val < 32 := lt_of_lt_of_eq t.isLt (show (cfgM m hO).N = 32 from N_0)
  unfold bodyPreV bodyPostV bodyAt0
  simp only [datsV_before0, datsV_before1, datsV_before2, datsV_before3, datsV_before4, datsV_before5, datsV_before6, datsV_before7, datsV_before8, datsV_before9, datsV_before10]
  simp only [datsV_before12 m hO c t h0]
  rw [show (datsV m hO 0 c).Φ t.castSucc = PhiV m hO c t.val from rfl, show (datsV m hO 0 c).Φ t.succ = PhiV m hO c (t.val + 1) from rfl,
    show (datsV m hO 0 c).owesAt () t.succ = (datsV m hO 0 c).owesAt () t.castSucc from rfl,
    datsV_after0, datsV_after1, datsV_after2, datsV_after3, datsV_after4, datsV_after5, datsV_after6, datsV_after7, datsV_after8, datsV_after9, datsV_after10, datsV_after11, datsV_after12]
  unfold PhiV
  rw [if_neg (Nat.succ_ne_zero t.val)]
  rw [if_neg h0, smAt_B m hO c t h0 h1]
  unfold smStep rmAt
  have run := runV_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => by have := (hcond0_0 t).mp h; omega) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (smAt m hO c (t.val - 1) (Nat.lt_of_le_of_lt (Nat.sub_le _ _) t.isLt)) (Z15 m hO c) (Z16 m hO c) (Z17 m hO c)
  iintro ⟨⟨⟨⟨HS0, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HT0]; · iexact HT0
  iintro ⟨H0, H1, H2, H3, H4, H5, H6, H7, H8, H9, H10, H11, H12, HS0, HS1, HS2, HS3, HS4, HS5, HS6, HT0⟩
  isplitl [HS0 HS1 HS2 HS3 HS4 HS5 HS6 Hg HT0]
  · isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 4000000 in
/-- The body at a point of case C. -/
theorem sound_bodyV_C (hO : Ok m) (c : Dev nD) (t : Fin (cfgM m hO).N) (h1 : t.val % 32 = 31) :
    bodyPreV m hO c t ⊢ wp Idealize.ShloMosaic.frame (wpE (defs₀ (F := Ideal)) Variants.none c none) Set.univ (bodyAt0 (adm m hO) t) (fun _ => bodyPostV m hO c t) := by
  have hN : t.val < 32 := lt_of_lt_of_eq t.isLt (show (cfgM m hO).N = 32 from N_0)
  have h0 : ¬t.val = 0 := by omega
  unfold bodyPreV bodyPostV bodyAt0
  simp only [datsV_before0, datsV_before1, datsV_before2, datsV_before3, datsV_before4, datsV_before5, datsV_before6, datsV_before7, datsV_before8, datsV_before9, datsV_before10]
  simp only [datsV_before12 m hO c t h0]
  rw [show (datsV m hO 0 c).Φ t.castSucc = PhiV m hO c t.val from rfl, show (datsV m hO 0 c).Φ t.succ = PhiV m hO c (t.val + 1) from rfl,
    show (datsV m hO 0 c).owesAt () t.succ = (datsV m hO 0 c).owesAt () t.castSucc from rfl,
    datsV_after0, datsV_after1, datsV_after2, datsV_after3, datsV_after4, datsV_after5, datsV_after6, datsV_after7, datsV_after8, datsV_after9, datsV_after10, datsV_after11, datsV_after12]
  unfold PhiV
  rw [if_neg (Nat.succ_ne_zero t.val)]
  rw [if_neg h0, smAt_C m hO c t h1]
  unfold smStep rmAt
  have run := runV_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => by have := (hcond0_0 t).mp h; omega) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (smAt m hO c (t.val - 1) (Nat.lt_of_le_of_lt (Nat.sub_le _ _) t.isLt)) (Z15 m hO c) (Z16 m hO c) (Z17 m hO c)
  iintro ⟨⟨⟨⟨HS0, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HT0]; · iexact HT0
  iintro ⟨H0, H1, H2, H3, H4, H5, H6, H7, H8, H9, H10, H11, H12, HS0, HS1, HS2, HS3, HS4, HS5, HS6, HT0⟩
  isplitl [HS0 HS1 HS2 HS3 HS4 HS5 HS6 Hg HT0]
  · isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.KernelIdeal.Gen

end
-- ==== Proof.KernelIdeal.ValFirst.lean ====
/- The body at the first point: what it leaves in its outputs and scratch buffers. -/
module

public import proofs.«01_k».proof.Proof.KernelIdeal.Chk
public import proofs.«01_k».proof.Proof.Gen.KernelIdeal.Loops
public import Idealize.ShloMosaic.Lib.LoopRemainder

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at the first point: it runs, the inputs keep their contents, and the outputs and scratch buffers hold the contents named here. -/
@[irreducible] def bodyV_A (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : cond0_0 i) (hc1 : ¬cond0_1 i)
    (x0 : Vec F S24x12 .f32) (x1 : Vec F S16x4 .f32) (x2 : Vec F S256x1536 .fp8e4m3) (x3 : Vec F S256x12 .f32) (x4 : Vec F S256x32 .f32) (x5 : Vec F S256x32 .f32) (x6 : Vec F S3072x1536 .fp8e4m3) (x7 : Vec F S2048x512 .fp8e4m3) (x8 : Vec F S8192x512 .fp8e4m3) (x9 : Vec F S8192x4 .f32) (x10 : Vec F S8192x64 .bf16) (xt0 : TbBuf0 (F := F) c tbM0_0)  (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) :
    Σ' (R13 : BufTy.Contents (Elt F) arg13.view.ty) (R14 : BufTy.Contents (Elt F) arg14.view.ty) (R15 : BufTy.Contents (Elt F) arg15.view.ty) (R16 : BufTy.Contents (Elt F) arg16.view.ty), { R17 : BufTy.Contents (Elt F) arg17.view.ty // ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (arg13.view.loc (c : Thread nD τ) ↦[arg13.view.set]{fullShare} R13) ∗ (arg14.view.loc (c : Thread nD τ) ↦[arg14.view.set]{fullShare} R14) ∗ (arg15.view.loc (c : Thread nD τ) ↦[arg15.view.set]{fullShare} R15) ∗ (arg16.view.loc (c : Thread nD τ) ↦[arg16.view.set]{fullShare} R16) ∗ (arg17.view.loc (c : Thread nD τ) ↦[arg17.view.set]{fullShare} R17) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ tbPt0 c tbM0_0 xt0) -∗ K ⟨⟩))
      ⊢ wp frame (wpE (defs₀ (F := F)) Variants.none c none) E (cc0_row_max_logits i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, fun E K => ?run⟩
  case run =>
    simp only [cc0_row_max_logits_eq_skeleton]; unfold cc0_row_max_logits_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, H13, H14, H15, H16, H17, H18, H19, H20, H21, HT0, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | sl_exact hc0 | sl_exact hc1 | sl_exact (chk1_all i _ _ _ _ _ _ _) | sl_exact (chk2_all i _ _ _ _ _ _ _))
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]; · iexists _; iexact H21
    iexact HT0

end Cert.KernelIdeal.Gen

end
-- ==== Proof.KernelIdeal.T1.lean ====
/- The trips of the loop over pairs of heads fill the scratch buffer with the dequantised and permuted weights. -/
module

public import proofs.«01_k».proof.Proof.Gen.KernelIdeal.Loops
public import proofs.«01_k».proof.Proof.KernelIdeal.Spec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- An entry of the rotary rows' scratch buffer: the dequantised weight at row `row0 + r` and column `128 b + t`. -/
def RVs (x8 : FVec Ideal S3072x1536 .fp8e4m3) (x2 : FVec Ideal S24x12 .f32) (row0 b r t : ℕ) : EReal :=
  x8 (ix2 ⟨(row0 + r) % 3072, Nat.mod_lt _ (by decide)⟩ ⟨(128 * b + t) % 1536, Nat.mod_lt _ (by decide)⟩)
    * x2 (ix2 ⟨row0 / 128 % 24, Nat.mod_lt _ (by decide)⟩ ⟨b % 12, Nat.mod_lt _ (by decide)⟩)

/-- The rotary rows' scratch buffer of the group starting at row `row0`. -/
def RVa (x8 : FVec Ideal S3072x1536 .fp8e4m3) (x2 : FVec Ideal S24x12 .f32) (row0 : ℕ) : FVec Ideal S12x64x128 .f32 := fun y =>
  RVs x8 x2 row0 (y 0).val (y 1).val (y 2).val

/-- The offsets of a trip's accesses, in closed form. -/
theorem t1_offs (k : Fin k0_t1_loop.trips) :
    k0_off2 k 0#32 = ![384 * k.val + 0, 0] ∧ k0_off2 k 64#32 = ![384 * k.val + 64, 0] ∧ k0_off2 k 128#32 = ![384 * k.val + 128, 0] ∧ k0_off2 k 192#32 = ![384 * k.val + 192, 0] ∧ k0_off2 k 256#32 = ![384 * k.val + 256, 0] ∧ k0_off2 k 320#32 = ![384 * k.val + 320, 0] ∧ k0_off1 k 0#32 = ![3 * k.val + 0, 0] ∧ k0_off1 k 1#32 = ![3 * k.val + 1, 0] ∧ k0_off1 k 2#32 = ![3 * k.val + 2, 0] ∧ k0_off25 k 128#32 0#32 = ![384 * k.val + 128, 0] ∧ k0_off25 k 128#32 32#32 = ![384 * k.val + 160, 0] ∧ k0_off25 k 320#32 0#32 = ![384 * k.val + 320, 0] ∧ k0_off25 k 320#32 32#32 = ![384 * k.val + 352, 0] ∧ k0_off4 k 0#32 = ![384 * k.val + 0, 128] ∧ k0_off4 k 64#32 = ![384 * k.val + 64, 128] ∧ k0_off4 k 128#32 = ![384 * k.val + 128, 128] ∧ k0_off4 k 192#32 = ![384 * k.val + 192, 128] ∧ k0_off4 k 256#32 = ![384 * k.val + 256, 128] ∧ k0_off4 k 320#32 = ![384 * k.val + 320, 128] ∧ k0_off3 k 0#32 = ![3 * k.val + 0, 1] ∧ k0_off3 k 1#32 = ![3 * k.val + 1, 1] ∧ k0_off3 k 2#32 = ![3 * k.val + 2, 1] ∧ k0_off26 k 128#32 0#32 = ![384 * k.val + 128, 128] ∧ k0_off26 k 128#32 32#32 = ![384 * k.val + 160, 128] ∧ k0_off26 k 320#32 0#32 = ![384 * k.val + 320, 128] ∧ k0_off26 k 320#32 32#32 = ![384 * k.val + 352, 128] ∧ k0_off6 k 0#32 = ![384 * k.val + 0, 256] ∧ k0_off6 k 64#32 = ![384 * k.val + 64, 256] ∧ k0_off6 k 128#32 = ![384 * k.val + 128, 256] ∧ k0_off6 k 192#32 = ![384 * k.val + 192, 256] ∧ k0_off6 k 256#32 = ![384 * k.val + 256, 256] ∧ k0_off6 k 320#32 = ![384 * k.val + 320, 256] ∧ k0_off5 k 0#32 = ![3 * k.val + 0, 2] ∧ k0_off5 k 1#32 = ![3 * k.val + 1, 2] ∧ k0_off5 k 2#32 = ![3 * k.val + 2, 2] ∧ k0_off27 k 128#32 0#32 = ![384 * k.val + 128, 256] ∧ k0_off27 k 128#32 32#32 = ![384 * k.val + 160, 256] ∧ k0_off27 k 320#32 0#32 = ![384 * k.val + 320, 256] ∧ k0_off27 k 320#32 32#32 = ![384 * k.val + 352, 256] ∧ k0_off8 k 0#32 = ![384 * k.val + 0, 384] ∧ k0_off8 k 64#32 = ![384 * k.val + 64, 384] ∧ k0_off8 k 128#32 = ![384 * k.val + 128, 384] ∧ k0_off8 k 192#32 = ![384 * k.val + 192, 384] ∧ k0_off8 k 256#32 = ![384 * k.val + 256, 384] ∧ k0_off8 k 320#32 = ![384 * k.val + 320, 384] ∧ k0_off7 k 0#32 = ![3 * k.val + 0, 3] ∧ k0_off7 k 1#32 = ![3 * k.val + 1, 3] ∧ k0_off7 k 2#32 = ![3 * k.val + 2, 3] ∧ k0_off28 k 128#32 0#32 = ![384 * k.val + 128, 384] ∧ k0_off28 k 128#32 32#32 = ![384 * k.val + 160, 384] ∧ k0_off28 k 320#32 0#32 = ![384 * k.val + 320, 384] ∧ k0_off28 k 320#32 32#32 = ![384 * k.val + 352, 384] ∧ k0_off10 k 0#32 = ![384 * k.val + 0, 512] ∧ k0_off10 k 64#32 = ![384 * k.val + 64, 512] ∧ k0_off10 k 128#32 = ![384 * k.val + 128, 512] ∧ k0_off10 k 192#32 = ![384 * k.val + 192, 512] ∧ k0_off10 k 256#32 = ![384 * k.val + 256, 512] ∧ k0_off10 k 320#32 = ![384 * k.val + 320, 512] ∧ k0_off9 k 0#32 = ![3 * k.val + 0, 4] ∧ k0_off9 k 1#32 = ![3 * k.val + 1, 4] ∧ k0_off9 k 2#32 = ![3 * k.val + 2, 4] ∧ k0_off29 k 128#32 0#32 = ![384 * k.val + 128, 512] ∧ k0_off29 k 128#32 32#32 = ![384 * k.val + 160, 512] ∧ k0_off29 k 320#32 0#32 = ![384 * k.val + 320, 512] ∧ k0_off29 k 320#32 32#32 = ![384 * k.val + 352, 512] ∧ k0_off12 k 0#32 = ![384 * k.val + 0, 640] ∧ k0_off12 k 64#32 = ![384 * k.val + 64, 640] ∧ k0_off12 k 128#32 = ![384 * k.val + 128, 640] ∧ k0_off12 k 192#32 = ![384 * k.val + 192, 640] ∧ k0_off12 k 256#32 = ![384 * k.val + 256, 640] ∧ k0_off12 k 320#32 = ![384 * k.val + 320, 640] ∧ k0_off11 k 0#32 = ![3 * k.val + 0, 5] ∧ k0_off11 k 1#32 = ![3 * k.val + 1, 5] ∧ k0_off11 k 2#32 = ![3 * k.val + 2, 5] ∧ k0_off30 k 128#32 0#32 = ![384 * k.val + 128, 640] ∧ k0_off30 k 128#32 32#32 = ![384 * k.val + 160, 640] ∧ k0_off30 k 320#32 0#32 = ![384 * k.val + 320, 640] ∧ k0_off30 k 320#32 32#32 = ![384 * k.val + 352, 640] ∧ k0_off14 k 0#32 = ![384 * k.val + 0, 768] ∧ k0_off14 k 64#32 = ![384 * k.val + 64, 768] ∧ k0_off14 k 128#32 = ![384 * k.val + 128, 768] ∧ k0_off14 k 192#32 = ![384 * k.val + 192, 768] ∧ k0_off14 k 256#32 = ![384 * k.val + 256, 768] ∧ k0_off14 k 320#32 = ![384 * k.val + 320, 768] ∧ k0_off13 k 0#32 = ![3 * k.val + 0, 6] ∧ k0_off13 k 1#32 = ![3 * k.val + 1, 6] ∧ k0_off13 k 2#32 = ![3 * k.val + 2, 6] ∧ k0_off31 k 128#32 0#32 = ![384 * k.val + 128, 768] ∧ k0_off31 k 128#32 32#32 = ![384 * k.val + 160, 768] ∧ k0_off31 k 320#32 0#32 = ![384 * k.val + 320, 768] ∧ k0_off31 k 320#32 32#32 = ![384 * k.val + 352, 768] ∧ k0_off16 k 0#32 = ![384 * k.val + 0, 896] ∧ k0_off16 k 64#32 = ![384 * k.val + 64, 896] ∧ k0_off16 k 128#32 = ![384 * k.val + 128, 896] ∧ k0_off16 k 192#32 = ![384 * k.val + 192, 896] ∧ k0_off16 k 256#32 = ![384 * k.val + 256, 896] ∧ k0_off16 k 320#32 = ![384 * k.val + 320, 896] ∧ k0_off15 k 0#32 = ![3 * k.val + 0, 7] ∧ k0_off15 k 1#32 = ![3 * k.val + 1, 7] ∧ k0_off15 k 2#32 = ![3 * k.val + 2, 7] ∧ k0_off32 k 128#32 0#32 = ![384 * k.val + 128, 896] ∧ k0_off32 k 128#32 32#32 = ![384 * k.val + 160, 896] ∧ k0_off32 k 320#32 0#32 = ![384 * k.val + 320, 896] ∧ k0_off32 k 320#32 32#32 = ![384 * k.val + 352, 896] ∧ k0_off18 k 0#32 = ![384 * k.val + 0, 1024] ∧ k0_off18 k 64#32 = ![384 * k.val + 64, 1024] ∧ k0_off18 k 128#32 = ![384 * k.val + 128, 1024] ∧ k0_off18 k 192#32 = ![384 * k.val + 192, 1024] ∧ k0_off18 k 256#32 = ![384 * k.val + 256, 1024] ∧ k0_off18 k 320#32 = ![384 * k.val + 320, 1024] ∧ k0_off17 k 0#32 = ![3 * k.val + 0, 8] ∧ k0_off17 k 1#32 = ![3 * k.val + 1, 8] ∧ k0_off17 k 2#32 = ![3 * k.val + 2, 8] ∧ k0_off33 k 128#32 0#32 = ![384 * k.val + 128, 1024] ∧ k0_off33 k 128#32 32#32 = ![384 * k.val + 160, 1024] ∧ k0_off33 k 320#32 0#32 = ![384 * k.val + 320, 1024] ∧ k0_off33 k 320#32 32#32 = ![384 * k.val + 352, 1024] ∧ k0_off20 k 0#32 = ![384 * k.val + 0, 1152] ∧ k0_off20 k 64#32 = ![384 * k.val + 64, 1152] ∧ k0_off20 k 128#32 = ![384 * k.val + 128, 1152] ∧ k0_off20 k 192#32 = ![384 * k.val + 192, 1152] ∧ k0_off20 k 256#32 = ![384 * k.val + 256, 1152] ∧ k0_off20 k 320#32 = ![384 * k.val + 320, 1152] ∧ k0_off19 k 0#32 = ![3 * k.val + 0, 9] ∧ k0_off19 k 1#32 = ![3 * k.val + 1, 9] ∧ k0_off19 k 2#32 = ![3 * k.val + 2, 9] ∧ k0_off34 k 128#32 0#32 = ![384 * k.val + 128, 1152] ∧ k0_off34 k 128#32 32#32 = ![384 * k.val + 160, 1152] ∧ k0_off34 k 320#32 0#32 = ![384 * k.val + 320, 1152] ∧ k0_off34 k 320#32 32#32 = ![384 * k.val + 352, 1152] ∧ k0_off22 k 0#32 = ![384 * k.val + 0, 1280] ∧ k0_off22 k 64#32 = ![384 * k.val + 64, 1280] ∧ k0_off22 k 128#32 = ![384 * k.val + 128, 1280] ∧ k0_off22 k 192#32 = ![384 * k.val + 192, 1280] ∧ k0_off22 k 256#32 = ![384 * k.val + 256, 1280] ∧ k0_off22 k 320#32 = ![384 * k.val + 320, 1280] ∧ k0_off21 k 0#32 = ![3 * k.val + 0, 10] ∧ k0_off21 k 1#32 = ![3 * k.val + 1, 10] ∧ k0_off21 k 2#32 = ![3 * k.val + 2, 10] ∧ k0_off35 k 128#32 0#32 = ![384 * k.val + 128, 1280] ∧ k0_off35 k 128#32 32#32 = ![384 * k.val + 160, 1280] ∧ k0_off35 k 320#32 0#32 = ![384 * k.val + 320, 1280] ∧ k0_off35 k 320#32 32#32 = ![384 * k.val + 352, 1280] ∧ k0_off24 k 0#32 = ![384 * k.val + 0, 1408] ∧ k0_off24 k 64#32 = ![384 * k.val + 64, 1408] ∧ k0_off24 k 128#32 = ![384 * k.val + 128, 1408] ∧ k0_off24 k 192#32 = ![384 * k.val + 192, 1408] ∧ k0_off24 k 256#32 = ![384 * k.val + 256, 1408] ∧ k0_off24 k 320#32 = ![384 * k.val + 320, 1408] ∧ k0_off23 k 0#32 = ![3 * k.val + 0, 11] ∧ k0_off23 k 1#32 = ![3 * k.val + 1, 11] ∧ k0_off23 k 2#32 = ![3 * k.val + 2, 11] ∧ k0_off36 k 128#32 0#32 = ![384 * k.val + 128, 1408] ∧ k0_off36 k 128#32 32#32 = ![384 * k.val + 160, 1408] ∧ k0_off36 k 320#32 0#32 = ![384 * k.val + 320, 1408] ∧ k0_off36 k 320#32 32#32 = ![384 * k.val + 352, 1408] :=
  ⟨k0_off2_eq k 0, k0_off2_eq k 1, k0_off2_eq k 2, k0_off2_eq k 3, k0_off2_eq k 4, k0_off2_eq k 5, k0_off1_eq k 0, k0_off1_eq k 1, k0_off1_eq k 2, k0_off25_eq k 0 0, k0_off25_eq k 0 1, k0_off25_eq k 1 0, k0_off25_eq k 1 1, k0_off4_eq k 0, k0_off4_eq k 1, k0_off4_eq k 2, k0_off4_eq k 3, k0_off4_eq k 4, k0_off4_eq k 5, k0_off3_eq k 0, k0_off3_eq k 1, k0_off3_eq k 2, k0_off26_eq k 0 0, k0_off26_eq k 0 1, k0_off26_eq k 1 0, k0_off26_eq k 1 1, k0_off6_eq k 0, k0_off6_eq k 1, k0_off6_eq k 2, k0_off6_eq k 3, k0_off6_eq k 4, k0_off6_eq k 5, k0_off5_eq k 0, k0_off5_eq k 1, k0_off5_eq k 2, k0_off27_eq k 0 0, k0_off27_eq k 0 1, k0_off27_eq k 1 0, k0_off27_eq k 1 1, k0_off8_eq k 0, k0_off8_eq k 1, k0_off8_eq k 2, k0_off8_eq k 3, k0_off8_eq k 4, k0_off8_eq k 5, k0_off7_eq k 0, k0_off7_eq k 1, k0_off7_eq k 2, k0_off28_eq k 0 0, k0_off28_eq k 0 1, k0_off28_eq k 1 0, k0_off28_eq k 1 1, k0_off10_eq k 0, k0_off10_eq k 1, k0_off10_eq k 2, k0_off10_eq k 3, k0_off10_eq k 4, k0_off10_eq k 5, k0_off9_eq k 0, k0_off9_eq k 1, k0_off9_eq k 2, k0_off29_eq k 0 0, k0_off29_eq k 0 1, k0_off29_eq k 1 0, k0_off29_eq k 1 1, k0_off12_eq k 0, k0_off12_eq k 1, k0_off12_eq k 2, k0_off12_eq k 3, k0_off12_eq k 4, k0_off12_eq k 5, k0_off11_eq k 0, k0_off11_eq k 1, k0_off11_eq k 2, k0_off30_eq k 0 0, k0_off30_eq k 0 1, k0_off30_eq k 1 0, k0_off30_eq k 1 1, k0_off14_eq k 0, k0_off14_eq k 1, k0_off14_eq k 2, k0_off14_eq k 3, k0_off14_eq k 4, k0_off14_eq k 5, k0_off13_eq k 0, k0_off13_eq k 1, k0_off13_eq k 2, k0_off31_eq k 0 0, k0_off31_eq k 0 1, k0_off31_eq k 1 0, k0_off31_eq k 1 1, k0_off16_eq k 0, k0_off16_eq k 1, k0_off16_eq k 2, k0_off16_eq k 3, k0_off16_eq k 4, k0_off16_eq k 5, k0_off15_eq k 0, k0_off15_eq k 1, k0_off15_eq k 2, k0_off32_eq k 0 0, k0_off32_eq k 0 1, k0_off32_eq k 1 0, k0_off32_eq k 1 1, k0_off18_eq k 0, k0_off18_eq k 1, k0_off18_eq k 2, k0_off18_eq k 3, k0_off18_eq k 4, k0_off18_eq k 5, k0_off17_eq k 0, k0_off17_eq k 1, k0_off17_eq k 2, k0_off33_eq k 0 0, k0_off33_eq k 0 1, k0_off33_eq k 1 0, k0_off33_eq k 1 1, k0_off20_eq k 0, k0_off20_eq k 1, k0_off20_eq k 2, k0_off20_eq k 3, k0_off20_eq k 4, k0_off20_eq k 5, k0_off19_eq k 0, k0_off19_eq k 1, k0_off19_eq k 2, k0_off34_eq k 0 0, k0_off34_eq k 0 1, k0_off34_eq k 1 0, k0_off34_eq k 1 1, k0_off22_eq k 0, k0_off22_eq k 1, k0_off22_eq k 2, k0_off22_eq k 3, k0_off22_eq k 4, k0_off22_eq k 5, k0_off21_eq k 0, k0_off21_eq k 1, k0_off21_eq k 2, k0_off35_eq k 0 0, k0_off35_eq k 0 1, k0_off35_eq k 1 0, k0_off35_eq k 1 1, k0_off24_eq k 0, k0_off24_eq k 1, k0_off24_eq k 2, k0_off24_eq k 3, k0_off24_eq k 4, k0_off24_eq k 5, k0_off23_eq k 0, k0_off23_eq k 1, k0_off23_eq k 2, k0_off36_eq k 0 0, k0_off36_eq k 0 1, k0_off36_eq k 1 0, k0_off36_eq k 1 1⟩

set_option maxHeartbeats 4000000 in
/-- What the rotary rows' scratch buffer holds after the stores of their group. -/
theorem rope_lo {arg2 : Memref sig .tc .smem S24x12 .f32} (harg2 : arg2.IsWhole) {arg8 : Memref sig .tc .vmem S3072x1536 .fp8e4m3} (harg8 : arg8.IsWhole) (arg20 : Memref sig .tc .vmem S12x64x128 .f32) (i : grid0.Coords) (k0_h1 : k0_cond1 i = 1#1) (x2 : FVec Ideal S24x12 .f32) (x8 : FVec Ideal S3072x1536 .fp8e4m3) (k : Fin k0_t1_loop.trips) (f : BufTy.Contents (Elt Ideal) arg20.view.ty) (y : S12x64x128.Idx) :
    arg20.view.read (Elt Ideal) (arg20.view.writes (Elt Ideal) f (trip_k0_t1.sl.HW_arg20_12 (F := Ideal) i arg2 arg8 k0_h1 (harg2.unread x2) (harg8.unread x8) k)) y = RVa x8 x2 (384 * k.val + 128) y := by
  have hk : k.val < 8 := Nat.lt_of_lt_of_le k.isLt k0_t1_abs.2.1
  have ho := t1_offs k
  unfold trip_k0_t1.sl.HW_arg20_12
  skip
  refine View.read_writes_apply_of_pieces (Val := Elt Ideal) arg20.view _ (RVa x8 x2 (384 * k.val + 128)) _ ?_ y ?_
  · simp only [trip_k0_t1.sl.r_54, trip_k0_t1.sl.r_53, trip_k0_t1.sl.r_52, trip_k0_t1.sl.r_51, trip_k0_t1.sl.r_50, trip_k0_t1.sl.r_49, trip_k0_t1.sl.r_48, trip_k0_t1.sl.r_47, trip_k0_t1.sl.r_46, trip_k0_t1.sl.r_45, trip_k0_t1.sl.r_44, trip_k0_t1.sl.r_43, trip_k0_t1.sl.r_42, trip_k0_t1.sl.r_41, trip_k0_t1.sl.r_40, trip_k0_t1.sl.r_39, trip_k0_t1.sl.r_38, trip_k0_t1.sl.r_37, trip_k0_t1.sl.r_36, trip_k0_t1.sl.r_35, trip_k0_t1.sl.r_34, trip_k0_t1.sl.r_33, trip_k0_t1.sl.r_32, trip_k0_t1.sl.r_31, trip_k0_t1.sl.r_30, trip_k0_t1.sl.r_29, trip_k0_t1.sl.r_28, trip_k0_t1.sl.r_27, trip_k0_t1.sl.r_26, trip_k0_t1.sl.r_25, trip_k0_t1.sl.r_24, trip_k0_t1.sl.r_23, trip_k0_t1.sl.r_22, trip_k0_t1.sl.r_21, trip_k0_t1.sl.r_20, trip_k0_t1.sl.r_19, trip_k0_t1.sl.r_18, trip_k0_t1.sl.r_17, trip_k0_t1.sl.r_16, trip_k0_t1.sl.r_15, trip_k0_t1.sl.r_14, trip_k0_t1.sl.r_13, trip_k0_t1.sl.r_12, trip_k0_t1.sl.r_11, trip_k0_t1.sl.r_10, trip_k0_t1.sl.r_9, trip_k0_t1.sl.r_8, trip_k0_t1.sl.r_7, trip_k0_t1.sl.r_6, trip_k0_t1.sl.r_5, trip_k0_t1.sl.r_4, trip_k0_t1.sl.r_3, trip_k0_t1.sl.r_2, trip_k0_t1.sl.r_1, trip_k0_t1.sl.r]
    simp only [View.readAt_eq_ld, harg2.read_unread, harg8.read_unread, List.forall_mem_cons, List.not_mem_nil, false_imp_iff, implies_true, _root_.and_true]
    refine ⟨fun x => ?_, fun x => ?_, fun x => ?_, fun x => ?_, fun x => ?_, fun x => ?_, fun x => ?_, fun x => ?_, fun x => ?_, fun x => ?_, fun x => ?_, fun x => ?_⟩
    all_goals
      idx_vars x
      unfold RVa RVs
      rw [first_S1x1]
      pointwise [k0_pay35, k0_pay36, k0_pay37, k0_pay38, k0_pay39, k0_pay40, k0_pay41, k0_pay42, k0_pay43, k0_pay44, k0_pay45, k0_pay46]
      refine Ideal.mul_congr ?_ ?_
      · blk_ext [ho]
      · blk_ext [ho]
  ·
    have h0 : (y 0).val < 12 := (y 0).isLt
    have h1 : (y 1).val < 64 := (y 1).isLt
    have h2 : (y 2).val < 128 := (y 2).isLt
    rcases (by omega : (y 0).val = 11 ∨ (y 0).val = 10 ∨ (y 0).val = 9 ∨ (y 0).val = 8 ∨ (y 0).val = 7 ∨ (y 0).val = 6 ∨ (y 0).val = 5 ∨ (y 0).val = 4 ∨ (y 0).val = 3 ∨ (y 0).val = 2 ∨ (y 0).val = 1 ∨ (y 0).val = 0) with h | h | h | h | h | h | h | h | h | h | h | h
    · refine ⟨_, List.mem_cons_self, ?_⟩; rw [Rect.mem_set_unit]; exact mem_unit3 y rfl rfl (by omega) (by omega) (by omega)
    · refine ⟨_, List.mem_cons_of_mem _ (List.mem_cons_self), ?_⟩; rw [Rect.mem_set_unit]; exact mem_unit3 y rfl rfl (by omega) (by omega) (by omega)
    · refine ⟨_, List.mem_cons_of_mem _ (List.mem_cons_of_mem _ (List.mem_cons_self)), ?_⟩; rw [Rect.mem_set_unit]; exact mem_unit3 y rfl rfl (by omega) (by omega) (by omega)
    · refine ⟨_, List.mem_cons_of_mem _ (List.mem_cons_of_mem _ (List.mem_cons_of_mem _ (List.mem_cons_self))), ?_⟩; rw [Rect.mem_set_unit]; exact mem_unit3 y rfl rfl (by omega) (by omega) (by omega)
    · refine ⟨_, List.mem_cons_of_mem _ (List.mem_cons_of_mem _ (List.mem_cons_of_mem _ (List.mem_cons_of_mem _ (List.mem_cons_self)))), ?_⟩; rw [Rect.mem_set_unit]; exact mem_unit3 y rfl rfl (by omega) (by omega) (by omega)
    · refine ⟨_, List.mem_cons_of_mem _ (List.mem_cons_of_mem _ (List.mem_cons_of_mem _ (List.mem_cons_of_mem _ (List.mem_cons_of_mem _ (List.mem_cons_self))))), ?_⟩; rw [Rect.mem_set_unit]; exact mem_unit3 y rfl rfl (by omega) (by omega) (by omega)
    · refine ⟨_, List.mem_cons_of_mem _ (List.mem_cons_of_mem _ (List.mem_cons_of_mem _ (List.mem_cons_of_mem _ (List.mem_cons_of_mem _ (List.mem_cons_of_mem _ (List.mem_cons_self)))))), ?_⟩; rw [Rect.mem_set_unit]; exact mem_unit3 y rfl rfl (by omega) (by omega) (by omega)
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩; rw [Rect.mem_set_unit]; exact mem_unit3 y rfl rfl (by omega) (by omega) (by omega)
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), ?_⟩; rw [Rect.mem_set_unit]; exact mem_unit3 y rfl rfl (by omega) (by omega) (by omega)
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), ?_⟩; rw [Rect.mem_set_unit]; exact mem_unit3 y rfl rfl (by omega) (by omega) (by omega)
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), ?_⟩; rw [Rect.mem_set_unit]; exact mem_unit3 y rfl rfl (by omega) (by omega) (by omega)
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), ?_⟩; rw [Rect.mem_set_unit]; exact mem_unit3 y rfl rfl (by omega) (by omega) (by omega)

set_option maxHeartbeats 4000000 in
/-- What the rotary rows' scratch buffer holds after the stores of their group. -/
theorem rope_hi {arg2 : Memref sig .tc .smem S24x12 .f32} (harg2 : arg2.IsWhole) {arg8 : Memref sig .tc .vmem S3072x1536 .fp8e4m3} (harg8 : arg8.IsWhole) (arg20 : Memref sig .tc .vmem S12x64x128 .f32) (i : grid0.Coords) (k0_h1 : k0_cond1 i = 1#1) (x2 : FVec Ideal S24x12 .f32) (x8 : FVec Ideal S3072x1536 .fp8e4m3) (k : Fin k0_t1_loop.trips) (f : BufTy.Contents (Elt Ideal) arg20.view.ty) (y : S12x64x128.Idx) :
    arg20.view.read (Elt Ideal) (arg20.view.writes (Elt Ideal) f (trip_k0_t1.sl.HW_arg20_24 (F := Ideal) i arg2 arg8 k0_h1 (harg2.unread x2) (harg8.unread x8) k)) y = RVa x8 x2 (384 * k.val + 320) y := by
  have hk : k.val < 8 := Nat.lt_of_lt_of_le k.isLt k0_t1_abs.2.1
  have ho := t1_offs k
  unfold trip_k0_t1.sl.HW_arg20_24
  show arg20.view.read (Elt Ideal) (arg20.view.writes (Elt Ideal) f ([_, _, _, _, _, _, _, _, _, _, _, _] ++ _)) y = _
  rw [View.writes_append]
  refine View.read_writes_apply_of_pieces (Val := Elt Ideal) arg20.view _ (RVa x8 x2 (384 * k.val + 320)) _ ?_ y ?_
  · simp only [trip_k0_t1.sl.r_54, trip_k0_t1.sl.r_53, trip_k0_t1.sl.r_52, trip_k0_t1.sl.r_51, trip_k0_t1.sl.r_50, trip_k0_t1.sl.r_49, trip_k0_t1.sl.r_48, trip_k0_t1.sl.r_47, trip_k0_t1.sl.r_46, trip_k0_t1.sl.r_45, trip_k0_t1.sl.r_44, trip_k0_t1.sl.r_43, trip_k0_t1.sl.r_42, trip_k0_t1.sl.r_41, trip_k0_t1.sl.r_40, trip_k0_t1.sl.r_39, trip_k0_t1.sl.r_38, trip_k0_t1.sl.r_37, trip_k0_t1.sl.r_36, trip_k0_t1.sl.r_35, trip_k0_t1.sl.r_34, trip_k0_t1.sl.r_33, trip_k0_t1.sl.r_32, trip_k0_t1.sl.r_31, trip_k0_t1.sl.r_30, trip_k0_t1.sl.r_29, trip_k0_t1.sl.r_28, trip_k0_t1.sl.r_27, trip_k0_t1.sl.r_26, trip_k0_t1.sl.r_25, trip_k0_t1.sl.r_24, trip_k0_t1.sl.r_23, trip_k0_t1.sl.r_22, trip_k0_t1.sl.r_21, trip_k0_t1.sl.r_20, trip_k0_t1.sl.r_19, trip_k0_t1.sl.r_18, trip_k0_t1.sl.r_17, trip_k0_t1.sl.r_16, trip_k0_t1.sl.r_15, trip_k0_t1.sl.r_14, trip_k0_t1.sl.r_13, trip_k0_t1.sl.r_12, trip_k0_t1.sl.r_11, trip_k0_t1.sl.r_10, trip_k0_t1.sl.r_9, trip_k0_t1.sl.r_8, trip_k0_t1.sl.r_7, trip_k0_t1.sl.r_6, trip_k0_t1.sl.r_5, trip_k0_t1.sl.r_4, trip_k0_t1.sl.r_3, trip_k0_t1.sl.r_2, trip_k0_t1.sl.r_1, trip_k0_t1.sl.r]
    simp only [View.readAt_eq_ld, harg2.read_unread, harg8.read_unread, List.forall_mem_cons, List.not_mem_nil, false_imp_iff, implies_true, _root_.and_true]
    refine ⟨fun x => ?_, fun x => ?_, fun x => ?_, fun x => ?_, fun x => ?_, fun x => ?_, fun x => ?_, fun x => ?_, fun x => ?_, fun x => ?_, fun x => ?_, fun x => ?_⟩
    all_goals
      idx_vars x
      unfold RVa RVs
      rw [first_S1x1]
      pointwise [k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
      refine Ideal.mul_congr ?_ ?_
      · blk_ext [ho]
      · blk_ext [ho]
  ·
    have h0 : (y 0).val < 12 := (y 0).isLt
    have h1 : (y 1).val < 64 := (y 1).isLt
    have h2 : (y 2).val < 128 := (y 2).isLt
    rcases (by omega : (y 0).val = 11 ∨ (y 0).val = 10 ∨ (y 0).val = 9 ∨ (y 0).val = 8 ∨ (y 0).val = 7 ∨ (y 0).val = 6 ∨ (y 0).val = 5 ∨ (y 0).val = 4 ∨ (y 0).val = 3 ∨ (y 0).val = 2 ∨ (y 0).val = 1 ∨ (y 0).val = 0) with h | h | h | h | h | h | h | h | h | h | h | h
    · refine ⟨_, List.mem_cons_self, ?_⟩; rw [Rect.mem_set_unit]; exact mem_unit3 y rfl rfl (by omega) (by omega) (by omega)
    · refine ⟨_, List.mem_cons_of_mem _ (List.mem_cons_self), ?_⟩; rw [Rect.mem_set_unit]; exact mem_unit3 y rfl rfl (by omega) (by omega) (by omega)
    · refine ⟨_, List.mem_cons_of_mem _ (List.mem_cons_of_mem _ (List.mem_cons_self)), ?_⟩; rw [Rect.mem_set_unit]; exact mem_unit3 y rfl rfl (by omega) (by omega) (by omega)
    · refine ⟨_, List.mem_cons_of_mem _ (List.mem_cons_of_mem _ (List.mem_cons_of_mem _ (List.mem_cons_self))), ?_⟩; rw [Rect.mem_set_unit]; exact mem_unit3 y rfl rfl (by omega) (by omega) (by omega)
    · refine ⟨_, List.mem_cons_of_mem _ (List.mem_cons_of_mem _ (List.mem_cons_of_mem _ (List.mem_cons_of_mem _ (List.mem_cons_self)))), ?_⟩; rw [Rect.mem_set_unit]; exact mem_unit3 y rfl rfl (by omega) (by omega) (by omega)
    · refine ⟨_, List.mem_cons_of_mem _ (List.mem_cons_of_mem _ (List.mem_cons_of_mem _ (List.mem_cons_of_mem _ (List.mem_cons_of_mem _ (List.mem_cons_self))))), ?_⟩; rw [Rect.mem_set_unit]; exact mem_unit3 y rfl rfl (by omega) (by omega) (by omega)
    · refine ⟨_, List.mem_cons_of_mem _ (List.mem_cons_of_mem _ (List.mem_cons_of_mem _ (List.mem_cons_of_mem _ (List.mem_cons_of_mem _ (List.mem_cons_of_mem _ (List.mem_cons_self)))))), ?_⟩; rw [Rect.mem_set_unit]; exact mem_unit3 y rfl rfl (by omega) (by omega) (by omega)
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩; rw [Rect.mem_set_unit]; exact mem_unit3 y rfl rfl (by omega) (by omega) (by omega)
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), ?_⟩; rw [Rect.mem_set_unit]; exact mem_unit3 y rfl rfl (by omega) (by omega) (by omega)
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), ?_⟩; rw [Rect.mem_set_unit]; exact mem_unit3 y rfl rfl (by omega) (by omega) (by omega)
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), ?_⟩; rw [Rect.mem_set_unit]; exact mem_unit3 y rfl rfl (by omega) (by omega) (by omega)
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), ?_⟩; rw [Rect.mem_set_unit]; exact mem_unit3 y rfl rfl (by omega) (by omega) (by omega)

/-- A piece of the rotary rows' scratch buffer, read back with a stride of two. -/
theorem rope_read {arg2 : Memref sig .tc .smem S24x12 .f32} (harg2 : arg2.IsWhole) {arg8 : Memref sig .tc .vmem S3072x1536 .fp8e4m3} (harg8 : arg8.IsWhole) (arg20 : Memref sig .tc .vmem S12x64x128 .f32) (i : grid0.Coords) (k0_h1 : k0_cond1 i = 1#1) (x2 : FVec Ideal S24x12 .f32) (x8 : FVec Ideal S3072x1536 .fp8e4m3) (k : Fin k0_t1_loop.trips) (b h : ℕ) (inb) :
    arg20.view.readCov (trip_k0_t1.sl.HW_arg20_12 (F := Ideal) i arg2 arg8 k0_h1 (harg2.unread x2) (harg8.unread x8) k) { off := ![b, h, 0], size := S1x32x128.size, stride := ![1, 2, 1], inb := inb }
      = fun j => RVs x8 x2 (384 * k.val + 128) (b + (j 0).val) (h + 2 * (j 1).val) (j 2).val := by
  funext j
  refine (rope_lo harg2 harg8 arg20 i k0_h1 x2 x8 k _ _).trans ?_
  unfold RVa
  congr 1
  · show b + 1 * (j 0).val = _; omega
  · show 0 + 1 * (j 2).val = _; omega

/-- The same for the second group. -/
theorem rope_read' {arg2 : Memref sig .tc .smem S24x12 .f32} (harg2 : arg2.IsWhole) {arg8 : Memref sig .tc .vmem S3072x1536 .fp8e4m3} (harg8 : arg8.IsWhole) (arg20 : Memref sig .tc .vmem S12x64x128 .f32) (i : grid0.Coords) (k0_h1 : k0_cond1 i = 1#1) (x2 : FVec Ideal S24x12 .f32) (x8 : FVec Ideal S3072x1536 .fp8e4m3) (k : Fin k0_t1_loop.trips) (b h : ℕ) (inb) :
    arg20.view.readCov (trip_k0_t1.sl.HW_arg20_24 (F := Ideal) i arg2 arg8 k0_h1 (harg2.unread x2) (harg8.unread x8) k) { off := ![b, h, 0], size := S1x32x128.size, stride := ![1, 2, 1], inb := inb }
      = fun j => RVs x8 x2 (384 * k.val + 320) (b + (j 0).val) (h + 2 * (j 1).val) (j 2).val := by
  funext j
  refine (rope_hi harg2 harg8 arg20 i k0_h1 x2 x8 k _ _).trans ?_
  unfold RVa
  congr 1
  · show b + 1 * (j 0).val = _; omega
  · show 0 + 1 * (j 2).val = _; omega

theorem WQs_lo (x8 : FVec Ideal S3072x1536 .fp8e4m3) (x2 : FVec Ideal S24x12 .f32) (y : S3072x1536.Idx) (h : (y 0).val % 192 < 128) :
    WQs x8 x2 y = x8 (ix2 (y 0) (y 1)) * x2 (ix2 ⟨(y 0).val / 128, by have := (y 0).isLt; change (y 0).val < 3072 at this; omega⟩ ⟨(y 1).val / 128, by have := (y 1).isLt; change (y 1).val < 1536 at this; omega⟩) := by
  unfold WQs
  rw [show srcRow (y 0) = _ from if_pos h]

theorem WQs_hi (x8 : FVec Ideal S3072x1536 .fp8e4m3) (x2 : FVec Ideal S24x12 .f32) (y : S3072x1536.Idx) (h : ¬ (y 0).val % 192 < 128) :
    WQs x8 x2 y = x8 (ix2 ⟨(y 0).val / 64 * 64 + 2 * ((y 0).val % 32) + (y 0).val % 64 / 32, by have := (y 0).isLt; change (y 0).val < 3072 at this; omega⟩ (y 1)) * x2 (ix2 ⟨(y 0).val / 128, by have := (y 0).isLt; change (y 0).val < 3072 at this; omega⟩ ⟨(y 1).val / 128, by have := (y 1).isLt; change (y 1).val < 1536 at this; omega⟩) := by
  unfold WQs
  rw [show srcRow (y 0) = _ from if_neg h]

set_option maxHeartbeats 16000000 in
/-- What a trip stores is the weights at the place it stores them. -/
theorem t1_pieces (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (k0_h1 : k0_cond1 i = 1#1) (x2 : FVec Ideal S24x12 .f32) (x8 : FVec Ideal S3072x1536 .fp8e4m3) (k : Fin k0_t1_loop.trips) (f15 : BufTy.Contents (Elt Ideal) arg15.view.ty) (f20 : BufTy.Contents (Elt Ideal) arg20.view.ty) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 (harg2.unread x2) (harg8.unread x8) k).1 f15 f20, ∀ x, p.2 x = WQs x8 x2 (p.1.emb x) := by
  have hk : k.val < 8 := Nat.lt_of_lt_of_le k.isLt k0_t1_abs.2.1
  have ho := t1_offs k
  unfold trip_k0_t1
  dsimp only
  simp only [trip_k0_t1.sl.r_54, trip_k0_t1.sl.r_53, trip_k0_t1.sl.r_52, trip_k0_t1.sl.r_51, trip_k0_t1.sl.r_50, trip_k0_t1.sl.r_49, trip_k0_t1.sl.r_48, trip_k0_t1.sl.r_47, trip_k0_t1.sl.r_46, trip_k0_t1.sl.r_45, trip_k0_t1.sl.r_44, trip_k0_t1.sl.r_43, trip_k0_t1.sl.r_42, trip_k0_t1.sl.r_41, trip_k0_t1.sl.r_40, trip_k0_t1.sl.r_39, trip_k0_t1.sl.r_38, trip_k0_t1.sl.r_37, trip_k0_t1.sl.r_36, trip_k0_t1.sl.r_35, trip_k0_t1.sl.r_34, trip_k0_t1.sl.r_33, trip_k0_t1.sl.r_32, trip_k0_t1.sl.r_31, trip_k0_t1.sl.r_30, trip_k0_t1.sl.r_29, trip_k0_t1.sl.r_28, trip_k0_t1.sl.r_27, trip_k0_t1.sl.r_26, trip_k0_t1.sl.r_25, trip_k0_t1.sl.r_24, trip_k0_t1.sl.r_23, trip_k0_t1.sl.r_22, trip_k0_t1.sl.r_21, trip_k0_t1.sl.r_20, trip_k0_t1.sl.r_19, trip_k0_t1.sl.r_18, trip_k0_t1.sl.r_17, trip_k0_t1.sl.r_16, trip_k0_t1.sl.r_15, trip_k0_t1.sl.r_14, trip_k0_t1.sl.r_13, trip_k0_t1.sl.r_12, trip_k0_t1.sl.r_11, trip_k0_t1.sl.r_10, trip_k0_t1.sl.r_9, trip_k0_t1.sl.r_8, trip_k0_t1.sl.r_7, trip_k0_t1.sl.r_6, trip_k0_t1.sl.r_5, trip_k0_t1.sl.r_4, trip_k0_t1.sl.r_3, trip_k0_t1.sl.r_2, trip_k0_t1.sl.r_1, trip_k0_t1.sl.r]
  simp only [trip_k0_t1.sl.v, trip_k0_t1.sl.v964, trip_k0_t1.sl.v972, trip_k0_t1.sl.v980, trip_k0_t1.sl.v988, trip_k0_t1.sl.v996, trip_k0_t1.sl.v1004, trip_k0_t1.sl.v1012, trip_k0_t1.sl.v1020, trip_k0_t1.sl.v1028, trip_k0_t1.sl.v1036, trip_k0_t1.sl.v1044, trip_k0_t1.sl.v1052, trip_k0_t1.sl.v1060, trip_k0_t1.sl.v1068, trip_k0_t1.sl.v1076, trip_k0_t1.sl.v1084, trip_k0_t1.sl.v1092, trip_k0_t1.sl.v1100, trip_k0_t1.sl.v1108, trip_k0_t1.sl.v1116, trip_k0_t1.sl.v1132, trip_k0_t1.sl.v1140, trip_k0_t1.sl.v1148, trip_k0_t1.sl.v1645, trip_k0_t1.sl.v1653, trip_k0_t1.sl.v1661, trip_k0_t1.sl.v1669, trip_k0_t1.sl.v1677, trip_k0_t1.sl.v1685, trip_k0_t1.sl.v1693, trip_k0_t1.sl.v1701, trip_k0_t1.sl.v1709, trip_k0_t1.sl.v1717, trip_k0_t1.sl.v1725, trip_k0_t1.sl.v1733, trip_k0_t1.sl.v1741, trip_k0_t1.sl.v1749, trip_k0_t1.sl.v1757, trip_k0_t1.sl.v1765, trip_k0_t1.sl.v1773, trip_k0_t1.sl.v1781, trip_k0_t1.sl.v1789, trip_k0_t1.sl.v1797, trip_k0_t1.sl.v1805, trip_k0_t1.sl.v1813, trip_k0_t1.sl.v1821, trip_k0_t1.sl.v1829, rope_read harg2 harg8, rope_read' harg2 harg8, View.readAt_eq_ld, harg2.read_unread, harg8.read_unread, List.forall_mem_cons, List.not_mem_nil, false_imp_iff, implies_true, _root_.and_true]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  all_goals first
  | idx_vars x
    refine Eq.trans ?_ (WQs_hi x8 x2 _ ?_).symm
    · pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay147, k0_pay148]
      unfold RVs
      refine Ideal.mul_congr ?_ ?_
      · blk_ext [ho]
      · blk_ext [ho]
    · show ¬ (_ : ℕ) % 192 < 128
      blk_simp [ho] <;> omega
  | idx_vars x
    rw [first_S1x1]
    refine Eq.trans ?_ (WQs_lo x8 x2 _ ?_).symm
    · pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay147, k0_pay148]
      refine Ideal.mul_congr ?_ ?_
      · blk_ext [ho]
      · blk_ext [ho]
    · show (_ : ℕ) % 192 < 128
      blk_simp [ho] <;> omega

set_option maxHeartbeats 16000000 in
/-- The pieces of trip `k` cover the rows of group `k`. -/
theorem t1_cover (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (k0_h1 : k0_cond1 i = 1#1) (x2 : FVec Ideal S24x12 .f32) (x8 : FVec Ideal S3072x1536 .fp8e4m3) (k : Fin k0_t1_loop.trips) (f15 : BufTy.Contents (Elt Ideal) arg15.view.ty) (f20 : BufTy.Contents (Elt Ideal) arg20.view.ty) (y : S3072x1536.Idx) (hy : (y 0).val / 384 = k.val) :
    ∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 (harg2.unread x2) (harg8.unread x8) k).1 f15 f20, y ∈ p.1.set := by
  unfold trip_k0_t1
  dsimp only
  have h1 : (y 1).val < 1536 := (y 1).isLt
  have hb : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 ∨ (y 1).val / 128 = 8 ∨ (y 1).val / 128 = 9 ∨ (y 1).val / 128 = 10 ∨ (y 1).val / 128 = 11 := by omega
  rcases (by omega : (y 0).val % 384 / 64 = 0 ∨ (y 0).val % 384 / 64 = 1 ∨ (y 0).val % 384 / 64 = 2 ∨ (y 0).val % 384 / 64 = 3 ∨ (y 0).val % 384 / 64 = 4 ∨ (y 0).val % 384 / 64 = 5) with hg | hg | hg | hg | hg | hg
  · rcases hb with h | h | h | h | h | h | h | h | h | h | h | h
    · refine ⟨_, List.mem_of_getElem? (i := 95) rfl, ?_⟩; rw [Rect.mem_set_unit]; exact mem_unit2 y (k0_off2_eq k 0) rfl (by omega) (by omega)
    · refine ⟨_, List.mem_of_getElem? (i := 94) rfl, ?_⟩; rw [Rect.mem_set_unit]; exact mem_unit2 y (k0_off4_eq k 0) rfl (by omega) (by omega)
    · refine ⟨_, List.mem_of_getElem? (i := 93) rfl, ?_⟩; rw [Rect.mem_set_unit]; exact mem_unit2 y (k0_off6_eq k 0) rfl (by omega) (by omega)
    · refine ⟨_, List.mem_of_getElem? (i := 92) rfl, ?_⟩; rw [Rect.mem_set_unit]; exact mem_unit2 y (k0_off8_eq k 0) rfl (by omega) (by omega)
    · refine ⟨_, List.mem_of_getElem? (i := 91) rfl, ?_⟩; rw [Rect.mem_set_unit]; exact mem_unit2 y (k0_off10_eq k 0) rfl (by omega) (by omega)
    · refine ⟨_, List.mem_of_getElem? (i := 90) rfl, ?_⟩; rw [Rect.mem_set_unit]; exact mem_unit2 y (k0_off12_eq k 0) rfl (by omega) (by omega)
    · refine ⟨_, List.mem_of_getElem? (i := 89) rfl, ?_⟩; rw [Rect.mem_set_unit]; exact mem_unit2 y (k0_off14_eq k 0) rfl (by omega) (by omega)
    · refine ⟨_, List.mem_of_getElem? (i := 88) rfl, ?_⟩; rw [Rect.mem_set_unit]; exact mem_unit2 y (k0_off16_eq k 0) rfl (by omega) (by omega)
    · refine ⟨_, List.mem_of_getElem? (i := 87) rfl, ?_⟩; rw [Rect.mem_set_unit]; exact mem_unit2 y (k0_off18_eq k 0) rfl (by omega) (by omega)
    · refine ⟨_, List.mem_of_getElem? (i := 86) rfl, ?_⟩; rw [Rect.mem_set_unit]; exact mem_unit2 y (k0_off20_eq k 0) rfl (by omega) (by omega)
    · refine ⟨_, List.mem_of_getElem? (i := 85) rfl, ?_⟩; rw [Rect.mem_set_unit]; exact mem_unit2 y (k0_off22_eq k 0) rfl (by omega) (by omega)
    · refine ⟨_, List.mem_of_getElem? (i := 84) rfl, ?_⟩; rw [Rect.mem_set_unit]; exact mem_unit2 y (k0_off24_eq k 0) rfl (by omega) (by omega)
  · rcases hb with h | h | h | h | h | h | h | h | h | h | h | h
    · refine ⟨_, List.mem_of_getElem? (i := 83) rfl, ?_⟩; rw [Rect.mem_set_unit]; exact mem_unit2 y (k0_off2_eq k 1) rfl (by omega) (by omega)
    · refine ⟨_, List.mem_of_getElem? (i := 82) rfl, ?_⟩; rw [Rect.mem_set_unit]; exact mem_unit2 y (k0_off4_eq k 1) rfl (by omega) (by omega)
    · refine ⟨_, List.mem_of_getElem? (i := 81) rfl, ?_⟩; rw [Rect.mem_set_unit]; exact mem_unit2 y (k0_off6_eq k 1) rfl (by omega) (by omega)
    · refine ⟨_, List.mem_of_getElem? (i := 80) rfl, ?_⟩; rw [Rect.mem_set_unit]; exact mem_unit2 y (k0_off8_eq k 1) rfl (by omega) (by omega)
    · refine ⟨_, List.mem_of_getElem? (i := 79) rfl, ?_⟩; rw [Rect.mem_set_unit]; exact mem_unit2 y (k0_off10_eq k 1) rfl (by omega) (by omega)
    · refine ⟨_, List.mem_of_getElem? (i := 78) rfl, ?_⟩; rw [Rect.mem_set_unit]; exact mem_unit2 y (k0_off12_eq k 1) rfl (by omega) (by omega)
    · refine ⟨_, List.mem_of_getElem? (i := 77) rfl, ?_⟩; rw [Rect.mem_set_unit]; exact mem_unit2 y (k0_off14_eq k 1) rfl (by omega) (by omega)
    · refine ⟨_, List.mem_of_getElem? (i := 76) rfl, ?_⟩; rw [Rect.mem_set_unit]; exact mem_unit2 y (k0_off16_eq k 1) rfl (by omega) (by omega)
    · refine ⟨_, List.mem_of_getElem? (i := 75) rfl, ?_⟩; rw [Rect.mem_set_unit]; exact mem_unit2 y (k0_off18_eq k 1) rfl (by omega) (by omega)
    · refine ⟨_, List.mem_of_getElem? (i := 74) rfl, ?_⟩; rw [Rect.mem_set_unit]; exact mem_unit2 y (k0_off20_eq k 1) rfl (by omega) (by omega)
    · refine ⟨_, List.mem_of_getElem? (i := 73) rfl, ?_⟩; rw [Rect.mem_set_unit]; exact mem_unit2 y (k0_off22_eq k 1) rfl (by omega) (by omega)
    · refine ⟨_, List.mem_of_getElem? (i := 72) rfl, ?_⟩; rw [Rect.mem_set_unit]; exact mem_unit2 y (k0_off24_eq k 1) rfl (by omega) (by omega)
  · rcases (by omega : (y 0).val % 64 < 32 ∨ 32 ≤ (y 0).val % 64) with hh | hh
    · rcases hb with h | h | h | h | h | h | h | h | h | h | h | h
      · refine ⟨_, List.mem_of_getElem? (i := 71) rfl, ?_⟩; rw [Rect.mem_set_unit]; exact mem_unit2 y (k0_off25_eq k 0 0) rfl (by omega) (by omega)
      · refine ⟨_, List.mem_of_getElem? (i := 70) rfl, ?_⟩; rw [Rect.mem_set_unit]; exact mem_unit2 y (k0_off26_eq k 0 0) rfl (by omega) (by omega)
      · refine ⟨_, List.mem_of_getElem? (i := 69) rfl, ?_⟩; rw [Rect.mem_set_unit]; exact mem_unit2 y (k0_off27_eq k 0 0) rfl (by omega) (by omega)
      · refine ⟨_, List.mem_of_getElem? (i := 68) rfl, ?_⟩; rw [Rect.mem_set_unit]; exact mem_unit2 y (k0_off28_eq k 0 0) rfl (by omega) (by omega)
      · refine ⟨_, List.mem_of_getElem? (i := 67) rfl, ?_⟩; rw [Rect.mem_set_unit]; exact mem_unit2 y (k0_off29_eq k 0 0) rfl (by omega) (by omega)
      · refine ⟨_, List.mem_of_getElem? (i := 66) rfl, ?_⟩; rw [Rect.mem_set_unit]; exact mem_unit2 y (k0_off30_eq k 0 0) rfl (by omega) (by omega)
      · refine ⟨_, List.mem_of_getElem? (i := 65) rfl, ?_⟩; rw [Rect.mem_set_unit]; exact mem_unit2 y (k0_off31_eq k 0 0) rfl (by omega) (by omega)
      · refine ⟨_, List.mem_of_getElem? (i := 64) rfl, ?_⟩; rw [Rect.mem_set_unit]; exact mem_unit2 y (k0_off32_eq k 0 0) rfl (by omega) (by omega)
      · refine ⟨_, List.mem_of_getElem? (i := 63) rfl, ?_⟩; rw [Rect.mem_set_unit]; exact mem_unit2 y (k0_off33_eq k 0 0) rfl (by omega) (by omega)
      · refine ⟨_, List.mem_of_getElem? (i := 62) rfl, ?_⟩; rw [Rect.mem_set_unit]; exact mem_unit2 y (k0_off34_eq k 0 0) rfl (by omega) (by omega)
      · refine ⟨_, List.mem_of_getElem? (i := 61) rfl, ?_⟩; rw [Rect.mem_set_unit]; exact mem_unit2 y (k0_off35_eq k 0 0) rfl (by omega) (by omega)
      · refine ⟨_, List.mem_of_getElem? (i := 60) rfl, ?_⟩; rw [Rect.mem_set_unit]; exact mem_unit2 y (k0_off36_eq k 0 0) rfl (by omega) (by omega)
    · rcases hb with h | h | h | h | h | h | h | h | h | h | h | h
      · refine ⟨_, List.mem_of_getElem? (i := 59) rfl, ?_⟩; rw [Rect.mem_set_unit]; exact mem_unit2 y (k0_off25_eq k 0 1) rfl (by omega) (by omega)
      · refine ⟨_, List.mem_of_getElem? (i := 58) rfl, ?_⟩; rw [Rect.mem_set_unit]; exact mem_unit2 y (k0_off26_eq k 0 1) rfl (by omega) (by omega)
      · refine ⟨_, List.mem_of_getElem? (i := 57) rfl, ?_⟩; rw [Rect.mem_set_unit]; exact mem_unit2 y (k0_off27_eq k 0 1) rfl (by omega) (by omega)
      · refine ⟨_, List.mem_of_getElem? (i := 56) rfl, ?_⟩; rw [Rect.mem_set_unit]; exact mem_unit2 y (k0_off28_eq k 0 1) rfl (by omega) (by omega)
      · refine ⟨_, List.mem_of_getElem? (i := 55) rfl, ?_⟩; rw [Rect.mem_set_unit]; exact mem_unit2 y (k0_off29_eq k 0 1) rfl (by omega) (by omega)
      · refine ⟨_, List.mem_of_getElem? (i := 54) rfl, ?_⟩; rw [Rect.mem_set_unit]; exact mem_unit2 y (k0_off30_eq k 0 1) rfl (by omega) (by omega)
      · refine ⟨_, List.mem_of_getElem? (i := 53) rfl, ?_⟩; rw [Rect.mem_set_unit]; exact mem_unit2 y (k0_off31_eq k 0 1) rfl (by omega) (by omega)
      · refine ⟨_, List.mem_of_getElem? (i := 52) rfl, ?_⟩; rw [Rect.mem_set_unit]; exact mem_unit2 y (k0_off32_eq k 0 1) rfl (by omega) (by omega)
      · refine ⟨_, List.mem_of_getElem? (i := 51) rfl, ?_⟩; rw [Rect.mem_set_unit]; exact mem_unit2 y (k0_off33_eq k 0 1) rfl (by omega) (by omega)
      · refine ⟨_, List.mem_of_getElem? (i := 50) rfl, ?_⟩; rw [Rect.mem_set_unit]; exact mem_unit2 y (k0_off34_eq k 0 1) rfl (by omega) (by omega)
      · refine ⟨_, List.mem_of_getElem? (i := 49) rfl, ?_⟩; rw [Rect.mem_set_unit]; exact mem_unit2 y (k0_off35_eq k 0 1) rfl (by omega) (by omega)
      · refine ⟨_, List.mem_of_getElem? (i := 48) rfl, ?_⟩; rw [Rect.mem_set_unit]; exact mem_unit2 y (k0_off36_eq k 0 1) rfl (by omega) (by omega)
  · rcases hb with h | h | h | h | h | h | h | h | h | h | h | h
    · refine ⟨_, List.mem_of_getElem? (i := 47) rfl, ?_⟩; rw [Rect.mem_set_unit]; exact mem_unit2 y (k0_off2_eq k 3) rfl (by omega) (by omega)
    · refine ⟨_, List.mem_of_getElem? (i := 46) rfl, ?_⟩; rw [Rect.mem_set_unit]; exact mem_unit2 y (k0_off4_eq k 3) rfl (by omega) (by omega)
    · refine ⟨_, List.mem_of_getElem? (i := 45) rfl, ?_⟩; rw [Rect.mem_set_unit]; exact mem_unit2 y (k0_off6_eq k 3) rfl (by omega) (by omega)
    · refine ⟨_, List.mem_of_getElem? (i := 44) rfl, ?_⟩; rw [Rect.mem_set_unit]; exact mem_unit2 y (k0_off8_eq k 3) rfl (by omega) (by omega)
    · refine ⟨_, List.mem_of_getElem? (i := 43) rfl, ?_⟩; rw [Rect.mem_set_unit]; exact mem_unit2 y (k0_off10_eq k 3) rfl (by omega) (by omega)
    · refine ⟨_, List.mem_of_getElem? (i := 42) rfl, ?_⟩; rw [Rect.mem_set_unit]; exact mem_unit2 y (k0_off12_eq k 3) rfl (by omega) (by omega)
    · refine ⟨_, List.mem_of_getElem? (i := 41) rfl, ?_⟩; rw [Rect.mem_set_unit]; exact mem_unit2 y (k0_off14_eq k 3) rfl (by omega) (by omega)
    · refine ⟨_, List.mem_of_getElem? (i := 40) rfl, ?_⟩; rw [Rect.mem_set_unit]; exact mem_unit2 y (k0_off16_eq k 3) rfl (by omega) (by omega)
    · refine ⟨_, List.mem_of_getElem? (i := 39) rfl, ?_⟩; rw [Rect.mem_set_unit]; exact mem_unit2 y (k0_off18_eq k 3) rfl (by omega) (by omega)
    · refine ⟨_, List.mem_of_getElem? (i := 38) rfl, ?_⟩; rw [Rect.mem_set_unit]; exact mem_unit2 y (k0_off20_eq k 3) rfl (by omega) (by omega)
    · refine ⟨_, List.mem_of_getElem? (i := 37) rfl, ?_⟩; rw [Rect.mem_set_unit]; exact mem_unit2 y (k0_off22_eq k 3) rfl (by omega) (by omega)
    · refine ⟨_, List.mem_of_getElem? (i := 36) rfl, ?_⟩; rw [Rect.mem_set_unit]; exact mem_unit2 y (k0_off24_eq k 3) rfl (by omega) (by omega)
  · rcases hb with h | h | h | h | h | h | h | h | h | h | h | h
    · refine ⟨_, List.mem_of_getElem? (i := 35) rfl, ?_⟩; rw [Rect.mem_set_unit]; exact mem_unit2 y (k0_off2_eq k 4) rfl (by omega) (by omega)
    · refine ⟨_, List.mem_of_getElem? (i := 34) rfl, ?_⟩; rw [Rect.mem_set_unit]; exact mem_unit2 y (k0_off4_eq k 4) rfl (by omega) (by omega)
    · refine ⟨_, List.mem_of_getElem? (i := 33) rfl, ?_⟩; rw [Rect.mem_set_unit]; exact mem_unit2 y (k0_off6_eq k 4) rfl (by omega) (by omega)
    · refine ⟨_, List.mem_of_getElem? (i := 32) rfl, ?_⟩; rw [Rect.mem_set_unit]; exact mem_unit2 y (k0_off8_eq k 4) rfl (by omega) (by omega)
    · refine ⟨_, List.mem_of_getElem? (i := 31) rfl, ?_⟩; rw [Rect.mem_set_unit]; exact mem_unit2 y (k0_off10_eq k 4) rfl (by omega) (by omega)
    · refine ⟨_, List.mem_of_getElem? (i := 30) rfl, ?_⟩; rw [Rect.mem_set_unit]; exact mem_unit2 y (k0_off12_eq k 4) rfl (by omega) (by omega)
    · refine ⟨_, List.mem_of_getElem? (i := 29) rfl, ?_⟩; rw [Rect.mem_set_unit]; exact mem_unit2 y (k0_off14_eq k 4) rfl (by omega) (by omega)
    · refine ⟨_, List.mem_of_getElem? (i := 28) rfl, ?_⟩; rw [Rect.mem_set_unit]; exact mem_unit2 y (k0_off16_eq k 4) rfl (by omega) (by omega)
    · refine ⟨_, List.mem_of_getElem? (i := 27) rfl, ?_⟩; rw [Rect.mem_set_unit]; exact mem_unit2 y (k0_off18_eq k 4) rfl (by omega) (by omega)
    · refine ⟨_, List.mem_of_getElem? (i := 26) rfl, ?_⟩; rw [Rect.mem_set_unit]; exact mem_unit2 y (k0_off20_eq k 4) rfl (by omega) (by omega)
    · refine ⟨_, List.mem_of_getElem? (i := 25) rfl, ?_⟩; rw [Rect.mem_set_unit]; exact mem_unit2 y (k0_off22_eq k 4) rfl (by omega) (by omega)
    · refine ⟨_, List.mem_of_getElem? (i := 24) rfl, ?_⟩; rw [Rect.mem_set_unit]; exact mem_unit2 y (k0_off24_eq k 4) rfl (by omega) (by omega)
  · rcases (by omega : (y 0).val % 64 < 32 ∨ 32 ≤ (y 0).val % 64) with hh | hh
    · rcases hb with h | h | h | h | h | h | h | h | h | h | h | h
      · refine ⟨_, List.mem_of_getElem? (i := 23) rfl, ?_⟩; rw [Rect.mem_set_unit]; exact mem_unit2 y (k0_off25_eq k 1 0) rfl (by omega) (by omega)
      · refine ⟨_, List.mem_of_getElem? (i := 22) rfl, ?_⟩; rw [Rect.mem_set_unit]; exact mem_unit2 y (k0_off26_eq k 1 0) rfl (by omega) (by omega)
      · refine ⟨_, List.mem_of_getElem? (i := 21) rfl, ?_⟩; rw [Rect.mem_set_unit]; exact mem_unit2 y (k0_off27_eq k 1 0) rfl (by omega) (by omega)
      · refine ⟨_, List.mem_of_getElem? (i := 20) rfl, ?_⟩; rw [Rect.mem_set_unit]; exact mem_unit2 y (k0_off28_eq k 1 0) rfl (by omega) (by omega)
      · refine ⟨_, List.mem_of_getElem? (i := 19) rfl, ?_⟩; rw [Rect.mem_set_unit]; exact mem_unit2 y (k0_off29_eq k 1 0) rfl (by omega) (by omega)
      · refine ⟨_, List.mem_of_getElem? (i := 18) rfl, ?_⟩; rw [Rect.mem_set_unit]; exact mem_unit2 y (k0_off30_eq k 1 0) rfl (by omega) (by omega)
      · refine ⟨_, List.mem_of_getElem? (i := 17) rfl, ?_⟩; rw [Rect.mem_set_unit]; exact mem_unit2 y (k0_off31_eq k 1 0) rfl (by omega) (by omega)
      · refine ⟨_, List.mem_of_getElem? (i := 16) rfl, ?_⟩; rw [Rect.mem_set_unit]; exact mem_unit2 y (k0_off32_eq k 1 0) rfl (by omega) (by omega)
      · refine ⟨_, List.mem_of_getElem? (i := 15) rfl, ?_⟩; rw [Rect.mem_set_unit]; exact mem_unit2 y (k0_off33_eq k 1 0) rfl (by omega) (by omega)
      · refine ⟨_, List.mem_of_getElem? (i := 14) rfl, ?_⟩; rw [Rect.mem_set_unit]; exact mem_unit2 y (k0_off34_eq k 1 0) rfl (by omega) (by omega)
      · refine ⟨_, List.mem_of_getElem? (i := 13) rfl, ?_⟩; rw [Rect.mem_set_unit]; exact mem_unit2 y (k0_off35_eq k 1 0) rfl (by omega) (by omega)
      · refine ⟨_, List.mem_of_getElem? (i := 12) rfl, ?_⟩; rw [Rect.mem_set_unit]; exact mem_unit2 y (k0_off36_eq k 1 0) rfl (by omega) (by omega)
    · rcases hb with h | h | h | h | h | h | h | h | h | h | h | h
      · refine ⟨_, List.mem_of_getElem? (i := 11) rfl, ?_⟩; rw [Rect.mem_set_unit]; exact mem_unit2 y (k0_off25_eq k 1 1) rfl (by omega) (by omega)
      · refine ⟨_, List.mem_of_getElem? (i := 10) rfl, ?_⟩; rw [Rect.mem_set_unit]; exact mem_unit2 y (k0_off26_eq k 1 1) rfl (by omega) (by omega)
      · refine ⟨_, List.mem_of_getElem? (i := 9) rfl, ?_⟩; rw [Rect.mem_set_unit]; exact mem_unit2 y (k0_off27_eq k 1 1) rfl (by omega) (by omega)
      · refine ⟨_, List.mem_of_getElem? (i := 8) rfl, ?_⟩; rw [Rect.mem_set_unit]; exact mem_unit2 y (k0_off28_eq k 1 1) rfl (by omega) (by omega)
      · refine ⟨_, List.mem_of_getElem? (i := 7) rfl, ?_⟩; rw [Rect.mem_set_unit]; exact mem_unit2 y (k0_off29_eq k 1 1) rfl (by omega) (by omega)
      · refine ⟨_, List.mem_of_getElem? (i := 6) rfl, ?_⟩; rw [Rect.mem_set_unit]; exact mem_unit2 y (k0_off30_eq k 1 1) rfl (by omega) (by omega)
      · refine ⟨_, List.mem_of_getElem? (i := 5) rfl, ?_⟩; rw [Rect.mem_set_unit]; exact mem_unit2 y (k0_off31_eq k 1 1) rfl (by omega) (by omega)
      · refine ⟨_, List.mem_of_getElem? (i := 4) rfl, ?_⟩; rw [Rect.mem_set_unit]; exact mem_unit2 y (k0_off32_eq k 1 1) rfl (by omega) (by omega)
      · refine ⟨_, List.mem_of_getElem? (i := 3) rfl, ?_⟩; rw [Rect.mem_set_unit]; exact mem_unit2 y (k0_off33_eq k 1 1) rfl (by omega) (by omega)
      · refine ⟨_, List.mem_of_getElem? (i := 2) rfl, ?_⟩; rw [Rect.mem_set_unit]; exact mem_unit2 y (k0_off34_eq k 1 1) rfl (by omega) (by omega)
      · refine ⟨_, List.mem_of_getElem? (i := 1) rfl, ?_⟩; rw [Rect.mem_set_unit]; exact mem_unit2 y (k0_off35_eq k 1 1) rfl (by omega) (by omega)
      · refine ⟨_, List.mem_of_getElem? (i := 0) rfl, ?_⟩; rw [Rect.mem_set_unit]; exact mem_unit2 y (k0_off36_eq k 1 1) rfl (by omega) (by omega)

theorem t1_trips : k0_t1_loop.trips = 8 := by decide +kernel

/-- After the loop the scratch buffer holds the dequantised weights, whatever it held before. -/
theorem t1_read (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (k0_h1 : k0_cond1 i = 1#1) (x2 : FVec Ideal S24x12 .f32) (x8 : FVec Ideal S3072x1536 .fp8e4m3) (f : BufTy.Contents (Elt Ideal) arg15.view.ty) (g : BufTy.Contents (Elt Ideal) arg20.view.ty) :
    arg15.view.read (Elt Ideal) (arg15.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 (harg2.unread x2) (harg8.unread x8) f g k0_t1_loop.trips).1) = WQs x8 x2 := by
  funext y
  have hall : ∀ n, n ≤ k0_t1_loop.trips → ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 (harg2.unread x2) (harg8.unread x8) f g n).1, ∀ x, p.2 x = WQs x8 x2 (p.1.emb x) := by
    intro n; induction n with
    | zero => intro _ p hp; exact absurd hp List.not_mem_nil
    | succ n ih =>
      intro hn p hp
      rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 (harg2.unread x2) (harg8.unread x8) f g ⟨n, hn⟩] at hp
      rcases List.mem_append.mp hp with hp | hp
      · exact t1_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 x2 x8 ⟨n, hn⟩ _ _ p hp
      · exact ih (by omega) p hp
  have hmem : ∀ n, n ≤ k0_t1_loop.trips → ∀ (k : Fin k0_t1_loop.trips), k.val < n → ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 (harg2.unread x2) (harg8.unread x8) f g n).1, (y 0).val / 384 = k.val → y ∈ p.1.set := by
    intro n; induction n with
    | zero => intro _ k hk; exact absurd hk (by omega)
    | succ n ih =>
      intro hn k hk
      rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 (harg2.unread x2) (harg8.unread x8) f g ⟨n, hn⟩]
      rcases (by omega : k.val < n ∨ k.val = n) with h | h
      · obtain ⟨p, hp, hy⟩ := ih (by omega) k h
        exact ⟨p, List.mem_append_right _ hp, hy⟩
      · obtain rfl : k = ⟨n, hn⟩ := Fin.ext h
        by_cases hyk : (y 0).val / 384 = n
        · obtain ⟨p, hp, hy⟩ := t1_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 x2 x8 ⟨n, hn⟩ _ _ y hyk
          exact ⟨p, List.mem_append_left _ hp, fun _ => hy⟩
        · obtain ⟨p, hp, _⟩ := t1_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 x2 x8 ⟨n, hn⟩ _ _ (ix2 ⟨384 * n, by have := lt_of_lt_of_eq hn t1_trips; omega⟩ 0) (by show 384 * n / 384 = n; omega)
          exact ⟨p, List.mem_append_left _ hp, fun h => absurd h hyk⟩
  have hy0 : (y 0).val < 3072 := (y 0).isLt
  obtain ⟨p, hp, hy⟩ := hmem _ le_rfl ⟨(y 0).val / 384, lt_of_lt_of_eq (by omega) t1_trips.symm⟩ (lt_of_lt_of_eq (by show (y 0).val / 384 < 8; omega) t1_trips.symm)
  exact View.read_writes_apply_of_pieces (Val := Elt Ideal) _ _ (WQs x8 x2) _ (hall _ le_rfl) y ⟨p, hp, hy rfl⟩

end Cert.KernelIdeal.Gen

end
-- ==== Proof.KernelIdeal.T2.lean ====
/- The trips of the key weights loop fill the scratch buffer with the dequantised weights. -/
module

public import proofs.«01_k».proof.Proof.Gen.KernelIdeal.Loops
public import proofs.«01_k».proof.Proof.KernelIdeal.Spec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What a trip stores is the dequantised weights at the place it stores them. -/
theorem t2_pieces (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (k0_h1 : k0_cond1 i = 1#1) (x3 : FVec Ideal S16x4 .f32) (x9 : FVec Ideal S2048x512 .fp8e4m3) (k : Fin k0_t2_loop.trips) :
    ∀ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 (harg3.unread x3) (harg9.unread x9) k).1, ∀ x, p.2 x = WKs x9 x3 (p.1.emb x) := by
  unfold trip_k0_t2
  dsimp only
  have hk : k.val < 16 := Nat.lt_of_lt_of_le k.isLt k0_t2_abs.2.1
  simp only [trip_k0_t2.sl.r_3, trip_k0_t2.sl.r_2, trip_k0_t2.sl.r_1, trip_k0_t2.sl.r, View.readAt_eq_ld, harg3.read_unread, harg9.read_unread, List.forall_mem_cons, List.not_mem_nil, false_imp_iff, implies_true, and_true]
  rw [first_S1x1]
  refine ⟨fun x => ?_, fun x => ?_, fun x => ?_, fun x => ?_⟩
  all_goals
    idx_vars x
    pointwise [k0_pay149, k0_pay145, k0_pay144, k0_pay143, WKs]
    refine Ideal.mul_congr ?_ ?_
    · blk_ext [k0_off48_eq, k0_off46_eq, k0_off45_eq, k0_off43_eq, k0_off42_eq, k0_off40_eq, k0_off39_eq, k0_off37_eq]
    · blk_ext [k0_off48_eq, k0_off47_eq, k0_off45_eq, k0_off44_eq, k0_off42_eq, k0_off41_eq, k0_off39_eq, k0_off38_eq]

/-- A trip's pieces cover its head's block. -/
theorem t2_cover (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (k0_h1 : k0_cond1 i = 1#1) (x3 : FVec Ideal S16x4 .f32) (x9 : FVec Ideal S2048x512 .fp8e4m3) (k : Fin k0_t2_loop.trips) (y : S16x512x128.Idx) (hy : (y 0).val = k.val) :
    ∃ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 (harg3.unread x3) (harg9.unread x9) k).1, y ∈ p.1.set := by
  unfold trip_k0_t2
  dsimp only
  have h1 : (y 1).val < 512 := (y 1).isLt
  have h2 : (y 2).val < 128 := (y 2).isLt
  rcases (by omega : (y 1).val < 128 ∨ 128 ≤ (y 1).val ∧ (y 1).val < 256 ∨ 256 ≤ (y 1).val ∧ (y 1).val < 384 ∨ 384 ≤ (y 1).val) with h | h | h | h
  · refine ⟨_, List.mem_cons_of_mem _ (List.mem_cons_of_mem _ (List.mem_cons_of_mem _ (List.mem_cons_self))), ?_⟩; rw [Rect.mem_set_unit]; exact mem_unit3 y (k0_off39_eq k) rfl (by omega) (by omega) (by omega)
  · refine ⟨_, List.mem_cons_of_mem _ (List.mem_cons_of_mem _ (List.mem_cons_self)), ?_⟩; rw [Rect.mem_set_unit]; exact mem_unit3 y (k0_off42_eq k) rfl (by omega) (by omega) (by omega)
  · refine ⟨_, List.mem_cons_of_mem _ (List.mem_cons_self), ?_⟩; rw [Rect.mem_set_unit]; exact mem_unit3 y (k0_off45_eq k) rfl (by omega) (by omega) (by omega)
  · refine ⟨_, List.mem_cons_self, ?_⟩; rw [Rect.mem_set_unit]; exact mem_unit3 y (k0_off48_eq k) rfl (by omega) (by omega) (by omega)

theorem t2_trips : k0_t2_loop.trips = 16 := by decide +kernel

/-- After the loop the scratch buffer holds the dequantised weights, whatever it held before. -/
theorem t2_read (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (k0_h1 : k0_cond1 i = 1#1) (x3 : FVec Ideal S16x4 .f32) (x9 : FVec Ideal S2048x512 .fp8e4m3) (f : BufTy.Contents (Elt Ideal) arg16.view.ty) :
    arg16.view.read (Elt Ideal) (arg16.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 (harg3.unread x3) (harg9.unread x9) k0_t2_loop.trips)) = WKs x9 x3 := by
  funext y
  have hall : ∀ n, n ≤ k0_t2_loop.trips → ∀ p ∈ pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 (harg3.unread x3) (harg9.unread x9) n, ∀ x, p.2 x = WKs x9 x3 (p.1.emb x) := by
    intro n; induction n with
    | zero => intro _ p hp; exact absurd hp List.not_mem_nil
    | succ n ih =>
      intro hn p hp
      rw [pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 (harg3.unread x3) (harg9.unread x9) ⟨n, hn⟩] at hp
      rcases List.mem_append.mp hp with hp | hp
      · exact t2_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 x3 x9 ⟨n, hn⟩ p hp
      · exact ih (by omega) p hp
  have hmem : ∀ n, n ≤ k0_t2_loop.trips → ∀ (k : Fin k0_t2_loop.trips), k.val < n → ∀ p ∈ (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 (harg3.unread x3) (harg9.unread x9) k).1,
      p ∈ pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 (harg3.unread x3) (harg9.unread x9) n := by
    intro n; induction n with
    | zero => intro _ k hk; exact absurd hk (by omega)
    | succ n ih =>
      intro hn k hk p hp
      rw [pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 (harg3.unread x3) (harg9.unread x9) ⟨n, hn⟩]
      rcases (by omega : k.val < n ∨ k.val = n) with h | h
      · exact List.mem_append_right _ (ih (by omega) k h p hp)
      · obtain rfl : k = ⟨n, hn⟩ := Fin.ext h
        exact List.mem_append_left _ hp
  have hy0 : (y 0).val < 16 := (y 0).isLt
  obtain ⟨p, hp, hy⟩ := t2_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 x3 x9 ⟨(y 0).val, lt_of_lt_of_eq hy0 t2_trips.symm⟩ y rfl
  exact View.read_writes_apply_of_pieces _ _ _ _ (hall _ le_rfl) y ⟨p, hmem _ le_rfl _ (lt_of_lt_of_eq hy0 t2_trips.symm) p hp, hy⟩

end Cert.KernelIdeal.Gen

end
-- ==== Proof.KernelIdeal.T3.lean ====
/- The trips of the key loop fill the scratch buffer with the dequantised and permuted keys. -/
module

public import proofs.«01_k».proof.Proof.Gen.KernelIdeal.Loops
public import proofs.«01_k».proof.Proof.KernelIdeal.Spec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What a trip stores is the keys at the place it stores them. -/
theorem t3_pieces (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (k0_h1 : k0_cond1 i = 1#1) (v424 : IVec S64x64 32) (v425 : IVec S64x64 32) (v443 : IVec S64x64 32) (c32_i32_156 : BitVec 32) (v445 : IVec S64x64 32) (v452 : IVec S64x64 32) (v454 : BitVec 32) (x10 : FVec Ideal S8192x512 .fp8e4m3) (x11 : FVec Ideal S8192x4 .f32) (x12 : FVec Ideal S8192x64 .bf16) (hperm : ∀ (v : FVec Ideal S256x64 .bf16) (a : Fin 256) (b : Fin 64), k0_pay221 (F := Ideal) v424 v425 v443 c32_i32_156 v445 v452 v454 v (ix2 a b) = v (ix2 a ⟨2 * (b.val % 32) + b.val / 32, by omega⟩)) (k : Fin k0_t3_loop.trips) :
    ∀ p ∈ (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v424 v425 v443 c32_i32_156 v445 v452 v454 (harg10.unread x10) (harg11.unread x11) (harg12.unread x12) k).1, ∀ x, p.2 x = KSs x10 x11 x12 (p.1.emb x) := by
  unfold trip_k0_t3
  dsimp only
  have hk : k.val < 32 := Nat.lt_of_lt_of_le k.isLt k0_t3_abs.2.1
  simp only [View.readAt_eq_ld, harg10.read_unread, harg11.read_unread, harg12.read_unread, List.forall_mem_cons, List.not_mem_nil, false_imp_iff, implies_true, and_true]
  refine ⟨fun x => ?_, fun x => ?_⟩
  · idx_vars x
    refine (hperm _ x0 x1).trans ?_
    unfold KSs
    rw [dif_neg (by blk_simp [k0_off53_eq]; omega)]
    pointwise
    blk_ext [k0_off53_eq, k0_off52_eq]
  · idx_vars x
    unfold KSs
    rw [dif_pos (by blk_simp [k0_off51_eq]; omega)]
    pointwise [k0_pay220]
    rcases (by omega : x1.val < 128 ∨ (¬ x1.val < 128 ∧ x1.val - 128 < 128) ∨ (¬ x1.val < 128 ∧ ¬ x1.val - 128 < 128 ∧ x1.val - 128 - 128 < 128) ∨ (¬ x1.val < 128 ∧ ¬ x1.val - 128 < 128 ∧ ¬ x1.val - 128 - 128 < 128)) with h | ⟨h, h'⟩ | ⟨h, h', h''⟩ | ⟨h, h', h''⟩
    · simp only [h, dif_pos, dif_neg, not_false_eq_true]
      refine Ideal.mul_congr ?_ ?_
      · blk_ext [k0_off51_eq, k0_off49_eq]
      · blk_ext [k0_off51_eq, k0_off50_eq]
    · simp only [h, h', dif_pos, dif_neg, not_false_eq_true]
      refine Ideal.mul_congr ?_ ?_
      · blk_ext [k0_off51_eq, k0_off49_eq]
      · blk_ext [k0_off51_eq, k0_off50_eq]
    · simp only [h, h', h'', dif_pos, dif_neg, not_false_eq_true]
      refine Ideal.mul_congr ?_ ?_
      · blk_ext [k0_off51_eq, k0_off49_eq]
      · blk_ext [k0_off51_eq, k0_off50_eq]
    · simp only [h, h', h'', dif_pos, dif_neg, not_false_eq_true]
      refine Ideal.mul_congr ?_ ?_
      · blk_ext [k0_off51_eq, k0_off49_eq]
      · blk_ext [k0_off51_eq, k0_off50_eq]

/-- A trip's pieces cover its chunk of keys. -/
theorem t3_cover (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (k0_h1 : k0_cond1 i = 1#1) (v424 : IVec S64x64 32) (v425 : IVec S64x64 32) (v443 : IVec S64x64 32) (c32_i32_156 : BitVec 32) (v445 : IVec S64x64 32) (v452 : IVec S64x64 32) (v454 : BitVec 32) (x10 : FVec Ideal S8192x512 .fp8e4m3) (x11 : FVec Ideal S8192x4 .f32) (x12 : FVec Ideal S8192x64 .bf16) (k : Fin k0_t3_loop.trips) (y : S8192x576.Idx) (hy : (y 0).val / 256 = k.val) :
    ∃ p ∈ (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v424 v425 v443 c32_i32_156 v445 v452 v454 (harg10.unread x10) (harg11.unread x11) (harg12.unread x12) k).1, y ∈ p.1.set := by
  unfold trip_k0_t3
  dsimp only
  have h1 : (y 1).val < 576 := (y 1).isLt
  rcases (by omega : (y 1).val < 512 ∨ 512 ≤ (y 1).val) with h | h
  · refine ⟨_, List.mem_cons_of_mem _ (List.mem_cons_self), ?_⟩; rw [Rect.mem_set_unit]; exact mem_unit2 y (k0_off51_eq k) rfl (by omega) (by omega)
  · refine ⟨_, List.mem_cons_self, ?_⟩; rw [Rect.mem_set_unit]; exact mem_unit2 y (k0_off53_eq k) rfl (by omega) (by omega)

theorem t3_trips : k0_t3_loop.trips = 32 := by decide +kernel

/-- After the loop the scratch buffer holds the specified array, whatever it held before. -/
theorem t3_read (𝒱 : Variants) (c : Dev nD) (bd : Option 𝒱.V) (i : grid0.Coords) (arg1 : Memref sig .tc .smem S7 .i32) (harg1 : arg1.IsWhole) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (k0_h1 : k0_cond1 i = 1#1) (v424 : IVec S64x64 32) (v425 : IVec S64x64 32) (v443 : IVec S64x64 32) (c32_i32_156 : BitVec 32) (v445 : IVec S64x64 32) (v452 : IVec S64x64 32) (v454 : BitVec 32) (x10 : FVec Ideal S8192x512 .fp8e4m3) (x11 : FVec Ideal S8192x4 .f32) (x12 : FVec Ideal S8192x64 .bf16) (hperm : ∀ (v : FVec Ideal S256x64 .bf16) (a : Fin 256) (b : Fin 64), k0_pay221 (F := Ideal) v424 v425 v443 c32_i32_156 v445 v452 v454 v (ix2 a b) = v (ix2 a ⟨2 * (b.val % 32) + b.val / 32, by omega⟩)) (f : BufTy.Contents (Elt Ideal) arg17.view.ty) :
    arg17.view.read (Elt Ideal) (arg17.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v424 v425 v443 c32_i32_156 v445 v452 v454 (harg10.unread x10) (harg11.unread x11) (harg12.unread x12) k0_t3_loop.trips)) = KSs x10 x11 x12 := by
  funext y
  have hall : ∀ n, n ≤ k0_t3_loop.trips → ∀ p ∈ pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v424 v425 v443 c32_i32_156 v445 v452 v454 (harg10.unread x10) (harg11.unread x11) (harg12.unread x12) n, ∀ x, p.2 x = (KSs x10 x11 x12 : FVec Ideal S8192x576 .bf16) (p.1.emb x) := by
    intro n; induction n with
    | zero => intro _ p hp; exact absurd hp List.not_mem_nil
    | succ n ih =>
      intro hn p hp
      rw [pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v424 v425 v443 c32_i32_156 v445 v452 v454 (harg10.unread x10) (harg11.unread x11) (harg12.unread x12) ⟨n, hn⟩] at hp
      rcases List.mem_append.mp hp with hp | hp
      · exact t3_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v424 v425 v443 c32_i32_156 v445 v452 v454 x10 x11 x12 hperm ⟨n, hn⟩ p hp
      · exact ih (by omega) p hp
  have hmem : ∀ n, n ≤ k0_t3_loop.trips → ∀ (k : Fin k0_t3_loop.trips), k.val < n → ∀ p ∈ (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v424 v425 v443 c32_i32_156 v445 v452 v454 (harg10.unread x10) (harg11.unread x11) (harg12.unread x12) k).1,
      p ∈ pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v424 v425 v443 c32_i32_156 v445 v452 v454 (harg10.unread x10) (harg11.unread x11) (harg12.unread x12) n := by
    intro n; induction n with
    | zero => intro _ k hk; exact absurd hk (by omega)
    | succ n ih =>
      intro hn k hk p hp
      rw [pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v424 v425 v443 c32_i32_156 v445 v452 v454 (harg10.unread x10) (harg11.unread x11) (harg12.unread x12) ⟨n, hn⟩]
      rcases (by omega : k.val < n ∨ k.val = n) with h | h
      · exact List.mem_append_right _ (ih (by omega) k h p hp)
      · obtain rfl : k = ⟨n, hn⟩ := Fin.ext h
        exact List.mem_append_left _ hp
  have hy0 : (y 0).val / 256 < 32 := by have := (y 0).isLt; change (y 0).val < 8192 at this; omega
  obtain ⟨p, hp, hy⟩ := t3_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v424 v425 v443 c32_i32_156 v445 v452 v454 x10 x11 x12 ⟨(y 0).val / 256, lt_of_lt_of_eq hy0 t3_trips.symm⟩ y rfl
  exact View.read_writes_apply_of_pieces _ _ _ _ (hall _ le_rfl) y ⟨p, hmem _ le_rfl _ (lt_of_lt_of_eq hy0 t3_trips.symm) p hp, hy⟩

end Cert.KernelIdeal.Gen

end
-- ==== Proof.KernelIdeal.Perm.lean ====
/- The rotary columns of the keys are permuted by a product with a matrix of zeros and ones. -/
module

public import proofs.«01_k».proof.Proof.Gen.KernelIdeal.Skeleton
public import proofs.«01_k».proof.Proof.KernelIdeal.Spec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000 in
theorem perm_eq (v : FVec Ideal S256x64 .bf16) (a : Fin 256) (b : Fin 64) :
    k0_pay221 (F := Ideal) (iota .tc S64x64 32 [0] iota_S64x64_d0_w32) (iota .tc S64x64 32 [1] iota_S64x64_d1_w32) k0_pay150 32#32 k0_pay151 k0_pay152 1#32 v (ix2 a b)
      = v (ix2 a ⟨2 * (b.val % 32) + b.val / 32, by omega⟩) := by
  unfold k0_pay221 k0_pay150 k0_pay151 k0_pay152
  dsimp only
  generalize hm : (cmpi .eq _ _ : IVec S64x64 1) = m
  have hw : ∀ d b : Fin 64, m (ix2 d b) = if d.val = 2 * (b.val % 32) + b.val / 32 then 1#1 else 0#1 := by
    subst hm
    decide +kernel
  clear hm
  pointwise []
  simp only [hw]
  rw [Finset.sum_eq_single (⟨2 * (b.val % 32) + b.val / 32, by omega⟩ : Fin 64)]
  · rw [if_pos rfl]; rfl
  · intro x _ hx
    rw [if_neg (fun h => hx (Fin.ext h))]; rfl
  · intro h; exact absurd (Finset.mem_univ _) h

end Cert.KernelIdeal.Gen

end
-- ==== Proof.KernelIdeal.ReadFirst.lean ====
/- The running maxima the body computes. -/
module

public import proofs.«01_k».proof.Proof.KernelIdeal.ReadCommon
public import proofs.«01_k».proof.Proof.KernelIdeal.ValFirst
public import proofs.«01_k».proof.Proof.KernelIdeal.T1
public import proofs.«01_k».proof.Proof.KernelIdeal.T2
public import proofs.«01_k».proof.Proof.KernelIdeal.T3
public import proofs.«01_k».proof.Proof.KernelIdeal.Perm

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Words

theorem e15_A (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole)  (hc0 : cond0_0 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0) (f15 : BufTy.Contents (Elt Ideal) arg15.view.ty) (f16 : BufTy.Contents (Elt Ideal) arg16.view.ty) (f17 : BufTy.Contents (Elt Ideal) arg17.view.ty) (f19 : BufTy.Contents (Elt Ideal) arg19.view.ty) (f20 : BufTy.Contents (Elt Ideal) arg20.view.ty) : arg15.view.writes (Elt Ideal) f15 (pb_k0_t1 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (harg2.unread x0) (harg8.unread x6) f15 f20 (Scf.trips k0_t1_loop.lb k0_t1_loop.ub k0_t1_loop.st)).1 = harg15.unread (WQs x6 x0) :=
  harg15.eq_unread (t1_read Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x6 f15 f20)

theorem e16_A (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole)  (hc0 : cond0_0 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0) (f15 : BufTy.Contents (Elt Ideal) arg15.view.ty) (f16 : BufTy.Contents (Elt Ideal) arg16.view.ty) (f17 : BufTy.Contents (Elt Ideal) arg17.view.ty) (f19 : BufTy.Contents (Elt Ideal) arg19.view.ty) (f20 : BufTy.Contents (Elt Ideal) arg20.view.ty) : arg16.view.writes (Elt Ideal) f16 (pb_k0_t2 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (harg3.unread x1) (harg9.unread x7) (Scf.trips k0_t2_loop.lb k0_t2_loop.ub k0_t2_loop.st)) = harg16.unread (WKs x7 x1) :=
  harg16.eq_unread (t2_read Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x1 x7 f16)

theorem e17_A (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole)  (hc0 : cond0_0 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0) (f15 : BufTy.Contents (Elt Ideal) arg15.view.ty) (f16 : BufTy.Contents (Elt Ideal) arg16.view.ty) (f17 : BufTy.Contents (Elt Ideal) arg17.view.ty) (f19 : BufTy.Contents (Elt Ideal) arg19.view.ty) (f20 : BufTy.Contents (Elt Ideal) arg20.view.ty) : arg17.view.writes (Elt Ideal) f17 (pb_k0_t3 (F := Ideal) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 bodyV_A.sl.v424 bodyV_A.sl.v425 k0_pay150 32#32 k0_pay151 k0_pay152 1#32 (harg10.unread x8) (harg11.unread x9) (harg12.unread x10) (Scf.trips k0_t3_loop.lb k0_t3_loop.ub k0_t3_loop.st)) = harg17.unread (KSs x8 x9 x10) :=
  harg17.eq_unread (t3_read Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 bodyV_A.sl.v424 bodyV_A.sl.v425 k0_pay150 32#32 k0_pay151 k0_pay152 1#32 x8 x9 x10 (fun v a b => perm_eq v a b) f17)

theorem seg0_A (c : Dev nD) (i : grid0.Coords) (xt0 : TbBuf0 (F := Ideal) c tbM0_0) (l : Fin 128) :
    bodyV_A.sl.r_20 (F := Ideal) c i xt0 (ix2 0 l) = firstW (k0_pay239 (BitVec.ofNat 32 (i 0).val) (ix2 0 l)) (bodyV_A.sl.r_13 c xt0) (bodyV_A.sl.r_14 c xt0) (bodyV_A.sl.r_15 c xt0) (bodyV_A.sl.r_16 c xt0) (bodyV_A.sl.r_17 c xt0) (bodyV_A.sl.r_18 c xt0) (bodyV_A.sl.r_19 c xt0) := by
  change _ = firstW (bodyV_A.sl.r_11 i (ix2 0 l)) (bodyV_A.sl.r_13 c xt0) (bodyV_A.sl.r_14 c xt0) (bodyV_A.sl.r_15 c xt0) (bodyV_A.sl.r_16 c xt0) (bodyV_A.sl.r_17 c xt0) (bodyV_A.sl.r_18 c xt0) (bodyV_A.sl.r_19 c xt0)
  unfold firstW segW
  rfl

theorem first0_A (c : Dev nD) (i : grid0.Coords) (xt0 : TbBuf0 (F := Ideal) c tbM0_0) :
    bodyV_A.sl.v197 (F := Ideal) c i xt0 = fdivW (firstW (Scalar.addi (Scalar.muli (BitVec.ofNat 32 (i 0).val) 256#32) 0#32) (bodyV_A.sl.r_13 c xt0) (bodyV_A.sl.r_14 c xt0) (bodyV_A.sl.r_15 c xt0) (bodyV_A.sl.r_16 c xt0) (bodyV_A.sl.r_17 c xt0) (bodyV_A.sl.r_18 c xt0) (bodyV_A.sl.r_19 c xt0)) := by
  have h : bodyV_A.sl.v176 (F := Ideal) c i xt0 = firstW (Scalar.addi (Scalar.muli (BitVec.ofNat 32 (i 0).val) 256#32) 0#32) (bodyV_A.sl.r_13 c xt0) (bodyV_A.sl.r_14 c xt0) (bodyV_A.sl.r_15 c xt0) (bodyV_A.sl.r_16 c xt0) (bodyV_A.sl.r_17 c xt0) (bodyV_A.sl.r_18 c xt0) (bodyV_A.sl.r_19 c xt0) := rfl
  rw [← h]
  rfl

set_option maxHeartbeats 4000000 in
/-- The running maxima of subtile 0, as the body computes them. -/
theorem acc0_A (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole)  (hc0 : cond0_0 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0) (f15 : BufTy.Contents (Elt Ideal) arg15.view.ty) (f16 : BufTy.Contents (Elt Ideal) arg16.view.ty) (f17 : BufTy.Contents (Elt Ideal) arg17.view.ty) (f19 : BufTy.Contents (Elt Ideal) arg19.view.ty) (f20 : BufTy.Contents (Elt Ideal) arg20.view.ty) :
    bodyV_A.sl.v225 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xt0 f15 f16 f17 f19 f20 = accOf 0 i (bodyV_A.sl.r_13 c xt0) (bodyV_A.sl.r_14 c xt0) (bodyV_A.sl.r_15 c xt0) (bodyV_A.sl.r_16 c xt0) (bodyV_A.sl.r_17 c xt0) (bodyV_A.sl.r_18 c xt0) (bodyV_A.sl.r_19 c xt0) (WQs x6 x0) (WKs x7 x1) (KSs x8 x9 x10) x2 x3 x4 x5 := by
  have e18 : arg18.view.writes (Elt Ideal) arg18.view.junk (bodyV_A.sl.H18_1 (F := Ideal) c arg4 harg4 arg5 harg5 x2 x3) = harg18.unread (CQs x2 x3) := by
    refine harg18.eq_unread ?_
    funext y
    unfold bodyV_A.sl.H18_1
    rw [View.read_writes_junk_apply_eq_canon, View.canon_unit_zero (by decide +kernel)]
    unfold bodyV_A.sl.r bodyV_A.sl.r_1 bodyV_A.sl.r_2 bodyV_A.sl.r_3 bodyV_A.sl.r_4 bodyV_A.sl.r_5 bodyV_A.sl.r_6 bodyV_A.sl.r_7 bodyV_A.sl.r_8 bodyV_A.sl.r_9
    simp only [View.readAt_eq_ld, harg4.read_unread, harg5.read_unread]
    rw [View.ld_unit_zero (by decide +kernel), View.ld_unit_zero (by decide +kernel)]
    exact congrFun (cq_eq x2 x3) y
  unfold bodyV_A.sl.v225
  rw [e15_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xt0 f15 f16 f17 f19 f20, e16_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xt0 f15 f16 f17 f19 f20, e17_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xt0 f15 f16 f17 f19 f20]
  refine acc0_read Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 0).val) (bodyV_A.sl.r_13 c xt0) (bodyV_A.sl.r_14 c xt0) (bodyV_A.sl.r_15 c xt0) (bodyV_A.sl.r_16 c xt0) (bodyV_A.sl.r_17 c xt0) (bodyV_A.sl.r_18 c xt0) (bodyV_A.sl.r_19 c xt0) _ _ _ _ _ ?_ ?_ ?_ _ _ _ _ ?_ _ _ _ _ _ ?_ ?_
  · intro l; exact pay239_eq i l
  · intro l
    rw [← pay239_eq i l]
    exact seg0_A c i xt0 l
  · rw [first0_A, t0_eq0, lo_eq 0 (by omega)]
  · rw [e18]
    have e4 : View.readAt (Elt Ideal) arg6.view (Rect.unit ![0, 0] S256x32.size inb_S256x32_S256x32_0_0).toLoadRect (harg6.unread x4) = x4 := by
      rw [View.readAt_eq_ld, harg6.read_unread, View.ld_unit_zero (by decide +kernel)]
    have e5 : View.readAt (Elt Ideal) arg7.view (Rect.unit ![0, 0] S256x32.size inb_S256x32_S256x32_0_0).toLoadRect (harg7.unread x5) = x5 := by
      rw [View.readAt_eq_ld, harg7.read_unread, View.ld_unit_zero (by decide +kernel)]
    rw [e4, e5]
    exact t4_read Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ x4 x5 (WQs x6 x0) (WKs x7 x1) (CQs x2 x3) f19
  · exact t5_trips i (bodyV_A.sl.r_13 c xt0) (bodyV_A.sl.r_14 c xt0) (bodyV_A.sl.r_15 c xt0) (bodyV_A.sl.r_16 c xt0) (bodyV_A.sl.r_17 c xt0) (bodyV_A.sl.r_18 c xt0) (bodyV_A.sl.r_19 c xt0)
  · exact Scf.rem_trips _ _

theorem seg1_A (c : Dev nD) (i : grid0.Coords) (xt0 : TbBuf0 (F := Ideal) c tbM0_0) (l : Fin 128) :
    bodyV_A.sl.r_31 (F := Ideal) c i xt0 (ix2 0 l) = firstW (k0_pay250 (BitVec.ofNat 32 (i 0).val) (ix2 0 l)) (bodyV_A.sl.r_24 c xt0) (bodyV_A.sl.r_25 c xt0) (bodyV_A.sl.r_26 c xt0) (bodyV_A.sl.r_27 c xt0) (bodyV_A.sl.r_28 c xt0) (bodyV_A.sl.r_29 c xt0) (bodyV_A.sl.r_30 c xt0) := by
  change _ = firstW (bodyV_A.sl.r_22 i (ix2 0 l)) (bodyV_A.sl.r_24 c xt0) (bodyV_A.sl.r_25 c xt0) (bodyV_A.sl.r_26 c xt0) (bodyV_A.sl.r_27 c xt0) (bodyV_A.sl.r_28 c xt0) (bodyV_A.sl.r_29 c xt0) (bodyV_A.sl.r_30 c xt0)
  unfold firstW segW
  rfl

theorem first1_A (c : Dev nD) (i : grid0.Coords) (xt0 : TbBuf0 (F := Ideal) c tbM0_0) :
    bodyV_A.sl.v362 (F := Ideal) c i xt0 = fdivW (firstW (Scalar.addi (Scalar.muli (BitVec.ofNat 32 (i 0).val) 256#32) 128#32) (bodyV_A.sl.r_24 c xt0) (bodyV_A.sl.r_25 c xt0) (bodyV_A.sl.r_26 c xt0) (bodyV_A.sl.r_27 c xt0) (bodyV_A.sl.r_28 c xt0) (bodyV_A.sl.r_29 c xt0) (bodyV_A.sl.r_30 c xt0)) := by
  have h : bodyV_A.sl.v341 (F := Ideal) c i xt0 = firstW (Scalar.addi (Scalar.muli (BitVec.ofNat 32 (i 0).val) 256#32) 128#32) (bodyV_A.sl.r_24 c xt0) (bodyV_A.sl.r_25 c xt0) (bodyV_A.sl.r_26 c xt0) (bodyV_A.sl.r_27 c xt0) (bodyV_A.sl.r_28 c xt0) (bodyV_A.sl.r_29 c xt0) (bodyV_A.sl.r_30 c xt0) := rfl
  rw [← h]
  rfl

set_option maxHeartbeats 4000000 in
/-- The running maxima of subtile 1, as the body computes them. -/
theorem acc1_A (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole)  (hc0 : cond0_0 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0) (f15 : BufTy.Contents (Elt Ideal) arg15.view.ty) (f16 : BufTy.Contents (Elt Ideal) arg16.view.ty) (f17 : BufTy.Contents (Elt Ideal) arg17.view.ty) (f19 : BufTy.Contents (Elt Ideal) arg19.view.ty) (f20 : BufTy.Contents (Elt Ideal) arg20.view.ty) :
    bodyV_A.sl.v390 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xt0 f15 f16 f17 f19 f20 = accOf 1 i (bodyV_A.sl.r_24 c xt0) (bodyV_A.sl.r_25 c xt0) (bodyV_A.sl.r_26 c xt0) (bodyV_A.sl.r_27 c xt0) (bodyV_A.sl.r_28 c xt0) (bodyV_A.sl.r_29 c xt0) (bodyV_A.sl.r_30 c xt0) (WQs x6 x0) (WKs x7 x1) (KSs x8 x9 x10) x2 x3 x4 x5 := by
  have e18 : arg18.view.writes (Elt Ideal) arg18.view.junk (bodyV_A.sl.H18_1 (F := Ideal) c arg4 harg4 arg5 harg5 x2 x3) = harg18.unread (CQs x2 x3) := by
    refine harg18.eq_unread ?_
    funext y
    unfold bodyV_A.sl.H18_1
    rw [View.read_writes_junk_apply_eq_canon, View.canon_unit_zero (by decide +kernel)]
    unfold bodyV_A.sl.r bodyV_A.sl.r_1 bodyV_A.sl.r_2 bodyV_A.sl.r_3 bodyV_A.sl.r_4 bodyV_A.sl.r_5 bodyV_A.sl.r_6 bodyV_A.sl.r_7 bodyV_A.sl.r_8 bodyV_A.sl.r_9
    simp only [View.readAt_eq_ld, harg4.read_unread, harg5.read_unread]
    rw [View.ld_unit_zero (by decide +kernel), View.ld_unit_zero (by decide +kernel)]
    exact congrFun (cq_eq x2 x3) y
  unfold bodyV_A.sl.v390
  rw [e15_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xt0 f15 f16 f17 f19 f20, e16_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xt0 f15 f16 f17 f19 f20, e17_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xt0 f15 f16 f17 f19 f20]
  refine acc1_read Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (bodyV_A.sl.r_24 c xt0) (bodyV_A.sl.r_25 c xt0) (bodyV_A.sl.r_26 c xt0) (bodyV_A.sl.r_27 c xt0) (bodyV_A.sl.r_28 c xt0) (bodyV_A.sl.r_29 c xt0) (bodyV_A.sl.r_30 c xt0) _ _ _ _ ?_ ?_ ?_ _ _ _ _ ?_ _ _ _ _ _ ?_ ?_
  · intro l; exact pay250_eq i l
  · intro l
    rw [← pay250_eq i l]
    exact seg1_A c i xt0 l
  · rw [first1_A, t0_eq1, lo_eq 1 (by omega)]
  · rw [e18]
    have e4 : View.readAt (Elt Ideal) arg6.view (Rect.unit ![0, 0] S256x32.size inb_S256x32_S256x32_0_0).toLoadRect (harg6.unread x4) = x4 := by
      rw [View.readAt_eq_ld, harg6.read_unread, View.ld_unit_zero (by decide +kernel)]
    have e5 : View.readAt (Elt Ideal) arg7.view (Rect.unit ![0, 0] S256x32.size inb_S256x32_S256x32_0_0).toLoadRect (harg7.unread x5) = x5 := by
      rw [View.readAt_eq_ld, harg7.read_unread, View.ld_unit_zero (by decide +kernel)]
    rw [e4, e5]
    exact t4_read Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ x4 x5 (WQs x6 x0) (WKs x7 x1) (CQs x2 x3) f19
  · exact t7_trips i (bodyV_A.sl.r_24 c xt0) (bodyV_A.sl.r_25 c xt0) (bodyV_A.sl.r_26 c xt0) (bodyV_A.sl.r_27 c xt0) (bodyV_A.sl.r_28 c xt0) (bodyV_A.sl.r_29 c xt0) (bodyV_A.sl.r_30 c xt0)
  · exact Scf.rem_trips _ _

end Cert.KernelIdeal.Gen

end
-- ==== Proof.KernelIdeal.PointFirst.lean ====
/- What a run of the body leaves. -/
module

public import proofs.«01_k».proof.Proof.KernelIdeal.RowsOf
public import proofs.«01_k».proof.Proof.KernelIdeal.ReadFirst

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Words

local notation "𝕄" => MT nD τ sig Unit (Elt Ideal) ℕ (UR sig nD τ) ℕ

theorem accT0_A (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : cond0_0 i) (hc1 : ¬cond0_1 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0)  (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) : bodyV_A.sl.v225 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xt0 f15 f16 f17 f19 f20 = accOf 0 i (tw c xt0 0) (tw c xt0 1) (tw c xt0 2) (tw c xt0 3) (tw c xt0 4) (tw c xt0 5) (tw c xt0 6) (WQs x6 x0) (WKs x7 x1) (KSs x8 x9 x10) x2 x3 x4 x5 := by
  have e := acc0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xt0 f15 f16 f17 f19 f20
  rw [e]
  rw [show bodyV_A.sl.r_13 (F := Ideal) c xt0 = tw c xt0 0 from word_0 c xt0]
  rw [show bodyV_A.sl.r_14 (F := Ideal) c xt0 = tw c xt0 1 from word_1 c xt0]
  rw [show bodyV_A.sl.r_15 (F := Ideal) c xt0 = tw c xt0 2 from word_2 c xt0]
  rw [show bodyV_A.sl.r_16 (F := Ideal) c xt0 = tw c xt0 3 from word_3 c xt0]
  rw [show bodyV_A.sl.r_17 (F := Ideal) c xt0 = tw c xt0 4 from word_4 c xt0]
  rw [show bodyV_A.sl.r_18 (F := Ideal) c xt0 = tw c xt0 5 from word_5 c xt0]
  rw [show bodyV_A.sl.r_19 (F := Ideal) c xt0 = tw c xt0 6 from word_6 c xt0]

theorem accT1_A (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : cond0_0 i) (hc1 : ¬cond0_1 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0)  (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) : bodyV_A.sl.v390 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xt0 f15 f16 f17 f19 f20 = accOf 1 i (tw c xt0 0) (tw c xt0 1) (tw c xt0 2) (tw c xt0 3) (tw c xt0 4) (tw c xt0 5) (tw c xt0 6) (WQs x6 x0) (WKs x7 x1) (KSs x8 x9 x10) x2 x3 x4 x5 := by
  have e := acc1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xt0 f15 f16 f17 f19 f20
  rw [e]
  rw [show bodyV_A.sl.r_24 (F := Ideal) c xt0 = tw c xt0 0 from word_0 c xt0]
  rw [show bodyV_A.sl.r_25 (F := Ideal) c xt0 = tw c xt0 1 from word_1 c xt0]
  rw [show bodyV_A.sl.r_26 (F := Ideal) c xt0 = tw c xt0 2 from word_2 c xt0]
  rw [show bodyV_A.sl.r_27 (F := Ideal) c xt0 = tw c xt0 3 from word_3 c xt0]
  rw [show bodyV_A.sl.r_28 (F := Ideal) c xt0 = tw c xt0 4 from word_4 c xt0]
  rw [show bodyV_A.sl.r_29 (F := Ideal) c xt0 = tw c xt0 5 from word_5 c xt0]
  rw [show bodyV_A.sl.r_30 (F := Ideal) c xt0 = tw c xt0 6 from word_6 c xt0]

set_option maxHeartbeats 4000000 in
theorem rm_A (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : cond0_0 i) (hc1 : ¬cond0_1 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0)  (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) : arg13.view.read (Elt Ideal) (bodyV_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 f13 f14 f15 f16 f17 f18 f19 f20 f21).1 = (rmOf i (tw c xt0 0) (tw c xt0 1) (tw c xt0 2) (tw c xt0 3) (tw c xt0 4) (tw c xt0 5) (tw c xt0 6) (WQs x6 x0) (WKs x7 x1) (KSs x8 x9 x10) x2 x3 x4 x5) := by
  unfold bodyV_A; dsimp only
  refine rows_read arg13 f13 _ _ _ (fun t h => ?_) (fun t h => ?_)
  · rw [pay5_eq, accT1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 f13 f14 f15 f16 f17 f18 f19 f20 f21]
    exact rmOf_hi _ _ _ _ _ _ _ _ _ _ _ _ _ _ _ t h
  · rw [pay249_eq, accT0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 f13 f14 f15 f16 f17 f18 f19 f20 f21]
    exact rmOf_lo _ _ _ _ _ _ _ _ _ _ _ _ _ _ _ t h

set_option maxHeartbeats 4000000 in
theorem sm_A (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : cond0_0 i) (hc1 : ¬cond0_1 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0)  (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) : arg14.view.read (Elt Ideal) (bodyV_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 f13 f14 f15 f16 f17 f18 f19 f20 f21).2.1 = (smOf i (tw c xt0 0) (tw c xt0 1) (tw c xt0 2) (tw c xt0 3) (tw c xt0 4) (tw c xt0 5) (tw c xt0 6) (WQs x6 x0) (WKs x7 x1) (KSs x8 x9 x10) x2 x3 x4 x5 (fun _ => ⊥)) := by
  unfold bodyV_A; dsimp only
  have e0 := accT0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 f13 f14 f15 f16 f17 f18 f19 f20 f21
  have e1 := accT1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 f13 f14 f15 f16 f17 f18 f19 f20 f21
  have h0 : ∀ h t, bodyV_A.sl.v246 (F := Ideal) arg14 (ix2 h t) = ⊥ := by
    intro h t
    unfold bodyV_A.sl.v246 bodyV_A.sl.H14_1
    show View.readAt (Elt Ideal) arg14.view _ (arg14.view.writes (Elt Ideal) arg14.view.junk _) _ = _
    rw [View.readAt_eq_ld, View.ld_unit_zero (by decide +kernel), View.read_writes_junk_apply_eq_canon, View.canon_cons_unit_zero (by decide +kernel)]
    exact pay146_eq _
  have h1 : ∀ h t, bodyV_A.sl.v411 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xt0 f15 f16 f17 f19 f20 (ix2 h t) = max ⊥ (topN (accOf 0 i (tw c xt0 0) (tw c xt0 1) (tw c xt0 2) (tw c xt0 3) (tw c xt0 4) (tw c xt0 5) (tw c xt0 6) (WQs x6 x0) (WKs x7 x1) (KSs x8 x9 x10) x2 x3 x4 x5) h t) := by
    intro h t
    unfold bodyV_A.sl.v411
    first | unfold bodyV_A.sl.H14_2 | skip
    show View.readAt (Elt Ideal) arg14.view _ (arg14.view.writes (Elt Ideal) arg14.view.junk _) _ = _
    rw [View.readAt_eq_ld, View.ld_unit_zero (by decide +kernel), View.read_writes_junk_apply_eq_canon, View.canon_cons_unit_zero (by decide +kernel), pay248_eq, e0, h0]
  funext y
  idx_vars y
  rw [View.read_writes_junk_apply_eq_canon, View.canon_cons_unit_zero (by decide +kernel), pay4_eq, h1, e1]
  rfl

set_option maxHeartbeats 8000000 in
/-- The body's run with the values it leaves. -/
theorem runV_A (c : Dev nD) (i : grid0.Coords) (arg2 : Memref sig .tc .smem S24x12 .f32) (harg2 : arg2.IsWhole) (arg3 : Memref sig .tc .smem S16x4 .f32) (harg3 : arg3.IsWhole) (arg4 : Memref sig .tc .vmem S256x1536 .fp8e4m3) (harg4 : arg4.IsWhole) (arg5 : Memref sig .tc .vmem S256x12 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S3072x1536 .fp8e4m3) (harg8 : arg8.IsWhole) (arg9 : Memref sig .tc .vmem S2048x512 .fp8e4m3) (harg9 : arg9.IsWhole) (arg10 : Memref sig .tc .vmem S8192x512 .fp8e4m3) (harg10 : arg10.IsWhole) (arg11 : Memref sig .tc .vmem S8192x4 .f32) (harg11 : arg11.IsWhole) (arg12 : Memref sig .tc .vmem S8192x64 .bf16) (harg12 : arg12.IsWhole) (arg13 : Memref sig .tc .vmem S256x16 .f32) (harg13 : arg13.IsWhole) (arg14 : Memref sig .tc .vmem S16x128 .f32) (harg14 : arg14.IsWhole) (arg15 : Memref sig .tc .vmem S3072x1536 .bf16) (harg15 : arg15.IsWhole) (arg16 : Memref sig .tc .vmem S16x512x128 .bf16) (harg16 : arg16.IsWhole) (arg17 : Memref sig .tc .vmem S8192x576 .bf16) (harg17 : arg17.IsWhole) (arg18 : Memref sig .tc .vmem S1536x256 .bf16) (harg18 : arg18.IsWhole) (arg19 : Memref sig .tc .vmem S2x8x576x256 .bf16) (harg19 : arg19.IsWhole) (arg20 : Memref sig .tc .vmem S12x64x128 .f32) (harg20 : arg20.IsWhole) (arg21 : Memref sig .tc .vmem S8x8x256 .f32) (harg21 : arg21.IsWhole) (hc0 : cond0_0 i) (hc1 : ¬cond0_1 i) (x0 : FVec Ideal S24x12 .f32) (x1 : FVec Ideal S16x4 .f32) (x2 : FVec Ideal S256x1536 .fp8e4m3) (x3 : FVec Ideal S256x12 .f32) (x4 : FVec Ideal S256x32 .f32) (x5 : FVec Ideal S256x32 .f32) (x6 : FVec Ideal S3072x1536 .fp8e4m3) (x7 : FVec Ideal S2048x512 .fp8e4m3) (x8 : FVec Ideal S8192x512 .fp8e4m3) (x9 : FVec Ideal S8192x4 .f32) (x10 : FVec Ideal S8192x64 .bf16) (xt0 : TbBuf0 (F := Ideal) c tbM0_0)  (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (rmOf i (tw c xt0 0) (tw c xt0 1) (tw c xt0 2) (tw c xt0 3) (tw c xt0 4) (tw c xt0 5) (tw c xt0 6) (WQs x6 x0) (WKs x7 x1) (KSs x8 x9 x10) x2 x3 x4 x5) ∗ owns (c : Thread nD τ) arg14 fullShare (smOf i (tw c xt0 0) (tw c xt0 1) (tw c xt0 2) (tw c xt0 3) (tw c xt0 4) (tw c xt0 5) (tw c xt0 6) (WQs x6 x0) (WKs x7 x1) (KSs x8 x9 x10) x2 x3 x4 x5 (fun _ => ⊥)) ∗ owns (c : Thread nD τ) arg15 fullShare (WQs x6 x0) ∗ owns (c : Thread nD τ) arg16 fullShare (WKs x7 x1) ∗ owns (c : Thread nD τ) arg17 fullShare (KSs x8 x9 x10) ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ tbPt0 c tbM0_0 xt0) -∗ K ⟨⟩))
      ⊢ wp frame (wpE (defs₀ (F := Ideal)) Variants.none c none) Set.univ (cc0_row_max_logits i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨H2, H3, H4, H5, H6, H7, H8, H9, H10, H11, H12, ⟨%X13, %f13, %hf13, H13⟩, ⟨%X14, %f14, %hf14, H14⟩, ⟨%X15, %f15, %hf15, H15⟩, ⟨%X16, %f16, %hf16, H16⟩, ⟨%X17, %f17, %hf17, H17⟩, ⟨%X18, %f18, %hf18, H18⟩, ⟨%X19, %f19, %hf19, H19⟩, ⟨%X20, %f20, %hf20, H20⟩, ⟨%X21, %f21, %hf21, H21⟩, HT0, Hk⟩
  have run := (bodyV_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 f13 f14 f15 f16 f17 f18 f19 f20 f21).2.2.2.2.2 Set.univ K
  have e13 := rm_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 f13 f14 f15 f16 f17 f18 f19 f20 f21
  have e14 := sm_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 f13 f14 f15 f16 f17 f18 f19 f20 f21
  have e15 : (bodyV_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 f13 f14 f15 f16 f17 f18 f19 f20 f21).2.2.1 = harg15.unread (WQs x6 x0) := by unfold bodyV_A; exact e15_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xt0 f15 f16 f17 f19 f20
  have e16 : (bodyV_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 f13 f14 f15 f16 f17 f18 f19 f20 f21).2.2.2.1 = harg16.unread (WKs x7 x1) := by unfold bodyV_A; exact e16_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xt0 f15 f16 f17 f19 f20
  have e17 : (bodyV_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xt0 f13 f14 f15 f16 f17 f18 f19 f20 f21).2.2.2.2.1 = harg17.unread (KSs x8 x9 x10) := by unfold bodyV_A; exact e17_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xt0 f15 f16 f17 f19 f20
  unfold owns at run
  iapply run
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [HT0]; · iexact HT0
  iintro ⟨H2, H3, H4, H5, H6, H7, H8, H9, H10, H11, H12, H13, H14, H15, H16, H17, ⟨%g18, H18⟩, ⟨%g19, H19⟩, ⟨%g20, H20⟩, ⟨%g21, H21⟩, HT0⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr
    swap; · iexact H13
    ipureintro; exact e13
  isplitl [H14]
  · iexists _; isplitr
    swap; · iexact H14
    ipureintro; exact e14
  isplitl [H15]
  · iexists _; isplitr
    swap; · iexact H15
    ipureintro; exact (congrArg (arg15.view.read (Elt Ideal)) e15).trans (harg15.read_unread _)
  isplitl [H16]
  · iexists _; isplitr
    swap; · iexact H16
    ipureintro; exact (congrArg (arg16.view.read (Elt Ideal)) e16).trans (harg16.read_unread _)
  isplitl [H17]
  · iexists _; isplitr
    swap; · iexact H17
    ipureintro; exact (congrArg (arg17.view.read (Elt Ideal)) e17).trans (harg17.read_unread _)
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  isplitl [H21]
  · iexists _; iexists _; isplitr
    swap; · iexact H21
    ipureintro; rfl
  iexact HT0

end Cert.KernelIdeal.Gen

end
-- ==== Proof.KernelIdeal.Run.lean ====
/- The run of the launch: both results at what the last point to touch them leaves. -/
module

public import proofs.«01_k».proof.Proof.KernelIdeal.Launch
public import proofs.«01_k».proof.Proof.KernelIdeal.PointFirst

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 4000000 in
/-- The body at a point of case A. -/
theorem sound_bodyV_A (hO : Ok m) (c : Dev nD) (t : Fin (cfgM m hO).N) (h0 : t.val = 0) :
    bodyPreV m hO c t ⊢ wp Idealize.ShloMosaic.frame (wpE (defs₀ (F := Ideal)) Variants.none c none) Set.univ (bodyAt0 (adm m hO) t) (fun _ => bodyPostV m hO c t) := by
  have hN : t.val < 32 := lt_of_lt_of_eq t.isLt (show (cfgM m hO).N = 32 from N_0)
  have ht : tFst m hO = t := (Fin.ext h0).symm
  have e15 : Z15 m hO c = WQs (iblk m hO c 6 t) (iblk m hO c 0 t) := by rw [← ht]; rfl
  have e16 : Z16 m hO c = WKs (iblk m hO c 7 t) (iblk m hO c 1 t) := by rw [← ht]; rfl
  have e17 : Z17 m hO c = KSs (iblk m hO c 8 t) (iblk m hO c 9 t) (iblk m hO c 10 t) := by rw [← ht]; rfl
  unfold bodyPreV bodyPostV bodyAt0
  simp only [datsV_before0, datsV_before1, datsV_before2, datsV_before3, datsV_before4, datsV_before5, datsV_before6, datsV_before7, datsV_before8, datsV_before9, datsV_before10]
  rw [show (datsV m hO 0 c).Φ t.castSucc = PhiV m hO c t.val from rfl, show (datsV m hO 0 c).Φ t.succ = PhiV m hO c (t.val + 1) from rfl,
    show (datsV m hO 0 c).owesAt () t.succ = (datsV m hO 0 c).owesAt () t.castSucc from rfl,
    datsV_after0, datsV_after1, datsV_after2, datsV_after3, datsV_after4, datsV_after5, datsV_after6, datsV_after7, datsV_after8, datsV_after9, datsV_after10, datsV_after11, datsV_after12]
  unfold PhiV
  rw [if_neg (Nat.succ_ne_zero t.val)]
  rw [if_pos h0, PhiT0_eq, PhiA0_eq, smAt_A m hO c t h0]
  unfold smStep rmAt
  rw [e15, e16, e17]
  have run := runV_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr (by omega)) (fun h => by have := (hcond0_1 t).mp h; omega) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)
  iintro ⟨⟨⟨⟨HS0, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HT0]; · iexact HT0
  iintro ⟨H0, H1, H2, H3, H4, H5, H6, H7, H8, H9, H10, H11, H12, HS0, HS1, HS2, HS3, HS4, HS5, HS6, HT0⟩
  isplitl [HS0 HS1 HS2 HS3 HS4 HS5 HS6 Hg HT0]
  · isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any point. -/
theorem sound_bodyV (hO : Ok m) (c : Dev nD) (t : Fin (cfgM m hO).N) :
    bodyPreV m hO c t ⊢ wp Idealize.ShloMosaic.frame (wpE (defs₀ (F := Ideal)) Variants.none c none) Set.univ (bodyAt0 (adm m hO) t) (fun _ => bodyPostV m hO c t) := by
  by_cases h0 : t.val = 0
  · exact sound_bodyV_A m hO c t h0
  · by_cases h1 : t.val % 32 = 31
    · exact sound_bodyV_C m hO c t h1
    · exact sound_bodyV_B m hO c t h0 h1

/-- The library's body obligation, at every point. -/
theorem body_obligationV (hO : Ok m) (c : Dev nD) : BodyObligation (datsV m hO 0 c) (defs₀ (F := Ideal)) Variants.none () Set.univ := fun t => by
  rw [bigSep_W0, bigSep_W0, defs₀_row m hO]
  exact triple_restated (sound_bodyV m hO c t) rfl .rfl fun _ => .rfl

theorem PhiV_in (hO : Ok m) (c : Dev nD) : iprop(Pipeline.ΦA spec0 c ∗ Pipeline.ΦT pre0 (tbl m) c) ⊢ (datsV m hO 0 c).Φ 0 := by
  rw [show (datsV m hO 0 c).Φ 0 = PhiV m hO c 0 from rfl]
  unfold PhiV
  rw [if_pos rfl]

theorem PhiV_out (hO : Ok m) (c : Dev nD) : (datsV m hO 0 c).Φ (Fin.last (cfgM m hO).N) ⊢ (Pipeline.ΦA spec0 c : sProp 𝕄) := by
  rw [show (datsV m hO 0 c).Φ (Fin.last (cfgM m hO).N) = PhiV m hO c (cfgM m hO).N from rfl, show (cfgM m hO).N = 32 from N_0]
  unfold PhiV
  rw [if_neg (by decide), PhiA0_eq]
  iintro ⟨⟨⟨HS0, HS1, HS2, HS3, HS4, HS5, HS6⟩, Hg⟩, HT0⟩
  isplitl [HS0 HS1 HS2 HS3 HS4 HS5 HS6]
  · isplitl [HS0]; · iexists _; iexact HS0
    isplitl [HS1]; · iexists _; iexact HS1
    isplitl [HS2]; · iexists _; iexact HS2
    isplitl [HS3]; · iexact HS3
    isplitl [HS4]; · iexact HS4
    isplitl [HS5]; · iexact HS5
    iexact HS6
  iexact Hg

set_option backward.isDefEq.respectTransparency.types false in
/-- The launch, its contents named. -/
theorem run_mainV (hO : Ok m) : θ_run defs (onTc (τ := τ) (main (F := Ideal))) (s₀ m ρ) (Pipeline.FramePost (Pipeline.pin pcfgs fun _ => adm m hO) (datsV m hO) 0 (V m)) :=
  Pipeline.θ_run_frameP_track pcfgs (fun _ => adm m hO) (datsV m hO) (0 : Fin 1) launch0 defs₀ Variants.none m ρ main
    (hbody := fun c => (body_obligationV m hO c).loose) (hshare := fun c => (datsV m hO 0 c).share_full fun _ => rfl)
    (howed := fun _ _ => rfl) (V := V m) (hmain := hmain m Variants.none) (hA := datsV_A m hO) (hpf := V_pre m)
    (hin := PhiV_in m hO) (hout := PhiV_out m hO)

end Cert.KernelIdeal.Gen

end
-- ==== Proof.KernelIdeal.RefPays.lean ====
/- What the reference computes, entry by entry. -/
module

public import proofs.«01_k».proof.Proof.Gen.ReferenceIdeal.Value
public import proofs.«01_k».proof.Proof.KernelIdeal.Spec

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem refQ_eq (v0 : FVec Ideal S8192x1536 .fp8e4m3) (v1 : FVec Ideal S8192x12 .f32) (v9 : FVec Ideal S3072x1536 .fp8e4m3) (v10 : FVec Ideal S24x12 .f32) (s : Fin 8192) (h : Fin 16) (d : Fin 192) :
    k0_pay3 (F := Ideal) v0 v1 v9 v10 (ix3 s h d)
      = ∑ c : Fin 1536, (v0 (ix2 s c) * v1 (ix2 s ⟨c.val / 128, by omega⟩)) * (v9 (ix2 ⟨192 * h.val + d.val, by omega⟩ c) * v10 (ix2 ⟨(192 * h.val + d.val) / 128, by omega⟩ ⟨c.val / 128, by omega⟩)) := by
  pointwise [k0_pay3]
  refine Finset.sum_congr rfl fun x _ => ?_
  have e : (⟨(h.val * 192 + d.val) / 128 * 128 + (h.val * 192 + d.val) % 128, by omega⟩ : Fin 3072) = ⟨192 * h.val + d.val, by omega⟩ := Fin.ext (by simp only; omega)
  have e' : (⟨(h.val * 192 + d.val) / 128, by omega⟩ : Fin 24) = ⟨(192 * h.val + d.val) / 128, by omega⟩ := Fin.ext (by simp only; omega)
  rw [e, e']

theorem refNope_eq (v0 : FVec Ideal S8192x1536 .fp8e4m3) (v1 : FVec Ideal S8192x12 .f32) (v9 : FVec Ideal S3072x1536 .fp8e4m3) (v10 : FVec Ideal S24x12 .f32) (s : Fin 8192) (h : Fin 16) (d : Fin 128) :
    k0_pay5 (F := Ideal) v0 v1 v9 v10 (ix3 s h d) = k0_pay3 (F := Ideal) v0 v1 v9 v10 (ix3 s h ⟨d.val, by omega⟩) := by
  unfold k0_pay5
  generalize k0_pay3 (F := Ideal) v0 v1 v9 v10 = q
  pointwise []

theorem refRope_eq (v0 : FVec Ideal S8192x1536 .fp8e4m3) (v1 : FVec Ideal S8192x12 .f32) (v9 : FVec Ideal S3072x1536 .fp8e4m3) (v10 : FVec Ideal S24x12 .f32) (v26 v28 : FVec Ideal S8192x32 .f32) (s : Fin 8192) (h : Fin 16) (e : Fin 64) :
    k0_pay4 (F := Ideal) v0 v1 v9 v10 v26 v28 (ix3 s h e)
      = if e.val % 2 = 0 then
          k0_pay3 (F := Ideal) v0 v1 v9 v10 (ix3 s h ⟨128 + 2 * (e.val / 2), by omega⟩) * v26 (ix2 s ⟨e.val / 2, by omega⟩) - k0_pay3 (F := Ideal) v0 v1 v9 v10 (ix3 s h ⟨129 + 2 * (e.val / 2), by omega⟩) * v28 (ix2 s ⟨e.val / 2, by omega⟩)
        else
          k0_pay3 (F := Ideal) v0 v1 v9 v10 (ix3 s h ⟨128 + 2 * (e.val / 2), by omega⟩) * v28 (ix2 s ⟨e.val / 2, by omega⟩) + k0_pay3 (F := Ideal) v0 v1 v9 v10 (ix3 s h ⟨129 + 2 * (e.val / 2), by omega⟩) * v26 (ix2 s ⟨e.val / 2, by omega⟩) := by
  unfold k0_pay4
  generalize k0_pay3 (F := Ideal) v0 v1 v9 v10 = q
  pointwise []
  have e0 : ∀ (hh : 128 + e.val / 2 * 2 < 192), (⟨128 + e.val / 2 * 2, hh⟩ : Fin 192) = ⟨128 + 2 * (e.val / 2), by omega⟩ := fun _ => Fin.ext (by simp only; omega)
  have e1 : ∀ (hh : 128 + (e.val / 2 * 2 + 1) < 192), (⟨128 + (e.val / 2 * 2 + 1), hh⟩ : Fin 192) = ⟨129 + 2 * (e.val / 2), by omega⟩ := fun _ => Fin.ext (by simp only; omega)
  by_cases hb : e.val % 2 = 0
  · rw [dif_pos (by omega), if_pos hb, e0, e1]
  · rw [dif_neg (by omega), if_neg hb, e0, e1]

theorem refScore_eq (v44 : FVec Ideal S8192x16x64 .bf16) (v46 : FVec Ideal S8192x16x128 .bf16) (v47 : FVec Ideal S2048x512 .fp8e4m3) (v48 : FVec Ideal S16x4 .f32) (v60 : FVec Ideal S8192x512 .fp8e4m3) (v61 : FVec Ideal S8192x4 .f32) (v70 : FVec Ideal S8192x64 .bf16) (s : Fin 8192) (h : Fin 16) (k : Fin 8192) :
    k0_pay6 (F := Ideal) v44 v46 v47 v48 v60 v61 v70 (ix3 s h k)
      = ((∑ c : Fin 512, (∑ d : Fin 128, (v47 (ix2 ⟨h.val * 128 + d.val, by omega⟩ c) * v48 (ix2 h ⟨c.val / 128, by omega⟩)) * v46 (ix3 s h d)) * (v60 (ix2 k c) * v61 (ix2 k ⟨c.val / 128, by omega⟩)))
          + ∑ e : Fin 64, v44 (ix3 s h e) * v70 (ix2 k e)) * Ideal.ofBits .f32 0x3D93CD3A#32 := by
  pointwise [k0_pay6]

/-- The number of the table's entries not past a position. -/
def segN (a0 a1 a2 a3 a4 a5 a6 p : BitVec 32) : BitVec 32 :=
  let f := fun a : BitVec 32 => BitVec.setWidth 32 (IntOp.cmpi .sle a p)
  IntOp.addi (IntOp.addi (IntOp.addi (IntOp.addi (IntOp.addi (IntOp.addi (IntOp.addi 0#32 (f a0)) (f a1)) (f a2)) (f a3)) (f a4)) (f a5)) (f a6)

theorem refMax_eq (v74 : FVec Ideal S8192x16x8192 .f32) (a0 a1 a2 a3 a4 a5 a6 : BitVec 32) (s : Fin 8192) (h : Fin 16) :
    k0_pay1 (F := Ideal) v74 (iota .tc S8192x1 32 [0] iota_S8192x1_d0_w32) (k0_pay7 (F := Ideal) a0 a1) (k0_pay8 (F := Ideal) a2) a3 a4 a5 a6 (ix2 s h)
      = (Finset.univ : Finset (Fin 8192)).fold max ⊥ (fun k => Scalar.select (IntOp.andi (IntOp.cmpi .sle (BitVec.ofNat 32 k.val) (BitVec.ofNat 32 s.val)) (IntOp.cmpi .eq (segN a0 a1 a2 a3 a4 a5 a6 (BitVec.ofNat 32 k.val)) (segN a0 a1 a2 a3 a4 a5 a6 (BitVec.ofNat 32 s.val)))) (v74 (ix3 s h k)) ⊥) := by
  rw [← Cert.KernelIdeal.Gen.ninf_eq]
  pointwise [k0_pay1, k0_pay7, k0_pay8]
  rfl

theorem refAll_eq (v74 : FVec Ideal S8192x16x8192 .f32) (v75 v86 v88 : IVec S8192x1 32) (a3 a4 a5 a6 : BitVec 32) (h : Fin 16) (l : Fin 128) :
    k0_pay2 (F := Ideal) v74 v75 v86 v88 a3 a4 a5 a6 (ix2 h l) = (Finset.univ : Finset (Fin 8192)).fold max ⊥ (fun s => k0_pay1 (F := Ideal) v74 v75 v86 v88 a3 a4 a5 a6 (ix2 s h)) := by
  rw [← Cert.KernelIdeal.Gen.ninf_eq]
  unfold k0_pay2
  generalize k0_pay1 (F := Ideal) v74 v75 v86 v88 a3 a4 a5 a6 = q
  pointwise []

end Cert.ReferenceIdeal.Gen

end
-- ==== Proof.KernelIdeal.Segs.lean ====
/- A key lies in the segment of a query exactly when it is not before the greatest start not past the query. -/
module

public import proofs.«01_k».proof.Proof.KernelIdeal.RefPays
public import proofs.«01_k».proof.Proof.KernelIdeal.Pay
public import proofs.«01_k».proof.Proof.KernelIdeal.Mask
public import proofs.«01_k».proof.Proof.KernelIdeal.RowsOf

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Words

theorem segW_le (t f c p : BitVec 32) : (segW t f c).toInt ≤ p.toInt ↔ f.toInt ≤ p.toInt ∧ (c.toInt ≤ t.toInt → c.toInt ≤ p.toInt) := by
  rw [segW_eq]
  by_cases h : c.toInt ≤ t.toInt
  · rw [if_pos h]
    by_cases h' : c.toInt < f.toInt
    · rw [if_pos h']; omega
    · rw [if_neg h']; omega
  · rw [if_neg h]; omega

theorem firstW_le (t a0 a1 a2 a3 a4 a5 a6 p : BitVec 32) (hp : 0 ≤ p.toInt) :
    (firstW t a0 a1 a2 a3 a4 a5 a6).toInt ≤ p.toInt ↔ (a0.toInt ≤ t.toInt → a0.toInt ≤ p.toInt) ∧ (a1.toInt ≤ t.toInt → a1.toInt ≤ p.toInt) ∧ (a2.toInt ≤ t.toInt → a2.toInt ≤ p.toInt)
      ∧ (a3.toInt ≤ t.toInt → a3.toInt ≤ p.toInt) ∧ (a4.toInt ≤ t.toInt → a4.toInt ≤ p.toInt) ∧ (a5.toInt ≤ t.toInt → a5.toInt ≤ p.toInt) ∧ (a6.toInt ≤ t.toInt → a6.toInt ≤ p.toInt) := by
  unfold firstW
  rw [segW_le, segW_le, segW_le, segW_le, segW_le, segW_le, segW_le, show (0#32 : BitVec 32).toInt = 0 from by decide]
  constructor
  · rintro ⟨⟨⟨⟨⟨⟨⟨_, h0⟩, h1⟩, h2⟩, h3⟩, h4⟩, h5⟩, h6⟩; exact ⟨h0, h1, h2, h3, h4, h5, h6⟩
  · rintro ⟨h0, h1, h2, h3, h4, h5, h6⟩; exact ⟨⟨⟨⟨⟨⟨⟨hp, h0⟩, h1⟩, h2⟩, h3⟩, h4⟩, h5⟩, h6⟩

/-- The greatest start not past a token grows with the token. -/
theorem firstW_mono (t u a0 a1 a2 a3 a4 a5 a6 : BitVec 32) (h0 : 0 ≤ u.toInt) (h : t.toInt ≤ u.toInt) :
    (firstW t a0 a1 a2 a3 a4 a5 a6).toInt ≤ (firstW u a0 a1 a2 a3 a4 a5 a6).toInt := by
  have hb := (firstW_bounds u a0 a1 a2 a3 a4 a5 a6 h0).1
  have hr := (firstW_le u a0 a1 a2 a3 a4 a5 a6 (firstW u a0 a1 a2 a3 a4 a5 a6) hb).mp le_rfl
  refine (firstW_le t a0 a1 a2 a3 a4 a5 a6 _ hb).mpr ?_
  obtain ⟨r0, r1, r2, r3, r4, r5, r6⟩ := hr
  exact ⟨fun q => r0 (q.trans h), fun q => r1 (q.trans h), fun q => r2 (q.trans h), fun q => r3 (q.trans h), fun q => r4 (q.trans h), fun q => r5 (q.trans h), fun q => r6 (q.trans h)⟩

/-- One where an entry is not past a position. -/
def indN (a p : BitVec 32) : ℕ := if a.toInt ≤ p.toInt then 1 else 0

theorem ind_word (a p : BitVec 32) : BitVec.setWidth 32 (IntOp.cmpi .sle a p) = BitVec.ofNat 32 (indN a p) := by
  unfold IntOp.cmpi indN
  simp only [BitVec.sle]
  by_cases h : a.toInt ≤ p.toInt <;> simp [h]

theorem segN_eq (a0 a1 a2 a3 a4 a5 a6 p : BitVec 32) :
    Cert.ReferenceIdeal.Gen.segN a0 a1 a2 a3 a4 a5 a6 p = BitVec.ofNat 32 (indN a0 p + indN a1 p + indN a2 p + indN a3 p + indN a4 p + indN a5 p + indN a6 p) := by
  unfold Cert.ReferenceIdeal.Gen.segN
  simp only [ind_word, IntOp.addi, BitVec.ofNat_add, BitVec.zero_add]

theorem ind_le (a p t : BitVec 32) (h : p.toInt ≤ t.toInt) : indN a p ≤ indN a t ∧ indN a t ≤ 1 ∧ (indN a p = indN a t ↔ (a.toInt ≤ t.toInt → a.toInt ≤ p.toInt)) := by
  unfold indN
  by_cases h1 : a.toInt ≤ p.toInt
  · rw [if_pos h1, if_pos (h1.trans h)]; simp [h1]
  · by_cases h2 : a.toInt ≤ t.toInt
    · rw [if_neg h1, if_pos h2]; simp [h1, h2]
    · rw [if_neg h1, if_neg h2]; simp [h1, h2]

theorem seg_iff (a0 a1 a2 a3 a4 a5 a6 p t : BitVec 32) (hp : 0 ≤ p.toInt) (h : p.toInt ≤ t.toInt) :
    Cert.ReferenceIdeal.Gen.segN a0 a1 a2 a3 a4 a5 a6 p = Cert.ReferenceIdeal.Gen.segN a0 a1 a2 a3 a4 a5 a6 t ↔ (firstW t a0 a1 a2 a3 a4 a5 a6).toInt ≤ p.toInt := by
  rw [firstW_le t a0 a1 a2 a3 a4 a5 a6 p hp, segN_eq, segN_eq]
  obtain ⟨l0, m0, e0⟩ := ind_le a0 p t h
  obtain ⟨l1, m1, e1⟩ := ind_le a1 p t h
  obtain ⟨l2, m2, e2⟩ := ind_le a2 p t h
  obtain ⟨l3, m3, e3⟩ := ind_le a3 p t h
  obtain ⟨l4, m4, e4⟩ := ind_le a4 p t h
  obtain ⟨l5, m5, e5⟩ := ind_le a5 p t h
  obtain ⟨l6, m6, e6⟩ := ind_le a6 p t h
  rw [← e0, ← e1, ← e2, ← e3, ← e4, ← e5, ← e6, BitVec.toNat_eq, BitVec.toNat_ofNat, BitVec.toNat_ofNat, Nat.mod_eq_of_lt (by omega), Nat.mod_eq_of_lt (by omega)]
  omega

/-- The reference's condition on a key and a query, as the kernel states it. -/
theorem cond_eq {x y : EReal} (s : ℕ) (hs : s < 2) (i : grid0.Coords) (a0 a1 a2 a3 a4 a5 a6 : BitVec 32) (l : Fin 128) (k : Fin 8192) :
    Scalar.select (IntOp.andi (IntOp.cmpi .sle (BitVec.ofNat 32 k.val) (BitVec.ofNat 32 (tok0 s i + l.val))) (IntOp.cmpi .eq (Cert.ReferenceIdeal.Gen.segN a0 a1 a2 a3 a4 a5 a6 (BitVec.ofNat 32 k.val)) (Cert.ReferenceIdeal.Gen.segN a0 a1 a2 a3 a4 a5 a6 (BitVec.ofNat 32 (tok0 s i + l.val))))) x y
      = if k.val ≤ tok0 s i + l.val ∧ startN s i a0 a1 a2 a3 a4 a5 a6 l.val ≤ k.val then x else y := by
  have hi := i_lt i
  have hl := l.isLt
  have hk := k.isLt
  have e1 : (BitVec.ofNat 32 (tok0 s i + l.val)).toInt = (tok0 s i + l.val : ℕ) := WordArith.toInt_ofNat_small _ (by unfold tok0; omega)
  have e2 : (BitVec.ofNat 32 k.val).toInt = (k.val : ℕ) := WordArith.toInt_ofNat_small _ (by omega)
  have e3 : (firstW (BitVec.ofNat 32 (tok0 s i + l.val)) a0 a1 a2 a3 a4 a5 a6).toInt = (startN s i a0 a1 a2 a3 a4 a5 a6 l.val : ℕ) := by
    have h := firstW_bounds (BitVec.ofNat 32 (tok0 s i + l.val)) a0 a1 a2 a3 a4 a5 a6 (by rw [e1]; omega)
    unfold startN
    have := BitVec.toInt_eq_toNat_cond (firstW (BitVec.ofNat 32 (tok0 s i + l.val)) a0 a1 a2 a3 a4 a5 a6)
    split at this <;> omega
  unfold Scalar.select IntOp.cmpi IntOp.andi
  simp only [BitVec.sle, e1, e2, Int.ofNat_le]
  by_cases h1 : k.val ≤ tok0 s i + l.val
  · have h2 := seg_iff a0 a1 a2 a3 a4 a5 a6 (BitVec.ofNat 32 k.val) (BitVec.ofNat 32 (tok0 s i + l.val)) (by rw [e2]; omega) (by rw [e1, e2]; omega)
    rw [e3, e2, Int.ofNat_le] at h2
    by_cases h3 : startN s i a0 a1 a2 a3 a4 a5 a6 l.val ≤ k.val
    · conv_rhs => rw [if_pos ⟨h1, h3⟩]
      rw [h2.mpr h3]; simp [h1]
    · conv_rhs => rw [if_neg (fun h => h3 h.2)]
      have h4 := fun e => h3 (h2.mp e)
      rw [beq_false_of_ne h4]
      simp [h1]
  · conv_rhs => rw [if_neg (fun h => h1 h.1)]
    simp [h1]

theorem chunk0_start (s : ℕ) (hs : s < 2) (i : grid0.Coords) (a0 a1 a2 a3 a4 a5 a6 : BitVec 32) (l : Fin 128) :
    256 * chunk0 s i a0 a1 a2 a3 a4 a5 a6 ≤ startN s i a0 a1 a2 a3 a4 a5 a6 l.val := by
  have hi := i_lt i
  have hl := l.isLt
  have e1 : (BitVec.ofNat 32 (tok0 s i + l.val)).toInt = (tok0 s i + l.val : ℕ) := WordArith.toInt_ofNat_small _ (by unfold tok0; omega)
  have e2 : (BitVec.ofNat 32 (tok0 s i)).toInt = (tok0 s i : ℕ) := WordArith.toInt_ofNat_small _ (by unfold tok0; omega)
  have h := firstW_mono (BitVec.ofNat 32 (tok0 s i)) (BitVec.ofNat 32 (tok0 s i + l.val)) a0 a1 a2 a3 a4 a5 a6 (by rw [e1]; omega) (by rw [e1, e2]; omega)
  have b1 := firstW_bounds (BitVec.ofNat 32 (tok0 s i)) a0 a1 a2 a3 a4 a5 a6 (by rw [e2]; omega)
  have b2 := firstW_bounds (BitVec.ofNat 32 (tok0 s i + l.val)) a0 a1 a2 a3 a4 a5 a6 (by rw [e1]; omega)
  rw [e2] at b1
  rw [e1] at b2
  unfold chunk0 startN
  have c1 := BitVec.toInt_eq_toNat_cond (firstW (BitVec.ofNat 32 (tok0 s i)) a0 a1 a2 a3 a4 a5 a6)
  have c2 := BitVec.toInt_eq_toNat_cond (firstW (BitVec.ofNat 32 (tok0 s i + l.val)) a0 a1 a2 a3 a4 a5 a6)
  split at c1 <;> split at c2 <;> omega

/-! ## The maxima -/

theorem accN_le (x17 : FVec Ideal S8192x576 .bf16) (x19 : FVec Ideal S2x8x576x256 .bf16) (B : ℕ → Fin 128 → EReal) (s : Fin 2) (q n : ℕ) (p j : Fin 8) (l : Fin 256) (c : EReal) :
    accN x17 x19 B s q (fun _ => ⊥) n (ix3 p j l) ≤ c ↔ ∀ key, 256 * q ≤ key → key < 256 * (q + n) → key % 8 = j.val → min (scoreN x17 x19 s p key l) (B key ⟨l.val % 128, Nat.mod_lt _ (by decide)⟩) ≤ c := by
  induction n with
  | zero => exact ⟨fun _ key h1 h2 => absurd h2 (by omega), fun _ => bot_le⟩
  | succ n ih =>
    unfold accN accStep
    simp only [max_le_iff]
    rw [ih, Finset.fold_max_le]
    constructor
    · rintro ⟨h1, -, h2⟩ key k1 k2 k3
      by_cases hk : key < 256 * (q + n)
      · exact h1 key k1 hk k3
      · have := h2 ⟨(key - 256 * (q + n)) / 8, by omega⟩ (Finset.mem_univ _)
        have e : 256 * (q + n) + 8 * ((key - 256 * (q + n)) / 8) + j.val = key := by omega
        change min (scoreN x17 x19 s p (256 * (q + n) + 8 * ((key - 256 * (q + n)) / 8) + j.val) l) (B (256 * (q + n) + 8 * ((key - 256 * (q + n)) / 8) + j.val) _) ≤ c at this
        rw [e] at this
        exact this
    · intro h
      refine ⟨fun key k1 k2 k3 => h key k1 (by omega) k3, bot_le, fun a _ => ?_⟩
      have := a.isLt
      have := j.isLt
      exact h (256 * (q + n) + 8 * a.val + j.val) (by omega) (by omega) (by omega)

theorem fold_mul {ι : Type} (S : Finset ι) (f : ι → EReal) : S.fold max ⊥ f * Ideal.ofBits .f32 0x3D93CD3A#32 = S.fold max ⊥ (fun x => f x * Ideal.ofBits .f32 0x3D93CD3A#32) := by
  classical
  obtain ⟨r, hr, e⟩ := qk_pos
  rw [e]
  induction S using Finset.induction with
  | empty => simp only [Finset.fold_empty]; exact EReal.bot_mul_coe_of_pos hr
  | insert a S ha ih =>
    rw [Finset.fold_insert ha, Finset.fold_insert ha, ← ih]
    exact Monotone.map_max (f := fun x : EReal => x * (r : EReal)) (fun x y h => mul_le_mul_of_nonneg_right h (by exact_mod_cast hr.le))

/-- A row's maximum: over the keys of the query's segment not past it, of the scaled scores. -/
theorem row_eq_ref (s : Fin 2) (i : grid0.Coords) (a0 a1 a2 a3 a4 a5 a6 : BitVec 32) (z15 : FVec Ideal S3072x1536 .bf16) (z16 : FVec Ideal S16x512x128 .bf16) (z17 : FVec Ideal S8192x576 .bf16)
    (x2 : FVec Ideal S256x1536 .fp8e4m3) (x3 : FVec Ideal S256x12 .f32) (x4 x5 : FVec Ideal S256x32 .f32) (h : Fin 16) (l : Fin 128) :
    topN (accOf s i a0 a1 a2 a3 a4 a5 a6 z15 z16 z17 x2 x3 x4 x5) h l
      = (Finset.univ : Finset (Fin 8192)).fold max ⊥ (fun k => Scalar.select (IntOp.andi (IntOp.cmpi .sle (BitVec.ofNat 32 k.val) (BitVec.ofNat 32 (tok0 s.val i + l.val))) (IntOp.cmpi .eq (Cert.ReferenceIdeal.Gen.segN a0 a1 a2 a3 a4 a5 a6 (BitVec.ofNat 32 k.val)) (Cert.ReferenceIdeal.Gen.segN a0 a1 a2 a3 a4 a5 a6 (BitVec.ofNat 32 (tok0 s.val i + l.val)))))
          (scoreN z17 (QTa z15 z16 (CQs x2 x3) x4 x5) s ⟨h.val / 2, by omega⟩ k.val ⟨128 * (h.val % 2) + l.val, by omega⟩ * Ideal.ofBits .f32 0x3D93CD3A#32) ⊥) := by
  have hi := i_lt i
  have hs := s.isLt
  have hl := l.isLt
  have hch := chunk0_le s.val hs i a0 a1 a2 a3 a4 a5 a6
  have key : (Finset.univ : Finset (Fin 8)).fold max ⊥ (fun j => accOf s i a0 a1 a2 a3 a4 a5 a6 z15 z16 z17 x2 x3 x4 x5 (ix3 ⟨h.val / 2, by omega⟩ j ⟨128 * (h.val % 2) + l.val, by omega⟩))
      = (Finset.univ : Finset (Fin 8192)).fold max ⊥ (fun k => if k.val ≤ tok0 s.val i + l.val ∧ startN s.val i a0 a1 a2 a3 a4 a5 a6 l.val ≤ k.val then scoreN z17 (QTa z15 z16 (CQs x2 x3) x4 x5) s ⟨h.val / 2, by omega⟩ k.val ⟨128 * (h.val % 2) + l.val, by omega⟩ else ⊥) := by
    refine eq_of_forall_ge_iff fun c => ?_
    rw [Finset.fold_max_le, Finset.fold_max_le]
    have el : ∀ (hh : (128 * (h.val % 2) + l.val) % 128 < 128), (⟨(128 * (h.val % 2) + l.val) % 128, hh⟩ : Fin 128) = l := fun _ => Fin.ext (by simp only; omega)
    unfold accOf
    simp only [accN_le, el]
    constructor
    · rintro ⟨-, H⟩
      refine ⟨bot_le, fun k _ => ?_⟩
      split
      · rename_i hk
        have h1 := chunk0_start s.val hs i a0 a1 a2 a3 a4 a5 a6 l
        have := H ⟨k.val % 8, Nat.mod_lt _ (by decide)⟩ (Finset.mem_univ _) k.val (by omega) (by have := hk.1; unfold tok0 at this; omega) rfl
        unfold maskB at this
        rw [if_pos hk, min_eq_left le_top] at this
        exact this
      · exact bot_le
    · rintro ⟨-, H⟩
      refine ⟨bot_le, fun j _ key k1 k2 k3 => ?_⟩
      unfold maskB
      by_cases hk : key ≤ tok0 s.val i + l.val ∧ startN s.val i a0 a1 a2 a3 a4 a5 a6 l.val ≤ key
      · have := H ⟨key, by omega⟩ (Finset.mem_univ _)
        rw [if_pos hk] at this
        exact (min_le_left _ _).trans this
      · rw [if_neg hk]
        exact (min_le_right _ _).trans bot_le
  unfold topN
  rw [key, fold_mul]
  refine Finset.fold_congr fun k _ => ?_
  rw [cond_eq s.val hs]
  obtain ⟨r, hr, e⟩ := qk_pos
  split
  · rfl
  · rw [e]; exact EReal.bot_mul_coe_of_pos hr

end Cert.KernelIdeal.Gen

end
-- ==== Proof.KernelIdeal.RefOut.lean ====
/- The arrays the reference leaves, as functions of its arguments. -/
module

public import proofs.«01_k».proof.Proof.KernelIdeal.RefPays
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The reference's scores. -/
def refScores (A0 : FVec Ideal S8192x1536 .fp8e4m3) (A1 : FVec Ideal S8192x12 .f32) (A2 : FVec Ideal S8192x512 .fp8e4m3) (A3 : FVec Ideal S8192x4 .f32) (A4 : FVec Ideal S8192x64 .bf16) (A6 : FVec Ideal S8192x32 .f32) (A7 : FVec Ideal S8192x32 .f32) (A8 : FVec Ideal S3072x1536 .fp8e4m3) (A9 : FVec Ideal S24x12 .f32) (A10 : FVec Ideal S2048x512 .fp8e4m3) (A11 : FVec Ideal S16x4 .f32) : FVec Ideal S8192x16x8192 .f32 :=
  k0_pay6 (F := Ideal) (k0_pay4 (F := Ideal) A0 A1 A8 A9 A6 A7) (k0_pay5 (F := Ideal) A0 A1 A8 A9) A10 A11 A2 A3 A4

/-- The reference's row maxima. -/
def refRows (A0 : FVec Ideal S8192x1536 .fp8e4m3) (A1 : FVec Ideal S8192x12 .f32) (A2 : FVec Ideal S8192x512 .fp8e4m3) (A3 : FVec Ideal S8192x4 .f32) (A4 : FVec Ideal S8192x64 .bf16) (A6 : FVec Ideal S8192x32 .f32) (A7 : FVec Ideal S8192x32 .f32) (A8 : FVec Ideal S3072x1536 .fp8e4m3) (A9 : FVec Ideal S24x12 .f32) (A10 : FVec Ideal S2048x512 .fp8e4m3) (A11 : FVec Ideal S16x4 .f32) (A5 : IVec S7 32) : FVec Ideal S8192x16 .f32 :=
  k0_pay1 (F := Ideal) (refScores A0 A1 A2 A3 A4 A6 A7 A8 A9 A10 A11) (iota .tc S8192x1 32 [0] iota_S8192x1_d0_w32) (k0_pay7 (F := Ideal) (A5 (ix1 0)) (A5 (ix1 1))) (k0_pay8 (F := Ideal) (A5 (ix1 2))) (A5 (ix1 3)) (A5 (ix1 4)) (A5 (ix1 5)) (A5 (ix1 6))

/-- The reference's maxima over all tokens. -/
def refHeads (A0 : FVec Ideal S8192x1536 .fp8e4m3) (A1 : FVec Ideal S8192x12 .f32) (A2 : FVec Ideal S8192x512 .fp8e4m3) (A3 : FVec Ideal S8192x4 .f32) (A4 : FVec Ideal S8192x64 .bf16) (A6 : FVec Ideal S8192x32 .f32) (A7 : FVec Ideal S8192x32 .f32) (A8 : FVec Ideal S3072x1536 .fp8e4m3) (A9 : FVec Ideal S24x12 .f32) (A10 : FVec Ideal S2048x512 .fp8e4m3) (A11 : FVec Ideal S16x4 .f32) (A5 : IVec S7 32) : FVec Ideal S16x128 .f32 :=
  k0_pay2 (F := Ideal) (refScores A0 A1 A2 A3 A4 A6 A7 A8 A9 A10 A11) (iota .tc S8192x1 32 [0] iota_S8192x1_d0_w32) (k0_pay7 (F := Ideal) (A5 (ix1 0)) (A5 (ix1 1))) (k0_pay8 (F := Ideal) (A5 (ix1 2))) (A5 (ix1 3)) (A5 (ix1 4)) (A5 (ix1 5)) (A5 (ix1 6))

variable (m : (ℓ : Loc nD τ sig) → Buf (Elt Ideal) ℓ) (ρ : Dev nD → PrngReg)

theorem ref_idx0 : win0_0.index t0_0 = ![0, 0] := by decide +kernel
theorem ref_idx1 : win0_1.index t0_0 = ![0, 0] := by decide +kernel
theorem ref_idx2 : win0_2.index t0_0 = ![0, 0] := by decide +kernel
theorem ref_idx3 : win0_3.index t0_0 = ![0, 0] := by decide +kernel
theorem ref_idx4 : win0_4.index t0_0 = ![0, 0] := by decide +kernel
theorem ref_idx5 : win0_5.index t0_0 = ![0] := by decide +kernel
theorem ref_idx6 : win0_6.index t0_0 = ![0, 0] := by decide +kernel
theorem ref_idx7 : win0_7.index t0_0 = ![0, 0] := by decide +kernel
theorem ref_idx8 : win0_8.index t0_0 = ![0, 0] := by decide +kernel
theorem ref_idx9 : win0_9.index t0_0 = ![0, 0] := by decide +kernel
theorem ref_idx10 : win0_10.index t0_0 = ![0, 0] := by decide +kernel
theorem ref_idx11 : win0_11.index t0_0 = ![0, 0] := by decide +kernel
theorem ref_iblk0 (c : Dev nD) : iblk m c 0 t0_0 = m ((c : Thread nD τ).loc main_arg0) := by blk_ext! [iblk, V, ref_idx0]
theorem ref_iblk1 (c : Dev nD) : iblk m c 1 t0_0 = m ((c : Thread nD τ).loc main_arg1) := by blk_ext! [iblk, V, ref_idx1]
theorem ref_iblk2 (c : Dev nD) : iblk m c 2 t0_0 = m ((c : Thread nD τ).loc main_arg2) := by blk_ext! [iblk, V, ref_idx2]
theorem ref_iblk3 (c : Dev nD) : iblk m c 3 t0_0 = m ((c : Thread nD τ).loc main_arg3) := by blk_ext! [iblk, V, ref_idx3]
theorem ref_iblk4 (c : Dev nD) : iblk m c 4 t0_0 = m ((c : Thread nD τ).loc main_arg4) := by blk_ext! [iblk, V, ref_idx4]
theorem ref_iblk5 (c : Dev nD) : iblk m c 5 t0_0 = m ((c : Thread nD τ).loc main_arg5) := by blk_ext! [iblk, V, ref_idx5]
theorem ref_iblk6 (c : Dev nD) : iblk m c 6 t0_0 = m ((c : Thread nD τ).loc main_arg6) := by blk_ext! [iblk, V, ref_idx6]
theorem ref_iblk7 (c : Dev nD) : iblk m c 7 t0_0 = m ((c : Thread nD τ).loc main_arg7) := by blk_ext! [iblk, V, ref_idx7]
theorem ref_iblk8 (c : Dev nD) : iblk m c 8 t0_0 = m ((c : Thread nD τ).loc main_arg8) := by blk_ext! [iblk, V, ref_idx8]
theorem ref_iblk9 (c : Dev nD) : iblk m c 9 t0_0 = m ((c : Thread nD τ).loc main_arg9) := by blk_ext! [iblk, V, ref_idx9]
theorem ref_iblk10 (c : Dev nD) : iblk m c 10 t0_0 = m ((c : Thread nD τ).loc main_arg10) := by blk_ext! [iblk, V, ref_idx10]
theorem ref_iblk11 (c : Dev nD) : iblk m c 11 t0_0 = m ((c : Thread nD τ).loc main_arg11) := by blk_ext! [iblk, V, ref_idx11]

set_option maxHeartbeats 4000000 in
theorem ref_arr12 (c : Dev nD) : (dats m 0 c).arrAt 12 cfg0.N = refRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg5)) := by
  refine (dats m 0 c).arrAt_eq_of_after_last 12 t0_0 (by decide +kernel) _ fun j => ?_
  blk_simp
  rw [after0_12]
  unfold outsAt0
  frame_out
  have q0 := (hs0_0 t0_0).read_unread (iblk m c 0 t0_0)
  have q1 := (hs0_1 t0_0).read_unread (iblk m c 1 t0_0)
  have q2 := (hs0_2 t0_0).read_unread (iblk m c 2 t0_0)
  have q3 := (hs0_3 t0_0).read_unread (iblk m c 3 t0_0)
  have q4 := (hs0_4 t0_0).read_unread (iblk m c 4 t0_0)
  have q5 := (hs0_5 t0_0).read_unread (iblk m c 5 t0_0)
  have q6 := (hs0_6 t0_0).read_unread (iblk m c 6 t0_0)
  have q7 := (hs0_7 t0_0).read_unread (iblk m c 7 t0_0)
  have q8 := (hs0_8 t0_0).read_unread (iblk m c 8 t0_0)
  have q9 := (hs0_9 t0_0).read_unread (iblk m c 9 t0_0)
  have q10 := (hs0_10 t0_0).read_unread (iblk m c 10 t0_0)
  have q11 := (hs0_11 t0_0).read_unread (iblk m c 11 t0_0)
  erw [q0, q1, q2, q3, q4, q5, q6, q7, q8, q9, q10, q11]
  rw [ref_iblk0, ref_iblk1, ref_iblk2, ref_iblk3, ref_iblk4, ref_iblk5, ref_iblk6, ref_iblk7, ref_iblk8, ref_iblk9, ref_iblk10, ref_iblk11]
  unfold refRows refScores
  have w0 : (View.ld (Val := Elt Ideal) (m ((c : Thread nD τ).loc main_arg5)) (Rect.unit (s := S7) ![0] ![1] inb_S7_S1_0) (Shape.Idx.first (s := S1) (by decide))) = m ((c : Thread nD τ).loc main_arg5) (ix1 0) := congrArg (m ((c : Thread nD τ).loc main_arg5)) (by funext a; apply Fin.ext; fin_cases a; rfl)
  have w1 : (View.ld (Val := Elt Ideal) (m ((c : Thread nD τ).loc main_arg5)) (Rect.unit (s := S7) ![1] ![1] inb_S7_S1_1) (Shape.Idx.first (s := S1) (by decide))) = m ((c : Thread nD τ).loc main_arg5) (ix1 1) := congrArg (m ((c : Thread nD τ).loc main_arg5)) (by funext a; apply Fin.ext; fin_cases a; rfl)
  have w2 : (View.ld (Val := Elt Ideal) (m ((c : Thread nD τ).loc main_arg5)) (Rect.unit (s := S7) ![2] ![1] inb_S7_S1_2) (Shape.Idx.first (s := S1) (by decide))) = m ((c : Thread nD τ).loc main_arg5) (ix1 2) := congrArg (m ((c : Thread nD τ).loc main_arg5)) (by funext a; apply Fin.ext; fin_cases a; rfl)
  have w3 : (View.ld (Val := Elt Ideal) (m ((c : Thread nD τ).loc main_arg5)) (Rect.unit (s := S7) ![3] ![1] inb_S7_S1_3) (Shape.Idx.first (s := S1) (by decide))) = m ((c : Thread nD τ).loc main_arg5) (ix1 3) := congrArg (m ((c : Thread nD τ).loc main_arg5)) (by funext a; apply Fin.ext; fin_cases a; rfl)
  have w4 : (View.ld (Val := Elt Ideal) (m ((c : Thread nD τ).loc main_arg5)) (Rect.unit (s := S7) ![4] ![1] inb_S7_S1_4) (Shape.Idx.first (s := S1) (by decide))) = m ((c : Thread nD τ).loc main_arg5) (ix1 4) := congrArg (m ((c : Thread nD τ).loc main_arg5)) (by funext a; apply Fin.ext; fin_cases a; rfl)
  have w5 : (View.ld (Val := Elt Ideal) (m ((c : Thread nD τ).loc main_arg5)) (Rect.unit (s := S7) ![5] ![1] inb_S7_S1_5) (Shape.Idx.first (s := S1) (by decide))) = m ((c : Thread nD τ).loc main_arg5) (ix1 5) := congrArg (m ((c : Thread nD τ).loc main_arg5)) (by funext a; apply Fin.ext; fin_cases a; rfl)
  have w6 : (View.ld (Val := Elt Ideal) (m ((c : Thread nD τ).loc main_arg5)) (Rect.unit (s := S7) ![6] ![1] inb_S7_S1_6) (Shape.Idx.first (s := S1) (by decide))) = m ((c : Thread nD τ).loc main_arg5) (ix1 6) := congrArg (m ((c : Thread nD τ).loc main_arg5)) (by funext a; apply Fin.ext; fin_cases a; rfl)
  rw [w0, w1, w2, w3, w4, w5, w6]

set_option maxHeartbeats 4000000 in
theorem ref_arr13 (c : Dev nD) : (dats m 0 c).arrAt 13 cfg0.N = refHeads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg5)) := by
  refine (dats m 0 c).arrAt_eq_of_after_last 13 t0_0 (by decide +kernel) _ fun j => ?_
  blk_simp
  rw [after0_13]
  unfold outsAt0
  frame_out
  have q0 := (hs0_0 t0_0).read_unread (iblk m c 0 t0_0)
  have q1 := (hs0_1 t0_0).read_unread (iblk m c 1 t0_0)
  have q2 := (hs0_2 t0_0).read_unread (iblk m c 2 t0_0)
  have q3 := (hs0_3 t0_0).read_unread (iblk m c 3 t0_0)
  have q4 := (hs0_4 t0_0).read_unread (iblk m c 4 t0_0)
  have q5 := (hs0_5 t0_0).read_unread (iblk m c 5 t0_0)
  have q6 := (hs0_6 t0_0).read_unread (iblk m c 6 t0_0)
  have q7 := (hs0_7 t0_0).read_unread (iblk m c 7 t0_0)
  have q8 := (hs0_8 t0_0).read_unread (iblk m c 8 t0_0)
  have q9 := (hs0_9 t0_0).read_unread (iblk m c 9 t0_0)
  have q10 := (hs0_10 t0_0).read_unread (iblk m c 10 t0_0)
  have q11 := (hs0_11 t0_0).read_unread (iblk m c 11 t0_0)
  erw [q0, q1, q2, q3, q4, q5, q6, q7, q8, q9, q10, q11]
  rw [ref_iblk0, ref_iblk1, ref_iblk2, ref_iblk3, ref_iblk4, ref_iblk5, ref_iblk6, ref_iblk7, ref_iblk8, ref_iblk9, ref_iblk10, ref_iblk11]
  unfold refHeads refScores
  have w0 : (View.ld (Val := Elt Ideal) (m ((c : Thread nD τ).loc main_arg5)) (Rect.unit (s := S7) ![0] ![1] inb_S7_S1_0) (Shape.Idx.first (s := S1) (by decide))) = m ((c : Thread nD τ).loc main_arg5) (ix1 0) := congrArg (m ((c : Thread nD τ).loc main_arg5)) (by funext a; apply Fin.ext; fin_cases a; rfl)
  have w1 : (View.ld (Val := Elt Ideal) (m ((c : Thread nD τ).loc main_arg5)) (Rect.unit (s := S7) ![1] ![1] inb_S7_S1_1) (Shape.Idx.first (s := S1) (by decide))) = m ((c : Thread nD τ).loc main_arg5) (ix1 1) := congrArg (m ((c : Thread nD τ).loc main_arg5)) (by funext a; apply Fin.ext; fin_cases a; rfl)
  have w2 : (View.ld (Val := Elt Ideal) (m ((c : Thread nD τ).loc main_arg5)) (Rect.unit (s := S7) ![2] ![1] inb_S7_S1_2) (Shape.Idx.first (s := S1) (by decide))) = m ((c : Thread nD τ).loc main_arg5) (ix1 2) := congrArg (m ((c : Thread nD τ).loc main_arg5)) (by funext a; apply Fin.ext; fin_cases a; rfl)
  have w3 : (View.ld (Val := Elt Ideal) (m ((c : Thread nD τ).loc main_arg5)) (Rect.unit (s := S7) ![3] ![1] inb_S7_S1_3) (Shape.Idx.first (s := S1) (by decide))) = m ((c : Thread nD τ).loc main_arg5) (ix1 3) := congrArg (m ((c : Thread nD τ).loc main_arg5)) (by funext a; apply Fin.ext; fin_cases a; rfl)
  have w4 : (View.ld (Val := Elt Ideal) (m ((c : Thread nD τ).loc main_arg5)) (Rect.unit (s := S7) ![4] ![1] inb_S7_S1_4) (Shape.Idx.first (s := S1) (by decide))) = m ((c : Thread nD τ).loc main_arg5) (ix1 4) := congrArg (m ((c : Thread nD τ).loc main_arg5)) (by funext a; apply Fin.ext; fin_cases a; rfl)
  have w5 : (View.ld (Val := Elt Ideal) (m ((c : Thread nD τ).loc main_arg5)) (Rect.unit (s := S7) ![5] ![1] inb_S7_S1_5) (Shape.Idx.first (s := S1) (by decide))) = m ((c : Thread nD τ).loc main_arg5) (ix1 5) := congrArg (m ((c : Thread nD τ).loc main_arg5)) (by funext a; apply Fin.ext; fin_cases a; rfl)
  have w6 : (View.ld (Val := Elt Ideal) (m ((c : Thread nD τ).loc main_arg5)) (Rect.unit (s := S7) ![6] ![1] inb_S7_S1_6) (Shape.Idx.first (s := S1) (by decide))) = m ((c : Thread nD τ).loc main_arg5) (ix1 6) := congrArg (m ((c : Thread nD τ).loc main_arg5)) (by funext a; apply Fin.ext; fin_cases a; rfl)
  rw [w0, w1, w2, w3, w4, w5, w6]

end Cert.ReferenceIdeal.Gen

end
-- ==== Proof.KernelIdeal.Score.lean ====
/- The kernel's scores are the reference's: the latent and the rotary columns regrouped, the rotary ones permuted on both sides. -/
module

public import proofs.«01_k».proof.Proof.KernelIdeal.Segs
public import proofs.«01_k».proof.Proof.KernelIdeal.RefOut

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReferenceIdeal.Gen (refScores refRows refHeads)

/-- The projected query, written out. -/
def qV (A0 : FVec Ideal S8192x1536 .fp8e4m3) (A1 : FVec Ideal S8192x12 .f32) (A8 : FVec Ideal S3072x1536 .fp8e4m3) (A9 : FVec Ideal S24x12 .f32) (s : Fin 8192) (r : Fin 3072) : EReal :=
  ∑ c : Fin 1536, (A0 (ix2 s c) * A1 (ix2 s ⟨c.val / 128, by omega⟩)) * (A8 (ix2 r c) * A9 (ix2 ⟨r.val / 128, by omega⟩ ⟨c.val / 128, by omega⟩))

/-- A row of the kernel's projection is the row of the reference's it was taken from. -/
theorem Q15_eq (A0 : FVec Ideal S8192x1536 .fp8e4m3) (A1 : FVec Ideal S8192x12 .f32) (A8 : FVec Ideal S3072x1536 .fp8e4m3) (A9 : FVec Ideal S24x12 .f32)
    (x2 : FVec Ideal S256x1536 .fp8e4m3) (x3 : FVec Ideal S256x12 .f32) (i : ℕ) (hi : i < 32)
    (h2 : ∀ (r : Fin 256) (c : Fin 1536), x2 (ix2 r c) = A0 (ix2 ⟨256 * i + r.val, by omega⟩ c)) (h3 : ∀ (r : Fin 256) (c : Fin 12), x3 (ix2 r c) = A1 (ix2 ⟨256 * i + r.val, by omega⟩ c))
    (r r' : Fin 3072) (hr : srcRow r = r') (t : Fin 256) (s : Fin 8192) (hs : s.val = 256 * i + t.val) :
    Q15 (WQs A8 A9) (CQs x2 x3) r t = qV A0 A1 A8 A9 s r' := by
  have es : ∀ hh, (⟨256 * i + t.val, hh⟩ : Fin 8192) = s := fun _ => Fin.ext hs.symm
  have hd : r.val / 128 = r'.val / 128 := by
    rw [← hr]; unfold srcRow; split
    · rfl
    · have g : ∀ q n : ℕ, n < 64 → (q * 64 + n) / 128 = q / 2 := fun q n hn => by omega
      show r.val / 128 = (r.val / 64 * 64 + 2 * (r.val % 32) + r.val % 64 / 32) / 128
      rw [Nat.add_assoc, g _ _ (by omega)]
      omega
  unfold Q15 qV
  refine Finset.sum_congr rfl fun c _ => ?_
  have e1 : WQs A8 A9 (ix2 r c) = A8 (ix2 r' c) * A9 (ix2 ⟨r'.val / 128, by omega⟩ ⟨c.val / 128, by omega⟩) := by
    change A8 (ix2 (srcRow r) c) * A9 (ix2 ⟨r.val / 128, _⟩ ⟨c.val / 128, _⟩) = _
    rw [hr]
    congr 3
    exact Fin.ext hd
  have e2 : CQs x2 x3 (ix2 c t) = A0 (ix2 s c) * A1 (ix2 s ⟨c.val / 128, by omega⟩) := by
    change x2 (ix2 t c) * x3 (ix2 t ⟨c.val / 128, _⟩) = _
    rw [h2, h3, es]
  rw [e1, e2, mul_comm]

/-- The rotated query's column. -/
def ropeV (A0 : FVec Ideal S8192x1536 .fp8e4m3) (A1 : FVec Ideal S8192x12 .f32) (A8 : FVec Ideal S3072x1536 .fp8e4m3) (A9 : FVec Ideal S24x12 .f32) (A6 A7 : FVec Ideal S8192x32 .f32) (s : Fin 8192) (h : Fin 16) (e : Fin 64) : EReal :=
  if e.val % 2 = 0 then
    qV A0 A1 A8 A9 s ⟨192 * h.val + 128 + 2 * (e.val / 2), by omega⟩ * A6 (ix2 s ⟨e.val / 2, by omega⟩) - qV A0 A1 A8 A9 s ⟨192 * h.val + 129 + 2 * (e.val / 2), by omega⟩ * A7 (ix2 s ⟨e.val / 2, by omega⟩)
  else
    qV A0 A1 A8 A9 s ⟨192 * h.val + 128 + 2 * (e.val / 2), by omega⟩ * A7 (ix2 s ⟨e.val / 2, by omega⟩) + qV A0 A1 A8 A9 s ⟨192 * h.val + 129 + 2 * (e.val / 2), by omega⟩ * A6 (ix2 s ⟨e.val / 2, by omega⟩)

/-- The query's latent column. -/
def latV (A0 : FVec Ideal S8192x1536 .fp8e4m3) (A1 : FVec Ideal S8192x12 .f32) (A8 : FVec Ideal S3072x1536 .fp8e4m3) (A9 : FVec Ideal S24x12 .f32) (A10 : FVec Ideal S2048x512 .fp8e4m3) (A11 : FVec Ideal S16x4 .f32) (s : Fin 8192) (h : Fin 16) (c : Fin 512) : EReal :=
  ∑ d : Fin 128, (A10 (ix2 ⟨h.val * 128 + d.val, by omega⟩ c) * A11 (ix2 h ⟨c.val / 128, by omega⟩)) * qV A0 A1 A8 A9 s ⟨192 * h.val + d.val, by omega⟩

theorem refScores_eq (A0 : FVec Ideal S8192x1536 .fp8e4m3) (A1 : FVec Ideal S8192x12 .f32) (A2 : FVec Ideal S8192x512 .fp8e4m3) (A3 : FVec Ideal S8192x4 .f32) (A4 : FVec Ideal S8192x64 .bf16) (A6 : FVec Ideal S8192x32 .f32) (A7 : FVec Ideal S8192x32 .f32) (A8 : FVec Ideal S3072x1536 .fp8e4m3) (A9 : FVec Ideal S24x12 .f32) (A10 : FVec Ideal S2048x512 .fp8e4m3) (A11 : FVec Ideal S16x4 .f32) (s : Fin 8192) (h : Fin 16) (k : Fin 8192) :
    refScores A0 A1 A2 A3 A4 A6 A7 A8 A9 A10 A11 (ix3 s h k) = ((∑ c : Fin 512, latV A0 A1 A8 A9 A10 A11 s h c * (A2 (ix2 k c) * A3 (ix2 k ⟨c.val / 128, by omega⟩))) + ∑ e : Fin 64, ropeV A0 A1 A8 A9 A6 A7 s h e * A4 (ix2 k e)) * Ideal.ofBits .f32 0x3D93CD3A#32 := by
  have eq : ∀ (d : Fin 192), Cert.ReferenceIdeal.Gen.k0_pay3 (F := Ideal) A0 A1 A8 A9 (ix3 s h d) = qV A0 A1 A8 A9 s ⟨192 * h.val + d.val, by omega⟩ := fun d =>
    (Cert.ReferenceIdeal.Gen.refQ_eq A0 A1 A8 A9 s h d).trans rfl
  unfold refScores
  refine (Cert.ReferenceIdeal.Gen.refScore_eq _ _ A10 A11 A2 A3 A4 s h k).trans ?_
  refine congrArg (· * _) (congrArg₂ (· + ·) (Finset.sum_congr rfl fun c _ => congrArg (· * _) (Finset.sum_congr rfl fun d _ => congrArg₂ (· * ·) rfl ?_)) (Finset.sum_congr rfl fun e _ => congrArg (· * _) ?_))
  · exact (Cert.ReferenceIdeal.Gen.refNope_eq A0 A1 A8 A9 s h d).trans (eq _)
  · refine (Cert.ReferenceIdeal.Gen.refRope_eq A0 A1 A8 A9 A6 A7 s h e).trans ?_
    unfold ropeV
    rw [eq, eq]
    have e1 : ∀ hh, (⟨192 * h.val + (128 + 2 * (e.val / 2)), hh⟩ : Fin 3072) = ⟨192 * h.val + 128 + 2 * (e.val / 2), by omega⟩ := fun _ => Fin.ext (by simp only; omega)
    have e2 : ∀ hh, (⟨192 * h.val + (129 + 2 * (e.val / 2)), hh⟩ : Fin 3072) = ⟨192 * h.val + 129 + 2 * (e.val / 2), by omega⟩ := fun _ => Fin.ext (by simp only; omega)
    rw [e1, e2]

/-- The kernel's latent query. -/
theorem QT_lat (A0 : FVec Ideal S8192x1536 .fp8e4m3) (A1 : FVec Ideal S8192x12 .f32) (A2 : FVec Ideal S8192x512 .fp8e4m3) (A3 : FVec Ideal S8192x4 .f32) (A4 : FVec Ideal S8192x64 .bf16) (A6 : FVec Ideal S8192x32 .f32) (A7 : FVec Ideal S8192x32 .f32) (A8 : FVec Ideal S3072x1536 .fp8e4m3) (A9 : FVec Ideal S24x12 .f32) (A10 : FVec Ideal S2048x512 .fp8e4m3) (A11 : FVec Ideal S16x4 .f32)
    (x2 : FVec Ideal S256x1536 .fp8e4m3) (x3 : FVec Ideal S256x12 .f32) (x4 x5 : FVec Ideal S256x32 .f32) (i : ℕ) (hi : i < 32)
    (h2 : ∀ (r : Fin 256) (c : Fin 1536), x2 (ix2 r c) = A0 (ix2 ⟨256 * i + r.val, by omega⟩ c)) (h3 : ∀ (r : Fin 256) (c : Fin 12), x3 (ix2 r c) = A1 (ix2 ⟨256 * i + r.val, by omega⟩ c))
    (h4 : ∀ (r : Fin 256) (c : Fin 32), x4 (ix2 r c) = A6 (ix2 ⟨256 * i + r.val, by omega⟩ c)) (h5 : ∀ (r : Fin 256) (c : Fin 32), x5 (ix2 r c) = A7 (ix2 ⟨256 * i + r.val, by omega⟩ c)) (s : Fin 2) (h : Fin 16) (l : Fin 128) (c : Fin 512) :
    QTa (WQs A8 A9) (WKs A10 A11) (CQs x2 x3) x4 x5 (ix4 s ⟨h.val / 2, by omega⟩ ⟨c.val, by omega⟩ ⟨128 * (h.val % 2) + l.val, by omega⟩)
      = latV A0 A1 A8 A9 A10 A11 ⟨256 * i + 128 * s.val + l.val, by omega⟩ h c := by
  change QTs (WQs A8 A9) (WKs A10 A11) (CQs x2 x3) x4 x5 s ⟨h.val / 2, _⟩ ⟨c.val, _⟩ ⟨128 * (h.val % 2) + l.val, _⟩ = _
  unfold QTs latV
  rw [dif_pos c.isLt]
  refine Finset.sum_congr rfl fun d _ => ?_
  refine congrArg₂ (· * ·) ?_ ?_
  · change A10 (ix2 ⟨(2 * (h.val / 2) + (128 * (h.val % 2) + l.val) / 128) * 128 + d.val, _⟩ c) * A11 (ix2 ⟨2 * (h.val / 2) + (128 * (h.val % 2) + l.val) / 128, _⟩ ⟨c.val / 128, _⟩) = _
    have e : 2 * (h.val / 2) + (128 * (h.val % 2) + l.val) / 128 = h.val := by omega
    simp only [e]
  · refine Q15_eq A0 A1 A8 A9 x2 x3 i hi h2 h3 _ _ ?_ _ _ ?_
    · unfold srcRow
      rw [if_pos (by simp only; omega)]
      exact Fin.ext (by simp only; omega)
    · simp only; omega

/-- A rotary row's source. -/
theorem srcRow_rope (r r' : Fin 3072) (hh b j : ℕ) (hb : b < 2) (hj : j < 32) (hr : r.val = 192 * hh + 128 + 32 * b + j) (hr' : r'.val = 192 * hh + 128 + 2 * j + b) : srcRow r = r' := by
  have d192 : ∀ q n : ℕ, n < 192 → (192 * q + n) % 192 = n := fun q n hn => by omega
  have d64 : ∀ q n : ℕ, n < 64 → (64 * q + n) / 64 = q ∧ (64 * q + n) % 64 = n := fun q n hn => by omega
  have d32 : ∀ q n : ℕ, n < 32 → (32 * q + n) % 32 = n ∧ (32 * q + n) / 32 = q := fun q n hn => by omega
  have a0 : r.val % 192 = 128 + 32 * b + j := by rw [hr, show 192 * hh + 128 + 32 * b + j = 192 * hh + (128 + 32 * b + j) by omega]; exact d192 _ _ (by omega)
  have a1 := d64 (3 * hh + 2) (32 * b + j) (by omega)
  rw [show 64 * (3 * hh + 2) + (32 * b + j) = r.val by omega] at a1
  have a2 := d32 (6 * hh + 4 + b) j hj
  rw [show 32 * (6 * hh + 4 + b) + j = r.val by omega] at a2
  have a3 := d32 b j hj
  unfold srcRow
  rw [if_neg (by rw [a0]; omega)]
  refine Fin.ext ?_
  show r.val / 64 * 64 + 2 * (r.val % 32) + r.val % 64 / 32 = r'.val
  rw [a1.1, a2.1, a1.2, a3.2, hr']
  omega

/-- The kernel's rotary query: at the permuted column, the reference's. -/
theorem QT_rope (A0 : FVec Ideal S8192x1536 .fp8e4m3) (A1 : FVec Ideal S8192x12 .f32) (A2 : FVec Ideal S8192x512 .fp8e4m3) (A3 : FVec Ideal S8192x4 .f32) (A4 : FVec Ideal S8192x64 .bf16) (A6 : FVec Ideal S8192x32 .f32) (A7 : FVec Ideal S8192x32 .f32) (A8 : FVec Ideal S3072x1536 .fp8e4m3) (A9 : FVec Ideal S24x12 .f32) (A10 : FVec Ideal S2048x512 .fp8e4m3) (A11 : FVec Ideal S16x4 .f32)
    (x2 : FVec Ideal S256x1536 .fp8e4m3) (x3 : FVec Ideal S256x12 .f32) (x4 x5 : FVec Ideal S256x32 .f32) (i : ℕ) (hi : i < 32)
    (h2 : ∀ (r : Fin 256) (c : Fin 1536), x2 (ix2 r c) = A0 (ix2 ⟨256 * i + r.val, by omega⟩ c)) (h3 : ∀ (r : Fin 256) (c : Fin 12), x3 (ix2 r c) = A1 (ix2 ⟨256 * i + r.val, by omega⟩ c))
    (h4 : ∀ (r : Fin 256) (c : Fin 32), x4 (ix2 r c) = A6 (ix2 ⟨256 * i + r.val, by omega⟩ c)) (h5 : ∀ (r : Fin 256) (c : Fin 32), x5 (ix2 r c) = A7 (ix2 ⟨256 * i + r.val, by omega⟩ c)) (s : Fin 2) (h : Fin 16) (l : Fin 128) (e : Fin 64) (f : Fin 64) (hf : f.val = 2 * (e.val % 32) + e.val / 32) :
    QTa (WQs A8 A9) (WKs A10 A11) (CQs x2 x3) x4 x5 (ix4 s ⟨h.val / 2, by omega⟩ ⟨512 + e.val, by omega⟩ ⟨128 * (h.val % 2) + l.val, by omega⟩)
      = ropeV A0 A1 A8 A9 A6 A7 ⟨256 * i + 128 * s.val + l.val, by omega⟩ h f := by
  change QTs (WQs A8 A9) (WKs A10 A11) (CQs x2 x3) x4 x5 s ⟨h.val / 2, _⟩ ⟨512 + e.val, _⟩ ⟨128 * (h.val % 2) + l.val, _⟩ = _
  have hs := s.isLt
  have he := e.isLt
  have c4 : ∀ (a : Fin 256) (b b' : Fin 32), a.val = 128 * s.val + l.val → b = b' → x4 (ix2 a b) = A6 (ix2 ⟨256 * i + 128 * s.val + l.val, by omega⟩ b') := fun a b b' ha hb => by
    rw [h4, hb]; congr 2; exact Fin.ext (by simp only; omega)
  have c5 : ∀ (a : Fin 256) (b b' : Fin 32), a.val = 128 * s.val + l.val → b = b' → x5 (ix2 a b) = A7 (ix2 ⟨256 * i + 128 * s.val + l.val, by omega⟩ b') := fun a b b' ha hb => by
    rw [h5, hb]; congr 2; exact Fin.ext (by simp only; omega)
  unfold QTs ropeV
  rw [dif_neg (by simp only; omega)]
  by_cases hb : e.val < 32
  · rw [dif_pos (by simp only; omega), if_pos (by omega)]
    refine congrArg₂ (· - ·) (congrArg₂ (· * ·) ?_ (c4 _ _ _ (by simp only; omega) (Fin.ext (by simp only; omega)))) (congrArg₂ (· * ·) ?_ (c5 _ _ _ (by simp only; omega) (Fin.ext (by simp only; omega))))
    all_goals refine Q15_eq A0 A1 A8 A9 x2 x3 i hi h2 h3 _ _ ?_ _ _ ?_
    all_goals first | (simp only; omega) | skip
    · exact srcRow_rope _ _ h.val 0 (e.val) (by decide) (hb) (by simp only; omega) (by simp only; omega)
    · exact srcRow_rope _ _ h.val 1 (e.val) (by decide) (hb) (by simp only; omega) (by simp only; omega)
  · rw [dif_neg (by simp only; omega), if_neg (by omega)]
    refine congrArg₂ (· + ·) (congrArg₂ (· * ·) ?_ (c5 _ _ _ (by simp only; omega) (Fin.ext (by simp only; omega)))) (congrArg₂ (· * ·) ?_ (c4 _ _ _ (by simp only; omega) (Fin.ext (by simp only; omega))))
    all_goals refine Q15_eq A0 A1 A8 A9 x2 x3 i hi h2 h3 _ _ ?_ _ _ ?_
    all_goals first | (simp only; omega) | skip
    · exact srcRow_rope _ _ h.val 0 (e.val - 32) (by decide) (by omega) (by simp only; omega) (by simp only; omega)
    · exact srcRow_rope _ _ h.val 1 (e.val - 32) (by decide) (by omega) (by simp only; omega) (by simp only; omega)

/-- The rotary columns' permutation. -/
def perm64 : Fin 64 ≃ Fin 64 where
  toFun e := ⟨2 * (e.val % 32) + e.val / 32, by omega⟩
  invFun e := ⟨32 * (e.val % 2) + e.val / 2, by omega⟩
  left_inv e := Fin.ext (by simp only; omega)
  right_inv e := Fin.ext (by simp only; omega)

/-- The scaled score of a key for a query, as the reference computes it. -/
theorem score_eq (A0 : FVec Ideal S8192x1536 .fp8e4m3) (A1 : FVec Ideal S8192x12 .f32) (A2 : FVec Ideal S8192x512 .fp8e4m3) (A3 : FVec Ideal S8192x4 .f32) (A4 : FVec Ideal S8192x64 .bf16) (A6 : FVec Ideal S8192x32 .f32) (A7 : FVec Ideal S8192x32 .f32) (A8 : FVec Ideal S3072x1536 .fp8e4m3) (A9 : FVec Ideal S24x12 .f32) (A10 : FVec Ideal S2048x512 .fp8e4m3) (A11 : FVec Ideal S16x4 .f32)
    (x2 : FVec Ideal S256x1536 .fp8e4m3) (x3 : FVec Ideal S256x12 .f32) (x4 x5 : FVec Ideal S256x32 .f32) (i : ℕ) (hi : i < 32)
    (h2 : ∀ (r : Fin 256) (c : Fin 1536), x2 (ix2 r c) = A0 (ix2 ⟨256 * i + r.val, by omega⟩ c)) (h3 : ∀ (r : Fin 256) (c : Fin 12), x3 (ix2 r c) = A1 (ix2 ⟨256 * i + r.val, by omega⟩ c))
    (h4 : ∀ (r : Fin 256) (c : Fin 32), x4 (ix2 r c) = A6 (ix2 ⟨256 * i + r.val, by omega⟩ c)) (h5 : ∀ (r : Fin 256) (c : Fin 32), x5 (ix2 r c) = A7 (ix2 ⟨256 * i + r.val, by omega⟩ c)) (s : Fin 2) (h : Fin 16) (l : Fin 128) (k : Fin 8192) :
    scoreN (KSs A2 A3 A4) (QTa (WQs A8 A9) (WKs A10 A11) (CQs x2 x3) x4 x5) s ⟨h.val / 2, by omega⟩ k.val ⟨128 * (h.val % 2) + l.val, by omega⟩ * Ideal.ofBits .f32 0x3D93CD3A#32
      = refScores A0 A1 A2 A3 A4 A6 A7 A8 A9 A10 A11 (ix3 ⟨256 * i + 128 * s.val + l.val, by omega⟩ h k) := by
  rw [refScores_eq]
  refine congrArg (· * _) ?_
  unfold scoreN
  have ek : (⟨k.val % 8192, Nat.mod_lt _ (by decide)⟩ : Fin 8192) = k := Fin.ext (Nat.mod_eq_of_lt k.isLt)
  rw [ek]
  refine (Fin.sum_univ_add (a := 512) (b := 64) (fun d : Fin (512 + 64) => KSs A2 A3 A4 (ix2 k d) * QTa (WQs A8 A9) (WKs A10 A11) (CQs x2 x3) x4 x5 (ix4 s ⟨h.val / 2, by omega⟩ d ⟨128 * (h.val % 2) + l.val, by omega⟩))).trans ?_
  refine congrArg₂ (· + ·) (Finset.sum_congr rfl fun c _ => ?_) ?_
  · rw [mul_comm]
    refine congrArg₂ (· * ·) (QT_lat A0 A1 A2 A3 A4 A6 A7 A8 A9 A10 A11 x2 x3 x4 x5 i hi h2 h3 h4 h5 s h l c) ?_
    unfold KSs
    exact dif_pos (show (Fin.castAdd 64 c).val < 512 from c.isLt)
  · refine Fintype.sum_equiv perm64 _ _ fun e => ?_
    rw [mul_comm]
    refine congrArg₂ (· * ·) (QT_rope A0 A1 A2 A3 A4 A6 A7 A8 A9 A10 A11 x2 x3 x4 x5 i hi h2 h3 h4 h5 s h l e (perm64 e) rfl) ?_
    unfold KSs
    have hne : ¬ (Fin.natAdd 512 e).val < 512 := by simp
    refine (dif_neg hne).trans ?_
    change A4 (ix2 k ⟨2 * ((512 + e.val) % 32) + (512 + e.val - 512) / 32, _⟩) = _
    congr 2
    exact Fin.ext (by show 2 * ((512 + e.val) % 32) + (512 + e.val - 512) / 32 = 2 * (e.val % 32) + e.val / 32; omega)

end Cert.KernelIdeal.Gen

end
-- ==== Proof.KernelIdeal.KernOut.lean ====
/- The kernel's result arrays, by the reference's functions of the same arguments. -/
module

public import proofs.«01_k».proof.Proof.KernelIdeal.Run
public import proofs.«01_k».proof.Proof.KernelIdeal.Score

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReferenceIdeal.Gen (refScores refRows refHeads)

variable (m : (ℓ : Loc nD τ sig) → Buf (Elt Ideal) ℓ)

/-- The reference's row maxima of the kernel's arguments. -/
def RR (c : Dev nD) : FVec Ideal S8192x16 .f32 := refRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg5))

/-- The reference's maxima over all tokens of the kernel's arguments. -/
def RH (c : Dev nD) : FVec Ideal S16x128 .f32 := refHeads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg5))

theorem RH_le (c : Dev nD) (h : Fin 16) (l : Fin 128) (b : EReal) : RH m c (ix2 h l) ≤ b ↔ ∀ T : Fin 8192, RR m c (ix2 T h) ≤ b := by
  unfold RH RR refHeads refRows
  rw [Cert.ReferenceIdeal.Gen.refAll_eq, Finset.fold_max_le]
  exact ⟨fun H T => H.2 T (Finset.mem_univ _), fun H => ⟨bot_le, fun T _ => H T⟩⟩

theorem kidx2 : ∀ t : Fin grid0.N, cc0_transform_2 (grid0.coords t) = ![t.val, 0] := by decide +kernel
theorem kidx3 : ∀ t : Fin grid0.N, cc0_transform_3 (grid0.coords t) = ![t.val, 0] := by decide +kernel
theorem kidx4 : ∀ t : Fin grid0.N, cc0_transform_4 (grid0.coords t) = ![t.val, 0] := by decide +kernel
theorem kidx5 : ∀ t : Fin grid0.N, cc0_transform_5 (grid0.coords t) = ![t.val, 0] := by decide +kernel
theorem kidx11 : ∀ t : Fin grid0.N, cc0_transform_11 (grid0.coords t) = ![t.val, 0] := by decide +kernel
theorem iblk0_eq (hO : Ok m) (c : Dev nD) (t : Fin (cfgM m hO).N) : iblk m hO c 0 t = m ((c : Thread nD τ).loc main_arg9) := by
  funext y
  refine congrArg (m ((c : Thread nD τ).loc main_arg9)) (funext fun a => Fin.ext ?_)
  refine Pipeline.Window.rect_emb_val_of_index_zero ((cfgM m hO).win 0) t a ?_ y
  fin_cases a <;> rfl
theorem iblk1_eq (hO : Ok m) (c : Dev nD) (t : Fin (cfgM m hO).N) : iblk m hO c 1 t = m ((c : Thread nD τ).loc main_arg11) := by
  funext y
  refine congrArg (m ((c : Thread nD τ).loc main_arg11)) (funext fun a => Fin.ext ?_)
  refine Pipeline.Window.rect_emb_val_of_index_zero ((cfgM m hO).win 1) t a ?_ y
  fin_cases a <;> rfl
theorem iblk6_eq (hO : Ok m) (c : Dev nD) (t : Fin (cfgM m hO).N) : iblk m hO c 6 t = m ((c : Thread nD τ).loc main_arg8) := by
  funext y
  refine congrArg (m ((c : Thread nD τ).loc main_arg8)) (funext fun a => Fin.ext ?_)
  refine Pipeline.Window.rect_emb_val_of_index_zero ((cfgM m hO).win 6) t a ?_ y
  fin_cases a <;> rfl
theorem iblk7_eq (hO : Ok m) (c : Dev nD) (t : Fin (cfgM m hO).N) : iblk m hO c 7 t = m ((c : Thread nD τ).loc main_arg10) := by
  funext y
  refine congrArg (m ((c : Thread nD τ).loc main_arg10)) (funext fun a => Fin.ext ?_)
  refine Pipeline.Window.rect_emb_val_of_index_zero ((cfgM m hO).win 7) t a ?_ y
  fin_cases a <;> rfl
theorem iblk8_eq (hO : Ok m) (c : Dev nD) (t : Fin (cfgM m hO).N) : iblk m hO c 8 t = m ((c : Thread nD τ).loc main_arg2) := by
  funext y
  refine congrArg (m ((c : Thread nD τ).loc main_arg2)) (funext fun a => Fin.ext ?_)
  refine Pipeline.Window.rect_emb_val_of_index_zero ((cfgM m hO).win 8) t a ?_ y
  fin_cases a <;> rfl
theorem iblk9_eq (hO : Ok m) (c : Dev nD) (t : Fin (cfgM m hO).N) : iblk m hO c 9 t = m ((c : Thread nD τ).loc main_arg3) := by
  funext y
  refine congrArg (m ((c : Thread nD τ).loc main_arg3)) (funext fun a => Fin.ext ?_)
  refine Pipeline.Window.rect_emb_val_of_index_zero ((cfgM m hO).win 9) t a ?_ y
  fin_cases a <;> rfl
theorem iblk10_eq (hO : Ok m) (c : Dev nD) (t : Fin (cfgM m hO).N) : iblk m hO c 10 t = m ((c : Thread nD τ).loc main_arg4) := by
  funext y
  refine congrArg (m ((c : Thread nD τ).loc main_arg4)) (funext fun a => Fin.ext ?_)
  refine Pipeline.Window.rect_emb_val_of_index_zero ((cfgM m hO).win 10) t a ?_ y
  fin_cases a <;> rfl
theorem iblk2_eq (hO : Ok m) (c : Dev nD) (t : Fin (cfgM m hO).N) (ht : t.val < 32) (r : Fin 256) (k : Fin 1536) : iblk m hO c 2 t (ix2 r k) = m ((c : Thread nD τ).loc main_arg0) (ix2 ⟨256 * t.val + r.val, by omega⟩ k) := by
  refine congrArg (m ((c : Thread nD τ).loc main_arg0)) (funext fun a => Fin.ext ?_)
  refine (Pipeline.Window.rect_emb_val ((cfgM m hO).win 2) t (ix2 r k) a).trans ?_
  fin_cases a
  · change cc0_transform_2 (grid0.coords t) 0 * 256 + r.val = 256 * t.val + r.val
    rw [kidx2 t]
    change t.val * 256 + r.val = 256 * t.val + r.val
    omega
  · change cc0_transform_2 (grid0.coords t) 1 * 1536 + k.val = k.val
    rw [kidx2 t]
    change 0 * 1536 + k.val = k.val
    omega
theorem iblk3_eq (hO : Ok m) (c : Dev nD) (t : Fin (cfgM m hO).N) (ht : t.val < 32) (r : Fin 256) (k : Fin 12) : iblk m hO c 3 t (ix2 r k) = m ((c : Thread nD τ).loc main_arg1) (ix2 ⟨256 * t.val + r.val, by omega⟩ k) := by
  refine congrArg (m ((c : Thread nD τ).loc main_arg1)) (funext fun a => Fin.ext ?_)
  refine (Pipeline.Window.rect_emb_val ((cfgM m hO).win 3) t (ix2 r k) a).trans ?_
  fin_cases a
  · change cc0_transform_3 (grid0.coords t) 0 * 256 + r.val = 256 * t.val + r.val
    rw [kidx3 t]
    change t.val * 256 + r.val = 256 * t.val + r.val
    omega
  · change cc0_transform_3 (grid0.coords t) 1 * 12 + k.val = k.val
    rw [kidx3 t]
    change 0 * 12 + k.val = k.val
    omega
theorem iblk4_eq (hO : Ok m) (c : Dev nD) (t : Fin (cfgM m hO).N) (ht : t.val < 32) (r : Fin 256) (k : Fin 32) : iblk m hO c 4 t (ix2 r k) = m ((c : Thread nD τ).loc main_arg6) (ix2 ⟨256 * t.val + r.val, by omega⟩ k) := by
  refine congrArg (m ((c : Thread nD τ).loc main_arg6)) (funext fun a => Fin.ext ?_)
  refine (Pipeline.Window.rect_emb_val ((cfgM m hO).win 4) t (ix2 r k) a).trans ?_
  fin_cases a
  · change cc0_transform_4 (grid0.coords t) 0 * 256 + r.val = 256 * t.val + r.val
    rw [kidx4 t]
    change t.val * 256 + r.val = 256 * t.val + r.val
    omega
  · change cc0_transform_4 (grid0.coords t) 1 * 32 + k.val = k.val
    rw [kidx4 t]
    change 0 * 32 + k.val = k.val
    omega
theorem iblk5_eq (hO : Ok m) (c : Dev nD) (t : Fin (cfgM m hO).N) (ht : t.val < 32) (r : Fin 256) (k : Fin 32) : iblk m hO c 5 t (ix2 r k) = m ((c : Thread nD τ).loc main_arg7) (ix2 ⟨256 * t.val + r.val, by omega⟩ k) := by
  refine congrArg (m ((c : Thread nD τ).loc main_arg7)) (funext fun a => Fin.ext ?_)
  refine (Pipeline.Window.rect_emb_val ((cfgM m hO).win 5) t (ix2 r k) a).trans ?_
  fin_cases a
  · change cc0_transform_5 (grid0.coords t) 0 * 256 + r.val = 256 * t.val + r.val
    rw [kidx5 t]
    change t.val * 256 + r.val = 256 * t.val + r.val
    omega
  · change cc0_transform_5 (grid0.coords t) 1 * 32 + k.val = k.val
    rw [kidx5 t]
    change 0 * 32 + k.val = k.val
    omega

theorem tw_eq (c : Dev nD) (j : Fin 7) : tw c (tbl m 0) j = m ((c : Thread nD τ).loc main_arg5) (ix1 j) := by
  obtain rfl : c = 0 := Subsingleton.elim _ _
  rfl

theorem lt32 (hO : Ok m) (t : Fin (cfgM m hO).N) : t.val < 32 := Nat.lt_of_lt_of_eq t.isLt N_0

theorem kcoord : ∀ t : Fin grid0.N, (grid0.coords t 0).val = t.val := by decide +kernel

/-- A subtile's maxima from the sequence words and the blocks, as the reference's row maxima of its tokens. -/
theorem row_gen (c : Dev nD) (i : grid0.Coords) (n : ℕ) (ht : n < 32) (hi : (i 0).val = n) (a0 a1 a2 a3 a4 a5 a6 : BitVec 32)
    (ha0 : a0 = m ((c : Thread nD τ).loc main_arg5) (ix1 0)) (ha1 : a1 = m ((c : Thread nD τ).loc main_arg5) (ix1 1)) (ha2 : a2 = m ((c : Thread nD τ).loc main_arg5) (ix1 2)) (ha3 : a3 = m ((c : Thread nD τ).loc main_arg5) (ix1 3)) (ha4 : a4 = m ((c : Thread nD τ).loc main_arg5) (ix1 4)) (ha5 : a5 = m ((c : Thread nD τ).loc main_arg5) (ix1 5)) (ha6 : a6 = m ((c : Thread nD τ).loc main_arg5) (ix1 6))
    (z15 : FVec Ideal S3072x1536 .bf16) (z16 : FVec Ideal S16x512x128 .bf16) (z17 : FVec Ideal S8192x576 .bf16) (x2 : FVec Ideal S256x1536 .fp8e4m3) (x3 : FVec Ideal S256x12 .f32) (x4 x5 : FVec Ideal S256x32 .f32)
    (e15 : z15 = WQs (m ((c : Thread nD τ).loc main_arg8)) (m ((c : Thread nD τ).loc main_arg9))) (e16 : z16 = WKs (m ((c : Thread nD τ).loc main_arg10)) (m ((c : Thread nD τ).loc main_arg11))) (e17 : z17 = KSs (m ((c : Thread nD τ).loc main_arg2)) (m ((c : Thread nD τ).loc main_arg3)) (m ((c : Thread nD τ).loc main_arg4)))
    (h2 : ∀ (r : Fin 256) (k : Fin 1536), x2 (ix2 r k) = (m ((c : Thread nD τ).loc main_arg0)) (ix2 ⟨256 * n + r.val, by omega⟩ k)) (h3 : ∀ (r : Fin 256) (k : Fin 12), x3 (ix2 r k) = (m ((c : Thread nD τ).loc main_arg1)) (ix2 ⟨256 * n + r.val, by omega⟩ k))
    (h4 : ∀ (r : Fin 256) (k : Fin 32), x4 (ix2 r k) = (m ((c : Thread nD τ).loc main_arg6)) (ix2 ⟨256 * n + r.val, by omega⟩ k)) (h5 : ∀ (r : Fin 256) (k : Fin 32), x5 (ix2 r k) = (m ((c : Thread nD τ).loc main_arg7)) (ix2 ⟨256 * n + r.val, by omega⟩ k))
    (s : Fin 2) (h : Fin 16) (l : Fin 128) (T : Fin 8192) (hT : T.val = 256 * n + 128 * s.val + l.val) :
    topN (accOf s i a0 a1 a2 a3 a4 a5 a6 z15 z16 z17 x2 x3 x4 x5) h l = RR m c (ix2 T h) := by
  have hs := s.isLt
  have hl := l.isLt
  have et : tok0 s.val i + l.val = T.val := by
    unfold tok0
    omega
  have eT : ∀ hh, (⟨256 * n + 128 * s.val + l.val, hh⟩ : Fin 8192) = T := fun _ => Fin.ext hT.symm
  rw [row_eq_ref, et, e15, e16, e17, ha0, ha1, ha2, ha3, ha4, ha5, ha6]
  unfold RR refRows
  refine Eq.trans ?_ (Cert.ReferenceIdeal.Gen.refMax_eq _ _ _ _ _ _ _ _ T h).symm
  refine congrArg (fun f => (Finset.univ : Finset (Fin 8192)).fold max ⊥ f) (funext fun k => ?_)
  have es := score_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) x2 x3 x4 x5 n ht h2 h3 h4 h5 s h l k
  rw [eT] at es
  rw [es]

/-- A subtile's maxima are the reference's row maxima of its tokens. -/
theorem row_at (hO : Ok m) (c : Dev nD) (t : Fin (cfgM m hO).N) (s : Fin 2) (h : Fin 16) (l : Fin 128) (T : Fin 8192) (hT : T.val = 256 * t.val + 128 * s.val + l.val) :
    topN (accOf s (grid0.coords t) (tw c (tbl m 0) 0) (tw c (tbl m 0) 1) (tw c (tbl m 0) 2) (tw c (tbl m 0) 3) (tw c (tbl m 0) 4) (tw c (tbl m 0) 5) (tw c (tbl m 0) 6) (Z15 m hO c) (Z16 m hO c) (Z17 m hO c) (iblk m hO c 2 t) (iblk m hO c 3 t) (iblk m hO c 4 t) (iblk m hO c 5 t)) h l
      = RR m c (ix2 T h) :=
  have ht := lt32 m hO t
  row_gen m c (grid0.coords t) t.val ht (kcoord t) _ _ _ _ _ _ _ (tw_eq m c 0) (tw_eq m c 1) (tw_eq m c 2) (tw_eq m c 3) (tw_eq m c 4) (tw_eq m c 5) (tw_eq m c 6)
    _ _ _ _ _ _ _ (by unfold Z15; rw [iblk6_eq, iblk0_eq]) (by unfold Z16; rw [iblk7_eq, iblk1_eq]) (by unfold Z17; rw [iblk8_eq, iblk9_eq, iblk10_eq])
    (iblk2_eq m hO c t ht) (iblk3_eq m hO c t ht) (iblk4_eq m hO c t ht) (iblk5_eq m hO c t ht) s h l T hT

/-- A point's block of row maxima is the reference's rows of its tokens. -/
theorem rmAt_eq (hO : Ok m) (c : Dev nD) (t : Fin (cfgM m hO).N) (y : S256x16.Idx) (Y : S8192x16.Idx) (h0 : (Y 0).val = 256 * t.val + (y 0).val) (h1 : (Y 1).val = (y 1).val) :
    rmAt m hO c t y = RR m c Y := by
  have hy : (y 0).val < 256 := (y 0).isLt
  have hY : Y = ix2 (Y 0) (y 1) := by
    funext a; apply Fin.ext; fin_cases a
    · rfl
    · exact h1
  rw [hY]
  exact row_at m hO c t ⟨(y 0).val / 128, by omega⟩ (y 1) ⟨(y 0).val % 128, Nat.mod_lt _ (by decide)⟩ (Y 0) (by rw [h0]; simp only; omega)

/-- The row maxima's array is the reference's. -/
theorem arr11 (hO : Ok m) (c : Dev nD) : (datsV m hO 0 c).arrAt 11 (cfgM m hO).N = RR m c := by
  have hcov : ((cfgM m hO).win 11).Covers := by
    refine ⟨fun a => ?_, fun β => ?_⟩
    · fin_cases a
      · exact (show 0 < 256 by decide)
      · exact (show 0 < 16 by decide)
    · have b0 : (β (0 : Fin 2)).val < 32 := Nat.lt_of_lt_of_eq (β (0 : Fin 2)).isLt (show (8192 + 256 - 1) / 256 = 32 by decide)
      have b1 : (β (1 : Fin 2)).val < 1 := Nat.lt_of_lt_of_eq (β (1 : Fin 2)).isLt (show (16 + 16 - 1) / 16 = 1 by decide)
      refine ⟨⟨(β (0 : Fin 2)).val, Nat.lt_of_lt_of_eq b0 N_0.symm⟩, flush0_11 _ _, fun a => ⟨?_, Or.inl rfl⟩⟩
      have hk := kidx11 ⟨(β (0 : Fin 2)).val, Nat.lt_of_lt_of_eq b0 N_0.symm⟩
      fin_cases a
      · exact congrFun hk 0
      · refine (congrFun hk 1).trans ?_
        change 0 = (β (1 : Fin 2)).val
        omega
  refine (datsV m hO 0 c).arrAt_eq_of_covers 11 _ hcov fun t hf y => ?_
  refine (cast_eq _ _).trans ?_
  change rmAt m hO c t y = RR m c ((((cfgM m hO).win 11).rect t).emb y)
  refine rmAt_eq m hO c t y _ ?_ ?_
  · refine (Pipeline.Window.rect_emb_val ((cfgM m hO).win 11) t y (0 : Fin 2)).trans ?_
    change cc0_transform_11 (grid0.coords t) 0 * 256 + (y (0 : Fin 2)).val = 256 * t.val + (y (0 : Fin 2)).val
    rw [kidx11 t]
    change t.val * 256 + (y (0 : Fin 2)).val = 256 * t.val + (y (0 : Fin 2)).val
    omega
  · refine (Pipeline.Window.rect_emb_val ((cfgM m hO).win 11) t y (1 : Fin 2)).trans ?_
    change cc0_transform_11 (grid0.coords t) 1 * 16 + (y (1 : Fin 2)).val = (y (1 : Fin 2)).val
    rw [kidx11 t]
    change 0 * 16 + (y (1 : Fin 2)).val = (y (1 : Fin 2)).val
    omega

/-- A point raises a lane's maximum by its two tokens of that lane. -/
theorem smStep_le (hO : Ok m) (c : Dev nD) (t : Fin (cfgM m hO).N) (o : FVec Ideal S16x128 .f32) (h : Fin 16) (l : Fin 128) (b : EReal) (n : ℕ) (hn : t.val = n)
    (ho : o (ix2 h l) ≤ b ↔ ∀ T : Fin 8192, T.val < 256 * n → T.val % 128 = l.val → RR m c (ix2 T h) ≤ b) :
    smStep m hO c t o (ix2 h l) ≤ b ↔ ∀ T : Fin 8192, T.val < 256 * (n + 1) → T.val % 128 = l.val → RR m c (ix2 T h) ≤ b := by
  have ht := lt32 m hO t
  have hl := l.isLt
  unfold smStep smOf
  change max (max (o (ix2 h l)) (topN (accOf 0 (grid0.coords t) (tw c (tbl m 0) 0) (tw c (tbl m 0) 1) (tw c (tbl m 0) 2) (tw c (tbl m 0) 3) (tw c (tbl m 0) 4) (tw c (tbl m 0) 5) (tw c (tbl m 0) 6) (Z15 m hO c) (Z16 m hO c) (Z17 m hO c) (iblk m hO c 2 t) (iblk m hO c 3 t) (iblk m hO c 4 t) (iblk m hO c 5 t)) h l)) (topN (accOf 1 (grid0.coords t) (tw c (tbl m 0) 0) (tw c (tbl m 0) 1) (tw c (tbl m 0) 2) (tw c (tbl m 0) 3) (tw c (tbl m 0) 4) (tw c (tbl m 0) 5) (tw c (tbl m 0) 6) (Z15 m hO c) (Z16 m hO c) (Z17 m hO c) (iblk m hO c 2 t) (iblk m hO c 3 t) (iblk m hO c 4 t) (iblk m hO c 5 t)) h l) ≤ b ↔ _
  rw [row_at m hO c t 0 h l ⟨256 * t.val + l.val, by omega⟩ (by simp), row_at m hO c t 1 h l ⟨256 * t.val + 128 + l.val, by omega⟩ (by simp)]
  rw [max_le_iff, max_le_iff, ho]
  constructor
  · rintro ⟨⟨H0, H1⟩, H2⟩ T hT hm
    by_cases h1 : T.val < 256 * n
    · exact H0 T h1 hm
    · by_cases h2 : T.val < 256 * n + 128
      · have eT : ∀ hh, (⟨256 * t.val + l.val, hh⟩ : Fin 8192) = T := fun _ => Fin.ext (by simp only; omega)
        rw [eT] at H1
        exact H1
      · have eT : ∀ hh, (⟨256 * t.val + 128 + l.val, hh⟩ : Fin 8192) = T := fun _ => Fin.ext (by simp only; omega)
        rw [eT] at H2
        exact H2
  · intro H
    exact ⟨⟨fun T hT hm => H T (by omega) hm, H _ (by simp only; omega) (by simp only; omega)⟩, H _ (by simp only; omega) (by simp only; omega)⟩

/-- Before the last point a lane holds the maximum of its tokens so far. -/
theorem smAt_le (hO : Ok m) (c : Dev nD) (h : Fin 16) (l : Fin 128) (b : EReal) : ∀ (n : ℕ) (hn : n < (cfgM m hO).N), n < 31 →
    (smAt m hO c n hn (ix2 h l) ≤ b ↔ ∀ T : Fin 8192, T.val < 256 * (n + 1) → T.val % 128 = l.val → RR m c (ix2 T h) ≤ b) := by
  intro n
  induction n with
  | zero =>
    intro hn _
    exact smStep_le m hO c ⟨0, hn⟩ (fun _ => ⊥) h l b 0 rfl ⟨fun _ T hT => absurd hT (by omega), fun _ => bot_le⟩
  | succ n ih =>
    intro hn h31
    rw [show smAt m hO c (n + 1) hn = smStep m hO c ⟨n + 1, hn⟩ (smAt m hO c n (Nat.lt_of_succ_lt hn)) from smAt_B m hO c ⟨n + 1, hn⟩ (Nat.succ_ne_zero n) (by simp only; omega)]
    exact smStep_le m hO c ⟨n + 1, hn⟩ _ h l b (n + 1) rfl (ih _ (by omega))

/-- The last grid point. -/
def tLst (hO : Ok m) : Fin (cfgM m hO).N := ⟨31, by rw [show (cfgM m hO).N = 32 from N_0]; decide⟩

theorem smAt_last (hO : Ok m) (c : Dev nD) (h : Fin 16) (l : Fin 128) : smAt m hO c 31 (tLst m hO).isLt (ix2 h l) = RH m c (ix2 h l) := by
  rw [show smAt m hO c 31 (tLst m hO).isLt = lanesOf (smStep m hO c (tLst m hO) (smAt m hO c 30 (Nat.lt_of_succ_lt (tLst m hO).isLt))) from smAt_C m hO c (tLst m hO) rfl]
  refine eq_of_forall_ge_iff fun b => ?_
  rw [RH_le]
  change (Finset.univ : Finset (Fin 128)).fold max ⊥ (fun j : Fin 128 => smStep m hO c (tLst m hO) (smAt m hO c 30 _) (ix2 h j)) ≤ b ↔ _
  rw [Finset.fold_max_le]
  have key := fun j : Fin 128 => smStep_le m hO c (tLst m hO) (smAt m hO c 30 (Nat.lt_of_succ_lt (tLst m hO).isLt)) h j b 31 rfl (smAt_le m hO c h j b 30 _ (by decide))
  constructor
  · rintro ⟨-, H⟩ T
    exact (key ⟨T.val % 128, Nat.mod_lt _ (by decide)⟩).mp (H _ (Finset.mem_univ _)) T (by have := T.isLt; omega) rfl
  · exact fun H => ⟨bot_le, fun j _ => (key j).mpr fun T _ _ => H T⟩
theorem smAt_last' (hO : Ok m) (c : Dev nD) (j : S16x128.Idx) : smAt m hO c 31 (tLst m hO).isLt j = RH m c j := by
  rw [show j = ix2 (j 0) (j 1) by funext a; fin_cases a <;> rfl]
  exact smAt_last m hO c _ _

/-- The lanes' array is the reference's. -/
theorem arr12 (hO : Ok m) (c : Dev nD) : (datsV m hO 0 c).arrAt 12 (cfgM m hO).N = RH m c := by
  have hw : ((cfgM m hO).win 12).WholeAt (tLst m hO) := by
    refine ⟨(flush0_12 _ _).mpr rfl, fun t hf => Fin.ext ?_, fun a => ⟨?_, ?_⟩⟩
    · have := (flush0_12 _ t).mp hf
      have := lt32 m hO t
      change t.val = 31
      omega
    · fin_cases a <;> rfl
    · fin_cases a <;> rfl
  refine (datsV m hO 0 c).arrAt_eq_of_after_last 12 (tLst m hO) hw _ fun j => ?_
  refine (cast_eq _ _).trans ?_
  change smAt m hO c 31 (tLst m hO).isLt j = RH m c j
  exact smAt_last' m hO c j

end Cert.KernelIdeal.Gen

end
-- ==== Proof.Algebraic.lean ====
/- From agreeing arguments the two ideal programs end with equal results. -/
module

public import proofs.«01_k».proof.Defs
public import proofs.«01_k».proof.Proof.Gen.ReferenceIdeal.Value
public import proofs.«01_k».proof.Proof.KernelIdeal.KernOut
public import proofs.«01_k».proof.Proof.KernelIdeal.RefOut
public import Idealize.ShloMosaic.Adequacy
public import Idealize.ShloMosaic.Init

@[expose] public section

noncomputable section

namespace Cert.Proof

open Idealize.ShloMosaic Idealize.ShloMosaic.TcCoe Idealize.SL.Sem

theorem algebraic : @Cert.algebraic_KernelIdeal_ReferenceIdeal Cert.KernelIdeal.Gen.facts Cert.ReferenceIdeal.Gen.facts := by
  intro m g m' g' _ hag
  refine ⟨fun c => Cert.KernelIdeal.Gen.RR m c, fun c => Cert.KernelIdeal.Gen.RH m c, ?_, ?_⟩
  · exact (θ_run _ _ _).mono (fun r h c => ⟨((h c).1 11).trans (Cert.KernelIdeal.Gen.arr11 m trivial c), ((h c).1 12).trans (Cert.KernelIdeal.Gen.arr12 m trivial c),
      ((h c).1 2).trans (((Cert.KernelIdeal.Gen.datsV m trivial 0 c).arrAt_in 2 rfl _).trans ((Cert.KernelIdeal.Gen.datsV_A m trivial c 2).trans (Cert.KernelIdeal.Gen.V_main_arg0 m c))),
      ((h c).1 3).trans (((Cert.KernelIdeal.Gen.datsV m trivial 0 c).arrAt_in 3 rfl _).trans ((Cert.KernelIdeal.Gen.datsV_A m trivial c 3).trans (Cert.KernelIdeal.Gen.V_main_arg1 m c))),
      ((h c).1 8).trans (((Cert.KernelIdeal.Gen.datsV m trivial 0 c).arrAt_in 8 rfl _).trans ((Cert.KernelIdeal.Gen.datsV_A m trivial c 8).trans (Cert.KernelIdeal.Gen.V_main_arg2 m c))),
      ((h c).1 9).trans (((Cert.KernelIdeal.Gen.datsV m trivial 0 c).arrAt_in 9 rfl _).trans ((Cert.KernelIdeal.Gen.datsV_A m trivial c 9).trans (Cert.KernelIdeal.Gen.V_main_arg3 m c))),
      ((h c).1 10).trans (((Cert.KernelIdeal.Gen.datsV m trivial 0 c).arrAt_in 10 rfl _).trans ((Cert.KernelIdeal.Gen.datsV_A m trivial c 10).trans (Cert.KernelIdeal.Gen.V_main_arg4 m c))),
      ((h c).2 Cert.KernelIdeal.main_arg5 (by decide : Cert.KernelIdeal.main_arg5 ∈ Pipeline.restRefs Cert.KernelIdeal.sig Cert.KernelIdeal.spec0)).trans (Cert.KernelIdeal.Gen.V_main_arg5 m c),
      ((h c).1 4).trans (((Cert.KernelIdeal.Gen.datsV m trivial 0 c).arrAt_in 4 rfl _).trans ((Cert.KernelIdeal.Gen.datsV_A m trivial c 4).trans (Cert.KernelIdeal.Gen.V_main_arg6 m c))),
      ((h c).1 5).trans (((Cert.KernelIdeal.Gen.datsV m trivial 0 c).arrAt_in 5 rfl _).trans ((Cert.KernelIdeal.Gen.datsV_A m trivial c 5).trans (Cert.KernelIdeal.Gen.V_main_arg7 m c))),
      ((h c).1 6).trans (((Cert.KernelIdeal.Gen.datsV m trivial 0 c).arrAt_in 6 rfl _).trans ((Cert.KernelIdeal.Gen.datsV_A m trivial c 6).trans (Cert.KernelIdeal.Gen.V_main_arg8 m c))),
      ((h c).1 0).trans (((Cert.KernelIdeal.Gen.datsV m trivial 0 c).arrAt_in 0 rfl _).trans ((Cert.KernelIdeal.Gen.datsV_A m trivial c 0).trans (Cert.KernelIdeal.Gen.V_main_arg9 m c))),
      ((h c).1 7).trans (((Cert.KernelIdeal.Gen.datsV m trivial 0 c).arrAt_in 7 rfl _).trans ((Cert.KernelIdeal.Gen.datsV_A m trivial c 7).trans (Cert.KernelIdeal.Gen.V_main_arg10 m c))),
      ((h c).1 1).trans (((Cert.KernelIdeal.Gen.datsV m trivial 0 c).arrAt_in 1 rfl _).trans ((Cert.KernelIdeal.Gen.datsV_A m trivial c 1).trans (Cert.KernelIdeal.Gen.V_main_arg11 m c)))⟩) (Cert.KernelIdeal.Gen.run_mainV m g trivial)
  · refine (θ_run _ _ _).mono (fun r h c => ?_) (Cert.ReferenceIdeal.Value.run_blocks m' g')
    obtain ⟨h0, h1, hr⟩ := h c
    obtain ⟨e0, e1, e2, e3, e4, e5, e6, e7, e8, e9, e10, e11⟩ := hag c
    refine ⟨(h0.trans (Cert.ReferenceIdeal.Gen.ref_arr12 m' c)).trans ?_, (h1.trans (Cert.ReferenceIdeal.Gen.ref_arr13 m' c)).trans ?_, hr⟩
    · unfold Cert.KernelIdeal.Gen.RR
      rw [e0, e1, e2, e3, e4, e5, e6, e7, e8, e9, e10, e11]
    · unfold Cert.KernelIdeal.Gen.RH
      rw [e0, e1, e2, e3, e4, e5, e6, e7, e8, e9, e10, e11]

end Cert.Proof

end
-- ==== Proof.lean ====
/- The proof of the claim: the three frames, that the ideal program keeps what the compiled one does, and that the two ideal programs agree. -/
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Frame
public import proofs.«01_k».proof.Proof.KernelIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, fun m g _ => Cert.Kernel.Gen.frame m g,
  fun m g _ => Cert.KernelIdeal.Gen.frame m g, fun m g _ => Cert.ReferenceIdeal.Gen.frame m g, trivial, algebraic⟩

end Cert.Proof

end
